-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sound_selection [hPre_sound_selection : Cert.Pre_sound_selection.Facts] (m : (ℓ : Loc Cert.KernelIdeal.nD Cert.KernelIdeal.τ Cert.KernelIdeal.sig) → Buf (Elt Ideal) ℓ) : Prop :=
  ∀ c : Dev Cert.KernelIdeal.nD,
    (Cert.Pre_sound_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_sound_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_sound_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_sound_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_sound_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound_selection [hPre_sound_selection : Cert.Pre_sound_selection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_sound_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_sound_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_sound_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_sound_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Samp (m : (ℓ : Loc Cert.Samp.nD Cert.Samp.τ Cert.Samp.sig) → Buf (Elt Bits) ℓ) : Prop :=
  True

def Pre_SampIdeal (m : (ℓ : Loc Cert.SampIdeal.nD Cert.SampIdeal.τ Cert.SampIdeal.sig) → Buf (Elt Ideal) ℓ) : Prop :=
  True

def Pre_SampRefIdeal (m : (ℓ : Loc Cert.SampRefIdeal.nD Cert.SampRefIdeal.τ Cert.SampRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sound_selection [hKernelIdeal : Cert.KernelIdeal.Facts] [hPre_sound_selection : Cert.Pre_sound_selection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound_selection m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sound_selection [hReferenceIdeal : Cert.ReferenceIdeal.Facts] [hPre_sound_selection : Cert.Pre_sound_selection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound_selection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4))
      ∧ r.2.sem = fun _ => 0)

def quiescent_Samp [hSamp : Cert.Samp.Facts] : Prop :=
  ∀ (m : (ℓ : Loc Cert.Samp.nD Cert.Samp.τ Cert.Samp.sig) → Buf (Elt Bits) ℓ) (g : Dev Cert.Samp.nD → PrngReg), Pre_Samp m →
    θ_run (Cert.Samp.defs (F := Bits)) (onTc (τ := Cert.Samp.τ) (Cert.Samp.main (F := Bits))) ⟨m, fun _ => 0, g⟩ (fun r => (∀ c : Dev Cert.Samp.nD,
      r.2.mem ((c.tc : Thread Cert.Samp.nD Cert.Samp.τ).loc Cert.Samp.main_arg0) = m ((c.tc : Thread Cert.Samp.nD Cert.Samp.τ).loc Cert.Samp.main_arg0)
      ∧ r.2.mem ((c.tc : Thread Cert.Samp.nD Cert.Samp.τ).loc Cert.Samp.main_arg1) = m ((c.tc : Thread Cert.Samp.nD Cert.Samp.τ).loc Cert.Samp.main_arg1)
      ∧ r.2.mem ((c.tc : Thread Cert.Samp.nD Cert.Samp.τ).loc Cert.Samp.main_arg2) = m ((c.tc : Thread Cert.Samp.nD Cert.Samp.τ).loc Cert.Samp.main_arg2))
      ∧ r.2.sem = fun _ => 0)

def quiescent_SampIdeal [hSampIdeal : Cert.SampIdeal.Facts] : Prop :=
  ∀ (m : (ℓ : Loc Cert.SampIdeal.nD Cert.SampIdeal.τ Cert.SampIdeal.sig) → Buf (Elt Ideal) ℓ) (g : Dev Cert.SampIdeal.nD → PrngReg), Pre_SampIdeal m →
    θ_run (Cert.SampIdeal.defs (F := Ideal)) (onTc (τ := Cert.SampIdeal.τ) (Cert.SampIdeal.main (F := Ideal))) ⟨m, fun _ => 0, g⟩ (fun r => (∀ c : Dev Cert.SampIdeal.nD,
      r.2.mem ((c.tc : Thread Cert.SampIdeal.nD Cert.SampIdeal.τ).loc Cert.SampIdeal.main_arg0) = m ((c.tc : Thread Cert.SampIdeal.nD Cert.SampIdeal.τ).loc Cert.SampIdeal.main_arg0)
      ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
      ∧ r.2.mem ((c.tc : Thread Cert.SampIdeal.nD Cert.SampIdeal.τ).loc Cert.SampIdeal.main_arg2) = m ((c.tc : Thread Cert.SampIdeal.nD Cert.SampIdeal.τ).loc Cert.SampIdeal.main_arg2))
      ∧ r.2.sem = fun _ => 0)

def quiescent_SampRefIdeal [hSampRefIdeal : Cert.SampRefIdeal.Facts] : Prop :=
  ∀ (m : (ℓ : Loc Cert.SampRefIdeal.nD Cert.SampRefIdeal.τ Cert.SampRefIdeal.sig) → Buf (Elt Ideal) ℓ) (g : Dev Cert.SampRefIdeal.nD → PrngReg), Pre_SampRefIdeal m →
    θ_run (Cert.SampRefIdeal.defs (F := Ideal)) (onTc (τ := Cert.SampRefIdeal.τ) (Cert.SampRefIdeal.main (F := Ideal))) ⟨m, fun _ => 0, g⟩ (fun r => (∀ c : Dev Cert.SampRefIdeal.nD,
      r.2.mem ((c.tc : Thread Cert.SampRefIdeal.nD Cert.SampRefIdeal.τ).loc Cert.SampRefIdeal.main_arg0) = m ((c.tc : Thread Cert.SampRefIdeal.nD Cert.SampRefIdeal.τ).loc Cert.SampRefIdeal.main_arg0)
      ∧ r.2.mem ((c.tc : Thread Cert.SampRefIdeal.nD Cert.SampRefIdeal.τ).loc Cert.SampRefIdeal.main_arg1) = m ((c.tc : Thread Cert.SampRefIdeal.nD Cert.SampRefIdeal.τ).loc Cert.SampRefIdeal.main_arg1)
      ∧ r.2.mem ((c.tc : Thread Cert.SampRefIdeal.nD Cert.SampRefIdeal.τ).loc Cert.SampRefIdeal.main_arg2) = m ((c.tc : Thread Cert.SampRefIdeal.nD Cert.SampRefIdeal.τ).loc Cert.SampRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_sound_selection [hKernelIdeal : Cert.KernelIdeal.Facts] [hReferenceIdeal : Cert.ReferenceIdeal.Facts] [hPre_sound_selection : Cert.Pre_sound_selection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound_selection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v25)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v103) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v30) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)
      ∧ m' ((c.tc : Thread Cert.EmbedRefIdeal.nD Cert.EmbedRefIdeal.τ).loc Cert.EmbedRefIdeal.main_arg4) = m ((c.tc : Thread Cert.EmbedIdeal.nD Cert.EmbedIdeal.τ).loc Cert.EmbedIdeal.main_arg4)) →
    ∃ (v0 : (c : Dev Cert.EmbedIdeal.nD) → Buf (Elt Ideal) ((c.tc : Thread Cert.EmbedIdeal.nD Cert.EmbedIdeal.τ).loc Cert.EmbedIdeal.main_v6)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v6) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v25) = v0 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3)
          ∧ r.2.mem ((c.tc : Thread Cert.EmbedRefIdeal.nD Cert.EmbedRefIdeal.τ).loc Cert.EmbedRefIdeal.main_arg4) = m' ((c.tc : Thread Cert.EmbedRefIdeal.nD Cert.EmbedRefIdeal.τ).loc Cert.EmbedRefIdeal.main_arg4))

def preserves_Samp_SampIdeal : Prop :=
  True

def algebraic_SampIdeal_SampRefIdeal [hSampIdeal : Cert.SampIdeal.Facts] [hSampRefIdeal : Cert.SampRefIdeal.Facts] : Prop :=
  ∀ (m : (ℓ : Loc Cert.SampIdeal.nD Cert.SampIdeal.τ Cert.SampIdeal.sig) → Buf (Elt Ideal) ℓ) (g : Dev Cert.SampIdeal.nD → PrngReg)
    (m' : (ℓ : Loc Cert.SampRefIdeal.nD Cert.SampRefIdeal.τ Cert.SampRefIdeal.sig) → Buf (Elt Ideal) ℓ) (g' : Dev Cert.SampRefIdeal.nD → PrngReg), Pre_SampIdeal m →
    (∀ c : Dev Cert.SampIdeal.nD,
      m' ((c.tc : Thread Cert.SampRefIdeal.nD Cert.SampRefIdeal.τ).loc Cert.SampRefIdeal.main_arg0) = m ((c.tc : Thread Cert.SampIdeal.nD Cert.SampIdeal.τ).loc Cert.SampIdeal.main_arg0)
      ∧ m' ((c.tc : Thread Cert.SampRefIdeal.nD Cert.SampRefIdeal.τ).loc Cert.SampRefIdeal.main_arg1) = m ((c.tc : Thread Cert.SampIdeal.nD Cert.SampIdeal.τ).loc Cert.SampIdeal.main_arg1)
      ∧ m' ((c.tc : Thread Cert.SampRefIdeal.nD Cert.SampRefIdeal.τ).loc Cert.SampRefIdeal.main_arg2) = m ((c.tc : Thread Cert.SampIdeal.nD Cert.SampIdeal.τ).loc Cert.SampIdeal.main_arg2)) →
    ∃ (v0 : (c : Dev Cert.SampIdeal.nD) → Buf (Elt Ideal) ((c.tc : Thread Cert.SampIdeal.nD Cert.SampIdeal.τ).loc Cert.SampIdeal.main_v30)),
      θ_run (Cert.SampIdeal.defs (F := Ideal)) (onTc (τ := Cert.SampIdeal.τ) (Cert.SampIdeal.main (F := Ideal))) ⟨m, fun _ => 0, g⟩ (fun r => ∀ c : Dev Cert.SampIdeal.nD,
          r.2.mem ((c.tc : Thread Cert.SampIdeal.nD Cert.SampIdeal.τ).loc Cert.SampIdeal.main_v30) = v0 c
          ∧ r.2.mem ((c.tc : Thread Cert.SampIdeal.nD Cert.SampIdeal.τ).loc Cert.SampIdeal.main_arg0) = m ((c.tc : Thread Cert.SampIdeal.nD Cert.SampIdeal.τ).loc Cert.SampIdeal.main_arg0)
          ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
          ∧ r.2.mem ((c.tc : Thread Cert.SampIdeal.nD Cert.SampIdeal.τ).loc Cert.SampIdeal.main_arg2) = m ((c.tc : Thread Cert.SampIdeal.nD Cert.SampIdeal.τ).loc Cert.SampIdeal.main_arg2))
      ∧ θ_run (Cert.SampRefIdeal.defs (F := Ideal)) (onTc (τ := Cert.SampRefIdeal.τ) (Cert.SampRefIdeal.main (F := Ideal))) ⟨m', fun _ => 0, g'⟩ (fun r => ∀ c : Dev Cert.SampRefIdeal.nD,
          r.2.mem ((c.tc : Thread Cert.SampRefIdeal.nD Cert.SampRefIdeal.τ).loc Cert.SampRefIdeal.main_v105) = v0 c
          ∧ r.2.mem ((c.tc : Thread Cert.SampRefIdeal.nD Cert.SampRefIdeal.τ).loc Cert.SampRefIdeal.main_arg0) = m' ((c.tc : Thread Cert.SampRefIdeal.nD Cert.SampRefIdeal.τ).loc Cert.SampRefIdeal.main_arg0)
          ∧ r.2.mem ((c.tc : Thread Cert.SampRefIdeal.nD Cert.SampRefIdeal.τ).loc Cert.SampRefIdeal.main_arg1) = m' ((c.tc : Thread Cert.SampRefIdeal.nD Cert.SampRefIdeal.τ).loc Cert.SampRefIdeal.main_arg1)
          ∧ r.2.mem ((c.tc : Thread Cert.SampRefIdeal.nD Cert.SampRefIdeal.τ).loc Cert.SampRefIdeal.main_arg2) = m' ((c.tc : Thread Cert.SampRefIdeal.nD Cert.SampRefIdeal.τ).loc Cert.SampRefIdeal.main_arg2))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v27) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)) →
    ∃ (v0 : (c : Dev Cert.StepIdeal.nD) → Buf (Elt Ideal) ((c.tc : Thread Cert.StepIdeal.nD Cert.StepIdeal.τ).loc Cert.StepIdeal.main_v25_0)) (v1 : (c : Dev Cert.StepIdeal.nD) → Buf (Elt Ideal) ((c.tc : Thread Cert.StepIdeal.nD Cert.StepIdeal.τ).loc Cert.StepIdeal.main_v25_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v25_0) = v0 c
          ∧ r.2.mem ((c.tc : Thread Cert.StepIdeal.nD Cert.StepIdeal.τ).loc Cert.StepIdeal.main_v25_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v140) = v0 c
          ∧ r.2.mem ((c.tc : Thread Cert.StepRefIdeal.nD Cert.StepRefIdeal.τ).loc Cert.StepRefIdeal.main_v141) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hEmbed : Cert.Embed.Facts) (hEmbedIdeal : Cert.EmbedIdeal.Facts) (hEmbedRefIdeal : Cert.EmbedRefIdeal.Facts) (hSamp : Cert.Samp.Facts) (hSampIdeal : Cert.SampIdeal.Facts) (hSampRefIdeal : Cert.SampRefIdeal.Facts) (hLast : Cert.Last.Facts) (hLastIdeal : Cert.LastIdeal.Facts) (hLastRefIdeal : Cert.LastRefIdeal.Facts) (hStep : Cert.Step.Facts) (hStepIdeal : Cert.StepIdeal.Facts) (hStepRefIdeal : Cert.StepRefIdeal.Facts) (hPre_sound_selection : Cert.Pre_sound_selection.Facts),
    quiescent_Kernel (hKernel := hKernel)
    ∧ quiescent_KernelIdeal (hKernelIdeal := hKernelIdeal)
    ∧ quiescent_KernelIdeal_pre_sound_selection (hKernelIdeal := hKernelIdeal) (hPre_sound_selection := hPre_sound_selection)
    ∧ quiescent_ReferenceIdeal (hReferenceIdeal := hReferenceIdeal)
    ∧ quiescent_ReferenceIdeal_pre_sound_selection (hReferenceIdeal := hReferenceIdeal) (hPre_sound_selection := hPre_sound_selection)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Samp (hSamp := hSamp)
    ∧ quiescent_SampIdeal (hSampIdeal := hSampIdeal)
    ∧ quiescent_SampRefIdeal (hSampRefIdeal := hSampRefIdeal)
    ∧ quiescent_Last (hLast := hLast)
    ∧ quiescent_LastIdeal (hLastIdeal := hLastIdeal)
    ∧ quiescent_LastRefIdeal (hLastRefIdeal := hLastRefIdeal)
    ∧ quiescent_Step (hStep := hStep)
    ∧ quiescent_StepIdeal (hStepIdeal := hStepIdeal)
    ∧ quiescent_StepRefIdeal (hStepRefIdeal := hStepRefIdeal)
    ∧ preserves_Kernel_KernelIdeal
    ∧ algebraic_KernelIdeal_ReferenceIdeal_pre_sound_selection (hKernelIdeal := hKernelIdeal) (hReferenceIdeal := hReferenceIdeal) (hPre_sound_selection := hPre_sound_selection)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_Merge_MergeIdeal
    ∧ algebraic_MergeIdeal_MergeRefIdeal (hMergeIdeal := hMergeIdeal) (hMergeRefIdeal := hMergeRefIdeal)
    ∧ preserves_Embed_EmbedIdeal
    ∧ algebraic_EmbedIdeal_EmbedRefIdeal (hEmbedIdeal := hEmbedIdeal) (hEmbedRefIdeal := hEmbedRefIdeal)
    ∧ preserves_Samp_SampIdeal
    ∧ algebraic_SampIdeal_SampRefIdeal (hSampIdeal := hSampIdeal) (hSampRefIdeal := hSampRefIdeal)
    ∧ preserves_Last_LastIdeal
    ∧ algebraic_LastIdeal_LastRefIdeal (hLastIdeal := hLastIdeal) (hLastRefIdeal := hLastRefIdeal)
    ∧ preserves_Step_StepIdeal
    ∧ algebraic_StepIdeal_StepRefIdeal (hStepIdeal := hStepIdeal) (hStepRefIdeal := hStepRefIdeal)
-- ==== Pre_sound_selection.lean ====
abbrev S8192x15872 : Shape := ⟨2, ![8192, 15872]⟩
abbrev S8192x4x16 : Shape := ⟨3, ![8192, 4, 16]⟩
abbrev S4x8192x128 : Shape := ⟨3, ![4, 8192, 128]⟩
abbrev S16 : Shape := ⟨1, ![16]⟩
abbrev S8192x4x16x1 : Shape := ⟨4, ![8192, 4, 16, 1]⟩
abbrev S128 : Shape := ⟨1, ![128]⟩
abbrev S1x1x1x128 : Shape := ⟨4, ![1, 1, 1, 128]⟩
abbrev S8192x4x16x128 : Shape := ⟨4, ![8192, 4, 16, 128]⟩
abbrev S_ : Shape := ⟨0, ![]⟩
abbrev S8192x4x128 : Shape := ⟨3, ![8192, 4, 128]⟩
abbrev S8192x4x1x16 : Shape := ⟨4, ![8192, 4, 1, 16]⟩
abbrev S8192x4x16x16 : Shape := ⟨4, ![8192, 4, 16, 16]⟩
abbrev S16x1 : Shape := ⟨2, ![16, 1]⟩
abbrev S1x16 : Shape := ⟨2, ![1, 16]⟩
abbrev S16x16 : Shape := ⟨2, ![16, 16]⟩
abbrev S1x1x16x16 : Shape := ⟨4, ![1, 1, 16, 16]⟩
abbrev S8192x4 : Shape := ⟨2, ![8192, 4]⟩

class Facts : Prop where
  bcast_S8192x4x16_S8192x4x16x1_0_1_2 : S8192x4x16.BroadcastsInDim S8192x4x16x1 (![0, 1, 2] : Fin 3 → Fin S8192x4x16x1.rank)
  bcast_S128_S1x1x1x128_3 : S128.BroadcastsInDim S1x1x1x128 (![3] : Fin 1 → Fin S1x1x1x128.rank)
  bcast_S8192x4x16x1_S8192x4x16x128_0_1_2_3 : S8192x4x16x1.BroadcastsInDim S8192x4x16x128 (![0, 1, 2, 3] : Fin 4 → Fin S8192x4x16x128.rank)
  bcast_S1x1x1x128_S8192x4x16x128_0_1_2_3 : S1x1x1x128.BroadcastsInDim S8192x4x16x128 (![0, 1, 2, 3] : Fin 4 → Fin S8192x4x16x128.rank)
  reducesTo_S8192x4x16x128_S8192x4x128_d2 : S8192x4x16x128.ReducesTo [2] S8192x4x128
  h_S_ : 0 < S_.numel
  bcast_S_S8192x15872 : S_.BroadcastsInDim S8192x15872 (![] : Fin 0 → Fin S8192x15872.rank)
  bcast_S_S8192x4x16 : S_.BroadcastsInDim S8192x4x16 (![] : Fin 0 → Fin S8192x4x16.rank)
  bcast_S8192x4x16_S8192x4x1x16_0_1_3 : S8192x4x16.BroadcastsInDim S8192x4x1x16 (![0, 1, 3] : Fin 3 → Fin S8192x4x1x16.rank)
  bcast_S8192x4x16x1_S8192x4x16x16_0_1_2_3 : S8192x4x16x1.BroadcastsInDim S8192x4x16x16 (![0, 1, 2, 3] : Fin 4 → Fin S8192x4x16x16.rank)
  bcast_S8192x4x1x16_S8192x4x16x16_0_1_2_3 : S8192x4x1x16.BroadcastsInDim S8192x4x16x16 (![0, 1, 2, 3] : Fin 4 → Fin S8192x4x16x16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S16x16_S1x1x16x16_2_3 : S16x16.BroadcastsInDim S1x1x16x16 (![2, 3] : Fin 2 → Fin S1x1x16x16.rank)
  bcast_S1x1x16x16_S8192x4x16x16_0_1_2_3 : S1x1x16x16.BroadcastsInDim S8192x4x16x16 (![0, 1, 2, 3] : Fin 4 → Fin S8192x4x16x16.rank)
  reducesTo_S8192x4x16_S8192x4_d2 : S8192x4x16.ReducesTo [2] S8192x4
  bcast_S_S8192x4x128 : S_.BroadcastsInDim S8192x4x128 (![] : Fin 0 → Fin S8192x4x128.rank)
  bitsLt_bf16_f32 : FTy.bits .bf16 < FTy.bits .f32
  transposes_S8192x4x128_S4x8192x128_1_0_2 : S8192x4x128.Transposes [1, 0, 2] S4x8192x128

variable [Facts]

def fn_where {F : FTy → Type} [FloatOps F] (arg0 : IVec S8192x4x128 1) (arg1 : FVec F S_ .f32) (arg2 : FVec F S_ .f32) : FVec F S8192x4x128 .f32 :=
  let v0 : FVec F S8192x4x128 .f32 := broadcastInDim S8192x4x128 ![] bcast_S_S8192x4x128 arg1
  let v1 : FVec F S8192x4x128 .f32 := broadcastInDim S8192x4x128 ![] bcast_S_S8192x4x128 arg2
  let v2 : FVec F S8192x4x128 .f32 := select arg0 v0 v1
  v2

def fn_part1 {F : FTy → Type} [FloatOps F] (main_arg1 : IVec S8192x4x16 32) (main_arg2 : FVec F S4x8192x128 .bf16) (main_v0 : IVec S16 32) (main_v7 : IVec S8192x4x128 1) (main_v10 : IVec S8192x15872 1) (main_v15 : IVec S8192x4x16 1) (main_v18 : IVec S8192x4x16x16 32) (main_v19 : IVec S8192x4x16x16 32) : IVec S8192x15872 1 × IVec S8192x4x16 1 × IVec S8192x4x16x16 1 × IVec S8192x4 1 × IVec S4x8192x128 1 :=
  let main_v20 : IVec S8192x4x16x16 1 := cmpi .ne main_v18 main_v19
  let main_v21 : IVec S16x1 32 := broadcastInDim S16x1 ![0] bcast_S16_S16x1_0 main_v0
  let main_v22 : IVec S1x16 32 := broadcastInDim S1x16 ![1] bcast_S16_S1x16_1 main_v0
  let main_v23 : IVec S16x16 32 := broadcastInDim S16x16 ![0, 1] bcast_S16x1_S16x16_0_1 main_v21
  let main_v24 : IVec S16x16 32 := broadcastInDim S16x16 ![0, 1] bcast_S1x16_S16x16_0_1 main_v22
  let main_v25 : IVec S16x16 1 := cmpi .eq main_v23 main_v24
  let main_v26 : IVec S1x1x16x16 1 := broadcastInDim S1x1x16x16 ![2, 3] bcast_S16x16_S1x1x16x16_2_3 main_v25
  let main_v27 : IVec S8192x4x16x16 1 := broadcastInDim S8192x4x16x16 ![0, 1, 2, 3] bcast_S1x1x16x16_S8192x4x16x16_0_1_2_3 main_v26
  let main_v28 : IVec S8192x4x16x16 1 := ori main_v20 main_v27
  let main_c_2 : IVec S_ 32 := constantI S_ 32 0#32
  let main_v29 : IVec S8192x4x16 32 := broadcastInDim S8192x4x16 ![] bcast_S_S8192x4x16 main_c_2
  let main_v30 : IVec S8192x4x16 1 := cmpi .eq main_arg1 main_v29
  let main_c_3 : IVec S_ 1 := constantI S_ 1 0#1
  let main_v31 : IVec S8192x4 1 := (fun x v => Host.reduce IntOp.ori x v reducesTo_S8192x4x16_S8192x4_d2 h_S_) main_v30 main_c_3
  let main_cst_4 : FVec F S_ .f32 := constant S_ .f32 0x00000000#32
  let main_cst_5 : FVec F S_ .f32 := constant S_ .f32 0xFF800000#32
  let main_v32 : FVec F S8192x4x128 .f32 := fn_where (F := F) main_v7 main_cst_4 main_cst_5
  let main_v33 : FVec F S8192x4x128 .bf16 := (truncf .bf16 · bitsLt_bf16_f32) main_v32
  let main_v34 : FVec F S4x8192x128 .bf16 := (transpose S4x8192x128 [1, 0, 2] · transposes_S8192x4x128_S4x8192x128_1_0_2) main_v33
  let main_v35 : IVec S4x8192x128 1 := cmpf .oeq main_arg2 main_v34
  (main_v10, main_v15, main_v28, main_v31, main_v35)

def fn {F : FTy → Type} [FloatOps F] (main_arg0 : FVec F S8192x15872 .f32) (main_arg1 : IVec S8192x4x16 32) (main_arg2 : FVec F S4x8192x128 .bf16) : IVec S8192x15872 1 × IVec S8192x4x16 1 × IVec S8192x4x16x16 1 × IVec S8192x4 1 × IVec S4x8192x128 1 :=
  let main_v0 : IVec S16 32 := iotaInDim S16 32 0
  let main_v1 : IVec S8192x4x16x1 32 := broadcastInDim S8192x4x16x1 ![0, 1, 2] bcast_S8192x4x16_S8192x4x16x1_0_1_2 main_arg1
  let main_v2 : IVec S128 32 := iotaInDim S128 32 0
  let main_v3 : IVec S1x1x1x128 32 := broadcastInDim S1x1x1x128 ![3] bcast_S128_S1x1x1x128_3 main_v2
  let main_v4 : IVec S8192x4x16x128 32 := broadcastInDim S8192x4x16x128 ![0, 1, 2, 3] bcast_S8192x4x16x1_S8192x4x16x128_0_1_2_3 main_v1
  let main_v5 : IVec S8192x4x16x128 32 := broadcastInDim S8192x4x16x128 ![0, 1, 2, 3] bcast_S1x1x1x128_S8192x4x16x128_0_1_2_3 main_v3
  let main_v6 : IVec S8192x4x16x128 1 := cmpi .eq main_v4 main_v5
  let main_c : IVec S_ 1 := constantI S_ 1 0#1
  let main_v7 : IVec S8192x4x128 1 := (fun x v => Host.reduce IntOp.ori x v reducesTo_S8192x4x16x128_S8192x4x128_d2 h_S_) main_v6 main_c
  let main_v8 : FVec F S8192x15872 .f32 := Host.absf main_arg0
  let main_cst : FVec F S_ .f32 := constant S_ .f32 0x7F800000#32
  let main_v9 : FVec F S8192x15872 .f32 := broadcastInDim S8192x15872 ![] bcast_S_S8192x15872 main_cst
  let main_v10 : IVec S8192x15872 1 := cmpf .olt main_v8 main_v9
  let main_c_0 : IVec S_ 32 := constantI S_ 32 0#32
  let main_v11 : IVec S8192x4x16 32 := broadcastInDim S8192x4x16 ![] bcast_S_S8192x4x16 main_c_0
  let main_v12 : IVec S8192x4x16 1 := cmpi .sge main_arg1 main_v11
  let main_c_1 : IVec S_ 32 := constantI S_ 32 128#32
  let main_v13 : IVec S8192x4x16 32 := broadcastInDim S8192x4x16 ![] bcast_S_S8192x4x16 main_c_1
  let main_v14 : IVec S8192x4x16 1 := cmpi .slt main_arg1 main_v13
  let main_v15 : IVec S8192x4x16 1 := andi main_v12 main_v14
  let main_v16 : IVec S8192x4x16x1 32 := broadcastInDim S8192x4x16x1 ![0, 1, 2] bcast_S8192x4x16_S8192x4x16x1_0_1_2 main_arg1
  let main_v17 : IVec S8192x4x1x16 32 := broadcastInDim S8192x4x1x16 ![0, 1, 3] bcast_S8192x4x16_S8192x4x1x16_0_1_3 main_arg1
  let main_v18 : IVec S8192x4x16x16 32 := broadcastInDim S8192x4x16x16 ![0, 1, 2, 3] bcast_S8192x4x16x1_S8192x4x16x16_0_1_2_3 main_v16
  let main_v19 : IVec S8192x4x16x16 32 := broadcastInDim S8192x4x16x16 ![0, 1, 2, 3] bcast_S8192x4x1x16_S8192x4x16x16_0_1_2_3 main_v17
  fn_part1 (F := F) main_arg1 main_arg2 main_v0 main_v7 main_v10 main_v15 main_v18 main_v19
-- ==== Kernel.lean ====
abbrev S8192x15872 : Shape := ⟨2, ![8192, 15872]⟩
abbrev S8192x4x16 : Shape := ⟨3, ![8192, 4, 16]⟩
abbrev S4x8192x128 : Shape := ⟨3, ![4, 8192, 128]⟩
abbrev S8192 : Shape := ⟨1, ![8192]⟩
abbrev S8192x1 : Shape := ⟨2, ![8192, 1]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S8192x2048 : Shape := ⟨2, ![8192, 2048]⟩
abbrev S256x512 : Shape := ⟨2, ![256, 512]⟩
abbrev S1x256x128 : Shape := ⟨3, ![1, 256, 128]⟩
abbrev S8192x256 : Shape := ⟨2, ![8192, 256]⟩
abbrev S1024x256 : Shape := ⟨2, ![1024, 256]⟩
abbrev S512x128 : Shape := ⟨2, ![512, 128]⟩
abbrev S256x128 : Shape := ⟨2, ![256, 128]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩
abbrev S768x256 : Shape := ⟨2, ![768, 256]⟩
abbrev S1024x768 : Shape := ⟨2, ![1024, 768]⟩
abbrev S768x128 : Shape := ⟨2, ![768, 128]⟩
abbrev S512x256 : Shape := ⟨2, ![512, 256]⟩
abbrev S1024x512 : Shape := ⟨2, ![1024, 512]⟩
abbrev S256x256 : Shape := ⟨2, ![256, 256]⟩

abbrev nBuf : Space → Nat
  | .hbm => 30
  | .vmem => 14
  | .smem => 0
  | _ => 0

abbrev bufTy : (tb : Table) → Fin (tcTables nBuf tb) → BufTy
  | .hbm, ⟨0, _⟩ => ⟨S8192x15872, .f32⟩
  | .hbm, ⟨1, _⟩ => ⟨S8192x4x16, .i32⟩
  | .hbm, ⟨2, _⟩ => ⟨S4x8192x128, .bf16⟩
  | .hbm, ⟨3, _⟩ => ⟨S8192, .i32⟩
  | .hbm, ⟨4, _⟩ => ⟨S8192x1, .i32⟩
  | .hbm, ⟨5, _⟩ => ⟨S_, .i32⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S_, .i32⟩
  | .hbm, ⟨11, _⟩ => ⟨S8192x1, .i32⟩
  | .hbm, ⟨12, _⟩ => ⟨S8192x1, .i1⟩
  | .hbm, ⟨13, _⟩ => ⟨S8192x1, .i32⟩
  | .hbm, ⟨14, _⟩ => ⟨S8192x1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i32⟩
  | .hbm, ⟨20, _⟩ => ⟨S8192x1, .i32⟩
  | .hbm, ⟨21, _⟩ => ⟨S8192x1, .i32⟩
  | .hbm, ⟨22, _⟩ => ⟨S8192x1, .i32⟩
  | .hbm, ⟨23, _⟩ => ⟨S128, .i32⟩
  | .hbm, ⟨24, _⟩ => ⟨S1x128, .i32⟩
  | .hbm, ⟨25, _⟩ => ⟨S8192x128, .i32⟩
  | .hbm, ⟨26, _⟩ => ⟨S8192x128, .i32⟩
  | .hbm, ⟨27, _⟩ => ⟨S8192x128, .i1⟩
  | .hbm, ⟨28, _⟩ => ⟨S8192x128, .bf16⟩
  | .hbm, ⟨29, _⟩ => ⟨S8192x2048, .f32⟩
  | .local _ .vmem, ⟨0, _⟩ => ⟨S256x512, .f32⟩
  | .local _ .vmem, ⟨1, _⟩ => ⟨S256x512, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x256x128, .bf16⟩
  | .local _ .vmem, ⟨7, _⟩ => ⟨S1x256x128, .bf16⟩
  | .local _ .vmem, ⟨8, _⟩ => ⟨S8192x128, .bf16⟩
  | .local _ .vmem, ⟨9, _⟩ => ⟨S256x512, .f32⟩
  | .local _ .vmem, ⟨10, _⟩ => ⟨S256x512, .f32⟩
  | .local _ .vmem, ⟨11, _⟩ => ⟨S8192x256, .bf16⟩
  | .local _ .vmem, ⟨12, _⟩ => ⟨S8192x128, .bf16⟩
  | .local _ .vmem, ⟨13, _⟩ => ⟨S1024x256, .bf16⟩
  | _, _ => ⟨S8192x15872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_62 : BitVec 32 := 0#32
  let c16_i32 : BitVec 32 := 16#32
  let v105 : BitVec 32 := Scalar.addi c0_i32_62 c16_i32
  let c1_i32_63 : BitVec 32 := 1#32
  ⟨c0_i32_62, v105, c1_i32_63⟩
def k0_mult1 (k0_t1 : Fin k0_t1_loop.trips) : BitVec 32 :=
  let c0_i32_62 : BitVec 32 := 0#32
  let c1_i32_63 : BitVec 32 := 1#32
  let arg11 : BitVec 32 := Scf.iv c0_i32_62 c1_i32_63 k0_t1
  let c512_i32 : BitVec 32 := 512#32
  let v106 : BitVec 32 := Scalar.muli arg11 c512_i32
  v106
def k0_off1 (k0_t1 : Fin k0_t1_loop.trips) : Fin 2 → Nat :=
  let c0_i32_62 : BitVec 32 := 0#32
  let c1_i32_63 : BitVec 32 := 1#32
  let arg11 : BitVec 32 := Scf.iv c0_i32_62 c1_i32_63 k0_t1
  let c512_i32 : BitVec 32 := 512#32
  let v106 : BitVec 32 := Scalar.muli arg11 c512_i32
  let v107 : BitVec 32 := v106
  let v108 : Index := Scalar.indexCast v107
  let c0_65 : Index := 0#32
  ![v108.toNat, 0]
def k0_off2 (k0_t1 : Fin k0_t1_loop.trips) : Fin 2 → Nat :=
  let c0_i32_62 : BitVec 32 := 0#32
  let c1_i32_63 : BitVec 32 := 1#32
  let arg11 : BitVec 32 := Scf.iv c0_i32_62 c1_i32_63 k0_t1
  let c512_i32 : BitVec 32 := 512#32
  let v106 : BitVec 32 := Scalar.muli arg11 c512_i32
  let v107 : BitVec 32 := v106
  let v111 : Index := Scalar.indexCast v107
  let c0_66 : Index := 0#32
  ![v111.toNat, 0]
def k0_off3 (k0_t1 : Fin k0_t1_loop.trips) : Fin 2 → Nat :=
  let c0_i32_62 : BitVec 32 := 0#32
  let c1_i32_63 : BitVec 32 := 1#32
  let arg11 : BitVec 32 := Scf.iv c0_i32_62 c1_i32_63 k0_t1
  let c512_i32 : BitVec 32 := 512#32
  let v106 : BitVec 32 := Scalar.muli arg11 c512_i32
  let v107 : BitVec 32 := v106
  let v118 : Index := Scalar.indexCast v107
  let c128_68 : Index := 128#32
  ![v118.toNat, 128]
@[reducible] def k0_t2_loop (i : grid0.Coords) : Scf.Loop 32 :=
  let c0_i32_42 : BitVec 32 := 0#32
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let v72 : BitVec 32 := Scalar.subi v71 c0_i32_42
  let c1_i32_43 : BitVec 32 := 1#32
  let v74 : BitVec 32 := Scalar.divsi v72 c1_i32_43
  let v75 : BitVec 32 := Scalar.muli v74 c1_i32_43
  let v76 : BitVec 32 := Scalar.addi c0_i32_42 v75
  let c1_i32_44 : BitVec 32 := 1#32
  ⟨c0_i32_42, v76, c1_i32_44⟩
def k0_mult2 (i : grid0.Coords) (k0_t2 : Fin (k0_t2_loop i).trips) : BitVec 32 :=
  let c0_i32_42 : BitVec 32 := 0#32
  let c1_i32_44 : BitVec 32 := 1#32
  let arg11 : BitVec 32 := Scf.iv c0_i32_42 c1_i32_44 k0_t2
  let c1024_i32_62 : BitVec 32 := 1024#32
  let v105 : BitVec 32 := Scalar.muli arg11 c1024_i32_62
  v105
def k0_off4 (i : grid0.Coords) (k0_t2 : Fin (k0_t2_loop i).trips) : Fin 2 → Nat :=
  let c0_i32_42 : BitVec 32 := 0#32
  let c1_i32_44 : BitVec 32 := 1#32
  let arg11 : BitVec 32 := Scf.iv c0_i32_42 c1_i32_44 k0_t2
  let c1024_i32_62 : BitVec 32 := 1024#32
  let v105 : BitVec 32 := Scalar.muli arg11 c1024_i32_62
  let v106 : BitVec 32 := v105
  let v108 : Index := Scalar.indexCast v106
  let c0_65 : Index := 0#32
  ![v108.toNat, 0]
def k0_off5 (i : grid0.Coords) (k0_t2 : Fin (k0_t2_loop i).trips) : Fin 2 → Nat :=
  let c0_i32_42 : BitVec 32 := 0#32
  let c1_i32_44 : BitVec 32 := 1#32
  let arg11 : BitVec 32 := Scf.iv c0_i32_42 c1_i32_44 k0_t2
  let c1024_i32_62 : BitVec 32 := 1024#32
  let v105 : BitVec 32 := Scalar.muli arg11 c1024_i32_62
  let v106 : BitVec 32 := v105
  let v126 : Index := Scalar.indexCast v106
  let c0_69 : Index := 0#32
  ![v126.toNat, 0]
@[reducible] def k0_t3_loop (i : grid0.Coords) : Scf.Loop 32 :=
  let c0_i32_42 : BitVec 32 := 0#32
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let v72 : BitVec 32 := Scalar.subi v71 c0_i32_42
  let c1_i32_43 : BitVec 32 := 1#32
  let v74 : BitVec 32 := Scalar.divsi v72 c1_i32_43
  let v75 : BitVec 32 := Scalar.muli v74 c1_i32_43
  let v76 : BitVec 32 := Scalar.addi c0_i32_42 v75
  let v73 : BitVec 32 := Scalar.addi c0_i32_42 v72
  let c1_i32_45 : BitVec 32 := 1#32
  ⟨v76, v73, c1_i32_45⟩
def k0_mult3 (i : grid0.Coords) (k0_t3 : Fin (k0_t3_loop i).trips) : BitVec 32 :=
  let c0_i32_42 : BitVec 32 := 0#32
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let v72 : BitVec 32 := Scalar.subi v71 c0_i32_42
  let c1_i32_43 : BitVec 32 := 1#32
  let v74 : BitVec 32 := Scalar.divsi v72 c1_i32_43
  let v75 : BitVec 32 := Scalar.muli v74 c1_i32_43
  let v76 : BitVec 32 := Scalar.addi c0_i32_42 v75
  let c1_i32_45 : BitVec 32 := 1#32
  let arg11 : BitVec 32 := Scf.iv v76 c1_i32_45 k0_t3
  let c1024_i32_62 : BitVec 32 := 1024#32
  let v105 : BitVec 32 := Scalar.muli arg11 c1024_i32_62
  v105
def k0_off6 (i : grid0.Coords) (k0_t3 : Fin (k0_t3_loop i).trips) : Fin 2 → Nat :=
  let c0_i32_42 : BitVec 32 := 0#32
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let v72 : BitVec 32 := Scalar.subi v71 c0_i32_42
  let c1_i32_43 : BitVec 32 := 1#32
  let v74 : BitVec 32 := Scalar.divsi v72 c1_i32_43
  let v75 : BitVec 32 := Scalar.muli v74 c1_i32_43
  let v76 : BitVec 32 := Scalar.addi c0_i32_42 v75
  let c1_i32_45 : BitVec 32 := 1#32
  let arg11 : BitVec 32 := Scf.iv v76 c1_i32_45 k0_t3
  let c1024_i32_62 : BitVec 32 := 1024#32
  let v105 : BitVec 32 := Scalar.muli arg11 c1024_i32_62
  let v106 : BitVec 32 := v105
  let v108 : Index := Scalar.indexCast v106
  let c0_65 : Index := 0#32
  ![v108.toNat, 0]
def k0_off7 (i : grid0.Coords) (k0_t3 : Fin (k0_t3_loop i).trips) : Fin 2 → Nat :=
  let c0_i32_42 : BitVec 32 := 0#32
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let v72 : BitVec 32 := Scalar.subi v71 c0_i32_42
  let c1_i32_43 : BitVec 32 := 1#32
  let v74 : BitVec 32 := Scalar.divsi v72 c1_i32_43
  let v75 : BitVec 32 := Scalar.muli v74 c1_i32_43
  let v76 : BitVec 32 := Scalar.addi c0_i32_42 v75
  let c1_i32_45 : BitVec 32 := 1#32
  let arg11 : BitVec 32 := Scf.iv v76 c1_i32_45 k0_t3
  let c1024_i32_62 : BitVec 32 := 1024#32
  let v105 : BitVec 32 := Scalar.muli arg11 c1024_i32_62
  let v106 : BitVec 32 := v105
  let v126 : Index := Scalar.indexCast v106
  let c0_69 : Index := 0#32
  ![v126.toNat, 0]
def k0_mult4 (i : grid0.Coords) : BitVec 32 :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  v79
def k0_cond2 (i : grid0.Coords) : BitVec 1 :=
  let arg1 : BitVec 32 := BitVec.ofNat 32 (i 1).val
  let c4_i32 : BitVec 32 := 4#32
  let c0_i32_47 : BitVec 32 := 0#32
  let v81 : BitVec 1 := Scalar.cmpi .eq c4_i32 c0_i32_47
  let c1_i32_48 : BitVec 32 := 1#32
  let v82 : BitVec 32 := Scalar.select v81 c1_i32_48 c4_i32
  let v83 : BitVec 32 := Scalar.remsi arg1 v82
  let c0_i32_50 : BitVec 32 := 0#32
  let v85 : BitVec 1 := Scalar.cmpi .slt v83 c0_i32_50
  let c0_i32_51 : BitVec 32 := 0#32
  let v86 : BitVec 1 := Scalar.cmpi .slt v82 c0_i32_51
  let v87 : BitVec 1 := Scalar.xori v85 v86
  let c0_i32_49 : BitVec 32 := 0#32
  let v84 : BitVec 1 := Scalar.cmpi .ne v83 c0_i32_49
  let v88 : BitVec 1 := Scalar.andi v87 v84
  let v89 : BitVec 32 := Scalar.addi v83 v82
  let v90 : BitVec 32 := Scalar.select v88 v89 v83
  let c0_i32_52 : BitVec 32 := 0#32
  let v91 : BitVec 32 := Scalar.maxsi v90 c0_i32_52
  let c3_i32 : BitVec 32 := 3#32
  let v92 : BitVec 32 := Scalar.minsi v91 c3_i32
  let c0_i32_53 : BitVec 32 := 0#32
  let v93 : BitVec 1 := Scalar.cmpi .ne v92 c0_i32_53
  v93

def k0_cond3 (i : grid0.Coords) : BitVec 1 :=
  let arg1 : BitVec 32 := BitVec.ofNat 32 (i 1).val
  let c4_i32 : BitVec 32 := 4#32
  let c0_i32_47 : BitVec 32 := 0#32
  let v81 : BitVec 1 := Scalar.cmpi .eq c4_i32 c0_i32_47
  let c1_i32_48 : BitVec 32 := 1#32
  let v82 : BitVec 32 := Scalar.select v81 c1_i32_48 c4_i32
  let v83 : BitVec 32 := Scalar.remsi arg1 v82
  let c0_i32_50 : BitVec 32 := 0#32
  let v85 : BitVec 1 := Scalar.cmpi .slt v83 c0_i32_50
  let c0_i32_51 : BitVec 32 := 0#32
  let v86 : BitVec 1 := Scalar.cmpi .slt v82 c0_i32_51
  let v87 : BitVec 1 := Scalar.xori v85 v86
  let c0_i32_49 : BitVec 32 := 0#32
  let v84 : BitVec 1 := Scalar.cmpi .ne v83 c0_i32_49
  let v88 : BitVec 1 := Scalar.andi v87 v84
  let v89 : BitVec 32 := Scalar.addi v83 v82
  let v90 : BitVec 32 := Scalar.select v88 v89 v83
  let c0_i32_52 : BitVec 32 := 0#32
  let v91 : BitVec 32 := Scalar.maxsi v90 c0_i32_52
  let c3_i32 : BitVec 32 := 3#32
  let v92 : BitVec 32 := Scalar.minsi v91 c3_i32
  let c1_i32_62 : BitVec 32 := 1#32
  let v105 : BitVec 32 := Scalar.subi v92 c1_i32_62
  let c0_i32_63 : BitVec 32 := 0#32
  let v106 : BitVec 1 := Scalar.cmpi .ne v105 c0_i32_63
  v106

def k0_cond4 (i : grid0.Coords) : BitVec 1 :=
  let arg1 : BitVec 32 := BitVec.ofNat 32 (i 1).val
  let c4_i32 : BitVec 32 := 4#32
  let c0_i32_47 : BitVec 32 := 0#32
  let v81 : BitVec 1 := Scalar.cmpi .eq c4_i32 c0_i32_47
  let c1_i32_48 : BitVec 32 := 1#32
  let v82 : BitVec 32 := Scalar.select v81 c1_i32_48 c4_i32
  let v83 : BitVec 32 := Scalar.remsi arg1 v82
  let c0_i32_50 : BitVec 32 := 0#32
  let v85 : BitVec 1 := Scalar.cmpi .slt v83 c0_i32_50
  let c0_i32_51 : BitVec 32 := 0#32
  let v86 : BitVec 1 := Scalar.cmpi .slt v82 c0_i32_51
  let v87 : BitVec 1 := Scalar.xori v85 v86
  let c0_i32_49 : BitVec 32 := 0#32
  let v84 : BitVec 1 := Scalar.cmpi .ne v83 c0_i32_49
  let v88 : BitVec 1 := Scalar.andi v87 v84
  let v89 : BitVec 32 := Scalar.addi v83 v82
  let v90 : BitVec 32 := Scalar.select v88 v89 v83
  let c0_i32_52 : BitVec 32 := 0#32
  let v91 : BitVec 32 := Scalar.maxsi v90 c0_i32_52
  let c3_i32 : BitVec 32 := 3#32
  let v92 : BitVec 32 := Scalar.minsi v91 c3_i32
  let c1_i32_62 : BitVec 32 := 1#32
  let v105 : BitVec 32 := Scalar.subi v92 c1_i32_62
  let c1_i32_64 : BitVec 32 := 1#32
  let v108 : BitVec 32 := Scalar.subi v105 c1_i32_64
  let c0_i32_65 : BitVec 32 := 0#32
  let v109 : BitVec 1 := Scalar.cmpi .ne v108 c0_i32_65
  v109

def k0_off8 (i : grid0.Coords) : Fin 2 → Nat :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  let v80 : BitVec 32 := v79
  let v112 : Index := Scalar.indexCast v80
  let c0_68 : Index := 0#32
  ![v112.toNat, 0]
def k0_off9 (i : grid0.Coords) : Fin 2 → Nat :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  let v80 : BitVec 32 := v79
  let v159 : Index := Scalar.indexCast v80
  let c0_81 : Index := 0#32
  ![v159.toNat, 0]
def k0_off10 (i : grid0.Coords) : Fin 2 → Nat :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  let v80 : BitVec 32 := v79
  let v112 : Index := Scalar.indexCast v80
  let c0_68 : Index := 0#32
  ![v112.toNat, 0]
def k0_off11 (i : grid0.Coords) : Fin 2 → Nat :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  let v80 : BitVec 32 := v79
  let v159 : Index := Scalar.indexCast v80
  let c0_81 : Index := 0#32
  ![v159.toNat, 0]
def k0_off12 (i : grid0.Coords) : Fin 2 → Nat :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  let v80 : BitVec 32 := v79
  let v109 : Index := Scalar.indexCast v80
  let c0_66 : Index := 0#32
  ![v109.toNat, 0]
def k0_off13 (i : grid0.Coords) : Fin 2 → Nat :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  let v80 : BitVec 32 := v79
  let v156 : Index := Scalar.indexCast v80
  let c0_79 : Index := 0#32
  ![v156.toNat, 0]
def k0_off14 (i : grid0.Coords) : Fin 2 → Nat :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  let v80 : BitVec 32 := v79
  let v106 : Index := Scalar.indexCast v80
  let c0_64 : Index := 0#32
  ![v106.toNat, 0]
def k0_off15 (i : grid0.Coords) : Fin 2 → Nat :=
  let arg1 : BitVec 32 := BitVec.ofNat 32 (i 1).val
  let c256_i32 : BitVec 32 := 256#32
  let v54 : BitVec 32 := Scalar.muli arg1 c256_i32
  let c0_i32_37 : BitVec 32 := 0#32
  let v56 : BitVec 1 := Scalar.cmpi .sgt v54 c0_i32_37
  let v57 : BitVec 32 := Scalar.extui v56
  let c0_i32_38 : BitVec 32 := 0#32
  let v58 : BitVec 1 := Scalar.cmpi .slt v54 c0_i32_38
  let v59 : BitVec 32 := Scalar.extui v58
  let v60 : BitVec 32 := Scalar.subi v57 v59
  let c1024_i32 : BitVec 32 := 1024#32
  let c0_i32_39 : BitVec 32 := 0#32
  let v61 : BitVec 1 := Scalar.cmpi .sgt c1024_i32 c0_i32_39
  let v62 : BitVec 32 := Scalar.extui v61
  let c0_i32_40 : BitVec 32 := 0#32
  let v63 : BitVec 1 := Scalar.cmpi .slt c1024_i32 c0_i32_40
  let v64 : BitVec 32 := Scalar.extui v63
  let v65 : BitVec 32 := Scalar.subi v62 v64
  let v66 : BitVec 1 := Scalar.cmpi .ne v60 v65
  let v67 : BitVec 32 := Scalar.remsi v54 c1024_i32
  let c0_i32_41 : BitVec 32 := 0#32
  let v68 : BitVec 1 := Scalar.cmpi .ne v67 c0_i32_41
  let v69 : BitVec 1 := Scalar.andi v66 v68
  let v55 : BitVec 32 := Scalar.divsi v54 c1024_i32
  let c1_i32 : BitVec 32 := 1#32
  let v70 : BitVec 32 := Scalar.subi v55 c1_i32
  let v71 : BitVec 32 := Scalar.select v69 v70 v55
  let c1024_i32_46 : BitVec 32 := 1024#32
  let v79 : BitVec 32 := Scalar.muli v71 c1024_i32_46
  let v80 : BitVec 32 := v79
  let v153 : Index := Scalar.indexCast v80
  let c0_77 : Index := 0#32
  ![v153.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c104_i32 : BitVec 32 := 104#32
  let v0 : BitVec 32 := Scalar.addi c104_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c108_i32 : BitVec 32 := 108#32
  let v0 : BitVec 32 := Scalar.addi c108_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "scale" => some (((Real.sqrt 128)⁻¹ * (Real.log 2)⁻¹ : ℝ) : EReal)
  | _ => none
-- ==== ReferenceIdeal.lean ====
abbrev S8192x15872 : Shape := ⟨2, ![8192, 15872]⟩
abbrev S8192x4x16 : Shape := ⟨3, ![8192, 4, 16]⟩
abbrev S4x8192x128 : Shape := ⟨3, ![4, 8192, 128]⟩
abbrev S8192x2048 : Shape := ⟨2, ![8192, 2048]⟩
abbrev S8192x4x4x128 : Shape := ⟨4, ![8192, 4, 4, 128]⟩
abbrev S8192x1024 : Shape := ⟨2, ![8192, 1024]⟩
abbrev S8192x2x4x128 : Shape := ⟨4, ![8192, 2, 4, 128]⟩
abbrev S128x64x2x4x128 : Shape := ⟨5, ![128, 64, 2, 4, 128]⟩
abbrev S4 : Shape := ⟨1, ![4]⟩
abbrev S1x4x1 : Shape := ⟨3, ![1, 4, 1]⟩
abbrev S_ : Shape := ⟨0, ![]⟩
abbrev S8192x4x16x1 : Shape := ⟨4, ![8192, 4, 16, 1]⟩
abbrev S8192x4x16x2 : Shape := ⟨4, ![8192, 4, 16, 2]⟩
abbrev S8192x4x16x64x2x128 : Shape := ⟨6, ![8192, 4, 16, 64, 2, 128]⟩
abbrev S8192 : Shape := ⟨1, ![8192]⟩
abbrev S64 : Shape := ⟨1, ![64]⟩
abbrev S1x1x1x64 : Shape := ⟨4, ![1, 1, 1, 64]⟩
abbrev S8192x4x16x64 : Shape := ⟨4, ![8192, 4, 16, 64]⟩
abbrev S8192x1x1x1 : Shape := ⟨4, ![8192, 1, 1, 1]⟩
abbrev S8192x4x1x1024 : Shape := ⟨4, ![8192, 4, 1, 1024]⟩
abbrev S8192x4x16x64x1x128 : Shape := ⟨6, ![8192, 4, 16, 64, 1, 128]⟩
abbrev S8192x4x16x64x128 : Shape := ⟨5, ![8192, 4, 16, 64, 128]⟩
abbrev S8192x4x1024x128 : Shape := ⟨4, ![8192, 4, 1024, 128]⟩
abbrev S8192x4x4x1024 : Shape := ⟨4, ![8192, 4, 4, 1024]⟩
abbrev S8192x4x4 : Shape := ⟨3, ![8192, 4, 4]⟩
abbrev S8192x4x4x1 : Shape := ⟨4, ![8192, 4, 4, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x15872, .f32⟩
  | .hbm, ⟨1, _⟩ => ⟨S8192x4x16, .i32⟩
  | .hbm, ⟨2, _⟩ => ⟨S4x8192x128, .bf16⟩
  | .hbm, ⟨3, _⟩ => ⟨S8192x2048, .f32⟩
  | .hbm, ⟨4, _⟩ => ⟨S8192x4x4x128, .f32⟩
  | .hbm, ⟨5, _⟩ => ⟨S8192x1024, .f32⟩
  | .hbm, ⟨6, _⟩ => ⟨S8192x2x4x128, .f32⟩
  | .hbm, ⟨7, _⟩ => ⟨S128x64x2x4x128, .f32⟩
  | .hbm, ⟨8, _⟩ => ⟨S4, .i32⟩
  | .hbm, ⟨9, _⟩ => ⟨S1x4x1, .i32⟩
  | .hbm, ⟨10, _⟩ => ⟨S_, .i32⟩
  | .hbm, ⟨11, _⟩ => ⟨S8192x4x16, .i32⟩
  | .hbm, ⟨12, _⟩ => ⟨S8192x4x16, .i1⟩
  | .hbm, ⟨13, _⟩ => ⟨S_, .i32⟩
  | .hbm, ⟨14, _⟩ => ⟨S8192x4x16, .i32⟩
  | .hbm, ⟨15, _⟩ => ⟨S8192x4x16, .i32⟩
  | .hbm, ⟨16, _⟩ => ⟨S8192x4x16, .i32⟩
  | .hbm, ⟨17, _⟩ => ⟨S_, .i32⟩
  | .hbm, ⟨18, _⟩ => ⟨S1x4x1, .i32⟩
  | .hbm, ⟨19, _⟩ => ⟨S1x4x1, .i1⟩
  | .hbm, ⟨20, _⟩ => ⟨S_, .i32⟩
  | .hbm, ⟨21, _⟩ => ⟨S1x4x1, .i32⟩
  | .hbm, ⟨22, _⟩ => ⟨S1x4x1, .i32⟩
  | .hbm, ⟨23, _⟩ => ⟨S1x4x1, .i32⟩
  | .hbm, ⟨24, _⟩ => ⟨S8192x4x16, .i32⟩
  | .hbm, ⟨25, _⟩ => ⟨S8192x4x16x1, .i32⟩
  | .hbm, ⟨26, _⟩ => ⟨S8192x4x16x1, .i32⟩
  | .hbm, ⟨27, _⟩ => ⟨S8192x4x16x2, .i32⟩
  | .hbm, ⟨28, _⟩ => ⟨S8192x4x16x64x2x128, .f32⟩
  | .hbm, ⟨29, _⟩ => ⟨S8192, .i32⟩
  | .hbm, ⟨30, _⟩ => ⟨S8192x4x16x1, .i32⟩
  | .hbm, ⟨31, _⟩ => ⟨S_, .i32⟩
  | .hbm, ⟨32, _⟩ => ⟨S8192x4x16x1, .i32⟩
  | .hbm, ⟨33, _⟩ => ⟨S8192x4x16x1, .i32⟩
  | .hbm, ⟨34, _⟩ => ⟨S64, .i32⟩
  | .hbm, ⟨35, _⟩ => ⟨S1x1x1x64, .i32⟩
  | .hbm, ⟨36, _⟩ => ⟨S8192x4x16x64, .i32⟩
  | .hbm, ⟨37, _⟩ => ⟨S8192x4x16x64, .i32⟩
  | .hbm, ⟨38, _⟩ => ⟨S8192x4x16x64, .i32⟩
  | .hbm, ⟨39, _⟩ => ⟨S8192x1x1x1, .i32⟩
  | .hbm, ⟨40, _⟩ => ⟨S8192x4x16x64, .i32⟩
  | .hbm, ⟨41, _⟩ => ⟨S8192x4x16x64, .i1⟩
  | .hbm, ⟨42, _⟩ => ⟨S8192x4x1x1024, .i1⟩
  | .hbm, ⟨43, _⟩ => ⟨S8192x4x16x64x1x128, .f32⟩
  | .hbm, ⟨44, _⟩ => ⟨S8192x4x16x64x128, .f32⟩
  | .hbm, ⟨45, _⟩ => ⟨S8192x4x1024x128, .f32⟩
  | .hbm, ⟨46, _⟩ => ⟨S8192x4x16x64x1x128, .f32⟩
  | .hbm, ⟨47, _⟩ => ⟨S8192x4x16x64x128, .f32⟩
  | .hbm, ⟨48, _⟩ => ⟨S8192x4x1024x128, .f32⟩
  | .hbm, ⟨49, _⟩ => ⟨S8192x4x4x1024, .f32⟩
  | .hbm, ⟨50, _⟩ => ⟨S_, .f32⟩
  | .hbm, ⟨51, _⟩ => ⟨S_, .f32⟩
  | .hbm, ⟨52, _⟩ => ⟨S8192x4x4x1024, .f32⟩
  | .hbm, ⟨53, _⟩ => ⟨S8192x4x4x1024, .f32⟩
  | .hbm, ⟨54, _⟩ => ⟨S_, .f32⟩
  | .hbm, ⟨55, _⟩ => ⟨S_, .f32⟩
  | .hbm, ⟨56, _⟩ => ⟨S8192x4x4x1024, .i1⟩
  | .hbm, ⟨57, _⟩ => ⟨S8192x4x4x1024, .f32⟩
  | .hbm, ⟨58, _⟩ => ⟨S8192x4x4x1024, .f32⟩
  | .hbm, ⟨59, _⟩ => ⟨S_, .f32⟩
  | .hbm, ⟨60, _⟩ => ⟨S8192x4x4, .f32⟩
  | .hbm, ⟨61, _⟩ => ⟨S8192x4x4x1, .f32⟩
  | .hbm, ⟨62, _⟩ => ⟨S8192x4x4x1, .f32⟩
  | .hbm, ⟨63, _⟩ => ⟨S_, .f32⟩
  | .hbm, ⟨64, _⟩ => ⟨S8192x4x4x1, .f32⟩
  | .hbm, ⟨65, _⟩ => ⟨S8192x4x4x1, .i1⟩
  | .hbm, ⟨66, _⟩ => ⟨S_, .f32⟩
  | .hbm, ⟨67, _⟩ => ⟨S_, .f32⟩
  | .hbm, ⟨68, _⟩ => ⟨S8192x4x4x1, .f32⟩
  | .hbm, ⟨69, _⟩ => ⟨S8192x4x4x1, .f32⟩
  | .hbm, ⟨70, _⟩ => ⟨S8192x4x4x1024, .f32⟩
  | .hbm, ⟨71, _⟩ => ⟨S8192x4x4x1024, .f32⟩
  | .hbm, ⟨72, _⟩ => ⟨S8192x4x4x1024, .f32⟩
  | .hbm, ⟨73, _⟩ => ⟨S_, .f32⟩
  | .hbm, ⟨74, _⟩ => ⟨S_, .f32⟩
  | .hbm, ⟨75, _⟩ => ⟨S8192x4x4x1024, .i1⟩
  | .hbm, ⟨76, _⟩ => ⟨S8192x4x4x1024, .f32⟩
  | .hbm, ⟨77, _⟩ => ⟨S8192x4x4x1024, .f32⟩
  | .hbm, ⟨78, _⟩ => ⟨S_, .f32⟩
  | .hbm, ⟨79, _⟩ => ⟨S8192x4x4, .f32⟩
  | .hbm, ⟨80, _⟩ => ⟨S8192x4x4x1, .f32⟩
  | .hbm, ⟨81, _⟩ => ⟨S_, .f32⟩
  | .hbm, ⟨82, _⟩ => ⟨S8192x4x4x1, .f32⟩
  | .hbm, ⟨83, _⟩ => ⟨S8192x4x4x1, .f32⟩
  | .hbm, ⟨84, _⟩ => ⟨S8192x4x4x1024, .f32⟩
  | .hbm, ⟨85, _⟩ => ⟨S8192x4x4x1024, .f32⟩
  | .hbm, ⟨86, _⟩ => ⟨S8192x4x4x128, .f32⟩
  | .hbm, ⟨87, _⟩ => ⟨S8192x2048, .f32⟩
  | _, _ => ⟨S8192x15872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_call1_v0 : Ref sig .tc := ⟨.hbm, 67, rfl⟩
abbrev main_call1_v1 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Proj.lean ====
abbrev S1x8192x2048 : Shape := ⟨3, ![1, 8192, 2048]⟩
abbrev S1x2048 : Shape := ⟨2, ![1, 2048]⟩
abbrev S1x2048x15408 : Shape := ⟨3, ![1, 2048, 15408]⟩
abbrev S2048x15408 : Shape := ⟨2, ![2048, 15408]⟩
abbrev S15408x2048 : Shape := ⟨2, ![15408, 2048]⟩
abbrev S_ : Shape := ⟨0, ![]⟩
abbrev S464x2048 : Shape := ⟨2, ![464, 2048]⟩
abbrev S4096x2048 : Shape := ⟨2, ![4096, 2048]⟩
abbrev S48x2048 : Shape := ⟨2, ![48, 2048]⟩
abbrev S4608x2048 : Shape := ⟨2, ![4608, 2048]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S8192x2048 : Shape := ⟨2, ![8192, 2048]⟩
abbrev S8192x15872 : Shape := ⟨2, ![8192, 15872]⟩
abbrev S1024x2048 : Shape := ⟨2, ![1024, 2048]⟩
abbrev S512x2048 : Shape := ⟨2, ![512, 2048]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 32
  | .vmem => 14
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x15408, .f32⟩
  | .hbm, ⟨3, _⟩ => ⟨S2048x15408, .f32⟩
  | .hbm, ⟨4, _⟩ => ⟨S15408x2048, .f32⟩
  | .hbm, ⟨5, _⟩ => ⟨S_, .f32⟩
  | .hbm, ⟨6, _⟩ => ⟨S464x2048, .f32⟩
  | .hbm, ⟨7, _⟩ => ⟨S4096x2048, .f32⟩
  | .hbm, ⟨8, _⟩ => ⟨S48x2048, .f32⟩
  | .hbm, ⟨9, _⟩ => ⟨S4608x2048, .f32⟩
  | .hbm, ⟨10, _⟩ => ⟨S8192, .i32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S8192, .f32⟩
  | .hbm, ⟨20, _⟩ => ⟨S8192x1, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x128, .f32⟩
  | .hbm, ⟨28, _⟩ => ⟨S8192x64, .f32⟩
  | .hbm, ⟨29, _⟩ => ⟨S8192x128, .f32⟩
  | .hbm, ⟨30, _⟩ => ⟨S8192x2048, .f32⟩
  | .hbm, ⟨31, _⟩ => ⟨S8192x15872, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 31], ![false, false]⟩

def k0_cond2 (i : grid0.Coords) : BitVec 1 :=
  let arg1 : BitVec 32 := BitVec.ofNat 32 (i 1).val
  let c16_i32 : BitVec 32 := 16#32
  let v3 : BitVec 1 := Scalar.cmpi .sge arg1 c16_i32
  let c24_i32 : BitVec 32 := 24#32
  let v4 : BitVec 1 := Scalar.cmpi .slt arg1 c24_i32
  let v5 : BitVec 1 := Scalar.andi v3 v4
  let c30_i32 : BitVec 32 := 30#32
  let v6 : BitVec 1 := Scalar.cmpi .sge arg1 c30_i32
  let v7 : BitVec 1 := Scalar.ori v5 v6
  let v_true : BitVec 1 := 1#1
  let v8 : BitVec 1 := Scalar.xori v7 v_true
  let v9 : BitVec 32 := Scalar.extui v8
  let c0_i32_1 : BitVec 32 := 0#32
  let v10 : BitVec 1 := Scalar.cmpi .ne v9 c0_i32_1
  v10

def k0_cond3 (i : grid0.Coords) : BitVec 1 :=
  let arg1 : BitVec 32 := BitVec.ofNat 32 (i 1).val
  let c16_i32 : BitVec 32 := 16#32
  let v3 : BitVec 1 := Scalar.cmpi .sge arg1 c16_i32
  let c24_i32 : BitVec 32 := 24#32
  let v4 : BitVec 1 := Scalar.cmpi .slt arg1 c24_i32
  let v5 : BitVec 1 := Scalar.andi v3 v4
  let c30_i32 : BitVec 32 := 30#32
  let v6 : BitVec 1 := Scalar.cmpi .sge arg1 c30_i32
  let v7 : BitVec 1 := Scalar.ori v5 v6
  let v11 : BitVec 32 := Scalar.extui v7
  let c0_i32_2 : BitVec 32 := 0#32
  let v12 : BitVec 1 := Scalar.cmpi .ne v11 c0_i32_2
  v12

def k0_cond4 (i : grid0.Coords) : BitVec 1 :=
  let arg1 : BitVec 32 := BitVec.ofNat 32 (i 1).val
  let c4_i32 : BitVec 32 := 4#32
  let v13 : BitVec 1 := Scalar.cmpi .slt arg1 c4_i32
  let c24_i32_3 : BitVec 32 := 24#32
  let v14 : BitVec 1 := Scalar.cmpi .sge arg1 c24_i32_3
  let c30_i32_4 : BitVec 32 := 30#32
  let v15 : BitVec 1 := Scalar.cmpi .slt arg1 c30_i32_4
  let v16 : BitVec 1 := Scalar.andi v14 v15
  let c24_i32_5 : BitVec 32 := 24#32
  let v17 : BitVec 32 := Scalar.subi arg1 c24_i32_5
  let c2_i32 : BitVec 32 := 2#32
  let c0_i32_6 : BitVec 32 := 0#32
  let v18 : BitVec 1 := Scalar.cmpi .eq c2_i32 c0_i32_6
  let c1_i32 : BitVec 32 := 1#32
  let v19 : BitVec 32 := Scalar.select v18 c1_i32 c2_i32
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let v29 : BitVec 1 := Scalar.andi v16 v28
  let v30 : BitVec 1 := Scalar.ori v13 v29
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c8_i32 : BitVec 32 := 8#32
  let v1 : BitVec 32 := Scalar.addi arg1 c8_i32
  let c12_i32 : BitVec 32 := 12#32
  let v2 : BitVec 1 := Scalar.cmpi .slt arg1 c12_i32
  let c4_i32_0 : BitVec 32 := 4#32
  let v3 : BitVec 32 := Scalar.subi arg1 c4_i32_0
  let c0_i32 : BitVec 32 := 0#32
  let v4 : BitVec 32 := Scalar.addi v3 c0_i32
  let c16_i32 : BitVec 32 := 16#32
  let v5 : BitVec 1 := Scalar.cmpi .slt arg1 c16_i32
  let c12_i32_1 : BitVec 32 := 12#32
  let v6 : BitVec 32 := Scalar.subi arg1 c12_i32_1
  let c18_i32 : BitVec 32 := 18#32
  let v7 : BitVec 32 := Scalar.addi v6 c18_i32
  let c24_i32 : BitVec 32 := 24#32
  let v8 : BitVec 1 := Scalar.cmpi .slt arg1 c24_i32
  let c30_i32 : BitVec 32 := 30#32
  let v9 : BitVec 1 := Scalar.cmpi .slt arg1 c30_i32
  let c24_i32_2 : BitVec 32 := 24#32
  let v10 : BitVec 32 := Scalar.subi arg1 c24_i32_2
  let c12_i32_3 : BitVec 32 := 12#32
  let v11 : BitVec 32 := Scalar.addi v10 c12_i32_3
  let c17_i32 : BitVec 32 := 17#32
  let v12 : BitVec 32 := Scalar.select v9 v11 c17_i32
  let c21_i32 : BitVec 32 := 21#32
  let v13 : BitVec 32 := Scalar.select v8 c21_i32 v12
  let v14 : BitVec 32 := Scalar.select v5 v7 v13
  let v15 : BitVec 32 := Scalar.select v2 v4 v14
  let v16 : BitVec 32 := Scalar.select v0 v1 v15
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c24_i32 : BitVec 32 := 24#32
  let v1 : BitVec 1 := Scalar.cmpi .slt arg1 c24_i32
  let c16_i32_0 : BitVec 32 := 16#32
  let v2 : BitVec 32 := Scalar.subi arg1 c16_i32_0
  let c30_i32 : BitVec 32 := 30#32
  let v3 : BitVec 1 := Scalar.cmpi .slt arg1 c30_i32
  let c7_i32 : BitVec 32 := 7#32
  let c8_i32 : BitVec 32 := 8#32
  let v4 : BitVec 32 := Scalar.select v3 c7_i32 c8_i32
  let v5 : BitVec 32 := Scalar.select v1 v2 v4
  let c0_i32 : BitVec 32 := 0#32
  let v6 : BitVec 32 := Scalar.select v0 c0_i32 v5
  let c0_i32_1 : BitVec 32 := 0#32
  let c0_i32_2 : BitVec 32 := 0#32
  ![v6.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S1x8192x2048 : Shape := ⟨3, ![1, 8192, 2048]⟩
abbrev S1x2048 : Shape := ⟨2, ![1, 2048]⟩
abbrev S1x2048x15408 : Shape := ⟨3, ![1, 2048, 15408]⟩
abbrev S8192 : Shape := ⟨1, ![8192]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x15408 : Shape := ⟨2, ![2048, 15408]⟩
abbrev S1x8192x15408 : Shape := ⟨3, ![1, 8192, 15408]⟩
abbrev S1x8192x3072 : Shape := ⟨3, ![1, 8192, 3072]⟩
abbrev S1x8192x48 : Shape := ⟨3, ![1, 8192, 48]⟩
abbrev S1x8192x4096 : Shape := ⟨3, ![1, 8192, 4096]⟩
abbrev S1x8192x16x128 : Shape := ⟨4, ![1, 8192, 16, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S1x8192x16x64 : Shape := ⟨4, ![1, 8192, 16, 64]⟩
abbrev S1x8192x1x64 : Shape := ⟨4, ![1, 8192, 1, 64]⟩
abbrev S1x8192x3x2x4x128 : Shape := ⟨6, ![1, 8192, 3, 2, 4, 128]⟩
abbrev S1x8192x3x1x4x128 : Shape := ⟨6, ![1, 8192, 3, 1, 4, 128]⟩
abbrev S1x8192x3x4x128 : Shape := ⟨5, ![1, 8192, 3, 4, 128]⟩
abbrev S8192x1x1x64 : Shape := ⟨4, ![8192, 1, 1, 64]⟩
abbrev S1x8192x3x4x64 : Shape := ⟨5, ![1, 8192, 3, 4, 64]⟩
abbrev S1x8192x1x1x64 : Shape := ⟨5, ![1, 8192, 1, 1, 64]⟩
abbrev S1x8192x464 : Shape := ⟨3, ![1, 8192, 464]⟩
abbrev S1x8192x15872 : Shape := ⟨3, ![1, 8192, 15872]⟩
abbrev S8192x15872 : Shape := ⟨2, ![8192, 15872]⟩

abbrev nBuf : Space → Nat
  | .hbm => 115
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x15408, .f32⟩
  | .hbm, ⟨3, _⟩ => ⟨S8192, .i32⟩
  | .hbm, ⟨4, _⟩ => ⟨S2048, .f32⟩
  | .hbm, ⟨5, _⟩ => ⟨S1x8192x2048, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x2048, .f32⟩
  | .hbm, ⟨17, _⟩ => ⟨S1x8192x2048, .f32⟩
  | .hbm, ⟨18, _⟩ => ⟨S1x1x2048, .f32⟩
  | .hbm, ⟨19, _⟩ => ⟨S1x8192x2048, .f32⟩
  | .hbm, ⟨20, _⟩ => ⟨S1x8192x2048, .f32⟩
  | .hbm, ⟨21, _⟩ => ⟨S2048x15408, .f32⟩
  | .hbm, ⟨22, _⟩ => ⟨S1x8192x15408, .f32⟩
  | .hbm, ⟨23, _⟩ => ⟨S1x8192x2048, .f32⟩
  | .hbm, ⟨24, _⟩ => ⟨S1x8192x2048, .f32⟩
  | .hbm, ⟨25, _⟩ => ⟨S1x8192x2048, .f32⟩
  | .hbm, ⟨26, _⟩ => ⟨S1x8192x3072, .f32⟩
  | .hbm, ⟨27, _⟩ => ⟨S1x8192x2048, .f32⟩
  | .hbm, ⟨28, _⟩ => ⟨S1x8192x48, .f32⟩
  | .hbm, ⟨29, _⟩ => ⟨S1x8192x4096, .f32⟩
  | .hbm, ⟨30, _⟩ => ⟨S1x8192x16x128, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S8192, .f32⟩
  | .hbm, ⟨40, _⟩ => ⟨S8192x1, .f32⟩
  | .hbm, ⟨41, _⟩ => ⟨S1x64, .f32⟩
  | .hbm, ⟨42, _⟩ => ⟨S8192x64, .f32⟩
  | .hbm, ⟨43, _⟩ => ⟨S8192x64, .f32⟩
  | .hbm, ⟨44, _⟩ => ⟨S8192x64, .f32⟩
  | .hbm, ⟨45, _⟩ => ⟨S8192x64, .f32⟩
  | .hbm, ⟨46, _⟩ => ⟨S8192x1x64, .f32⟩
  | .hbm, ⟨47, _⟩ => ⟨S8192x64, .f32⟩
  | .hbm, ⟨48, _⟩ => ⟨S8192x1x64, .f32⟩
  | .hbm, ⟨49, _⟩ => ⟨S1x8192x16x64, .f32⟩
  | .hbm, ⟨50, _⟩ => ⟨S1x8192x16x64, .f32⟩
  | .hbm, ⟨51, _⟩ => ⟨S1x8192x1x64, .f32⟩
  | .hbm, ⟨52, _⟩ => ⟨S1x8192x16x64, .f32⟩
  | .hbm, ⟨53, _⟩ => ⟨S1x8192x16x64, .f32⟩
  | .hbm, ⟨54, _⟩ => ⟨S1x8192x1x64, .f32⟩
  | .hbm, ⟨55, _⟩ => ⟨S1x8192x16x64, .f32⟩
  | .hbm, ⟨56, _⟩ => ⟨S1x8192x16x64, .f32⟩
  | .hbm, ⟨57, _⟩ => ⟨S1x8192x16x64, .f32⟩
  | .hbm, ⟨58, _⟩ => ⟨S1x8192x1x64, .f32⟩
  | .hbm, ⟨59, _⟩ => ⟨S1x8192x16x64, .f32⟩
  | .hbm, ⟨60, _⟩ => ⟨S1x8192x16x64, .f32⟩
  | .hbm, ⟨61, _⟩ => ⟨S1x8192x1x64, .f32⟩
  | .hbm, ⟨62, _⟩ => ⟨S1x8192x16x64, .f32⟩
  | .hbm, ⟨63, _⟩ => ⟨S1x8192x16x64, .f32⟩
  | .hbm, ⟨64, _⟩ => ⟨S1x8192x16x64, .f32⟩
  | .hbm, ⟨65, _⟩ => ⟨S1x8192x16x128, .f32⟩
  | .hbm, ⟨66, _⟩ => ⟨S1x8192x3x2x4x128, .f32⟩
  | .hbm, ⟨67, _⟩ => ⟨S1x8192x3x1x4x128, .f32⟩
  | .hbm, ⟨68, _⟩ => ⟨S1x8192x3x4x128, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S8192, .f32⟩
  | .hbm, ⟨78, _⟩ => ⟨S8192x1, .f32⟩
  | .hbm, ⟨79, _⟩ => ⟨S1x64, .f32⟩
  | .hbm, ⟨80, _⟩ => ⟨S8192x64, .f32⟩
  | .hbm, ⟨81, _⟩ => ⟨S8192x64, .f32⟩
  | .hbm, ⟨82, _⟩ => ⟨S8192x64, .f32⟩
  | .hbm, ⟨83, _⟩ => ⟨S8192x64, .f32⟩
  | .hbm, ⟨84, _⟩ => ⟨S8192x1x1x64, .f32⟩
  | .hbm, ⟨85, _⟩ => ⟨S8192x64, .f32⟩
  | .hbm, ⟨86, _⟩ => ⟨S8192x1x1x64, .f32⟩
  | .hbm, ⟨87, _⟩ => ⟨S1x8192x3x4x64, .f32⟩
  | .hbm, ⟨88, _⟩ => ⟨S1x8192x3x4x64, .f32⟩
  | .hbm, ⟨89, _⟩ => ⟨S1x8192x1x1x64, .f32⟩
  | .hbm, ⟨90, _⟩ => ⟨S1x8192x3x4x64, .f32⟩
  | .hbm, ⟨91, _⟩ => ⟨S1x8192x3x4x64, .f32⟩
  | .hbm, ⟨92, _⟩ => ⟨S1x8192x1x1x64, .f32⟩
  | .hbm, ⟨93, _⟩ => ⟨S1x8192x3x4x64, .f32⟩
  | .hbm, ⟨94, _⟩ => ⟨S1x8192x3x4x64, .f32⟩
  | .hbm, ⟨95, _⟩ => ⟨S1x8192x3x4x64, .f32⟩
  | .hbm, ⟨96, _⟩ => ⟨S1x8192x1x1x64, .f32⟩
  | .hbm, ⟨97, _⟩ => ⟨S1x8192x3x4x64, .f32⟩
  | .hbm, ⟨98, _⟩ => ⟨S1x8192x3x4x64, .f32⟩
  | .hbm, ⟨99, _⟩ => ⟨S1x8192x1x1x64, .f32⟩
  | .hbm, ⟨100, _⟩ => ⟨S1x8192x3x4x64, .f32⟩
  | .hbm, ⟨101, _⟩ => ⟨S1x8192x3x4x64, .f32⟩
  | .hbm, ⟨102, _⟩ => ⟨S1x8192x3x4x64, .f32⟩
  | .hbm, ⟨103, _⟩ => ⟨S1x8192x3x4x128, .f32⟩
  | .hbm, ⟨104, _⟩ => ⟨S1x8192x3x1x4x128, .f32⟩
  | .hbm, ⟨105, _⟩ => ⟨S1x8192x3x4x128, .f32⟩
  | .hbm, ⟨106, _⟩ => ⟨S1x8192x3x1x4x128, .f32⟩
  | .hbm, ⟨107, _⟩ => ⟨S1x8192x3x1x4x128, .f32⟩
  | .hbm, ⟨108, _⟩ => ⟨S1x8192x3x2x4x128, .f32⟩
  | .hbm, ⟨109, _⟩ => ⟨S_, .f32⟩
  | .hbm, ⟨110, _⟩ => ⟨S1x8192x464, .f32⟩
  | .hbm, ⟨111, _⟩ => ⟨S1x8192x2048, .f32⟩
  | .hbm, ⟨112, _⟩ => ⟨S1x8192x3072, .f32⟩
  | .hbm, ⟨113, _⟩ => ⟨S1x8192x15872, .f32⟩
  | .hbm, ⟨114, _⟩ => ⟨S8192x15872, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_4 : Ref sig .tc := ⟨.hbm, 71, rfl⟩
abbrev main_v63 : Ref sig .tc := ⟨.hbm, 72, rfl⟩
abbrev main_v64 : Ref sig .tc := ⟨.hbm, 73, rfl⟩
abbrev main_cst_5 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_cst_6 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩

abbrev nD : Nat := 1
abbrev τ : Topo := Topo.v7x

variable {F : FTy → Type} [FloatOps F]
-- ==== Gate.lean ====
abbrev S8192x15872 : Shape := ⟨2, ![8192, 15872]⟩
abbrev S8192x2048 : Shape := ⟨2, ![8192, 2048]⟩
abbrev S1x2048x2048 : Shape := ⟨3, ![1, 2048, 2048]⟩
abbrev S2048x2048 : Shape := ⟨2, ![2048, 2048]⟩
abbrev S256x2048 : Shape := ⟨2, ![256, 2048]⟩
abbrev S256x512 : Shape := ⟨2, ![256, 512]⟩
abbrev S256x1 : Shape := ⟨2, ![256, 1]⟩
abbrev S256x128 : Shape := ⟨2, ![256, 128]⟩

abbrev nBuf : Space → Nat
  | .hbm => 8
  | .vmem => 14
  | .smem => 0
  | _ => 0

abbrev bufTy : (tb : Table) → Fin (tcTables nBuf tb) → BufTy
  | .hbm, ⟨0, _⟩ => ⟨S8192x15872, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x512, .f32⟩
  | .local _ .vmem, ⟨9, _⟩ => ⟨S256x512, .f32⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | _, _ => ⟨S8192x15872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S8192x15872 : Shape := ⟨2, ![8192, 15872]⟩
abbrev S8192x2048 : Shape := ⟨2, ![8192, 2048]⟩
abbrev S1x2048x2048 : Shape := ⟨3, ![1, 2048, 2048]⟩
abbrev S8192x48 : Shape := ⟨2, ![8192, 48]⟩
abbrev S8192x4x4x128 : Shape := ⟨4, ![8192, 4, 4, 128]⟩
abbrev S_ : Shape := ⟨0, ![]⟩
abbrev S8192x3x4x4x1 : Shape := ⟨5, ![8192, 3, 4, 4, 1]⟩
abbrev S8192x1x4x4x1 : Shape := ⟨5, ![8192, 1, 4, 4, 1]⟩
abbrev S8192x4x4x1 : Shape := ⟨4, ![8192, 4, 4, 1]⟩
abbrev S2048x2048 : Shape := ⟨2, ![2048, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x15872, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S8192x2048, .f32⟩
  | .hbm, ⟨6, _⟩ => ⟨S8192x48, .f32⟩
  | .hbm, ⟨7, _⟩ => ⟨S8192x4x4x128, .f32⟩
  | .hbm, ⟨8, _⟩ => ⟨S8192x4x4x128, .f32⟩
  | .hbm, ⟨9, _⟩ => ⟨S8192x4x4x128, .f32⟩
  | .hbm, ⟨10, _⟩ => ⟨S8192x48, .f32⟩
  | .hbm, ⟨11, _⟩ => ⟨S8192x48, .f32⟩
  | .hbm, ⟨12, _⟩ => ⟨S_, .f32⟩
  | .hbm, ⟨13, _⟩ => ⟨S8192x48, .f32⟩
  | .hbm, ⟨14, _⟩ => ⟨S8192x48, .f32⟩
  | .hbm, ⟨15, _⟩ => ⟨S_, .f32⟩
  | .hbm, ⟨16, _⟩ => ⟨S8192x48, .f32⟩
  | .hbm, ⟨17, _⟩ => ⟨S8192x48, .f32⟩
  | .hbm, ⟨18, _⟩ => ⟨S8192x3x4x4x1, .f32⟩
  | .hbm, ⟨19, _⟩ => ⟨S8192x1x4x4x1, .f32⟩
  | .hbm, ⟨20, _⟩ => ⟨S8192x4x4x1, .f32⟩
  | .hbm, ⟨21, _⟩ => ⟨S8192x4x4x128, .f32⟩
  | .hbm, ⟨22, _⟩ => ⟨S8192x4x4x128, .f32⟩
  | .hbm, ⟨23, _⟩ => ⟨S8192x1x4x4x1, .f32⟩
  | .hbm, ⟨24, _⟩ => ⟨S8192x4x4x1, .f32⟩
  | .hbm, ⟨25, _⟩ => ⟨S8192x4x4x128, .f32⟩
  | .hbm, ⟨26, _⟩ => ⟨S8192x4x4x128, .f32⟩
  | .hbm, ⟨27, _⟩ => ⟨S8192x4x4x128, .f32⟩
  | .hbm, ⟨28, _⟩ => ⟨S8192x1x4x4x1, .f32⟩
  | .hbm, ⟨29, _⟩ => ⟨S8192x4x4x1, .f32⟩
  | .hbm, ⟨30, _⟩ => ⟨S8192x4x4x128, .f32⟩
  | .hbm, ⟨31, _⟩ => ⟨S8192x4x4x128, .f32⟩
  | .hbm, ⟨32, _⟩ => ⟨S8192x4x4x128, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S2048x2048, .f32⟩
  | .hbm, ⟨45, _⟩ => ⟨S8192x2048, .f32⟩
  | _, _ => ⟨S8192x15872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Merge.lean ====
abbrev S8192x15872 : Shape := ⟨2, ![8192, 15872]⟩
abbrev S1x8192x2048 : Shape := ⟨3, ![1, 8192, 2048]⟩
abbrev S8192x2048 : Shape := ⟨2, ![8192, 2048]⟩
abbrev S1x2048x2048 : Shape := ⟨3, ![1, 2048, 2048]⟩
abbrev S2048x2048 : Shape := ⟨2, ![2048, 2048]⟩
abbrev S256x2048 : Shape := ⟨2, ![256, 2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x15872, .f32⟩
  | .hbm, ⟨1, _⟩ => ⟨S1x8192x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S8192x2048, .f32⟩
  | .hbm, ⟨6, _⟩ => ⟨S2048x2048, .f32⟩
  | .hbm, ⟨7, _⟩ => ⟨S2048x2048, .bf16⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | _, _ => ⟨S8192x15872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S8192x15872 : Shape := ⟨2, ![8192, 15872]⟩
abbrev S1x8192x2048 : Shape := ⟨3, ![1, 8192, 2048]⟩
abbrev S8192x2048 : Shape := ⟨2, ![8192, 2048]⟩
abbrev S1x2048x2048 : Shape := ⟨3, ![1, 2048, 2048]⟩
abbrev S8192x4096 : Shape := ⟨2, ![8192, 4096]⟩
abbrev S_ : Shape := ⟨0, ![]⟩
abbrev S8192x2x2048 : Shape := ⟨3, ![8192, 2, 2048]⟩
abbrev S8192x1x2048 : Shape := ⟨3, ![8192, 1, 2048]⟩
abbrev S2048x2048 : Shape := ⟨2, ![2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x15872, .f32⟩
  | .hbm, ⟨1, _⟩ => ⟨S1x8192x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x2x2048, .f32⟩
  | .hbm, ⟨15, _⟩ => ⟨S8192x2048, .f32⟩
  | .hbm, ⟨16, _⟩ => ⟨S8192x1x2048, .f32⟩
  | .hbm, ⟨17, _⟩ => ⟨S8192x2048, .f32⟩
  | .hbm, ⟨18, _⟩ => ⟨S8192x2048, .f32⟩
  | .hbm, ⟨19, _⟩ => ⟨S8192x1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S2048x2048, .f32⟩
  | .hbm, ⟨24, _⟩ => ⟨S8192x2048, .f32⟩
  | .hbm, ⟨25, _⟩ => ⟨S8192x2048, .f32⟩
  | _, _ => ⟨S8192x15872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Embed.lean ====
abbrev S8192x2048 : Shape := ⟨2, ![8192, 2048]⟩
abbrev S1x1x8192x256 : Shape := ⟨4, ![1, 1, 8192, 256]⟩
abbrev S1x256x2048 : Shape := ⟨3, ![1, 256, 2048]⟩
abbrev S1x2048x2048 : Shape := ⟨3, ![1, 2048, 2048]⟩
abbrev S2048 : Shape := ⟨1, ![2048]⟩
abbrev S256x2048 : Shape := ⟨2, ![256, 2048]⟩
abbrev S2048x2048 : Shape := ⟨2, ![2048, 2048]⟩
abbrev S8192x256 : Shape := ⟨2, ![8192, 256]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x1x8192x256, .f32⟩
  | .hbm, ⟨2, _⟩ => ⟨S1x256x2048, .f32⟩
  | .hbm, ⟨3, _⟩ => ⟨S1x2048x2048, .f32⟩
  | .hbm, ⟨4, _⟩ => ⟨S2048, .f32⟩
  | .hbm, ⟨5, _⟩ => ⟨S256x2048, .f32⟩
  | .hbm, ⟨6, _⟩ => ⟨S256x2048, .bf16⟩
  | .hbm, ⟨7, _⟩ => ⟨S2048x2048, .f32⟩
  | .hbm, ⟨8, _⟩ => ⟨S2048x2048, .bf16⟩
  | .hbm, ⟨9, _⟩ => ⟨S8192x256, .f32⟩
  | .hbm, ⟨10, _⟩ => ⟨S1x2048, .f32⟩
  | .hbm, ⟨11, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S256x2048, .bf16⟩
  | .local _ .vmem, ⟨5, _⟩ => ⟨S2048x2048, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EmbedRefIdeal.lean ====
abbrev S8192x2048 : Shape := ⟨2, ![8192, 2048]⟩
abbrev S1x1x8192x256 : Shape := ⟨4, ![1, 1, 8192, 256]⟩
abbrev S1x256x2048 : Shape := ⟨3, ![1, 256, 2048]⟩
abbrev S1x2048x2048 : Shape := ⟨3, ![1, 2048, 2048]⟩
abbrev S2048 : Shape := ⟨1, ![2048]⟩
abbrev S8192x256 : Shape := ⟨2, ![8192, 256]⟩
abbrev S256x2048 : Shape := ⟨2, ![256, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x1x8192x256, .f32⟩
  | .hbm, ⟨2, _⟩ => ⟨S1x256x2048, .f32⟩
  | .hbm, ⟨3, _⟩ => ⟨S1x2048x2048, .f32⟩
  | .hbm, ⟨4, _⟩ => ⟨S2048, .f32⟩
  | .hbm, ⟨5, _⟩ => ⟨S8192x256, .f32⟩
  | .hbm, ⟨6, _⟩ => ⟨S256x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Samp.lean ====
abbrev S32x8x2048 : Shape := ⟨3, ![32, 8, 2048]⟩
abbrev S1x2048 : Shape := ⟨2, ![1, 2048]⟩
abbrev S1x2048x15408 : Shape := ⟨3, ![1, 2048, 15408]⟩
abbrev S2048x15408 : Shape := ⟨2, ![2048, 15408]⟩
abbrev S15408x2048 : Shape := ⟨2, ![15408, 2048]⟩
abbrev S_ : Shape := ⟨0, ![]⟩
abbrev S464x2048 : Shape := ⟨2, ![464, 2048]⟩
abbrev S4096x2048 : Shape := ⟨2, ![4096, 2048]⟩
abbrev S48x2048 : Shape := ⟨2, ![48, 2048]⟩
abbrev S4608x2048 : Shape := ⟨2, ![4608, 2048]⟩
abbrev S8 : Shape := ⟨1, ![8]⟩
abbrev S1x8 : Shape := ⟨2, ![1, 8]⟩
abbrev S32x8 : Shape := ⟨2, ![32, 8]⟩
abbrev S256 : Shape := ⟨1, ![256]⟩
abbrev S64 : Shape := ⟨1, ![64]⟩
abbrev S256x1 : Shape := ⟨2, ![256, 1]⟩
abbrev S1x64 : Shape := ⟨2, ![1, 64]⟩
abbrev S256x64 : Shape := ⟨2, ![256, 64]⟩
abbrev S256x128 : Shape := ⟨2, ![256, 128]⟩
abbrev S256x2048 : Shape := ⟨2, ![256, 2048]⟩
abbrev S256x15872 : Shape := ⟨2, ![256, 15872]⟩
abbrev S512x2048 : Shape := ⟨2, ![512, 2048]⟩
abbrev S256x512 : Shape := ⟨2, ![256, 512]⟩

abbrev nBuf : Space → Nat
  | .hbm => 38
  | .vmem => 11
  | .smem => 0
  | _ => 0

abbrev bufTy : (tb : Table) → Fin (tcTables nBuf tb) → BufTy
  | .hbm, ⟨0, _⟩ => ⟨S32x8x2048, .f32⟩
  | .hbm, ⟨1, _⟩ => ⟨S1x2048, .f32⟩
  | .hbm, ⟨2, _⟩ => ⟨S1x2048x15408, .f32⟩
  | .hbm, ⟨3, _⟩ => ⟨S2048x15408, .f32⟩
  | .hbm, ⟨4, _⟩ => ⟨S15408x2048, .f32⟩
  | .hbm, ⟨5, _⟩ => ⟨S_, .f32⟩
  | .hbm, ⟨6, _⟩ => ⟨S464x2048, .f32⟩
  | .hbm, ⟨7, _⟩ => ⟨S4096x2048, .f32⟩
  | .hbm, ⟨8, _⟩ => ⟨S48x2048, .f32⟩
  | .hbm, ⟨9, _⟩ => ⟨S4608x2048, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S1x8, .i32⟩
  | .hbm, ⟨15, _⟩ => ⟨S32x8, .i32⟩
  | .hbm, ⟨16, _⟩ => ⟨S256, .i32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S256, .f32⟩
  | .hbm, ⟨26, _⟩ => ⟨S256x1, .f32⟩
  | .hbm, ⟨27, _⟩ => ⟨S1x64, .f32⟩
  | .hbm, ⟨28, _⟩ => ⟨S256x64, .f32⟩
  | .hbm, ⟨29, _⟩ => ⟨S256x64, .f32⟩
  | .hbm, ⟨30, _⟩ => ⟨S256x64, .f32⟩
  | .hbm, ⟨31, _⟩ => ⟨S256x64, .f32⟩
  | .hbm, ⟨32, _⟩ => ⟨S256x64, .f32⟩
  | .hbm, ⟨33, _⟩ => ⟨S256x128, .f32⟩
  | .hbm, ⟨34, _⟩ => ⟨S256x64, .f32⟩
  | .hbm, ⟨35, _⟩ => ⟨S256x128, .f32⟩
  | .hbm, ⟨36, _⟩ => ⟨S256x2048, .f32⟩
  | .hbm, ⟨37, _⟩ => ⟨S256x15872, .f32⟩
  | .local _ .vmem, ⟨0, _⟩ => ⟨S256x2048, .f32⟩
  | .local _ .vmem, ⟨1, _⟩ => ⟨S1x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 31], ![false, false]⟩

def k0_cond2 (i : grid0.Coords) : BitVec 1 :=
  let arg1 : BitVec 32 := BitVec.ofNat 32 (i 1).val
  let c16_i32 : BitVec 32 := 16#32
  let v3 : BitVec 1 := Scalar.cmpi .sge arg1 c16_i32
  let c24_i32 : BitVec 32 := 24#32
  let v4 : BitVec 1 := Scalar.cmpi .slt arg1 c24_i32
  let v5 : BitVec 1 := Scalar.andi v3 v4
  let c30_i32 : BitVec 32 := 30#32
  let v6 : BitVec 1 := Scalar.cmpi .sge arg1 c30_i32
  let v7 : BitVec 1 := Scalar.ori v5 v6
  let v_true : BitVec 1 := 1#1
  let v8 : BitVec 1 := Scalar.xori v7 v_true
  let v9 : BitVec 32 := Scalar.extui v8
  let c0_i32_1 : BitVec 32 := 0#32
  let v10 : BitVec 1 := Scalar.cmpi .ne v9 c0_i32_1
  v10

def k0_cond3 (i : grid0.Coords) : BitVec 1 :=
  let arg1 : BitVec 32 := BitVec.ofNat 32 (i 1).val
  let c16_i32 : BitVec 32 := 16#32
  let v3 : BitVec 1 := Scalar.cmpi .sge arg1 c16_i32
  let c24_i32 : BitVec 32 := 24#32
  let v4 : BitVec 1 := Scalar.cmpi .slt arg1 c24_i32
  let v5 : BitVec 1 := Scalar.andi v3 v4
  let c30_i32 : BitVec 32 := 30#32
  let v6 : BitVec 1 := Scalar.cmpi .sge arg1 c30_i32
  let v7 : BitVec 1 := Scalar.ori v5 v6
  let v11 : BitVec 32 := Scalar.extui v7
  let c0_i32_2 : BitVec 32 := 0#32
  let v12 : BitVec 1 := Scalar.cmpi .ne v11 c0_i32_2
  v12

def k0_cond4 (i : grid0.Coords) : BitVec 1 :=
  let arg1 : BitVec 32 := BitVec.ofNat 32 (i 1).val
  let c4_i32 : BitVec 32 := 4#32
  let v13 : BitVec 1 := Scalar.cmpi .slt arg1 c4_i32
  let c24_i32_3 : BitVec 32 := 24#32
  let v14 : BitVec 1 := Scalar.cmpi .sge arg1 c24_i32_3
  let c30_i32_4 : BitVec 32 := 30#32
  let v15 : BitVec 1 := Scalar.cmpi .slt arg1 c30_i32_4
  let v16 : BitVec 1 := Scalar.andi v14 v15
  let c24_i32_5 : BitVec 32 := 24#32
  let v17 : BitVec 32 := Scalar.subi arg1 c24_i32_5
  let c2_i32 : BitVec 32 := 2#32
  let c0_i32_6 : BitVec 32 := 0#32
  let v18 : BitVec 1 := Scalar.cmpi .eq c2_i32 c0_i32_6
  let c1_i32 : BitVec 32 := 1#32
  let v19 : BitVec 32 := Scalar.select v18 c1_i32 c2_i32
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let v29 : BitVec 1 := Scalar.andi v16 v28
  let v30 : BitVec 1 := Scalar.ori v13 v29
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c8_i32 : BitVec 32 := 8#32
  let v1 : BitVec 32 := Scalar.addi arg1 c8_i32
  let c12_i32 : BitVec 32 := 12#32
  let v2 : BitVec 1 := Scalar.cmpi .slt arg1 c12_i32
  let c4_i32_0 : BitVec 32 := 4#32
  let v3 : BitVec 32 := Scalar.subi arg1 c4_i32_0
  let c0_i32 : BitVec 32 := 0#32
  let v4 : BitVec 32 := Scalar.addi v3 c0_i32
  let c16_i32 : BitVec 32 := 16#32
  let v5 : BitVec 1 := Scalar.cmpi .slt arg1 c16_i32
  let c12_i32_1 : BitVec 32 := 12#32
  let v6 : BitVec 32 := Scalar.subi arg1 c12_i32_1
  let c18_i32 : BitVec 32 := 18#32
  let v7 : BitVec 32 := Scalar.addi v6 c18_i32
  let c24_i32 : BitVec 32 := 24#32
  let v8 : BitVec 1 := Scalar.cmpi .slt arg1 c24_i32
  let c30_i32 : BitVec 32 := 30#32
  let v9 : BitVec 1 := Scalar.cmpi .slt arg1 c30_i32
  let c24_i32_2 : BitVec 32 := 24#32
  let v10 : BitVec 32 := Scalar.subi arg1 c24_i32_2
  let c12_i32_3 : BitVec 32 := 12#32
  let v11 : BitVec 32 := Scalar.addi v10 c12_i32_3
  let c17_i32 : BitVec 32 := 17#32
  let v12 : BitVec 32 := Scalar.select v9 v11 c17_i32
  let c21_i32 : BitVec 32 := 21#32
  let v13 : BitVec 32 := Scalar.select v8 c21_i32 v12
  let v14 : BitVec 32 := Scalar.select v5 v7 v13
  let v15 : BitVec 32 := Scalar.select v2 v4 v14
  let v16 : BitVec 32 := Scalar.select v0 v1 v15
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c24_i32 : BitVec 32 := 24#32
  let v1 : BitVec 1 := Scalar.cmpi .slt arg1 c24_i32
  let c16_i32_0 : BitVec 32 := 16#32
  let v2 : BitVec 32 := Scalar.subi arg1 c16_i32_0
  let c30_i32 : BitVec 32 := 30#32
  let v3 : BitVec 1 := Scalar.cmpi .slt arg1 c30_i32
  let c7_i32 : BitVec 32 := 7#32
  let c8_i32 : BitVec 32 := 8#32
  let v4 : BitVec 32 := Scalar.select v3 c7_i32 c8_i32
  let v5 : BitVec 32 := Scalar.select v1 v2 v4
  let c0_i32 : BitVec 32 := 0#32
  let v6 : BitVec 32 := Scalar.select v0 c0_i32 v5
  let c0_i32_1 : BitVec 32 := 0#32
  let c0_i32_2 : BitVec 32 := 0#32
  ![v6.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SampRefIdeal.lean ====
abbrev S32x8x2048 : Shape := ⟨3, ![32, 8, 2048]⟩
abbrev S1x2048 : Shape := ⟨2, ![1, 2048]⟩
abbrev S1x2048x15408 : Shape := ⟨3, ![1, 2048, 15408]⟩
abbrev S8 : Shape := ⟨1, ![8]⟩
abbrev S_ : Shape := ⟨0, ![]⟩
abbrev S2048 : Shape := ⟨1, ![2048]⟩
abbrev S32x8 : Shape := ⟨2, ![32, 8]⟩
abbrev S32x8x1 : Shape := ⟨3, ![32, 8, 1]⟩
abbrev S1x1x2048 : Shape := ⟨3, ![1, 1, 2048]⟩
abbrev S2048x15408 : Shape := ⟨2, ![2048, 15408]⟩
abbrev S32x8x15408 : Shape := ⟨3, ![32, 8, 15408]⟩
abbrev S32x8x3072 : Shape := ⟨3, ![32, 8, 3072]⟩
abbrev S32x8x48 : Shape := ⟨3, ![32, 8, 48]⟩
abbrev S32x8x4096 : Shape := ⟨3, ![32, 8, 4096]⟩
abbrev S32x8x16x128 : Shape := ⟨4, ![32, 8, 16, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x1x64 : Shape := ⟨3, ![8, 1, 64]⟩
abbrev S32x8x16x64 : Shape := ⟨4, ![32, 8, 16, 64]⟩
abbrev S1x8x1x64 : Shape := ⟨4, ![1, 8, 1, 64]⟩
abbrev S32x8x3x2x4x128 : Shape := ⟨6, ![32, 8, 3, 2, 4, 128]⟩
abbrev S32x8x3x1x4x128 : Shape := ⟨6, ![32, 8, 3, 1, 4, 128]⟩
abbrev S32x8x3x4x128 : Shape := ⟨5, ![32, 8, 3, 4, 128]⟩
abbrev S8x1x1x64 : Shape := ⟨4, ![8, 1, 1, 64]⟩
abbrev S32x8x3x4x64 : Shape := ⟨5, ![32, 8, 3, 4, 64]⟩
abbrev S1x8x1x1x64 : Shape := ⟨5, ![1, 8, 1, 1, 64]⟩
abbrev S32x8x464 : Shape := ⟨3, ![32, 8, 464]⟩
abbrev S32x8x15872 : Shape := ⟨3, ![32, 8, 15872]⟩
abbrev S256x15872 : Shape := ⟨2, ![256, 15872]⟩

abbrev nBuf : Space → Nat
  | .hbm => 118
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S1x2048, .f32⟩
  | .hbm, ⟨2, _⟩ => ⟨S1x2048x15408, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S2048, .f32⟩
  | .hbm, ⟨8, _⟩ => ⟨S32x8x2048, .f32⟩
  | .hbm, ⟨9, _⟩ => ⟨S_, .f32⟩
  | .hbm, ⟨10, _⟩ => ⟨S32x8, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S32x8x1, .f32⟩
  | .hbm, ⟨19, _⟩ => ⟨S32x8x2048, .f32⟩
  | .hbm, ⟨20, _⟩ => ⟨S32x8x2048, .f32⟩
  | .hbm, ⟨21, _⟩ => ⟨S1x1x2048, .f32⟩
  | .hbm, ⟨22, _⟩ => ⟨S32x8x2048, .f32⟩
  | .hbm, ⟨23, _⟩ => ⟨S32x8x2048, .f32⟩
  | .hbm, ⟨24, _⟩ => ⟨S2048x15408, .f32⟩
  | .hbm, ⟨25, _⟩ => ⟨S32x8x15408, .f32⟩
  | .hbm, ⟨26, _⟩ => ⟨S32x8x2048, .f32⟩
  | .hbm, ⟨27, _⟩ => ⟨S32x8x2048, .f32⟩
  | .hbm, ⟨28, _⟩ => ⟨S32x8x2048, .f32⟩
  | .hbm, ⟨29, _⟩ => ⟨S32x8x3072, .f32⟩
  | .hbm, ⟨30, _⟩ => ⟨S32x8x2048, .f32⟩
  | .hbm, ⟨31, _⟩ => ⟨S32x8x48, .f32⟩
  | .hbm, ⟨32, _⟩ => ⟨S32x8x4096, .f32⟩
  | .hbm, ⟨33, _⟩ => ⟨S32x8x16x128, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S8, .f32⟩
  | .hbm, ⟨43, _⟩ => ⟨S8x1, .f32⟩
  | .hbm, ⟨44, _⟩ => ⟨S1x64, .f32⟩
  | .hbm, ⟨45, _⟩ => ⟨S8x64, .f32⟩
  | .hbm, ⟨46, _⟩ => ⟨S8x64, .f32⟩
  | .hbm, ⟨47, _⟩ => ⟨S8x64, .f32⟩
  | .hbm, ⟨48, _⟩ => ⟨S8x64, .f32⟩
  | .hbm, ⟨49, _⟩ => ⟨S8x1x64, .f32⟩
  | .hbm, ⟨50, _⟩ => ⟨S8x64, .f32⟩
  | .hbm, ⟨51, _⟩ => ⟨S8x1x64, .f32⟩
  | .hbm, ⟨52, _⟩ => ⟨S32x8x16x64, .f32⟩
  | .hbm, ⟨53, _⟩ => ⟨S32x8x16x64, .f32⟩
  | .hbm, ⟨54, _⟩ => ⟨S1x8x1x64, .f32⟩
  | .hbm, ⟨55, _⟩ => ⟨S32x8x16x64, .f32⟩
  | .hbm, ⟨56, _⟩ => ⟨S32x8x16x64, .f32⟩
  | .hbm, ⟨57, _⟩ => ⟨S1x8x1x64, .f32⟩
  | .hbm, ⟨58, _⟩ => ⟨S32x8x16x64, .f32⟩
  | .hbm, ⟨59, _⟩ => ⟨S32x8x16x64, .f32⟩
  | .hbm, ⟨60, _⟩ => ⟨S32x8x16x64, .f32⟩
  | .hbm, ⟨61, _⟩ => ⟨S1x8x1x64, .f32⟩
  | .hbm, ⟨62, _⟩ => ⟨S32x8x16x64, .f32⟩
  | .hbm, ⟨63, _⟩ => ⟨S32x8x16x64, .f32⟩
  | .hbm, ⟨64, _⟩ => ⟨S1x8x1x64, .f32⟩
  | .hbm, ⟨65, _⟩ => ⟨S32x8x16x64, .f32⟩
  | .hbm, ⟨66, _⟩ => ⟨S32x8x16x64, .f32⟩
  | .hbm, ⟨67, _⟩ => ⟨S32x8x16x64, .f32⟩
  | .hbm, ⟨68, _⟩ => ⟨S32x8x16x128, .f32⟩
  | .hbm, ⟨69, _⟩ => ⟨S32x8x3x2x4x128, .f32⟩
  | .hbm, ⟨70, _⟩ => ⟨S32x8x3x1x4x128, .f32⟩
  | .hbm, ⟨71, _⟩ => ⟨S32x8x3x4x128, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S8, .f32⟩
  | .hbm, ⟨81, _⟩ => ⟨S8x1, .f32⟩
  | .hbm, ⟨82, _⟩ => ⟨S1x64, .f32⟩
  | .hbm, ⟨83, _⟩ => ⟨S8x64, .f32⟩
  | .hbm, ⟨84, _⟩ => ⟨S8x64, .f32⟩
  | .hbm, ⟨85, _⟩ => ⟨S8x64, .f32⟩
  | .hbm, ⟨86, _⟩ => ⟨S8x64, .f32⟩
  | .hbm, ⟨87, _⟩ => ⟨S8x1x1x64, .f32⟩
  | .hbm, ⟨88, _⟩ => ⟨S8x64, .f32⟩
  | .hbm, ⟨89, _⟩ => ⟨S8x1x1x64, .f32⟩
  | .hbm, ⟨90, _⟩ => ⟨S32x8x3x4x64, .f32⟩
  | .hbm, ⟨91, _⟩ => ⟨S32x8x3x4x64, .f32⟩
  | .hbm, ⟨92, _⟩ => ⟨S1x8x1x1x64, .f32⟩
  | .hbm, ⟨93, _⟩ => ⟨S32x8x3x4x64, .f32⟩
  | .hbm, ⟨94, _⟩ => ⟨S32x8x3x4x64, .f32⟩
  | .hbm, ⟨95, _⟩ => ⟨S1x8x1x1x64, .f32⟩
  | .hbm, ⟨96, _⟩ => ⟨S32x8x3x4x64, .f32⟩
  | .hbm, ⟨97, _⟩ => ⟨S32x8x3x4x64, .f32⟩
  | .hbm, ⟨98, _⟩ => ⟨S32x8x3x4x64, .f32⟩
  | .hbm, ⟨99, _⟩ => ⟨S1x8x1x1x64, .f32⟩
  | .hbm, ⟨100, _⟩ => ⟨S32x8x3x4x64, .f32⟩
  | .hbm, ⟨101, _⟩ => ⟨S32x8x3x4x64, .f32⟩
  | .hbm, ⟨102, _⟩ => ⟨S1x8x1x1x64, .f32⟩
  | .hbm, ⟨103, _⟩ => ⟨S32x8x3x4x64, .f32⟩
  | .hbm, ⟨104, _⟩ => ⟨S32x8x3x4x64, .f32⟩
  | .hbm, ⟨105, _⟩ => ⟨S32x8x3x4x64, .f32⟩
  | .hbm, ⟨106, _⟩ => ⟨S32x8x3x4x128, .f32⟩
  | .hbm, ⟨107, _⟩ => ⟨S32x8x3x1x4x128, .f32⟩
  | .hbm, ⟨108, _⟩ => ⟨S32x8x3x4x128, .f32⟩
  | .hbm, ⟨109, _⟩ => ⟨S32x8x3x1x4x128, .f32⟩
  | .hbm, ⟨110, _⟩ => ⟨S32x8x3x1x4x128, .f32⟩
  | .hbm, ⟨111, _⟩ => ⟨S32x8x3x2x4x128, .f32⟩
  | .hbm, ⟨112, _⟩ => ⟨S_, .f32⟩
  | .hbm, ⟨113, _⟩ => ⟨S32x8x464, .f32⟩
  | .hbm, ⟨114, _⟩ => ⟨S32x8x2048, .f32⟩
  | .hbm, ⟨115, _⟩ => ⟨S32x8x3072, .f32⟩
  | .hbm, ⟨116, _⟩ => ⟨S32x8x15872, .f32⟩
  | .hbm, ⟨117, _⟩ => ⟨S256x15872, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_4 : Ref sig .tc := ⟨.hbm, 74, rfl⟩
abbrev main_v65 : Ref sig .tc := ⟨.hbm, 75, rfl⟩
abbrev main_v66 : Ref sig .tc := ⟨.hbm, 76, rfl⟩
abbrev main_cst_5 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_cst_6 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩

abbrev nD : Nat := 1
abbrev τ : Topo := Topo.v7x

variable {F : FTy → Type} [FloatOps F]
-- ==== Last.lean ====
abbrev S256x2048 : Shape := ⟨2, ![256, 2048]⟩
abbrev S1x32x8x256 : Shape := ⟨4, ![1, 32, 8, 256]⟩
abbrev S1x256x2048 : Shape := ⟨3, ![1, 256, 2048]⟩
abbrev S1x2048x2048 : Shape := ⟨3, ![1, 2048, 2048]⟩
abbrev S2048 : Shape := ⟨1, ![2048]⟩
abbrev S2048x2048 : Shape := ⟨2, ![2048, 2048]⟩
abbrev S256x256 : Shape := ⟨2, ![256, 256]⟩
abbrev S1x2048 : Shape := ⟨2, ![1, 2048]⟩
abbrev S256 : Shape := ⟨1, ![256]⟩
abbrev S256x1 : Shape := ⟨2, ![256, 1]⟩

abbrev nBuf : Space → Nat
  | .hbm => 12
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1x32x8x256, .f32⟩
  | .hbm, ⟨2, _⟩ => ⟨S1x256x2048, .f32⟩
  | .hbm, ⟨3, _⟩ => ⟨S1x2048x2048, .f32⟩
  | .hbm, ⟨4, _⟩ => ⟨S2048, .f32⟩
  | .hbm, ⟨5, _⟩ => ⟨S256x2048, .f32⟩
  | .hbm, ⟨6, _⟩ => ⟨S256x2048, .bf16⟩
  | .hbm, ⟨7, _⟩ => ⟨S2048x2048, .f32⟩
  | .hbm, ⟨8, _⟩ => ⟨S2048x2048, .bf16⟩
  | .hbm, ⟨9, _⟩ => ⟨S256x256, .f32⟩
  | .hbm, ⟨10, _⟩ => ⟨S1x2048, .f32⟩
  | .hbm, ⟨11, _⟩ => ⟨S256x2048, .f32⟩
  | .local _ .vmem, ⟨0, _⟩ => ⟨S256x2048, .f32⟩
  | .local _ .vmem, ⟨1, _⟩ => ⟨S256x256, .f32⟩
  | .local _ .vmem, ⟨2, _⟩ => ⟨S256x2048, .bf16⟩
  | .local _ .vmem, ⟨3, _⟩ => ⟨S2048x2048, .bf16⟩
  | .local _ .vmem, ⟨4, _⟩ => ⟨S1x2048, .f32⟩
  | .local _ .vmem, ⟨5, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== LastRefIdeal.lean ====
abbrev S256x2048 : Shape := ⟨2, ![256, 2048]⟩
abbrev S1x32x8x256 : Shape := ⟨4, ![1, 32, 8, 256]⟩
abbrev S1x256x2048 : Shape := ⟨3, ![1, 256, 2048]⟩
abbrev S1x2048x2048 : Shape := ⟨3, ![1, 2048, 2048]⟩
abbrev S2048 : Shape := ⟨1, ![2048]⟩
abbrev S32x8x2048 : Shape := ⟨3, ![32, 8, 2048]⟩
abbrev S32x8x256 : Shape := ⟨3, ![32, 8, 256]⟩
abbrev S2048x2048 : Shape := ⟨2, ![2048, 2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x32x8x256, .f32⟩
  | .hbm, ⟨2, _⟩ => ⟨S1x256x2048, .f32⟩
  | .hbm, ⟨3, _⟩ => ⟨S1x2048x2048, .f32⟩
  | .hbm, ⟨4, _⟩ => ⟨S2048, .f32⟩
  | .hbm, ⟨5, _⟩ => ⟨S32x8x2048, .f32⟩
  | .hbm, ⟨6, _⟩ => ⟨S32x8x256, .f32⟩
  | .hbm, ⟨7, _⟩ => ⟨S256x2048, .f32⟩
  | .hbm, ⟨8, _⟩ => ⟨S32x8x2048, .f32⟩
  | .hbm, ⟨9, _⟩ => ⟨S2048x2048, .f32⟩
  | .hbm, ⟨10, _⟩ => ⟨S32x8x2048, .f32⟩
  | .hbm, ⟨11, _⟩ => ⟨S32x8x2048, .f32⟩
  | .hbm, ⟨12, _⟩ => ⟨S32x8x2048, .f32⟩
  | .hbm, ⟨13, _⟩ => ⟨S_, .f32⟩
  | .hbm, ⟨14, _⟩ => ⟨S32x8x2048, .f32⟩
  | .hbm, ⟨15, _⟩ => ⟨S32x8x2048, .f32⟩
  | .hbm, ⟨16, _⟩ => ⟨S_, .f32⟩
  | .hbm, ⟨17, _⟩ => ⟨S32x8x2048, .f32⟩
  | .hbm, ⟨18, _⟩ => ⟨S32x8x2048, .f32⟩
  | .hbm, ⟨19, _⟩ => ⟨S32x8x2048, .f32⟩
  | .hbm, ⟨20, _⟩ => ⟨S32x8x2048, .f32⟩
  | .hbm, ⟨21, _⟩ => ⟨S32x8x2048, .f32⟩
  | .hbm, ⟨22, _⟩ => ⟨S_, .f32⟩
  | .hbm, ⟨23, _⟩ => ⟨S32x8, .f32⟩
  | .hbm, ⟨24, _⟩ => ⟨S32x8x1, .f32⟩
  | .hbm, ⟨25, _⟩ => ⟨S_, .f32⟩
  | .hbm, ⟨26, _⟩ => ⟨S32x8x1, .f32⟩
  | .hbm, ⟨27, _⟩ => ⟨S32x8x1, .f32⟩
  | .hbm, ⟨28, _⟩ => ⟨S_, .f32⟩
  | .hbm, ⟨29, _⟩ => ⟨S32x8x1, .f32⟩
  | .hbm, ⟨30, _⟩ => ⟨S32x8x1, .f32⟩
  | .hbm, ⟨31, _⟩ => ⟨S32x8x1, .f32⟩
  | .hbm, ⟨32, _⟩ => ⟨S32x8x2048, .f32⟩
  | .hbm, ⟨33, _⟩ => ⟨S32x8x2048, .f32⟩
  | .hbm, ⟨34, _⟩ => ⟨S1x1x2048, .f32⟩
  | .hbm, ⟨35, _⟩ => ⟨S32x8x2048, .f32⟩
  | .hbm, ⟨36, _⟩ => ⟨S32x8x2048, .f32⟩
  | .hbm, ⟨37, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Step.lean ====
abbrev S256x15872 : Shape := ⟨2, ![256, 15872]⟩
abbrev S1x32x3x2048 : Shape := ⟨4, ![1, 32, 3, 2048]⟩
abbrev S1x32x2048 : Shape := ⟨3, ![1, 32, 2048]⟩
abbrev S1x4x2048 : Shape := ⟨3, ![1, 4, 2048]⟩
abbrev S1x2048 : Shape := ⟨2, ![1, 2048]⟩
abbrev S1x2x8x256x256 : Shape := ⟨5, ![1, 2, 8, 256, 256]⟩
abbrev S1x2x2048 : Shape := ⟨3, ![1, 2, 2048]⟩
abbrev S1x2048x2048 : Shape := ⟨3, ![1, 2048, 2048]⟩
abbrev S4x2048 : Shape := ⟨2, ![4, 2048]⟩
abbrev S2048 : Shape := ⟨1, ![2048]⟩
abbrev S2x8x256x256 : Shape := ⟨4, ![2, 8, 256, 256]⟩
abbrev S2x2048 : Shape := ⟨2, ![2, 2048]⟩
abbrev S2048x2048 : Shape := ⟨2, ![2048, 2048]⟩
abbrev S1x8x256x256 : Shape := ⟨4, ![1, 8, 256, 256]⟩
abbrev S8x256x256 : Shape := ⟨3, ![8, 256, 256]⟩
abbrev S8x256x512 : Shape := ⟨3, ![8, 256, 512]⟩
abbrev S_ : Shape := ⟨0, ![]⟩
abbrev S32x3x2048 : Shape := ⟨3, ![32, 3, 2048]⟩
abbrev S32x8x2048 : Shape := ⟨3, ![32, 8, 2048]⟩
abbrev S256x2048 : Shape := ⟨2, ![256, 2048]⟩
abbrev S32x2048 : Shape := ⟨2, ![32, 2048]⟩
abbrev S256x256 : Shape := ⟨2, ![256, 256]⟩
abbrev S1x256 : Shape := ⟨2, ![1, 256]⟩
abbrev S1x256x512 : Shape := ⟨3, ![1, 256, 512]⟩
abbrev S256x512 : Shape := ⟨2, ![256, 512]⟩

abbrev nBuf : Space → Nat
  | .hbm => 52
  | .vmem => 14
  | .smem => 0
  | _ => 0

abbrev bufTy : (tb : Table) → Fin (tcTables nBuf tb) → BufTy
  | .hbm, ⟨0, _⟩ => ⟨S256x15872, .f32⟩
  | .hbm, ⟨1, _⟩ => ⟨S1x32x3x2048, .f32⟩
  | .hbm, ⟨2, _⟩ => ⟨S1x32x2048, .f32⟩
  | .hbm, ⟨3, _⟩ => ⟨S1x4x2048, .f32⟩
  | .hbm, ⟨4, _⟩ => ⟨S1x2048, .f32⟩
  | .hbm, ⟨5, _⟩ => ⟨S1x2x8x256x256, .f32⟩
  | .hbm, ⟨6, _⟩ => ⟨S1x2x2048, .f32⟩
  | .hbm, ⟨7, _⟩ => ⟨S1x2048, .f32⟩
  | .hbm, ⟨8, _⟩ => ⟨S1x2048x2048, .f32⟩
  | .hbm, ⟨9, _⟩ => ⟨S4x2048, .f32⟩
  | .hbm, ⟨10, _⟩ => ⟨S2048, .f32⟩
  | .hbm, ⟨11, _⟩ => ⟨S2x8x256x256, .f32⟩
  | .hbm, ⟨12, _⟩ => ⟨S2x2048, .f32⟩
  | .hbm, ⟨13, _⟩ => ⟨S2048, .f32⟩
  | .hbm, ⟨14, _⟩ => ⟨S2048x2048, .f32⟩
  | .hbm, ⟨15, _⟩ => ⟨S1x8x256x256, .f32⟩
  | .hbm, ⟨16, _⟩ => ⟨S8x256x256, .f32⟩
  | .hbm, ⟨17, _⟩ => ⟨S1x8x256x256, .f32⟩
  | .hbm, ⟨18, _⟩ => ⟨S8x256x256, .f32⟩
  | .hbm, ⟨19, _⟩ => ⟨S8x256x512, .f32⟩
  | .hbm, ⟨20, _⟩ => ⟨S8x256x512, .bf16⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .i1⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S1x2048, .f32⟩
  | .hbm, ⟨40, _⟩ => ⟨S1x2048, .f32⟩
  | .hbm, ⟨41, _⟩ => ⟨S2048x2048, .bf16⟩
  | .hbm, ⟨42, _⟩ => ⟨S32x3x2048, .f32⟩
  | .hbm, ⟨43, _⟩ => ⟨S_, .i32⟩
  | .hbm, ⟨44, _⟩ => ⟨S_, .f32⟩
  | .hbm, ⟨45, _⟩ => ⟨S32x8x2048, .f32⟩
  | .hbm, ⟨46, _⟩ => ⟨S256x2048, .f32⟩
  | .hbm, ⟨47, _⟩ => ⟨S32x2048, .f32⟩
  | .hbm, ⟨48, _⟩ => ⟨S32x8x2048, .f32⟩
  | .hbm, ⟨49, _⟩ => ⟨S256x2048, .f32⟩
  | .hbm, ⟨50, _⟩ => ⟨S256x2048, .f32⟩
  | .hbm, ⟨51, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S4x2048, .f32⟩
  | .local _ .vmem, ⟨5, _⟩ => ⟨S1x2048, .f32⟩
  | .local _ .vmem, ⟨6, _⟩ => ⟨S8x256x512, .bf16⟩
  | .local _ .vmem, ⟨7, _⟩ => ⟨S2x2048, .f32⟩
  | .local _ .vmem, ⟨8, _⟩ => ⟨S1x2048, .f32⟩
  | .local _ .vmem, ⟨9, _⟩ => ⟨S2048x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S256x15872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_call1_v0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== StepRefIdeal.lean ====
abbrev S256x15872 : Shape := ⟨2, ![256, 15872]⟩
abbrev S1x32x3x2048 : Shape := ⟨4, ![1, 32, 3, 2048]⟩
abbrev S1x32x2048 : Shape := ⟨3, ![1, 32, 2048]⟩
abbrev S1x4x2048 : Shape := ⟨3, ![1, 4, 2048]⟩
abbrev S1x2048 : Shape := ⟨2, ![1, 2048]⟩
abbrev S1x2x8x256x256 : Shape := ⟨5, ![1, 2, 8, 256, 256]⟩
abbrev S1x2x2048 : Shape := ⟨3, ![1, 2, 2048]⟩
abbrev S1x2048x2048 : Shape := ⟨3, ![1, 2048, 2048]⟩
abbrev S32x8x15872 : Shape := ⟨3, ![32, 8, 15872]⟩
abbrev S32x8x2048 : Shape := ⟨3, ![32, 8, 2048]⟩
abbrev S32x3x2048 : Shape := ⟨3, ![32, 3, 2048]⟩
abbrev S4x2048 : Shape := ⟨2, ![4, 2048]⟩
abbrev S2048 : Shape := ⟨1, ![2048]⟩
abbrev S2x8x256x256 : Shape := ⟨4, ![2, 8, 256, 256]⟩
abbrev S2x2048 : Shape := ⟨2, ![2, 2048]⟩
abbrev S32x11x2048 : Shape := ⟨3, ![32, 11, 2048]⟩
abbrev S1x1x2048 : Shape := ⟨3, ![1, 1, 2048]⟩
abbrev S32x8x8x256 : Shape := ⟨4, ![32, 8, 8, 256]⟩
abbrev S8x2x256x32x8 : Shape := ⟨5, ![8, 2, 256, 32, 8]⟩
abbrev S2x32x8x8x256 : Shape := ⟨5, ![2, 32, 8, 8, 256]⟩
abbrev S2x32x8x2048 : Shape := ⟨4, ![2, 32, 8, 2048]⟩
abbrev S2x1x1x2048 : Shape := ⟨4, ![2, 1, 1, 2048]⟩
abbrev S1x32x8x2048 : Shape := ⟨4, ![1, 32, 8, 2048]⟩
abbrev S_ : Shape := ⟨0, ![]⟩
abbrev S32x2048 : Shape := ⟨2, ![32, 2048]⟩
abbrev S32x1x2048 : Shape := ⟨3, ![32, 1, 2048]⟩
abbrev S2048x2048 : Shape := ⟨2, ![2048, 2048]⟩
abbrev S256x2048 : Shape := ⟨2, ![256, 2048]⟩

abbrev nBuf : Space → Nat
  | .hbm => 178
  | .vmem => 0
  | .smem => 0
  | _ => 0

abbrev hbmTy0_0 (i : Nat) : BufTy := match i % 128 with
  | 0 => ⟨S256x15872, .f32⟩
  | 1 => ⟨S1x32x3x2048, .f32⟩
  | 2 => ⟨S1x32x2048, .f32⟩
  | 3 => ⟨S1x4x2048, .f32⟩
  | 4 => ⟨S1x2048, .f32⟩
  | 5 => ⟨S1x2x8x256x256, .f32⟩
  | 6 => ⟨S1x2x2048, .f32⟩
  | 7 => ⟨S1x2048, .f32⟩
  | 8 => ⟨S1x2048x2048, .f32⟩
  | 9 => ⟨S32x8x15872, .f32⟩
  | 10 => ⟨S32x8x2048, .f32⟩
  | 11 => ⟨S32x3x2048, .f32⟩
  | 12 => ⟨S4x2048, .f32⟩
  | 13 => ⟨S2048, .f32⟩
  | 14 => ⟨S2x8x256x256, .f32⟩
  | 15 => ⟨S2x2048, .f32⟩
  | 16 => ⟨S2048, .f32⟩
  | 17 => ⟨S32x11x2048, .f32⟩
  | 18 => ⟨S32x8x2048, .f32⟩
  | 19 => ⟨S1x2048, .f32⟩
  | 20 => ⟨S2048, .f32⟩
  | 21 => ⟨S1x1x2048, .f32⟩
  | 22 => ⟨S32x8x2048, .f32⟩
  | 23 => ⟨S32x8x2048, .f32⟩
  | 24 => ⟨S1x1x2048, .f32⟩
  | 25 => ⟨S32x8x2048, .f32⟩
  | 26 => ⟨S32x8x2048, .f32⟩
  | 27 => ⟨S32x8x2048, .f32⟩
  | 28 => ⟨S1x2048, .f32⟩
  | 29 => ⟨S2048, .f32⟩
  | 30 => ⟨S1x1x2048, .f32⟩
  | 31 => ⟨S32x8x2048, .f32⟩
  | 32 => ⟨S32x8x2048, .f32⟩
  | 33 => ⟨S32x8x2048, .f32⟩
  | 34 => ⟨S32x8x2048, .f32⟩
  | 35 => ⟨S1x2048, .f32⟩
  | 36 => ⟨S2048, .f32⟩
  | 37 => ⟨S1x1x2048, .f32⟩
  | 38 => ⟨S32x8x2048, .f32⟩
  | 39 => ⟨S32x8x2048, .f32⟩
  | 40 => ⟨S32x8x2048, .f32⟩
  | 41 => ⟨S32x8x2048, .f32⟩
  | 42 => ⟨S1x2048, .f32⟩
  | 43 => ⟨S2048, .f32⟩
  | 44 => ⟨S1x1x2048, .f32⟩
  | 45 => ⟨S32x8x2048, .f32⟩
  | 46 => ⟨S32x8x2048, .f32⟩
  | 47 => ⟨S32x8x2048, .f32⟩
  | 48 => ⟨S32x8x8x256, .f32⟩
  | 49 => ⟨S8x2x256x32x8, .f32⟩
  | 50 => ⟨S2x32x8x8x256, .f32⟩
  | 51 => ⟨S2x32x8x2048, .f32⟩
  | 52 => ⟨S2x1x1x2048, .f32⟩
  | 53 => ⟨S2x32x8x2048, .f32⟩
  | 54 => ⟨S2x32x8x2048, .f32⟩
  | 55 => ⟨S1x32x8x2048, .f32⟩
  | 56 => ⟨S32x8x2048, .f32⟩
  | 57 => ⟨S32x8x2048, .f32⟩
  | 58 => ⟨S32x8x2048, .f32⟩
  | 59 => ⟨S_, .f32⟩
  | 60 => ⟨S32x8x2048, .f32⟩
  | 61 => ⟨S32x8x2048, .f32⟩
  | 62 => ⟨S_, .f32⟩
  | 63 => ⟨S32x8x2048, .f32⟩
  | 64 => ⟨S32x8x2048, .f32⟩
  | 65 => ⟨S1x32x8x2048, .f32⟩
  | 66 => ⟨S32x8x2048, .f32⟩
  | 67 => ⟨S32x8x2048, .f32⟩
  | 68 => ⟨S32x8x2048, .f32⟩
  | 69 => ⟨S_, .f32⟩
  | 70 => ⟨S32x8x2048, .f32⟩
  | 71 => ⟨S32x8x2048, .f32⟩
  | 72 => ⟨S_, .f32⟩
  | 73 => ⟨S32x8x2048, .f32⟩
  | 74 => ⟨S32x8x2048, .f32⟩
  | 75 => ⟨S_, .f32⟩
  | 76 => ⟨S32x8x2048, .f32⟩
  | 77 => ⟨S32x8x2048, .f32⟩
  | 78 => ⟨S2048, .f32⟩
  | 79 => ⟨S_, .f32⟩
  | 80 => ⟨S2048, .f32⟩
  | 81 => ⟨S2048, .f32⟩
  | 82 => ⟨S2048, .f32⟩
  | 83 => ⟨S2048, .f32⟩
  | 84 => ⟨S2048, .i1⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S1x1x2048, .f32⟩
  | 94 => ⟨S32x8x2048, .f32⟩
  | 95 => ⟨S32x8x2048, .f32⟩
  | 96 => ⟨S32x8x2048, .f32⟩
  | 97 => ⟨S_, .f32⟩
  | 98 => ⟨S32x8x2048, .f32⟩
  | 99 => ⟨S32x8x2048, .f32⟩
  | 100 => ⟨S32x8x2048, .f32⟩
  | 101 => ⟨S32x8x2048, .f32⟩
  | 102 => ⟨S32x8x2048, .f32⟩
  | 103 => ⟨S32x8x2048, .f32⟩
  | 104 => ⟨S32x8x2048, .f32⟩
  | 105 => ⟨S32x2048, .f32⟩
  | 106 => ⟨S32x1x2048, .f32⟩
  | 107 => ⟨S32x2048, .f32⟩
  | 108 => ⟨S32x2048, .f32⟩
  | 109 => ⟨S32x1x2048, .f32⟩
  | 110 => ⟨S32x2048, .f32⟩
  | 111 => ⟨S32x2048, .f32⟩
  | 112 => ⟨S32x1x2048, .f32⟩
  | 113 => ⟨S32x2048, .f32⟩
  | 114 => ⟨S32x2048, .f32⟩
  | 115 => ⟨S32x1x2048, .f32⟩
  | 116 => ⟨S32x2048, .f32⟩
  | 117 => ⟨S32x2048, .f32⟩
  | 118 => ⟨S32x1x2048, .f32⟩
  | 119 => ⟨S32x2048, .f32⟩
  | 120 => ⟨S32x2048, .f32⟩
  | 121 => ⟨S32x1x2048, .f32⟩
  | 122 => ⟨S32x2048, .f32⟩
  | 123 => ⟨S32x2048, .f32⟩
  | 124 => ⟨S32x1x2048, .f32⟩
  | 125 => ⟨S32x2048, .f32⟩
  | 126 => ⟨S32x2048, .f32⟩
  | 127 => ⟨S32x1x2048, .f32⟩
  | _ => ⟨S256x15872, .f32⟩

abbrev hbmTy0_1 (i : Nat) : BufTy := match i % 128 with
  | 0 => ⟨S32x2048, .f32⟩
  | 1 => ⟨S32x2048, .f32⟩
  | 2 => ⟨S32x1x2048, .f32⟩
  | 3 => ⟨S32x2048, .f32⟩
  | 4 => ⟨S32x2048, .f32⟩
  | 5 => ⟨S32x1x2048, .f32⟩
  | 6 => ⟨S32x2048, .f32⟩
  | 7 => ⟨S32x2048, .f32⟩
  | 8 => ⟨S32x1x2048, .f32⟩
  | 9 => ⟨S32x2048, .f32⟩
  | 10 => ⟨S32x2048, .f32⟩
  | 11 => ⟨S32x1x2048, .f32⟩
  | 12 => ⟨S32x2048, .f32⟩
  | 13 => ⟨S32x2048, .f32⟩
  | 14 => ⟨S32x1x2048, .f32⟩
  | 15 => ⟨S32x2048, .f32⟩
  | 16 => ⟨S32x2048, .f32⟩
  | 17 => ⟨S32x1x2048, .f32⟩
  | 18 => ⟨S32x2048, .f32⟩
  | 19 => ⟨S32x2048, .f32⟩
  | 20 => ⟨S32x1x2048, .f32⟩
  | 21 => ⟨S32x2048, .f32⟩
  | 22 => ⟨S32x2048, .f32⟩
  | 23 => ⟨S32x1x2048, .f32⟩
  | 24 => ⟨S32x2048, .f32⟩
  | 25 => ⟨S32x2048, .f32⟩
  | 26 => ⟨S32x1x2048, .f32⟩
  | 27 => ⟨S32x1x2048, .f32⟩
  | 28 => ⟨S32x1x2048, .f32⟩
  | 29 => ⟨S32x1x2048, .f32⟩
  | 30 => ⟨S32x1x2048, .f32⟩
  | 31 => ⟨S32x1x2048, .f32⟩
  | 32 => ⟨S32x1x2048, .f32⟩
  | 33 => ⟨S32x1x2048, .f32⟩
  | 34 => ⟨S32x8x2048, .f32⟩
  | 35 => ⟨S32x8x2048, .f32⟩
  | 36 => ⟨S32x8x2048, .f32⟩
  | 37 => ⟨S32x8x2048, .f32⟩
  | 38 => ⟨S_, .f32⟩
  | 39 => ⟨S32x8x2048, .f32⟩
  | 40 => ⟨S32x8x2048, .f32⟩
  | 41 => ⟨S_, .f32⟩
  | 42 => ⟨S32x8x2048, .f32⟩
  | 43 => ⟨S32x8x2048, .f32⟩
  | 44 => ⟨S32x8x2048, .f32⟩
  | 45 => ⟨S32x8x2048, .f32⟩
  | 46 => ⟨S2048x2048, .f32⟩
  | 47 => ⟨S32x8x2048, .f32⟩
  | 48 => ⟨S256x2048, .f32⟩
  | 49 => ⟨S256x2048, .f32⟩
  | _ => ⟨S256x15872, .f32⟩

abbrev hbmTy (i : Nat) : BufTy := match i / 128 with
  | 0 => hbmTy0_0 i
  | 1 => hbmTy0_1 i
  | _ => ⟨S256x15872, .f32⟩

abbrev bufTy : (tb : Table) → Fin (tcTables nBuf tb) → BufTy
  | .hbm, ⟨i, _⟩ => hbmTy i
  | _, _ => ⟨S256x15872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst : Ref sig .tc := ⟨.hbm, 59, rfl⟩
abbrev main_v50 : Ref sig .tc := ⟨.hbm, 60, rfl⟩
abbrev main_v51 : Ref sig .tc := ⟨.hbm, 61, rfl⟩
abbrev main_cst_0 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_1 : Ref sig .tc := ⟨.hbm, 69, rfl⟩
abbrev main_v58 : Ref sig .tc := ⟨.hbm, 70, rfl⟩
abbrev main_v59 : Ref sig .tc := ⟨.hbm, 71, rfl⟩
abbrev main_cst_2 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_4 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_call1_v0 : Ref sig .tc := ⟨.hbm, 164, rfl⟩
abbrev main_call1_v1 : Ref sig .tc := ⟨.hbm, 165, rfl⟩
abbrev main_call1_cst : Ref sig .tc := ⟨.hbm, 166, rfl⟩
abbrev main_call1_v2 : Ref sig .tc := ⟨.hbm, 167, rfl⟩
abbrev main_call1_v3 : Ref sig .tc := ⟨.hbm, 168, rfl⟩
abbrev main_call1_cst_0 : Ref sig .tc := ⟨.hbm, 169, rfl⟩
abbrev main_call1_v4 : Ref sig .tc := ⟨.hbm, 170, rfl⟩
abbrev main_call1_v5 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩

abbrev nD : Nat := 1
abbrev τ : Topo := Topo.v7x

variable {F : FTy → Type} [FloatOps F]
-- ==== Proof.Ideal.Blocks.lean ====
/-
  What one grid point of the selected attention computes, over what its windows' buffers read: the key rows joined to
  the one-hot rows of their blocks, the query rows joined to the bias rows, the carry of the running softmax over the
  unmasked key tiles, and the output block.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pointwise
public import Idealize.ShloMosaic.Lib.WritesUnit

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The key scratch: a key row in the first 128 columns, the one-hot row of its block in the last 128. -/
def KB (K : S8192x128.Idx → Elt F .f32) (H : S8192x128.Idx → Elt F .bf16) : S8192x256.Idx → Elt F .bf16 := fun x =>
  if h : (x (1 : Fin 2)).val < 128 then truncf (F := F) .bf16 K bitsLt_bf16_f32 (ix2 (n0 := 8192) (n1 := 128) (x (0 : Fin 2)) ⟨(x (1 : Fin 2)).val, h⟩)
  else H (ix2 (n0 := 8192) (n1 := 128) (x (0 : Fin 2)) ⟨(x (1 : Fin 2)).val - 128, by have : (x (1 : Fin 2)).val < 256 := (x (1 : Fin 2)).isLt; omega⟩)

/-- The value scratch: the value rows, narrowed. -/
def VB (W : S8192x128.Idx → Elt F .f32) : S8192x128.Idx → Elt F .bf16 := truncf (F := F) .bf16 W bitsLt_bf16_f32

/-- The pieces the body writes into the query scratch, last first. -/
def qaPieces (Q : S256x512.Idx → Elt F .f32) (B : S1x256x128.Idx → Elt F .bf16) : List (View.Piece (Elt F) S1024x256 .bf16) :=
  [⟨Rect.unit (s := S1024x256) ![768, 128] S256x128.size inb_S1024x256_S256x128_768_128, k0_pay34 (View.ld B (Rect.unit (s := S1x256x128) ![0, 0, 0] S1x256x128.size inb_S1x256x128_S1x256x128_0_0_0))⟩,
   ⟨Rect.unit (s := S1024x256) ![768, 0] S256x128.size inb_S1024x256_S256x128_768_0, k0_pay33 (View.ld Q (Rect.unit (s := S256x512) ![0, 384] S256x128.size inb_S256x512_S256x128_0_384))⟩,
   ⟨Rect.unit (s := S1024x256) ![512, 128] S256x128.size inb_S1024x256_S256x128_512_128, k0_pay32 (View.ld B (Rect.unit (s := S1x256x128) ![0, 0, 0] S1x256x128.size inb_S1x256x128_S1x256x128_0_0_0))⟩,
   ⟨Rect.unit (s := S1024x256) ![512, 0] S256x128.size inb_S1024x256_S256x128_512_0, k0_pay31 (View.ld Q (Rect.unit (s := S256x512) ![0, 256] S256x128.size inb_S256x512_S256x128_0_256)) (Named.named κ "scale" 0x3E0293EE#32)⟩,
   ⟨Rect.unit (s := S1024x256) ![256, 128] S256x128.size inb_S1024x256_S256x128_256_128, k0_pay30 (View.ld B (Rect.unit (s := S1x256x128) ![0, 0, 0] S1x256x128.size inb_S1x256x128_S1x256x128_0_0_0))⟩,
   ⟨Rect.unit (s := S1024x256) ![256, 0] S256x128.size inb_S1024x256_S256x128_256_0, k0_pay29 (View.ld Q (Rect.unit (s := S256x512) ![0, 128] S256x128.size inb_S256x512_S256x128_0_128))⟩,
   ⟨Rect.unit (s := S1024x256) ![0, 128] S256x128.size inb_S1024x256_S256x128_0_128, k0_pay28 (View.ld B (Rect.unit (s := S1x256x128) ![0, 0, 0] S1x256x128.size inb_S1x256x128_S1x256x128_0_0_0))⟩,
   ⟨Rect.unit (s := S1024x256) ![0, 0] S256x128.size inb_S1024x256_S256x128_0_0, k0_pay27 (View.ld Q (Rect.unit (s := S256x512) ![0, 0] S256x128.size inb_S256x512_S256x128_0_0))⟩]

/-- The query scratch: the four heads' scaled query rows one under another, each beside its row's bias. -/
def QA (Q : S256x512.Idx → Elt F .f32) (B : S1x256x128.Idx → Elt F .bf16) : S1024x256.Idx → Elt F .bf16 :=
  View.canon (qaPieces Q B)

/-- A running softmax's carry: the maximum, the sum, the weighted sum of the values. -/
abbrev Carry (F : FTy → Type) := FVec F S1024x1 .f32 × FVec F S1024x1 .f32 × FVec F S1024x128 .f32

/-- One unmasked tile of 1024 keys taken into the carry. -/
def stepC (i : grid0.Coords) (qa : S1024x256.Idx → Elt F .bf16) (kb : S8192x256.Idx → Elt F .bf16)
    (vb : S8192x128.Idx → Elt F .bf16) (k : Fin (k0_t2_loop i).trips) (a : Carry F) : Carry F :=
  (k0_pay39 a.1 qa (View.ld kb (Rect.unit (s := S8192x256) (k0_off4 i k) S1024x256.size (k0_off4_inb i k))),
   k0_pay42 a.1 a.2.1 qa (View.ld kb (Rect.unit (s := S8192x256) (k0_off4 i k) S1024x256.size (k0_off4_inb i k))),
   k0_pay43 a.1 a.2.2 qa (View.ld kb (Rect.unit (s := S8192x256) (k0_off4 i k) S1024x256.size (k0_off4_inb i k)))
     (View.ld vb (Rect.unit (s := S8192x128) (k0_off5 i k) S1024x128.size (k0_off5_inb i k))))

/-- The carry before tile `k`. -/
def carryC (i : grid0.Coords) (qa : S1024x256.Idx → Elt F .bf16) (kb : S8192x256.Idx → Elt F .bf16)
    (vb : S8192x128.Idx → Elt F .bf16) : ℕ → Carry F
  | 0 => (k0_pay35 (F := F), k0_pay36 (F := F), k0_pay37 (F := F))
  | k + 1 => if h : k < (k0_t2_loop i).trips then stepC i qa kb vb ⟨k, h⟩ (carryC i qa kb vb k) else carryC i qa kb vb k

theorem carryC_succ (i : grid0.Coords) (qa : S1024x256.Idx → Elt F .bf16) (kb : S8192x256.Idx → Elt F .bf16)
    (vb : S8192x128.Idx → Elt F .bf16) (k : Fin (k0_t2_loop i).trips) :
    carryC i qa kb vb (k.val + 1) = stepC i qa kb vb k (carryC i qa kb vb k.val) := by
  rw [carryC, dif_pos k.isLt]

/-- The second grid coordinate as the body reads it. -/
abbrev A1 (i : grid0.Coords) : BitVec 32 := BitVec.ofNat 32 (i 1).val

/-- The number of unmasked tiles before the query block, as the body computes it, -/
def V71 (i : grid0.Coords) : BitVec 32 :=
  let v54 : BitVec 32 := Scalar.muli (A1 i) 256#32
  let v55 : BitVec 32 := Scalar.divsi v54 1024#32
  let v57 : BitVec 32 := Scalar.extui (Scalar.cmpi .sgt v54 0#32)
  let v59 : BitVec 32 := Scalar.extui (Scalar.cmpi .slt v54 0#32)
  let v60 : BitVec 32 := Scalar.subi v57 v59
  let v62 : BitVec 32 := Scalar.extui (Scalar.cmpi .sgt 1024#32 0#32)
  let v64 : BitVec 32 := Scalar.extui (Scalar.cmpi .slt 1024#32 0#32)
  let v65 : BitVec 32 := Scalar.subi v62 v64
  let v66 : BitVec 1 := Scalar.cmpi .ne v60 v65
  let v67 : BitVec 32 := Scalar.remsi v54 1024#32
  let v68 : BitVec 1 := Scalar.cmpi .ne v67 0#32
  let v69 : BitVec 1 := Scalar.andi v66 v68
  Scalar.select v69 (Scalar.subi v55 1#32) v55

/-- and the first key of the masked tile. -/
abbrev V80 (i : grid0.Coords) : BitVec 32 := Scalar.muli (V71 i) 1024#32

/-- The sum and the weighted sum after the masked tile, whose width is the switch's branch. -/
def lastC (i : grid0.Coords) (qa : S1024x256.Idx → Elt F .bf16) (kb : S8192x256.Idx → Elt F .bf16)
    (vb : S8192x128.Idx → Elt F .bf16) (a : Carry F) : FVec F S1024x1 .f32 × FVec F S1024x128 .f32 :=
  if h2 : k0_cond2 i = 1#1 then
    if h3 : k0_cond3 i = 1#1 then
      if h4 : k0_cond4 i = 1#1 then
        (k0_pay8 (A1 i) a.1 a.2.1 (V80 i) qa (View.ld kb (Rect.unit (s := S8192x256) (k0_off8 i) S1024x256.size (k0_off8_inb i h2 h3 h4))),
         k0_pay50 a.2.2
           (k0_pay6 (A1 i) a.1 (V80 i) qa (View.ld kb (Rect.unit (s := S8192x256) (k0_off8 i) S1024x256.size (k0_off8_inb i h2 h3 h4))))
           (k0_pay7 (A1 i) a.1 (V80 i) qa (View.ld kb (Rect.unit (s := S8192x256) (k0_off8 i) S1024x256.size (k0_off8_inb i h2 h3 h4))))
           (View.ld vb (Rect.unit (s := S8192x128) (k0_off9 i) S1024x128.size (k0_off9_inb i h2 h3 h4))))
      else
        (k0_pay13 (A1 i) a.1 a.2.1 (V80 i) qa (View.ld kb (Rect.unit (s := S8192x256) (k0_off10 i) S768x256.size (k0_off10_inb i h2 h3 h4))),
         k0_pay51 a.2.2
           (k0_pay11 (A1 i) a.1 (V80 i) qa (View.ld kb (Rect.unit (s := S8192x256) (k0_off10 i) S768x256.size (k0_off10_inb i h2 h3 h4))))
           (k0_pay12 (A1 i) a.1 (V80 i) qa (View.ld kb (Rect.unit (s := S8192x256) (k0_off10 i) S768x256.size (k0_off10_inb i h2 h3 h4))))
           (View.ld vb (Rect.unit (s := S8192x128) (k0_off11 i) S768x128.size (k0_off11_inb i h2 h3 h4))))
    else
      (k0_pay18 (A1 i) a.1 a.2.1 (V80 i) qa (View.ld kb (Rect.unit (s := S8192x256) (k0_off12 i) S512x256.size (k0_off12_inb i h2 h3))),
       k0_pay52 a.2.2
         (k0_pay16 (A1 i) a.1 (V80 i) qa (View.ld kb (Rect.unit (s := S8192x256) (k0_off12 i) S512x256.size (k0_off12_inb i h2 h3))))
         (k0_pay17 (A1 i) a.1 (V80 i) qa (View.ld kb (Rect.unit (s := S8192x256) (k0_off12 i) S512x256.size (k0_off12_inb i h2 h3))))
         (View.ld vb (Rect.unit (s := S8192x128) (k0_off13 i) S512x128.size (k0_off13_inb i h2 h3))))
  else
    (k0_pay23 (A1 i) a.1 a.2.1 (V80 i) qa (View.ld kb (Rect.unit (s := S8192x256) (k0_off14 i) S256x256.size (k0_off14_inb i h2))),
     k0_pay53 a.2.2
       (k0_pay21 (A1 i) a.1 (V80 i) qa (View.ld kb (Rect.unit (s := S8192x256) (k0_off14 i) S256x256.size (k0_off14_inb i h2))))
       (k0_pay22 (A1 i) a.1 (V80 i) qa (View.ld kb (Rect.unit (s := S8192x256) (k0_off14 i) S256x256.size (k0_off14_inb i h2))))
       (View.ld vb (Rect.unit (s := S8192x128) (k0_off15 i) S256x128.size (k0_off15_inb i h2))))

/-- The sum and the weighted sum the point ends with. -/
def endC (i : grid0.Coords) (qa : S1024x256.Idx → Elt F .bf16) (kb : S8192x256.Idx → Elt F .bf16)
    (vb : S8192x128.Idx → Elt F .bf16) : FVec F S1024x1 .f32 × FVec F S1024x128 .f32 :=
  lastC i qa kb vb (carryC i qa kb vb (k0_t2_loop i).trips)

/-- The pieces the body writes into the output block, last first: the four heads' rows side by side. -/
def outPieces (p : FVec F S1024x1 .f32 × FVec F S1024x128 .f32) : List (View.Piece (Elt F) S256x512 .f32) :=
  [⟨Rect.unit (s := S256x512) ![0, 384] S256x128.size inb_S256x512_S256x128_0_384, k0_pay3 (k0_pay54 p.1 p.2)⟩,
   ⟨Rect.unit (s := S256x512) ![0, 256] S256x128.size inb_S256x512_S256x128_0_256, k0_pay2 (k0_pay54 p.1 p.2)⟩,
   ⟨Rect.unit (s := S256x512) ![0, 128] S256x128.size inb_S256x512_S256x128_0_128, k0_pay1 (k0_pay54 p.1 p.2)⟩,
   ⟨Rect.unit (s := S256x512) ![0, 0] S256x128.size inb_S256x512_S256x128_0_0, k0_pay55 p.1 p.2⟩]

/-- The output block at a grid point, of the blocks its input windows hold. -/
def OUT (i : grid0.Coords) (Q : S256x512.Idx → Elt F .f32) (K W : S8192x128.Idx → Elt F .f32)
    (B : S1x256x128.Idx → Elt F .bf16) (H : S8192x128.Idx → Elt F .bf16) : S256x512.Idx → Elt F .f32 :=
  View.canon (outPieces (endC i (QA Q B) (KB K H) (VB W)))

end Cert.Proof.Ideal

end
-- ==== Proof.Ideal.Loops.lean ====
/-
  The three counted loops of the body by their invariants: the cast of the keys and values into the scratch buffers,
  the unmasked key tiles, and a remainder loop that makes no trip.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pointwise
public import Idealize.ShloMosaic.Lib.WritesUnit
public import proofs.«01_k».proof.Proof.Ideal.Blocks

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### The cast of the keys and values -/

/-- Two rows-and-columns indices of the key scratch with equal coordinates are equal. -/
theorem idx2_ext {d : Fin 2 → ℕ} {x y : (⟨2, d⟩ : Shape).Idx} (h0 : (x (0 : Fin 2)).val = (y (0 : Fin 2)).val)
    (h1 : (x (1 : Fin 2)).val = (y (1 : Fin 2)).val) : x = y := by
  funext a
  fin_cases a
  · exact Fin.ext h0
  · exact Fin.ext h1

/-- The cast loop's rectangles lie in their buffers. -/
theorem k0_t1_inb1 (k : Fin k0_t1_loop.trips) : ∀ a, (k0_off1 k) a + S512x128.size a ≤ S8192x128.size a := by
  rw [k0_off1_eq]; revert k; decide +kernel
theorem k0_t1_inb2 (k : Fin k0_t1_loop.trips) : ∀ a, (k0_off2 k) a + S512x128.size a ≤ S8192x256.size a := by
  rw [k0_off2_eq]; revert k; decide +kernel
theorem k0_t1_inb3 (k : Fin k0_t1_loop.trips) : ∀ a, (k0_off3 k) a + S512x128.size a ≤ S8192x256.size a := by
  rw [k0_off3_eq]; revert k; decide +kernel

/-- One trip's stores into the key scratch, read back. -/
theorem kb_step (K : S8192x128.Idx → Elt F .f32) (H : S8192x128.Idx → Elt F .bf16) (v : View sig .tc .vmem S8192x256 .bf16)
    (f : v.ty.Contents (Elt F)) (k : Fin k0_t1_loop.trips)
    (hf : ∀ x : S8192x256.Idx, (x (0 : Fin 2)).val < 512 * k.val → v.read (Elt F) f x = KB K H x)
    (x : S8192x256.Idx) (hx : (x (0 : Fin 2)).val < 512 * (k.val + 1)) :
    v.read (Elt F) (v.writes (Elt F) f
        [⟨Rect.unit (s := S8192x256) (k0_off3 k) S512x128.size (k0_t1_inb3 k),
            k0_pay25 (View.ld H (Rect.unit (s := S8192x128) (k0_off1 k) S512x128.size (k0_t1_inb1 k)))⟩,
         ⟨Rect.unit (s := S8192x256) (k0_off2 k) S512x128.size (k0_t1_inb2 k),
            k0_pay24 (View.ld K (Rect.unit (s := S8192x128) (k0_off1 k) S512x128.size (k0_t1_inb1 k)))⟩]) x = KB K H x := by
  have hx1 : (x (1 : Fin 2)).val < 256 := (x (1 : Fin 2)).isLt
  by_cases h0 : (x (0 : Fin 2)).val < 512 * k.val
  · rw [View.read_writes_cons_unit_of_not_mem _ _ _ _ _ x (k0_off3_eq k) (0 : Fin 2) (Or.inl h0),
      View.read_writes_cons_unit_of_not_mem _ _ _ _ _ x (k0_off2_eq k) (0 : Fin 2) (Or.inl h0)]
    exact hf x h0
  by_cases h1 : (x (1 : Fin 2)).val < 128
  · rw [View.read_writes_cons_unit_of_not_mem _ _ _ _ _ x (k0_off3_eq k) (1 : Fin 2) (Or.inl h1),
      View.read_writes_cons_unit_of_mem (s := S8192x256) (size := S512x128.size) _ _ _ _ _ x (ix2 (n0 := 512) (n1 := 128) ⟨(x (0 : Fin 2)).val - 512 * k.val, by omega⟩ ⟨(x (1 : Fin 2)).val, h1⟩)
        (k0_off2_eq k) (Fin.forall_fin_two.mpr ⟨by show (x (0 : Fin 2)).val = 512 * k.val + ((x (0 : Fin 2)).val - 512 * k.val); omega, by show (x (1 : Fin 2)).val = 0 + (x (1 : Fin 2)).val; omega⟩)]
    rw [KB, dif_pos h1, k0_pay24, shapeCast_id]
    refine congrArg (truncf (F := F) .bf16 K bitsLt_bf16_f32) (idx2_ext ?_ ?_)
    · show (k0_off1 k) 0 + 1 * ((x (0 : Fin 2)).val - 512 * k.val) = (x (0 : Fin 2)).val
      rw [k0_off1_eq]; show 512 * k.val + _ = _; omega
    · show (k0_off1 k) 1 + 1 * (x (1 : Fin 2)).val = (x (1 : Fin 2)).val
      rw [k0_off1_eq]; show 0 + _ = _; omega
  · rw [View.read_writes_cons_unit_of_mem (s := S8192x256) (size := S512x128.size) _ _ _ _ _ x (ix2 (n0 := 512) (n1 := 128) ⟨(x (0 : Fin 2)).val - 512 * k.val, by omega⟩ ⟨(x (1 : Fin 2)).val - 128, by omega⟩)
        (k0_off3_eq k) (Fin.forall_fin_two.mpr ⟨by show (x (0 : Fin 2)).val = 512 * k.val + ((x (0 : Fin 2)).val - 512 * k.val); omega, by show (x (1 : Fin 2)).val = 128 + ((x (1 : Fin 2)).val - 128); omega⟩)]
    rw [KB, dif_neg h1, k0_pay25, shapeCast_id, shapeCast_id]
    refine congrArg H (idx2_ext ?_ ?_)
    · show (k0_off1 k) 0 + 1 * ((x (0 : Fin 2)).val - 512 * k.val) = (x (0 : Fin 2)).val
      rw [k0_off1_eq]; show 512 * k.val + _ = _; omega
    · show (k0_off1 k) 1 + 1 * ((x (1 : Fin 2)).val - 128) = (x (1 : Fin 2)).val - 128
      rw [k0_off1_eq]; show 0 + _ = _; omega

/-- One trip's store into the value scratch, read back. -/
theorem vb_step (W : S8192x128.Idx → Elt F .f32) (v : View sig .tc .vmem S8192x128 .bf16)
    (f : v.ty.Contents (Elt F)) (k : Fin k0_t1_loop.trips)
    (hf : ∀ x : S8192x128.Idx, (x (0 : Fin 2)).val < 512 * k.val → v.read (Elt F) f x = VB W x)
    (x : S8192x128.Idx) (hx : (x (0 : Fin 2)).val < 512 * (k.val + 1)) :
    v.read (Elt F) (v.writes (Elt F) f
        [⟨Rect.unit (s := S8192x128) (k0_off1 k) S512x128.size (k0_t1_inb1 k),
            k0_pay26 (View.ld W (Rect.unit (s := S8192x128) (k0_off1 k) S512x128.size (k0_t1_inb1 k)))⟩]) x = VB W x := by
  have hx1 : (x (1 : Fin 2)).val < 128 := (x (1 : Fin 2)).isLt
  by_cases h0 : (x (0 : Fin 2)).val < 512 * k.val
  · rw [View.read_writes_cons_unit_of_not_mem _ _ _ _ _ x (k0_off1_eq k) (0 : Fin 2) (Or.inl h0)]
    exact hf x h0
  rw [View.read_writes_cons_unit_of_mem (s := S8192x128) (size := S512x128.size) _ _ _ _ _ x (ix2 (n0 := 512) (n1 := 128) ⟨(x (0 : Fin 2)).val - 512 * k.val, by omega⟩ ⟨(x (1 : Fin 2)).val, hx1⟩)
        (k0_off1_eq k) (Fin.forall_fin_two.mpr ⟨by show (x (0 : Fin 2)).val = 512 * k.val + ((x (0 : Fin 2)).val - 512 * k.val); omega, by show (x (1 : Fin 2)).val = 0 + (x (1 : Fin 2)).val; omega⟩)]
  rw [VB, k0_pay26, shapeCast_id]
  refine congrArg (truncf (F := F) .bf16 W bitsLt_bf16_f32) (idx2_ext ?_ ?_)
  · show (k0_off1 k) 0 + 1 * ((x (0 : Fin 2)).val - 512 * k.val) = (x (0 : Fin 2)).val
    rw [k0_off1_eq]; show 512 * k.val + _ = _; omega
  · show (k0_off1 k) 1 + 1 * (x (1 : Fin 2)).val = (x (1 : Fin 2)).val
    rw [k0_off1_eq]; show 0 + _ = _; omega

set_option warn.classDefReducibility false in
/-- The cast loop's invariant: the rows of the trips before `k` hold the joined keys and the values. -/
@[sl_loop] def castInv (𝒱 : Variants) (c : Dev nD) (bd : Option 𝒱.V) (E : Set ℕ) (i : grid0.Coords) (arg2 : Memref sig .tc .vmem S256x512 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x256x128 .bf16) (harg5 : arg5.IsWhole) (arg6 : Memref sig .tc .vmem S8192x128 .bf16) (harg6 : arg6.IsWhole) (arg7 : Memref sig .tc .vmem S256x512 .f32) (harg7 : arg7.IsWhole) (arg8 : Memref sig .tc .vmem S8192x256 .bf16) (harg8 : arg8.IsWhole) (arg9 : Memref sig .tc .vmem S8192x128 .bf16) (harg9 : arg9.IsWhole) (arg10 : Memref sig .tc .vmem S1024x256 .bf16) (harg10 : arg10.IsWhole) (k0_h1 : k0_cond1 i = 1#1)
    (X3 : BufTy.Contents (Elt F) arg3.view.ty) (X4 : BufTy.Contents (Elt F) arg4.view.ty) (X6 : BufTy.Contents (Elt F) arg6.view.ty) :
    Idealize.ShloMosaic.LoopInv (M := 𝕄) Idealize.ShloMosaic.frame (wpE (defs₀ (F := F)) 𝒱 (c : Thread nD τ) bd) E
      k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 k0_h1) where
  inv := fun k _ => iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6)
    ∗ (∃ f, (arg8.view.loc (c : Thread nD τ) ↦[arg8.view.set]{fullShare} f) ∗ ⌜∀ x : S8192x256.Idx, (x (0 : Fin 2)).val < 512 * k → (arg8.view.read (Elt F) f) x = KB (arg3.view.read (Elt F) X3) (arg6.view.read (Elt F) X6) x⌝)
    ∗ (∃ f, (arg9.view.loc (c : Thread nD τ) ↦[arg9.view.set]{fullShare} f) ∗ ⌜∀ x : S8192x128.Idx, (x (0 : Fin 2)).val < 512 * k → (arg9.view.read (Elt F) f) x = VB (arg4.view.read (Elt F) X4) x⌝))
  step k acc := by
    unfold k0_t1_body
    iintro ⟨H3, H4, H6, ⟨%f8, H8, %h8⟩, ⟨%f9, H9, %h9⟩⟩
    have hk : k.val < 16 := Nat.lt_of_lt_of_le k.isLt k0_t1_abs.2.1
    sl_exec
    sl_step
    isplitl [H3]; · iexact H3
    isplitl [H4]; · iexact H4
    isplitl [H6]; · iexact H6
    isplitl [H8]
    · iexists _
      isplitl [H8]; · iexact H8
      ipureintro
      intro x hx
      exact kb_step (arg3.view.read (Elt F) X3) (arg6.view.read (Elt F) X6) arg8.view f8 k h8 x hx
    · iexists _
      isplitl [H9]; · iexact H9
      ipureintro
      intro x hx
      exact vb_step (arg4.view.read (Elt F) X4) arg9.view f9 k h9 x hx

/-- A load of the whole query scratch reads it. -/
theorem readAt_whole10 (v : View sig .tc .vmem S1024x256 .bf16) (f : v.ty.Contents (Elt F)) :
    v.readAt (Elt F) (Rect.unit (s := S1024x256) ![0, 0] S1024x256.size inb_S1024x256_S1024x256_0_0).toLoadRect f = v.read (Elt F) f := by
  funext y
  refine congrArg (v.read (Elt F) f) (idx2_ext ?_ ?_)
  · show 0 + 1 * _ = _; omega
  · show 0 + 1 * _ = _; omega

/-! ### The unmasked key tiles -/

set_option warn.classDefReducibility false in
/-- The key loop's invariant: the carry is the carry of the trips so far. -/
@[sl_loop] def tileInv (𝒱 : Variants) (c : Dev nD) (bd : Option 𝒱.V) (E : Set ℕ) (i : grid0.Coords) (arg2 : Memref sig .tc .vmem S256x512 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x256x128 .bf16) (harg5 : arg5.IsWhole) (arg6 : Memref sig .tc .vmem S8192x128 .bf16) (harg6 : arg6.IsWhole) (arg7 : Memref sig .tc .vmem S256x512 .f32) (harg7 : arg7.IsWhole) (arg8 : Memref sig .tc .vmem S8192x256 .bf16) (harg8 : arg8.IsWhole) (arg9 : Memref sig .tc .vmem S8192x128 .bf16) (harg9 : arg9.IsWhole) (arg10 : Memref sig .tc .vmem S1024x256 .bf16) (harg10 : arg10.IsWhole) (arg1 : BitVec 32) (v51 : FVec F S1024x1 .f32) (v52 : FVec F S1024x1 .f32) (v53 : FVec F S1024x128 .f32) (v54 : BitVec 32) (c1024_i32 : BitVec 32) (v55 : BitVec 32) (v57 : BitVec 32) (v59 : BitVec 32) (X8 : BufTy.Contents (Elt F) arg8.view.ty) (X9 : BufTy.Contents (Elt F) arg9.view.ty) (X10 : BufTy.Contents (Elt F) arg10.view.ty) :
    Idealize.ShloMosaic.LoopInv (M := 𝕄) Idealize.ShloMosaic.frame (wpE (defs₀ (F := F)) 𝒱 (c : Thread nD τ) bd) E
      (k0_t2_loop i).lb (k0_t2_loop i).ub (k0_t2_loop i).st (k0_t2_ok i) (k0_pay35 (F := F), k0_pay36 (F := F), k0_pay37 (F := F))
      (k0_t2_body (F := F) i arg2 harg2 arg3 harg3 arg4 harg4 arg5 harg5 arg6 harg6 arg7 harg7 arg8 harg8 arg9 harg9 arg10 harg10 arg1 v51 v52 v53 v54 c1024_i32 v55 v57 v59) where
  inv := fun k a => iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ ⌜a = carryC i (arg10.view.read (Elt F) X10) (arg8.view.read (Elt F) X8) (arg9.view.read (Elt F) X9) k⌝)
  step k acc := by
    unfold k0_t2_body
    iintro ⟨H8, H9, H10, %ha⟩
    sl_exec
    sl_step
    isplitl [H8]; · iexact H8
    isplitl [H9]; · iexact H9
    isplitl [H10]; · iexact H10
    ipureintro
    refine Eq.trans ?_ (carryC_succ i _ _ _ k).symm
    rw [← ha]
    exact congrArg (fun z => (k0_pay39 acc.1 z _, k0_pay42 acc.1 acc.2.1 z _, k0_pay43 acc.1 acc.2.2 z _ _)) (readAt_whole10 arg10.view X10)

/-- The remainder loop makes no trip. -/
theorem t3_trips : ∀ i : grid0.Coords, (k0_t3_loop i).trips = 0 := by decide +kernel

set_option warn.classDefReducibility false in
/-- The remainder loop's invariant: nothing has happened. -/
@[sl_loop] def restInv (𝒱 : Variants) (c : Dev nD) (bd : Option 𝒱.V) (E : Set ℕ) (i : grid0.Coords) (arg2 : Memref sig .tc .vmem S256x512 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x256x128 .bf16) (harg5 : arg5.IsWhole) (arg6 : Memref sig .tc .vmem S8192x128 .bf16) (harg6 : arg6.IsWhole) (arg7 : Memref sig .tc .vmem S256x512 .f32) (harg7 : arg7.IsWhole) (arg8 : Memref sig .tc .vmem S8192x256 .bf16) (harg8 : arg8.IsWhole) (arg9 : Memref sig .tc .vmem S8192x128 .bf16) (harg9 : arg9.IsWhole) (arg10 : Memref sig .tc .vmem S1024x256 .bf16) (harg10 : arg10.IsWhole) (arg1 : BitVec 32) (v51 : FVec F S1024x1 .f32) (v52 : FVec F S1024x1 .f32) (v53 : FVec F S1024x128 .f32) (v54 : BitVec 32) (c1024_i32 : BitVec 32) (v55 : BitVec 32) (v57 : BitVec 32) (v59 : BitVec 32) (init : Carry F) :
    Idealize.ShloMosaic.LoopInv (M := 𝕄) Idealize.ShloMosaic.frame (wpE (defs₀ (F := F)) 𝒱 (c : Thread nD τ) bd) E
      (k0_t3_loop i).lb (k0_t3_loop i).ub (k0_t3_loop i).st (k0_t3_ok i) init
      (k0_t3_body (F := F) i arg2 harg2 arg3 harg3 arg4 harg4 arg5 harg5 arg6 harg6 arg7 harg7 arg8 harg8 arg9 harg9 arg10 harg10 arg1 v51 v52 v53 v54 c1024_i32 v55 v57 v59) where
  inv := fun k a => iprop(⌜a = init⌝)
  step k acc := absurd k.isLt (by have h := t3_trips i; unfold Scf.Loop.trips at h; omega)

end Cert.Proof.Ideal

end
-- ==== Proof.Ideal.Run.lean ====
/-
  The body's parts run: the scratch buffers filled, the query scratch written, the tiles taken in, the output block stored.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pointwise
public import Idealize.ShloMosaic.Lib.WritesUnit
public import proofs.«01_k».proof.Proof.Ideal.Loops

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first two pieces of the query scratch's rows. -/
abbrev qaPieces5 (Q : S256x512.Idx → Elt F .f32) (B : S1x256x128.Idx → Elt F .bf16) : List (View.Piece (Elt F) S1024x256 .bf16) :=
  (qaPieces Q B).drop 4

/-- The head of the body: at the first query block the keys and values are cast; then two heads' queries are written. -/
theorem part5_run (𝒱 : Variants) (c : Dev nD) (bd : Option 𝒱.V) (i : grid0.Coords) (arg2 : Memref sig .tc .vmem S256x512 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x256x128 .bf16) (harg5 : arg5.IsWhole) (arg6 : Memref sig .tc .vmem S8192x128 .bf16) (harg6 : arg6.IsWhole) (arg7 : Memref sig .tc .vmem S256x512 .f32) (harg7 : arg7.IsWhole) (arg8 : Memref sig .tc .vmem S8192x256 .bf16) (harg8 : arg8.IsWhole) (arg9 : Memref sig .tc .vmem S8192x128 .bf16) (harg9 : arg9.IsWhole) (arg10 : Memref sig .tc .vmem S1024x256 .bf16) (harg10 : arg10.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty)
    (h8 : ¬ k0_cond1 i = 1#1 → (arg8.view.read (Elt F) f8) = KB (arg3.view.read (Elt F) X3) (arg6.view.read (Elt F) X6))
    (h9 : ¬ k0_cond1 i = 1#1 → (arg9.view.read (Elt F) f9) = VB (arg4.view.read (Elt F) X4)) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
      ⊢ (wp Idealize.ShloMosaic.frame (wpE (defs₀ (F := F)) 𝒱 (c : Thread nD τ) bd) (Set.univ : Set ℕ) (k0_part5 (F := F) i arg2 harg2 arg3 harg3 arg4 harg4 arg5 harg5 arg6 harg6 arg7 harg7 arg8 harg8 arg9 harg9 arg10 harg10)
          (fun r => iprop(⌜r = ⟨A1 i, View.ld (arg2.view.read (Elt F) X2) (Rect.unit (s := S256x512) ![0, 256] S256x128.size inb_S256x512_S256x128_0_256), Named.named κ "scale" 0x3E0293EE#32⟩⌝
            ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
            ∗ (∃ f, (arg8.view.loc (c : Thread nD τ) ↦[arg8.view.set]{fullShare} f) ∗ ⌜(arg8.view.read (Elt F) f) = KB (arg3.view.read (Elt F) X3) (arg6.view.read (Elt F) X6)⌝)
            ∗ (∃ f, (arg9.view.loc (c : Thread nD τ) ↦[arg9.view.set]{fullShare} f) ∗ ⌜(arg9.view.read (Elt F) f) = VB (arg4.view.read (Elt F) X4)⌝)
            ∗ (arg10.view.loc (c : Thread nD τ) ↦[arg10.view.set]{fullShare} (arg10.view.writes (Elt F) f10 (qaPieces5 (arg2.view.read (Elt F) X2) (arg5.view.read (Elt F) X5)))))) : sProp 𝕄) := by
  simp only [k0_part5_eq_skeleton]; unfold k0_part5_skel
  by_cases h1 : k0_cond1 i = 1#1
  · iintro ⟨H2, H3, H4, H5, H6, H8, H9, H10⟩
    sl_exec
    sl_step
    isplitr
    · ipureintro; rfl
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro; funext x; exact hL4 x (lt_of_lt_of_le (x (0 : Fin 2)).isLt (by decide))
    isplitl [H9]
    · iexists _; isplitl [H9]; · iexact H9
      ipureintro; funext x; exact hL6 x (lt_of_lt_of_le (x (0 : Fin 2)).isLt (by decide))
    iexact H10
  · iintro ⟨H2, H3, H4, H5, H6, H8, H9, H10⟩
    sl_exec
    sl_step
    isplitr
    · ipureintro; rfl
    isplitl [H2]; · iexact H2
    isplitl [H3]; · iexact H3
    isplitl [H4]; · iexact H4
    isplitl [H5]; · iexact H5
    isplitl [H6]; · iexact H6
    isplitl [H8]
    · iexists _; isplitl [H8]; · iexact H8
      ipureintro; exact h8 h1
    isplitl [H9]
    · iexists _; isplitl [H9]; · iexact H9
      ipureintro; exact h9 h1
    iexact H10

/-- The next part of the body: the other two heads' queries are written, and the carry starts. -/
theorem part6_run (𝒱 : Variants) (c : Dev nD) (bd : Option 𝒱.V) (i : grid0.Coords) (arg2 : Memref sig .tc .vmem S256x512 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x256x128 .bf16) (harg5 : arg5.IsWhole) (arg6 : Memref sig .tc .vmem S8192x128 .bf16) (harg6 : arg6.IsWhole) (arg7 : Memref sig .tc .vmem S256x512 .f32) (harg7 : arg7.IsWhole) (arg8 : Memref sig .tc .vmem S8192x256 .bf16) (harg8 : arg8.IsWhole) (arg9 : Memref sig .tc .vmem S8192x128 .bf16) (harg9 : arg9.IsWhole) (arg10 : Memref sig .tc .vmem S1024x256 .bf16) (harg10 : arg10.IsWhole)
    (X2 : BufTy.Contents (Elt F) arg2.view.ty) (X5 : BufTy.Contents (Elt F) arg5.view.ty) (f10 : BufTy.Contents (Elt F) arg10.view.ty) :
    iprop((arg2.view.loc (c : Thread nD τ) ↦[arg2.view.set]{fullShare} X2) ∗ (arg5.view.loc (c : Thread nD τ) ↦[arg5.view.set]{fullShare} X5) ∗ (arg10.view.loc (c : Thread nD τ) ↦[arg10.view.set]{fullShare} (arg10.view.writes (Elt F) f10 (qaPieces5 (arg2.view.read (Elt F) X2) (arg5.view.read (Elt F) X5)))))
      ⊢ (wp Idealize.ShloMosaic.frame (wpE (defs₀ (F := F)) 𝒱 (c : Thread nD τ) bd) (Set.univ : Set ℕ)
          (k0_part6 (F := F) i arg2 harg2 arg3 harg3 arg4 harg4 arg5 harg5 arg6 harg6 arg7 harg7 arg8 harg8 arg9 harg9 arg10 harg10 (A1 i) (View.ld (arg2.view.read (Elt F) X2) (Rect.unit (s := S256x512) ![0, 256] S256x128.size inb_S256x512_S256x128_0_256)) (Named.named κ "scale" 0x3E0293EE#32))
          (fun r => iprop(⌜r = ⟨k0_pay35 (F := F), k0_pay36 (F := F), k0_pay37 (F := F), Scalar.muli (A1 i) 256#32, 1024#32, Scalar.divsi (Scalar.muli (A1 i) 256#32) 1024#32, Scalar.extui (Scalar.cmpi .sgt (Scalar.muli (A1 i) 256#32) 0#32), Scalar.extui (Scalar.cmpi .slt (Scalar.muli (A1 i) 256#32) 0#32)⟩⌝
            ∗ (arg2.view.loc (c : Thread nD τ) ↦[arg2.view.set]{fullShare} X2) ∗ (arg5.view.loc (c : Thread nD τ) ↦[arg5.view.set]{fullShare} X5)
            ∗ (arg10.view.loc (c : Thread nD τ) ↦[arg10.view.set]{fullShare} (arg10.view.writes (Elt F) f10 (qaPieces (arg2.view.read (Elt F) X2) (arg5.view.read (Elt F) X5)))))) : sProp 𝕄) := by
  simp only [k0_part6_eq_skeleton]; unfold k0_part6_skel
  iintro ⟨H2, H5, H10⟩
  sl_exec
  sl_step
  isplitr
  · ipureintro; rfl
  isplitl [H2]; · iexact H2
  isplitl [H5]; · iexact H5
  iexact H10

/-- The point's end, the masked tile reading an equal copy of the query scratch. -/
theorem endC_eq (i : grid0.Coords) (qa qa' : S1024x256.Idx → Elt F .bf16) (kb : S8192x256.Idx → Elt F .bf16)
    (vb : S8192x128.Idx → Elt F .bf16) (h : qa' = qa) : endC i qa kb vb
      = lastC i qa' kb vb (carryC i qa kb vb (Scf.trips (k0_t2_loop i).lb (k0_t2_loop i).ub (k0_t2_loop i).st)) := by
  subst h; rfl

/-- The tiles: the unmasked ones by the counted loop, then the masked one of the branch the switch takes; the first
    head's rows are stored and the quotient is handed on. -/
theorem part7_run (𝒱 : Variants) (c : Dev nD) (bd : Option 𝒱.V) (i : grid0.Coords) (arg2 : Memref sig .tc .vmem S256x512 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x256x128 .bf16) (harg5 : arg5.IsWhole) (arg6 : Memref sig .tc .vmem S8192x128 .bf16) (harg6 : arg6.IsWhole) (arg7 : Memref sig .tc .vmem S256x512 .f32) (harg7 : arg7.IsWhole) (arg8 : Memref sig .tc .vmem S8192x256 .bf16) (harg8 : arg8.IsWhole) (arg9 : Memref sig .tc .vmem S8192x128 .bf16) (harg9 : arg9.IsWhole) (arg10 : Memref sig .tc .vmem S1024x256 .bf16) (harg10 : arg10.IsWhole)
    (X8 : BufTy.Contents (Elt F) arg8.view.ty) (X9 : BufTy.Contents (Elt F) arg9.view.ty) (X10 : BufTy.Contents (Elt F) arg10.view.ty) (f7 : BufTy.Contents (Elt F) arg7.view.ty) :
    iprop((arg7.view.loc (c : Thread nD τ) ↦[arg7.view.set]{fullShare} f7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10))
      ⊢ (wp Idealize.ShloMosaic.frame (wpE (defs₀ (F := F)) 𝒱 (c : Thread nD τ) bd) (Set.univ : Set ℕ)
          (k0_part7 (F := F) i arg2 harg2 arg3 harg3 arg4 harg4 arg5 harg5 arg6 harg6 arg7 harg7 arg8 harg8 arg9 harg9 arg10 harg10 (A1 i) (k0_pay35 (F := F)) (k0_pay36 (F := F)) (k0_pay37 (F := F)) (Scalar.muli (A1 i) 256#32) 1024#32 (Scalar.divsi (Scalar.muli (A1 i) 256#32) 1024#32) (Scalar.extui (Scalar.cmpi .sgt (Scalar.muli (A1 i) 256#32) 0#32)) (Scalar.extui (Scalar.cmpi .slt (Scalar.muli (A1 i) 256#32) 0#32)))
          (fun r => iprop(⌜r = k0_pay54 (endC i (arg10.view.read (Elt F) X10) (arg8.view.read (Elt F) X8) (arg9.view.read (Elt F) X9)).1 (endC i (arg10.view.read (Elt F) X10) (arg8.view.read (Elt F) X8) (arg9.view.read (Elt F) X9)).2⌝
            ∗ (arg7.view.loc (c : Thread nD τ) ↦[arg7.view.set]{fullShare} (arg7.view.writes (Elt F) f7 ((outPieces (endC i (arg10.view.read (Elt F) X10) (arg8.view.read (Elt F) X8) (arg9.view.read (Elt F) X9))).drop 3)))
            ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10))) : sProp 𝕄) := by
  simp only [k0_part7_eq_skeleton]; unfold k0_part7_skel
  by_cases h2 : k0_cond2 i = 1#1
  · by_cases h3 : k0_cond3 i = 1#1
    · by_cases h4 : k0_cond4 i = 1#1
      · iintro ⟨H7, H8, H9, H10⟩
        sl_exec
        sl_step
        isplitr
        · ipureintro
          rw [endC_eq i _ _ _ _ (readAt_whole10 arg10.view X10), lastC, dif_pos h2, dif_pos h3, dif_pos h4]; rfl
        isplitl [H7]
        · rw [endC_eq i _ _ _ _ (readAt_whole10 arg10.view X10), lastC, dif_pos h2, dif_pos h3, dif_pos h4]; iexact H7
        isplitl [H8]; · iexact H8
        isplitl [H9]; · iexact H9
        iexact H10
      · iintro ⟨H7, H8, H9, H10⟩
        sl_exec
        sl_step
        isplitr
        · ipureintro
          rw [endC_eq i _ _ _ _ (readAt_whole10 arg10.view X10), lastC, dif_pos h2, dif_pos h3, dif_neg h4]; rfl
        isplitl [H7]
        · rw [endC_eq i _ _ _ _ (readAt_whole10 arg10.view X10), lastC, dif_pos h2, dif_pos h3, dif_neg h4]; iexact H7
        isplitl [H8]; · iexact H8
        isplitl [H9]; · iexact H9
        iexact H10
    · iintro ⟨H7, H8, H9, H10⟩
      sl_exec
      sl_step
      isplitr
      · ipureintro
        rw [endC_eq i _ _ _ _ (readAt_whole10 arg10.view X10), lastC, dif_pos h2, dif_neg h3]; rfl
      isplitl [H7]
      · rw [endC_eq i _ _ _ _ (readAt_whole10 arg10.view X10), lastC, dif_pos h2, dif_neg h3]; iexact H7
      isplitl [H8]; · iexact H8
      isplitl [H9]; · iexact H9
      iexact H10
  · iintro ⟨H7, H8, H9, H10⟩
    sl_exec
    sl_step
    isplitr
    · ipureintro
      rw [endC_eq i _ _ _ _ (readAt_whole10 arg10.view X10), lastC, dif_neg h2]; rfl
    isplitl [H7]
    · rw [endC_eq i _ _ _ _ (readAt_whole10 arg10.view X10), lastC, dif_neg h2]; iexact H7
    isplitl [H8]; · iexact H8
    isplitl [H9]; · iexact H9
    iexact H10

/-- A position of the query scratch lies in a block of 256 rows and 128 columns. -/
theorem qa_mem (y : S1024x256.Idx) (a b : ℕ) (inb) (ha : a ≤ (y (0 : Fin 2)).val) (ha' : (y (0 : Fin 2)).val < a + 256)
    (hb : b ≤ (y (1 : Fin 2)).val) (hb' : (y (1 : Fin 2)).val < b + 128) :
    y ∈ (Rect.unit (s := S1024x256) ![a, b] S256x128.size inb).set :=
  Rect.mem_set_unit.mpr (Fin.forall_fin_two.mpr ⟨⟨ha, ha'⟩, ⟨hb, hb'⟩⟩)

/-- A position of the output block lies in a block of 128 columns. -/
theorem out_mem (y : S256x512.Idx) (b : ℕ) (inb) (hb : b ≤ (y (1 : Fin 2)).val) (hb' : (y (1 : Fin 2)).val < b + 128) :
    y ∈ (Rect.unit (s := S256x512) ![0, b] S256x128.size inb).set :=
  Rect.mem_set_unit.mpr (Fin.forall_fin_two.mpr ⟨⟨Nat.zero_le _, (y (0 : Fin 2)).isLt.trans_eq (Nat.zero_add 256).symm⟩, ⟨hb, hb'⟩⟩)

/-- The query scratch's pieces cover it, -/
theorem qa_cover (Q : S256x512.Idx → Elt F .f32) (B : S1x256x128.Idx → Elt F .bf16) (y : S1024x256.Idx) :
    ∃ p ∈ qaPieces Q B, y ∈ p.1.set := by
  have h0 : (y (0 : Fin 2)).val < 1024 := (y (0 : Fin 2)).isLt
  have h1 : (y (1 : Fin 2)).val < 256 := (y (1 : Fin 2)).isLt
  unfold qaPieces
  generalize hy0 : (y (0 : Fin 2)).val = y0 at h0
  generalize hy1 : (y (1 : Fin 2)).val = y1 at h1
  simp only [List.mem_cons, List.not_mem_nil, or_false, exists_eq_or_imp, exists_eq_left]
  by_cases c1 : y1 < 128
  · rcases (by omega : y0 < 256 ∨ (256 ≤ y0 ∧ y0 < 512) ∨ (512 ≤ y0 ∧ y0 < 768) ∨ 768 ≤ y0) with c | c | c | c
    · exact .inr (.inr (.inr (.inr (.inr (.inr (.inr (qa_mem y 0 0 _ (by omega) (by omega) (by omega) (by omega))))))))
    · exact .inr (.inr (.inr (.inr (.inr (.inl (qa_mem y 256 0 _ (by omega) (by omega) (by omega) (by omega)))))))
    · exact .inr (.inr (.inr (.inl (qa_mem y 512 0 _ (by omega) (by omega) (by omega) (by omega)))))
    · exact .inr (.inl (qa_mem y 768 0 _ (by omega) (by omega) (by omega) (by omega)))
  · rcases (by omega : y0 < 256 ∨ (256 ≤ y0 ∧ y0 < 512) ∨ (512 ≤ y0 ∧ y0 < 768) ∨ 768 ≤ y0) with c | c | c | c
    · exact .inr (.inr (.inr (.inr (.inr (.inr (.inl (qa_mem y 0 128 _ (by omega) (by omega) (by omega) (by omega))))))))
    · exact .inr (.inr (.inr (.inr (.inl (qa_mem y 256 128 _ (by omega) (by omega) (by omega) (by omega))))))
    · exact .inr (.inr (.inl (qa_mem y 512 128 _ (by omega) (by omega) (by omega) (by omega))))
    · exact .inl (qa_mem y 768 128 _ (by omega) (by omega) (by omega) (by omega))

/-- and the output block's pieces cover it. -/
theorem out_cover (p : FVec F S1024x1 .f32 × FVec F S1024x128 .f32) (y : S256x512.Idx) :
    ∃ q ∈ outPieces p, y ∈ q.1.set := by
  have h1 : (y (1 : Fin 2)).val < 512 := (y (1 : Fin 2)).isLt
  unfold outPieces
  generalize hy1 : (y (1 : Fin 2)).val = y1 at h1
  simp only [List.mem_cons, List.not_mem_nil, or_false, exists_eq_or_imp, exists_eq_left]
  rcases (by omega : y1 < 128 ∨ (128 ≤ y1 ∧ y1 < 256) ∨ (256 ≤ y1 ∧ y1 < 384) ∨ 384 ≤ y1) with c | c | c | c
  · exact .inr (.inr (.inr (out_mem y 0 _ (by omega) (by omega))))
  · exact .inr (.inr (.inl (out_mem y 128 _ (by omega) (by omega))))
  · exact .inr (.inl (out_mem y 256 _ (by omega) (by omega)))
  · exact .inl (out_mem y 384 _ (by omega) (by omega))

/-- The body at a grid point: from the windows' blocks, the scratch buffers filled unless this is a first query block,
    to the same blocks, the filled scratch buffers and the output block. -/
theorem body_run (𝒱 : Variants) (c : Dev nD) (bd : Option 𝒱.V) (i : grid0.Coords) (arg2 : Memref sig .tc .vmem S256x512 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x256x128 .bf16) (harg5 : arg5.IsWhole) (arg6 : Memref sig .tc .vmem S8192x128 .bf16) (harg6 : arg6.IsWhole) (arg7 : Memref sig .tc .vmem S256x512 .f32) (harg7 : arg7.IsWhole) (arg8 : Memref sig .tc .vmem S8192x256 .bf16) (harg8 : arg8.IsWhole) (arg9 : Memref sig .tc .vmem S8192x128 .bf16) (harg9 : arg9.IsWhole) (arg10 : Memref sig .tc .vmem S1024x256 .bf16) (harg10 : arg10.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)
    (h8 : ¬ k0_cond1 i = 1#1 → (arg8.view.read (Elt F) f8) = KB (arg3.view.read (Elt F) X3) (arg6.view.read (Elt F) X6))
    (h9 : ¬ k0_cond1 i = 1#1 → (arg9.view.read (Elt F) f9) = VB (arg4.view.read (Elt F) X4)) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
      ⊢ (wp Idealize.ShloMosaic.frame (wpE (defs₀ (F := F)) 𝒱 (c : Thread nD τ) bd) (Set.univ : Set ℕ) (cc0_flash_slc (F := F) i arg2 harg2 arg3 harg3 arg4 harg4 arg5 harg5 arg6 harg6 arg7 harg7 arg8 harg8 arg9 harg9 arg10 harg10)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
            ∗ (∃ f, ⌜(arg7.view.read (Elt F) f) = OUT i (arg2.view.read (Elt F) X2) (arg3.view.read (Elt F) X3) (arg4.view.read (Elt F) X4) (arg5.view.read (Elt F) X5) (arg6.view.read (Elt F) X6)⌝ ∗ (arg7.view.loc (c : Thread nD τ) ↦[arg7.view.set]{fullShare} f))
            ∗ (∃ f, (arg8.view.loc (c : Thread nD τ) ↦[arg8.view.set]{fullShare} f) ∗ ⌜(arg8.view.read (Elt F) f) = KB (arg3.view.read (Elt F) X3) (arg6.view.read (Elt F) X6)⌝)
            ∗ (∃ f, (arg9.view.loc (c : Thread nD τ) ↦[arg9.view.set]{fullShare} f) ∗ ⌜(arg9.view.read (Elt F) f) = VB (arg4.view.read (Elt F) X4)⌝)
            ∗ (∃ f, (arg10.view.loc (c : Thread nD τ) ↦[arg10.view.set]{fullShare} f)))) : sProp 𝕄) := by
  simp only [cc0_flash_slc_eq_skeleton]; unfold cc0_flash_slc_skel
  iintro ⟨H2, H3, H4, H5, H6, H7, H8, H9, H10⟩
  rw [wp_bind]
  iapply (wp_wand_r Idealize.ShloMosaic.frame (wpE (defs₀ (F := F)) 𝒱 (c : Thread nD τ) bd) Set.univ)
  isplitl [H2 H3 H4 H5 H6 H8 H9 H10]
  · iapply (part5_run 𝒱 c bd i arg2 harg2 arg3 harg3 arg4 harg4 arg5 harg5 arg6 harg6 arg7 harg7 arg8 harg8 arg9 harg9 arg10 harg10 X2 X3 X4 X5 X6 f8 f9 f10 h8 h9)
    isplitl [H2]; · iexact H2
    isplitl [H3]; · iexact H3
    isplitl [H4]; · iexact H4
    isplitl [H5]; · iexact H5
    isplitl [H6]; · iexact H6
    isplitl [H8]; · iexact H8
    isplitl [H9]; · iexact H9
    iexact H10
  iintro %r ⟨%hr, H2, H3, H4, H5, H6, ⟨%f8', H8, %h8'⟩, ⟨%f9', H9, %h9'⟩, H10⟩
  subst hr
  dsimp only
  rw [wp_bind]
  iapply (wp_wand_r Idealize.ShloMosaic.frame (wpE (defs₀ (F := F)) 𝒱 (c : Thread nD τ) bd) Set.univ)
  isplitl [H2 H5 H10]
  · iapply (part6_run 𝒱 c bd i arg2 harg2 arg3 harg3 arg4 harg4 arg5 harg5 arg6 harg6 arg7 harg7 arg8 harg8 arg9 harg9 arg10 harg10 X2 X5 f10)
    isplitl [H2]; · iexact H2
    isplitl [H5]; · iexact H5
    iexact H10
  iintro %r ⟨%hr, H2, H5, H10⟩
  subst hr
  dsimp only
  rw [wp_bind]
  iapply (wp_wand_r Idealize.ShloMosaic.frame (wpE (defs₀ (F := F)) 𝒱 (c : Thread nD τ) bd) Set.univ)
  isplitl [H7 H8 H9 H10]
  · iapply (part7_run 𝒱 c bd i arg2 harg2 arg3 harg3 arg4 harg4 arg5 harg5 arg6 harg6 arg7 harg7 arg8 harg8 arg9 harg9 arg10 harg10 f8' f9' _ f7)
    isplitl [H7]; · iexact H7
    isplitl [H8]; · iexact H8
    isplitl [H9]; · iexact H9
    iexact H10
  iintro %r ⟨%hr, H7, H8, H9, H10⟩
  subst hr
  sl_exec
  sl_step
  isplitl [H2]; · iexact H2
  isplitl [H3]; · iexact H3
  isplitl [H4]; · iexact H4
  isplitl [H5]; · iexact H5
  isplitl [H6]; · iexact H6
  isplitl [H7]
  · iexists _
    isplitr
    swap; · iexact H7
    ipureintro
    have hq := View.read_writes_eq_canon (Val := Elt F) arg10.view f10 (qaPieces (arg2.view.read (Elt F) X2) (arg5.view.read (Elt F) X5)) (qa_cover _ _)
    rw [OUT, ← h8', ← h9', QA, ← hq]
    exact View.read_writes_eq_canon (Val := Elt F) arg7.view f7 (outPieces _) (out_cover _)
  isplitl [H8]
  · iexists _; isplitl [H8]; · iexact H8
    ipureintro; exact h8'
  isplitl [H9]
  · iexists _; isplitl [H9]; · iexact H9
    ipureintro; exact h9'
  iexists _; iexact H10

end Cert.Proof.Ideal

end
-- ==== Proof.Ideal.Body.lean ====
/-
  The body's obligation at every grid point, and the call's run: every argument as it was, the output array the block of each
  point, every counter at zero.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pointwise
public import Idealize.ShloMosaic.Lib.WritesUnit
public import proofs.«01_k».proof.Proof.Ideal.Run

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch is filled at the first query block of each head group. -/
theorem cond1_iff : ∀ t : Fin grid0.N, (k0_cond1 (grid0.coords t) = 1#1 ↔ t.val % 32 = 0) := by decide +kernel

/-- A scratch buffer owned whole at some contents. -/
abbrev scr0 (c : Dev nD) (f : BufTy.Contents (Elt F) (Memref.whole cc0_scratch0).view.ty) : sProp 𝕄 :=
  iprop((Memref.whole cc0_scratch0).view.loc (c : Thread nD τ) ↦[(Memref.whole cc0_scratch0).view.set]{fullShare} f)
abbrev scr1 (c : Dev nD) (f : BufTy.Contents (Elt F) (Memref.whole cc0_scratch1).view.ty) : sProp 𝕄 :=
  iprop((Memref.whole cc0_scratch1).view.loc (c : Thread nD τ) ↦[(Memref.whole cc0_scratch1).view.set]{fullShare} f)
abbrev scr2 (c : Dev nD) (f : BufTy.Contents (Elt F) (Memref.whole cc0_scratch2).view.ty) : sProp 𝕄 :=
  iprop((Memref.whole cc0_scratch2).view.loc (c : Thread nD τ) ↦[(Memref.whole cc0_scratch2).view.set]{fullShare} f)

/-- What the key and value scratch hold before a point that does not fill them. -/
def Filled (c : Dev nD) (f0 : BufTy.Contents (Elt F) (Memref.whole cc0_scratch0).view.ty) (f1 : BufTy.Contents (Elt F) (Memref.whole cc0_scratch1).view.ty)
    (n : ℕ) : Prop :=
  ∀ h : n < grid0.N, n % 32 ≠ 0 →
    (Memref.whole cc0_scratch0).view.read (Elt F) f0 = KB (iblk m c 1 ⟨n, h⟩) (iblk m c 4 ⟨n, h⟩)
    ∧ (Memref.whole cc0_scratch1).view.read (Elt F) f1 = VB (iblk m c 2 ⟨n, h⟩)

/-- The invariant before a point: the three scratch buffers, filled unless the point fills them. -/
def PhiS (c : Dev nD) (n : ℕ) : sProp 𝕄 :=
  iprop(∃ f0 f1 f2, scr0 c f0 ∗ scr1 c f1 ∗ scr2 c f2 ∗ ⌜Filled m c f0 f1 n⌝ ∗ ∃ r, prngReg c r)

/-- The output block of a point. -/
def outAt (c : Dev nD) (t : Fin cfg0.N) : S256x512.Idx → Elt F .f32 :=
  OUT (grid0.coords t) (iblk m c 0 t) (iblk m c 1 t) (iblk m c 2 t) (iblk m c 3 t) (iblk m c 4 t)

/-- What each window holds after a point. -/
def afterAt (c : Dev nD) : (w : Fin cfg0.W) → (t : Fin cfg0.N) → (cfg0.win w).block.Idx → Elt F (cfg0.win w).elt
  | 0 => fun t => iblk m c 0 t
  | 1 => fun t => iblk m c 1 t
  | 2 => fun t => iblk m c 2 t
  | 3 => fun t => iblk m c 3 t
  | 4 => fun t => iblk m c 4 t
  | 5 => fun t => outAt m c t
  | ⟨_ + 6, h⟩ => absurd h (Nat.not_lt.2 (Nat.le_add_left _ _))

/-- The proof data: arrays as launched, inputs left in place, the output block of each point. -/
def dats : (p : Fin 1) → (c : Dev nD) → Dat τ (Elt F) Unit ℕ (UR sig nD τ) ℕ (cfgs p) c
  | 0 => fun c =>
    { A := fun w => V m c (Pipeline.arrRef spec0 w)
      after := afterAt m c
      Φ := fun t => PhiS m c t.val
      q := fun w => Pipeline.shareOf spec0 w
      owed := fun _ => 0 }

theorem before_0 (c : Dev nD) (t) (d) : (dats m 0 c).before 0 t d = iblk m c 0 t := before0_0_of m (dats m 0 c) rfl (fun _ => rfl) t d
theorem before_1 (c : Dev nD) (t) (d) : (dats m 0 c).before 1 t d = iblk m c 1 t := before0_1_of m (dats m 0 c) rfl (fun _ => rfl) t d
theorem before_2 (c : Dev nD) (t) (d) : (dats m 0 c).before 2 t d = iblk m c 2 t := before0_2_of m (dats m 0 c) rfl (fun _ => rfl) t d
theorem before_3 (c : Dev nD) (t) (d) : (dats m 0 c).before 3 t d = iblk m c 3 t := before0_3_of m (dats m 0 c) rfl (fun _ => rfl) t d
theorem before_4 (c : Dev nD) (t) (d) : (dats m 0 c).before 4 t d = iblk m c 4 t := before0_4_of m (dats m 0 c) rfl (fun _ => rfl) t d

/-- The block of an input window not fetched at a point is the block of the point before. -/
theorem fetched_step (c : Dev nD) (w : Fin cfg0.W) (hw : (cfg0.win w).isOut = false) (t : Fin cfg0.N) (hf : (cfg0.win w).fetch t = false)
    (hclip : ∀ t t' : Fin cfg0.N, (cfg0.win w).index t = (cfg0.win w).index t' →
      (cfg0.win w).clip (cfg0.grid.coords t) = (cfg0.win w).clip (cfg0.grid.coords t')) (d) :
    (dats m 0 c).fetched w t d = (dats m 0 c).fetched w ⟨t.val - 1, Nat.lt_of_le_of_lt (Nat.sub_le _ _) t.isLt⟩ d := by
  obtain ⟨ht, hix⟩ := (cfg0.win w).index_eq_of_fetch hw t hf
  exact (dats m 0 c).fetched_congr w hix (hclip _ _ hix) d

theorem iblk1_step (c : Dev nD) (t : Fin cfg0.N) (h : t.val % 32 ≠ 0) :
    iblk m c 1 t = iblk m c 1 ⟨t.val - 1, Nat.lt_of_le_of_lt (Nat.sub_le _ _) t.isLt⟩ :=
  fetched_step m c 1 rfl t (Bool.eq_false_iff.mpr fun e => h ((fetch0_1 t).mp e)) (fun _ _ _ => rfl) (iblk m c 1 t)

theorem iblk2_step (c : Dev nD) (t : Fin cfg0.N) (h : t.val % 32 ≠ 0) :
    iblk m c 2 t = iblk m c 2 ⟨t.val - 1, Nat.lt_of_le_of_lt (Nat.sub_le _ _) t.isLt⟩ :=
  fetched_step m c 2 rfl t (Bool.eq_false_iff.mpr fun e => h ((fetch0_2 t).mp e)) (fun _ _ _ => rfl) (iblk m c 2 t)

theorem iblk4_step (c : Dev nD) (t : Fin cfg0.N) (h : t.val % 32 ≠ 0) :
    iblk m c 4 t = iblk m c 4 ⟨t.val - 1, Nat.lt_of_le_of_lt (Nat.sub_le _ _) t.isLt⟩ :=
  fetched_step m c 4 rfl t (Bool.eq_false_iff.mpr fun e => h (by have := (fetch0_4 t).mp e; omega)) (fun _ _ _ => rfl) (iblk m c 4 t)

/-- Once the scratch is filled for a point, it is for the next one unless that fills it. -/
theorem filled_succ (c : Dev nD) (f0 f1) (t : Fin cfg0.N)
    (h0 : (Memref.whole cc0_scratch0).view.read (Elt F) f0 = KB (iblk m c 1 t) (iblk m c 4 t))
    (h1 : (Memref.whole cc0_scratch1).view.read (Elt F) f1 = VB (iblk m c 2 t)) : Filled m c f0 f1 (t.val + 1) := fun h hn => by
  have e1 := iblk1_step m c ⟨t.val + 1, h⟩ hn
  have e2 := iblk2_step m c ⟨t.val + 1, h⟩ hn
  have e4 := iblk4_step m c ⟨t.val + 1, h⟩ hn
  exact ⟨h0.trans (by rw [e1, e4]; rfl), h1.trans (by rw [e2]; rfl)⟩

/-- The body at a point, from the invariant and the windows' blocks to the next invariant and the point's output block. -/
theorem sound_body (c : Dev nD) (t : Fin cfg0.N) :
    iprop(PhiS m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
      ⊢ (wp Idealize.ShloMosaic.frame (wpE (defs₀ (F := F)) Variants.nat (c : Thread nD τ) none) Set.univ (bodyAt0 t) fun _ =>
          iprop(PhiS m c (t.val + 1) ∗ (dats m 0 c).owesAt () t.castSucc
            ∗ owns (c : Thread nD τ) (st0_0 t) fullShare (iblk m c 0 t)
            ∗ owns (c : Thread nD τ) (st0_1 t) fullShare (iblk m c 1 t)
            ∗ owns (c : Thread nD τ) (st0_2 t) fullShare (iblk m c 2 t)
            ∗ owns (c : Thread nD τ) (st0_3 t) fullShare (iblk m c 3 t)
            ∗ owns (c : Thread nD τ) (st0_4 t) fullShare (iblk m c 4 t)
            ∗ owns (c : Thread nD τ) (st0_5 t) fullShare (outAt m c t)) : sProp 𝕄) := by
  unfold PhiS owns
  simp only [before_0, before_1, before_2, before_3, before_4]
  iintro ⟨⟨%f0, %f1, %f2, S0, S1, S2, %hF, Hr⟩, Ho, ⟨%d0, %x0, %h0, H0⟩, ⟨%d1, %x1, %h1, H1⟩, ⟨%d2, %x2, %h2, H2⟩, ⟨%d3, %x3, %h3, H3⟩, ⟨%d4, %x4, %h4, H4⟩, ⟨%d5, %x5, %h5, H5⟩⟩
  iapply (wp_wand_r Idealize.ShloMosaic.frame (wpE (defs₀ (F := F)) Variants.nat (c : Thread nD τ) none) Set.univ)
  isplitl [H0 H1 H2 H3 H4 H5 S0 S1 S2]
  · iapply (body_run Variants.nat c none (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (Memref.whole cc0_scratch0) (Memref.isWhole_whole _) (Memref.whole cc0_scratch1) (Memref.isWhole_whole _)
      (Memref.whole cc0_scratch2) (Memref.isWhole_whole _) x0 x1 x2 x3 x4 x5 f0 f1 f2
      (fun hc => by rw [h1, h4]; exact (hF t.isLt fun e => hc ((cond1_iff t).mpr e)).1)
      (fun hc => by rw [h2]; exact (hF t.isLt fun e => hc ((cond1_iff t).mpr e)).2))
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    iexact S2
  iintro %r ⟨H0, H1, H2, H3, H4, ⟨%y5, %hy5, H5⟩, ⟨%g0, S0, %hg0⟩, ⟨%g1, S1, %hg1⟩, ⟨%g2, S2⟩⟩
  isplitl [S0 S1 S2 Hr]
  · iexists g0; iexists g1; iexists g2
    isplitl [S0]; · iexact S0
    isplitl [S1]; · iexact S1
    isplitl [S2]; · iexact S2
    isplitr
    · ipureintro
      exact filled_succ m c g0 g1 t (hg0.trans (by rw [h1, h4])) (hg1.trans (by rw [h2]))
    iexact Hr
  isplitl [Ho]; · iexact Ho
  isplitl [H0]
  · iexists x0; isplitr; · (ipureintro; exact h0)
    iexact H0
  isplitl [H1]
  · iexists x1; isplitr; · (ipureintro; exact h1)
    iexact H1
  isplitl [H2]
  · iexists x2; isplitr; · (ipureintro; exact h2)
    iexact H2
  isplitl [H3]
  · iexists x3; isplitr; · (ipureintro; exact h3)
    iexact H3
  isplitl [H4]
  · iexists x4; isplitr; · (ipureintro; exact h4)
    iexact H4
  iexists y5; isplitr
  · ipureintro
    rw [hy5, h0, h1, h2, h3, h4]; rfl
  iexact H5

theorem body_obligation (c : Dev nD) : BodyObligation (dats m 0 c) (defs₀ (F := F)) Variants.nat () Set.univ := fun t => by
  rw [bigSep_W0, bigSep_W0]
  exact sound_body m c t

/-- The invariant before the first point, from the scratch buffers at any contents, -/
theorem phi_in (c : Dev nD) : (ΦA spec0 c : sProp 𝕄) ⊢ (dats m 0 c).Φ 0 := by
  show _ ⊢ PhiS m c 0
  unfold ΦA PhiS
  rw [scopedRest0_eq]
  iintro ⟨⟨⟨%f0, S0⟩, ⟨%f1, S1⟩, ⟨%f2, S2⟩⟩, Hr⟩
  iexists f0; iexists f1; iexists f2
  unfold scr0 scr1 scr2
  simp only [(Memref.isWhole_whole cc0_scratch0).set_eq_univ, (Memref.isWhole_whole cc0_scratch1).set_eq_univ, (Memref.isWhole_whole cc0_scratch2).set_eq_univ]
  isplitl [S0]; · iexact S0
  isplitl [S1]; · iexact S1
  isplitl [S2]; · iexact S2
  isplitr
  · ipureintro; exact fun _ h => absurd rfl h
  iexact Hr

/-- and the scratch buffers back from the invariant after the last. -/
theorem phi_out (c : Dev nD) : (dats m 0 c).Φ (Fin.last cfg0.N) ⊢ (ΦA spec0 c : sProp 𝕄) := by
  show PhiS m c (Fin.last cfg0.N).val ⊢ _
  unfold ΦA PhiS
  rw [scopedRest0_eq]
  unfold scr0 scr1 scr2
  simp only [(Memref.isWhole_whole cc0_scratch0).set_eq_univ, (Memref.isWhole_whole cc0_scratch1).set_eq_univ, (Memref.isWhole_whole cc0_scratch2).set_eq_univ]
  iintro ⟨%f0, %f1, %f2, S0, S1, S2, -, Hr⟩
  isplitl [S0 S1 S2]
  · isplitl [S0]; · iexists f0; iexact S0
    isplitl [S1]; · iexists f1; iexact S1
    iexists f2; iexact S2
  iexact Hr

/-- The run: every window's array at what the proof data computes, every other buffer as it was, every counter at zero. -/
theorem run : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.nat m ρ main
    (hbody := fun c => (body_obligation m c).loose) (hq := fun _ _ _ => rfl) (howed := fun _ _ => rfl)
    (V := V m) (hmain := hmain m Variants.nat) (hA := fun _ _ => rfl) (hin := phi_in m) (hout := phi_out m)
    (Q' := fun r => Pipeline.FramePost cfgs (dats m) 0 (V m) r ∧ r.2.sem = fun _ => 0) (hQ' := fun _ h => h)

/-- The frame with every counter at zero. -/
theorem quiescent_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 2).trans (((dats m 0 c).arrAt_in 2 rfl _).trans (V_main_arg0 m c)),
      ((h.1 c).2 main_arg1 (Pipeline.mem_restRefs_of main_arg1 (by decide) (by decide))).trans (V_main_arg1 m c),
      ((h.1 c).1 3).trans (((dats m 0 c).arrAt_in 3 rfl _).trans (V_main_arg2 m c))⟩, h.2⟩) (run m ρ)

end Cert.Proof.Ideal

end
-- ==== Proof.Frames.lean ====
/- The frames of the three programs, and the two named constants. -/
module

public import proofs.«01_k».proof.Defs
public import proofs.«01_k».proof.Proof.Plain.Body
public import proofs.«01_k».proof.Proof.Ideal.Body
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends without fault, its arguments unchanged and its semaphores at zero. -/
theorem frame_kernel : Cert.quiescent_Kernel := fun m ρ _ => Plain.quiescent_run m ρ

/-- So does the kernel over the extended reals. -/
theorem frame_ideal : Cert.quiescent_KernelIdeal := fun m ρ _ => Ideal.quiescent_run m ρ

/-- The reference writes only its own temporaries, and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants stand where the kernel has their rounded words. -/
theorem preserved : Cert.preserves_Kernel_KernelIdeal :=
  ⟨IdealRules.named_const.statement Cert.KernelIdeal.κ "scale" .f32 0x3E0293EE#32
      (((Real.sqrt 128)⁻¹ * (Real.log 2)⁻¹ : ℝ) : EReal) rfl,
    IdealRules.named_const.statement Cert.KernelIdeal.κ "mask" .f32 0xF149F2CA#32 ⊥ rfl⟩

end Cert.Proof

end
-- ==== Proof.Value.Soft.lean ====
/-
  The running softmax over the reals. A tile of scores taken into a carry (maximum, sum, weighted sum) keeps the sum and
  the weighted sum equal to those of the exponentials, both scaled by the maximum's; the quotient is free of the scale.
  A score of minus infinity weighs nothing.
-/
module

public import Idealize.ShloMosaic.PureOps.Ideal
public import Mathlib.Data.EReal.Operations
public import Mathlib.Analysis.SpecialFunctions.Pow.Real
public import Mathlib.Algebra.BigOperators.Fin

@[expose] public section

noncomputable section

namespace Cert.Proof.Soft

open Idealize.ShloMosaic

/-- A finite sum of reals, read as an extended real. -/
theorem coe_sum {ι : Type*} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- The weight of a score in powers of two: nothing at minus infinity. -/
def wt (x : EReal) : ℝ := if x = ⊥ then 0 else Real.rpow 2 x.toReal

@[simp] theorem wt_bot : wt ⊥ = 0 := if_pos rfl

theorem wt_coe (r : ℝ) : wt (r : EReal) = Real.rpow 2 r := by
  rw [wt, if_neg (EReal.coe_ne_bot r), EReal.toReal_coe]

theorem wt_nonneg (x : EReal) : 0 ≤ wt x := by
  unfold wt; split
  · exact le_rfl
  · exact Real.rpow_nonneg (by norm_num) _

/-- The scale a maximum of `M` puts on the sums. -/
def sc (M : ℝ) : ℝ := Real.rpow 2 (-M)

theorem sc_pos (M : ℝ) : 0 < sc M := Real.rpow_pos_of_pos (by norm_num) _

/-- The exponential of a score less the maximum is the score's weight, scaled. -/
theorem exp2_sub (x : EReal) (hx : x ≠ ⊤) (M : ℝ) : Ideal.exp2 (x - (M : EReal)) = ((wt x * sc M : ℝ) : EReal) := by
  induction x with
  | bot => simp
  | top => exact absurd rfl hx
  | coe r =>
    rw [← EReal.coe_sub, Ideal.exp2_coe, wt_coe, sc]
    congr 1
    exact (congrArg (Real.rpow 2) (sub_eq_add_neg r M)).trans (Real.rpow_add (by norm_num) r (-M))

/-- Going from one maximum to another changes the scale. -/
theorem exp2_rescale (M M' : ℝ) (L : ℝ) :
    Ideal.exp2 ((M : EReal) - (M' : EReal)) * ((L * sc M : ℝ) : EReal) = ((L * sc M' : ℝ) : EReal) := by
  rw [exp2_sub _ (EReal.coe_ne_top M), ← EReal.coe_mul, wt_coe]
  congr 1
  have h : Real.rpow 2 M * sc M = 1 := by
    rw [sc]
    exact (Real.rpow_add (by norm_num : (0:ℝ) < 2) M (-M)).symm.trans (by rw [add_neg_cancel, Real.rpow_zero])
  calc Real.rpow 2 M * sc M' * (L * sc M) = (Real.rpow 2 M * sc M) * (L * sc M') := by ring
    _ = L * sc M' := by rw [h, one_mul]

/-- The maximum of a real and finitely many scores below plus infinity is real. -/
theorem max_fold {w : ℕ} (s : Fin w → EReal) (hs : ∀ j, s j ≠ ⊤) (M : ℝ) :
    ∃ M' : ℝ, max (M : EReal) (Finset.univ.fold max ⊥ s) = (M' : EReal) := by
  have h : ∀ t : Finset (Fin w), t.fold max ⊥ s ≠ ⊤ := by
    classical
    intro t
    induction t using Finset.induction_on with
    | empty => simp
    | insert a t ha ih =>
      rw [Finset.fold_insert ha]
      intro h
      rcases max_choice (s a) (t.fold max ⊥ s) with e | e
      · exact hs a (e.symm.trans h)
      · exact ih (e.symm.trans h)
  refine ⟨(max (M : EReal) (Finset.univ.fold max ⊥ s)).toReal, (EReal.coe_toReal ?_ ?_).symm⟩
  · intro e
    rcases max_choice (M : EReal) (Finset.univ.fold max ⊥ s) with e' | e'
    · exact EReal.coe_ne_top M (e'.symm.trans e)
    · exact h _ (e'.symm.trans e)
  · exact fun e => EReal.coe_ne_bot M (le_bot_iff.mp (e ▸ le_max_left _ _))

/-- The carry over the first `n` scores `s`, whose values are `v`: a real maximum, and the two sums under its scale. -/
def St (s : ℕ → EReal) (v : ℕ → ℝ) (n : ℕ) (m l a : EReal) : Prop :=
  ∃ M : ℝ, m = (M : EReal) ∧ l = (((∑ j ∈ Finset.range n, wt (s j)) * sc M : ℝ) : EReal) ∧
    a = (((∑ j ∈ Finset.range n, wt (s j) * v j) * sc M : ℝ) : EReal)

/-- The carry before any score. -/
theorem St.zero (s : ℕ → EReal) (v : ℕ → ℝ) (M : ℝ) : St s v 0 M 0 0 := ⟨M, rfl, by simp, by simp⟩

/-- A tile of `w` scores, from score `n` on, taken into the carry. -/
theorem St.step {s : ℕ → EReal} {v : ℕ → ℝ} {n w : ℕ} {m l a : EReal} (h : St s v n m l a)
    (x : Fin w → EReal) (hx : ∀ j, x j = s (n + j.val)) (hs : ∀ j, s j ≠ ⊤)
    (y : Fin w → EReal) (hy : ∀ j, y j = (v (n + j.val) : EReal)) :
    St s v (n + w) (max m (Finset.univ.fold max ⊥ x))
      (Ideal.exp2 (m - max m (Finset.univ.fold max ⊥ x)) * l
        + ∑ j, Ideal.exp2 (x j - max m (Finset.univ.fold max ⊥ x)))
      (Ideal.exp2 (m - max m (Finset.univ.fold max ⊥ x)) * a
        + ∑ j, Ideal.exp2 (x j - max m (Finset.univ.fold max ⊥ x)) * y j) := by
  obtain ⟨M, rfl, rfl, rfl⟩ := h
  obtain ⟨M', hM'⟩ := max_fold x (fun j => by rw [hx]; exact hs _) M
  rw [hM']
  refine ⟨M', rfl, ?_, ?_⟩
  · have e : ∑ j, Ideal.exp2 (x j - (M' : EReal)) = ((∑ j : Fin w, wt (s (n + j.val)) * sc M' : ℝ) : EReal) := by
      rw [coe_sum]
      exact Finset.sum_congr rfl fun j _ => by rw [hx, exp2_sub _ (hs _)]
    rw [exp2_rescale, e, ← EReal.coe_add, ← Finset.sum_mul, ← add_mul,
      Fin.sum_univ_eq_sum_range (fun j => wt (s (n + j))) w, Finset.sum_range_add]
  · have e : ∑ j, Ideal.exp2 (x j - (M' : EReal)) * y j
        = ((∑ j : Fin w, wt (s (n + j.val)) * v (n + j.val) * sc M' : ℝ) : EReal) := by
      rw [coe_sum]
      exact Finset.sum_congr rfl fun j _ => by
        rw [hx, hy, exp2_sub _ (hs _), ← EReal.coe_mul]
        congr 1
        ring
    rw [exp2_rescale, e, ← EReal.coe_add, ← Finset.sum_mul, ← add_mul,
      Fin.sum_univ_eq_sum_range (fun j => wt (s (n + j)) * v (n + j)) w, Finset.sum_range_add]

/-- The quotient at the end: the scale falls out, where some score weighs something. -/
theorem St.quot {s : ℕ → EReal} {v : ℕ → ℝ} {n : ℕ} {m l a : EReal} (h : St s v n m l a)
    (hp : 0 < ∑ j ∈ Finset.range n, wt (s j)) :
    Ideal.div a l = (((∑ j ∈ Finset.range n, wt (s j) * v j) / ∑ j ∈ Finset.range n, wt (s j) : ℝ) : EReal) := by
  obtain ⟨M, rfl, rfl, rfl⟩ := h
  have hs := sc_pos M
  rw [Ideal.div_coe (mul_pos hp hs).ne', ← EReal.coe_mul]
  congr 1
  field_simp

/-! ## The same softmax, written with a maximum over all scores and the exponential -/

/-- The weight of a score in powers of e. -/
def we (x : EReal) : ℝ := if x = ⊥ then 0 else Real.exp x.toReal

@[simp] theorem we_bot : we ⊥ = 0 := if_pos rfl

theorem we_coe (r : ℝ) : we (r : EReal) = Real.exp r := by
  rw [we, if_neg (EReal.coe_ne_bot r), EReal.toReal_coe]

theorem we_nonneg (x : EReal) : 0 ≤ we x := by
  unfold we; split
  · exact le_rfl
  · exact (Real.exp_pos _).le

theorem exp_sub (x : EReal) (hx : x ≠ ⊤) (M : ℝ) : Ideal.exp (x - (M : EReal)) = ((we x * Real.exp (-M) : ℝ) : EReal) := by
  induction x with
  | bot => simp
  | top => exact absurd rfl hx
  | coe r => rw [← EReal.coe_sub, Ideal.exp_coe, we_coe, ← Real.exp_add, sub_eq_add_neg]

/-- The maximum of scores below plus infinity, one of them real, is real and one of them. -/
theorem fold_attained {n : ℕ} (s : Fin n → EReal) (hs : ∀ j, s j ≠ ⊤) (j₀ : Fin n) (h₀ : s j₀ ≠ ⊥) :
    ∃ (M : ℝ) (j : Fin n), Finset.univ.fold max ⊥ s = (M : EReal) ∧ s j = (M : EReal) := by
  obtain ⟨j, -, hj⟩ := Finset.exists_max_image Finset.univ s ⟨j₀, Finset.mem_univ _⟩
  have hne : s j ≠ ⊥ := fun e => h₀ (le_bot_iff.mp (e ▸ hj j₀ (Finset.mem_univ _)))
  have e : ((s j).toReal : EReal) = s j := EReal.coe_toReal (hs j) hne
  refine ⟨(s j).toReal, j, ?_, e.symm⟩
  rw [e]
  apply le_antisymm
  · exact Finset.fold_max_le _ |>.mpr ⟨bot_le, fun i hi => hj i hi⟩
  · exact Finset.le_fold_max _ |>.mpr (.inr ⟨j, Finset.mem_univ _, le_rfl⟩)

/-- The sum of the exponentials less the maximum is at least one. -/
theorem one_le_sum {n : ℕ} (s : Fin n → EReal) (M : ℝ) (j : Fin n) (hj : s j = (M : EReal)) :
    1 ≤ ∑ i, we (s i) * Real.exp (-M) := by
  have h1 : we (s j) * Real.exp (-M) = 1 := by rw [hj, we_coe, ← Real.exp_add, add_neg_cancel, Real.exp_zero]
  rw [← h1]
  exact Finset.single_le_sum (f := fun i => we (s i) * Real.exp (-M))
    (fun i _ => mul_nonneg (we_nonneg _) (Real.exp_pos _).le) (Finset.mem_univ j)

/-- The softmax's weighted sum of the values, each weight a quotient by a sum that a small number bounds below. -/
theorem softmax {n : ℕ} (s : Fin n → EReal) (v : Fin n → ℝ) (M : ℝ) (j : Fin n) (hj : s j = (M : EReal))
    (ε : ℝ) (hε : ε ≤ 1) :
    ∑ i, Ideal.div ((we (s i) * Real.exp (-M) : ℝ) : EReal)
        (max (∑ i, ((we (s i) * Real.exp (-M) : ℝ) : EReal)) (ε : EReal)) * (v i : EReal)
      = (((∑ i, we (s i) * v i) / ∑ i, we (s i) : ℝ) : EReal) := by
  have h1 := one_le_sum s M j hj
  rw [← coe_sum, max_eq_left (EReal.coe_le_coe_iff.mpr (hε.trans h1))]
  have hp : (∑ i, we (s i) * Real.exp (-M)) ≠ 0 := (lt_of_lt_of_le one_pos h1).ne'
  rw [Finset.sum_congr rfl fun i _ => by rw [Ideal.div_coe hp, ← EReal.coe_mul, ← EReal.coe_mul], ← coe_sum]
  congr 1
  rw [← Finset.sum_mul] at hp ⊢
  have hE : Real.exp (-M) ≠ 0 := (Real.exp_pos _).ne'
  have hW : (∑ i, we (s i)) ≠ 0 := left_ne_zero_of_mul hp
  rw [Finset.sum_div]
  refine Finset.sum_congr rfl fun i _ => ?_
  field_simp

/-! ## Keys gathered by blocks, and keys in order -/

/-- A sum over the keys of sixteen distinct blocks of 64 is the sum over all keys of those in the blocks. -/
theorem sum_blocks (b : Fin 16 → ℕ) (hb : Function.Injective b) (hlt : ∀ n, b n < 128) (f : ℕ → ℝ) :
    ∑ n : Fin 16, ∑ l : Fin 64, f (b n * 64 + l.val)
      = ∑ k ∈ Finset.range 8192, if ∃ n, b n = k / 64 then f k else 0 := by
  classical
  have h1 : ∀ n, ∑ l : Fin 64, f (b n * 64 + l.val) = ∑ k ∈ Finset.range 8192, if b n = k / 64 then f k else 0 := by
    intro n
    rw [← Finset.sum_filter, Fin.sum_univ_eq_sum_range (fun l => f (b n * 64 + l)) 64]
    refine Finset.sum_bij' (fun l _ => b n * 64 + l) (fun k _ => k - b n * 64) ?_ ?_ ?_ ?_ ?_
    · intro l hl
      have := hlt n
      simp only [Finset.mem_range, Finset.mem_filter] at hl ⊢
      omega
    · intro k hk
      simp only [Finset.mem_range, Finset.mem_filter] at hk ⊢
      omega
    · intro l _; simp
    · intro k hk
      simp only [Finset.mem_range, Finset.mem_filter] at hk
      omega
    · intro l _; rfl
  rw [Finset.sum_congr rfl fun n _ => h1 n, Finset.sum_comm]
  refine Finset.sum_congr rfl fun k _ => ?_
  by_cases h : ∃ n, b n = k / 64
  · rw [if_pos h]
    obtain ⟨n, hn⟩ := h
    rw [Finset.sum_eq_single n, if_pos hn]
    · intro n' _ hne
      exact if_neg fun e => hne (hb (e.trans hn.symm))
    · intro h; exact absurd (Finset.mem_univ _) h
  · rw [if_neg h]
    exact Finset.sum_eq_zero fun n _ => if_neg fun e => h ⟨n, e⟩

end Cert.Proof.Soft

end
-- ==== Proof.Value.Words.lean ====
/- The causal mask as words, and the constants. -/
module

public import proofs.«01_k».proof.Proof.Ideal.Blocks
public import proofs.«01_k».proof.Proof.Value.Soft
public import Idealize.ShloMosaic.PureOps.Ideal
public import Idealize.ShloMosaic.Lib.Pointwise
public import Idealize.ShloMosaic.Lib.Pipeline.ValueKit

@[expose] public section

set_option maxRecDepth 16384

noncomputable section

namespace Cert.Proof.Value

open Cert.KernelIdeal Cert.KernelIdeal.Gen
open Idealize.ShloMosaic

/-- The row of a query within its head's block, as the body computes the remainder, -/
theorem row_word : ∀ r : Fin 1024,
    Scalar.select
      (IntOp.andi
        (IntOp.xori
          (IntOp.cmpi CmpIPredicate.slt
            (IntOp.remsi ArithUnit.vector (BitVec.ofNat 32 r.val)
              (Scalar.select (Scalar.cmpi CmpIPredicate.eq 256#32 0#32) 1#32 256#32)) 0#32)
          (Scalar.cmpi CmpIPredicate.slt (Scalar.select (Scalar.cmpi CmpIPredicate.eq 256#32 0#32) 1#32 256#32) 0#32))
        (IntOp.cmpi CmpIPredicate.ne
          (IntOp.remsi ArithUnit.vector (BitVec.ofNat 32 r.val)
            (Scalar.select (Scalar.cmpi CmpIPredicate.eq 256#32 0#32) 1#32 256#32)) 0#32))
      (IntOp.addi
        (IntOp.remsi ArithUnit.vector (BitVec.ofNat 32 r.val)
          (Scalar.select (Scalar.cmpi CmpIPredicate.eq 256#32 0#32) 1#32 256#32))
        (Scalar.select (Scalar.cmpi CmpIPredicate.eq 256#32 0#32) 1#32 256#32))
      (IntOp.remsi ArithUnit.vector (BitVec.ofNat 32 r.val)
        (Scalar.select (Scalar.cmpi CmpIPredicate.eq 256#32 0#32) 1#32 256#32))
    = BitVec.ofNat 32 (r.val % 256) := by decide +kernel

/-- and the comparison of the query's position with the key's. -/
theorem causal_word (qi t k0 j : ℕ) (hq : qi < 32) (ht : t < 256) (hk : k0 < 8192) (hj : j < 1024) :
    IntOp.cmpi CmpIPredicate.sge
      (IntOp.subi (IntOp.subi (IntOp.addi (Scalar.muli (BitVec.ofNat 32 qi) 256#32) (BitVec.ofNat 32 t)) (BitVec.ofNat 32 k0))
        (BitVec.ofNat 32 j)) 0#32
    = if k0 + j ≤ qi * 256 + t then 1#1 else 0#1 := by
  have e : IntOp.subi (IntOp.subi (IntOp.addi (Scalar.muli (BitVec.ofNat 32 qi) 256#32) (BitVec.ofNat 32 t)) (BitVec.ofNat 32 k0))
        (BitVec.ofNat 32 j) = BitVec.ofNat 32 (qi * 256 + t) - BitVec.ofNat 32 (k0 + j) := by
    show BitVec.ofNat 32 qi * BitVec.ofNat 32 256 + BitVec.ofNat 32 t - BitVec.ofNat 32 k0 - BitVec.ofNat 32 j = _
    rw [BitVec.ofNat_add, BitVec.ofNat_add, BitVec.ofNat_mul]
    generalize BitVec.ofNat 32 qi * BitVec.ofNat 32 256 + BitVec.ofNat 32 t = x
    generalize BitVec.ofNat 32 k0 = y
    generalize BitVec.ofNat 32 j = z
    apply BitVec.eq_of_toNat_eq
    simp only [BitVec.toNat_sub, BitVec.toNat_add]
    omega
  rw [e]
  generalize ha : qi * 256 + t = a
  generalize hb : k0 + j = b
  have ha' : a < 8192 := by omega
  have hb' : b < 9216 := by omega
  have h0 : (BitVec.ofNat 32 a - BitVec.ofNat 32 b).toInt = (a : ℤ) - b := by
    rw [BitVec.toInt_sub, BitVec.toInt_eq_toNat_bmod, BitVec.toInt_eq_toNat_bmod, BitVec.toNat_ofNat, BitVec.toNat_ofNat]
    simp only [Int.bmod_def]
    omega
  have h1 : IntOp.cmpi CmpIPredicate.sge (BitVec.ofNat 32 a - BitVec.ofNat 32 b) 0#32
      = BitVec.ofBool (decide ((0 : ℤ) ≤ (BitVec.ofNat 32 a - BitVec.ofNat 32 b).toInt)) := rfl
  rw [h1, h0]
  by_cases h : b ≤ a
  · rw [if_pos h, decide_eq_true (by omega)]; rfl
  · rw [if_neg h, decide_eq_false (by omega)]; rfl

/-- The mask constant is minus infinity. -/
theorem mask_bot : (Named.named κ "mask" 0xF149F2CA#32 : Ideal .f32) = (⊥ : EReal) := rfl

/-- The word the reductions start from is minus infinity. -/
theorem ninf : (Ideal.ofBits FTy.f32 4286578688#32 : EReal) = ⊥ := by
  simp [Ideal.ofBits, Ideal.ieee]

/-- The word the running maximum starts from is a real number. -/
theorem minit : ∃ M : ℝ, (Ideal.ofBits FTy.f32 0xFF61B1E6#32 : EReal) = (M : EReal) := by
  simp only [Ideal.ofBits, Ideal.ieee]
  rw [if_neg (by decide), if_neg (by decide)]
  exact ⟨_, rfl⟩

/-- The constants of the reference: plus infinity, 128, and the bound below its sums. -/
theorem pinf : (Ideal.ofBits FTy.f32 0x7F800000#32 : EReal) = ⊤ := by
  simp [Ideal.ofBits, Ideal.ieee]

theorem c128 : (Ideal.ofBits FTy.f32 0x43000000#32 : EReal) = ((128 : ℝ) : EReal) := by
  have h1 : ((0x43000000#32).extractLsb' 23 8).toNat = 134 := by decide
  have h2 : ((0x43000000#32).extractLsb' 0 23).toNat = 0 := by decide
  have h3 : ((0x43000000#32).extractLsb' (8 + 23) 1 == 1#1) = false := by decide
  simp only [Ideal.ofBits, Ideal.ieee, h1, h2, h3]
  rw [if_neg (by decide), if_neg (by decide)]
  norm_num

theorem ceps : ∃ ε : ℝ, ε ≤ 1 ∧ (Ideal.ofBits FTy.f32 0x0DA24260#32 : EReal) = (ε : EReal) := by
  have h1 : ((0x0DA24260#32).extractLsb' 23 8).toNat = 27 := by decide
  have h2 : ((0x0DA24260#32).extractLsb' 0 23).toNat = 2245216 := by decide
  have h3 : ((0x0DA24260#32).extractLsb' (8 + 23) 1 == 1#1) = false := by decide
  simp only [Ideal.ofBits, Ideal.ieee, h1, h2, h3]
  rw [if_neg (by decide), if_neg (by decide)]
  refine ⟨_, ?_, rfl⟩
  norm_num

end Cert.Proof.Value

end
-- ==== Proof.Value.Tiles.lean ====
/- A tile of keys taken into the carry, at a row and a column: the unmasked tiles, and the masked tile at each of the
   switch's four widths. -/
module

public import proofs.«01_k».proof.Proof.Ideal.Blocks
public import proofs.«01_k».proof.Proof.Value.Soft
public import proofs.«01_k».proof.Proof.Value.Words
public import Idealize.ShloMosaic.PureOps.Ideal
public import Idealize.ShloMosaic.Lib.Pointwise
public import Idealize.ShloMosaic.Lib.Pipeline.ValueKit

@[expose] public section

set_option maxRecDepth 16384

noncomputable section

namespace Cert.Proof.Value

open Cert.KernelIdeal Cert.KernelIdeal.Gen
open Idealize.ShloMosaic

/-- An unmasked tile: the carry takes in 1024 scores. -/
theorem full_step {s : ℕ → EReal} {v : ℕ → ℝ} {n : ℕ} (hs : ∀ j, s j ≠ ⊤)
    (a b : FVec Ideal S1024x1 .f32) (c : FVec Ideal S1024x128 .f32)
    (q : Vec Ideal S1024x256 .bf16) (k : Vec Ideal S1024x256 .bf16) (y : Vec Ideal S1024x128 .bf16)
    (r : Fin 1024) (d : Fin 128)
    (h : Soft.St s v n (a (ix2 r 0)) (b (ix2 r 0)) (c (ix2 r d)))
    (hx : ∀ j : Fin 1024, (∑ x, q (ix2 r x) * k (ix2 j x) : EReal) = s (n + j.val))
    (hy : ∀ j : Fin 1024, (y (ix2 j d) : EReal) = (v (n + j.val) : EReal)) :
    Soft.St s v (n + 1024) (k0_pay39 (F := Ideal) a q k (ix2 r 0)) (k0_pay42 (F := Ideal) a b q k (ix2 r 0))
      (k0_pay43 (F := Ideal) a c q k y (ix2 r d)) := by
  have e1 : ∀ j : Fin 1024, k0_pay38 (F := Ideal) q k (ix2 r j) = (∑ x, q (ix2 r x) * k (ix2 j x) : EReal) := by
    intro j; unfold k0_pay38; pointwise
  have e2 : k0_pay39 (F := Ideal) a q k (ix2 r 0)
      = (max (a (ix2 r 0)) (Finset.univ.fold max ⊥ fun j => k0_pay38 (F := Ideal) q k (ix2 r j)) : EReal) := by
    unfold k0_pay39; pointwise; rw [ninf]
  have e3 : k0_pay42 (F := Ideal) a b q k (ix2 r 0)
      = (Ideal.exp2 (a (ix2 r 0) - k0_pay39 (F := Ideal) a q k (ix2 r 0)) * b (ix2 r 0)
        + ∑ j, Ideal.exp2 (k0_pay38 (F := Ideal) q k (ix2 r j) - k0_pay39 (F := Ideal) a q k (ix2 r 0)) : EReal) := by
    unfold k0_pay42 k0_pay40 k0_pay41; pointwise; rfl
  have e4 : k0_pay43 (F := Ideal) a c q k y (ix2 r d)
      = (Ideal.exp2 (a (ix2 r 0) - k0_pay39 (F := Ideal) a q k (ix2 r 0)) * c (ix2 r d)
        + ∑ j, Ideal.exp2 (k0_pay38 (F := Ideal) q k (ix2 r j) - k0_pay39 (F := Ideal) a q k (ix2 r 0)) * y (ix2 j d) : EReal) := by
    unfold k0_pay43 k0_pay40 k0_pay41; pointwise; rfl
  rw [e3, e4, e2]
  exact h.step _ (fun j => (e1 j).trans (hx j)) hs _ hy

/-- The masked tile of width 1024: the carry takes in 1024 scores, those past the query's position being minus infinity. -/
theorem last_step1024 {s : ℕ → EReal} {v : ℕ → ℝ} (qi k0 : ℕ) (hq : qi < 32) (hk : k0 < 8192) (hs : ∀ j, s j ≠ ⊤)
    (a b : FVec Ideal S1024x1 .f32) (c : FVec Ideal S1024x128 .f32)
    (q : Vec Ideal S1024x256 .bf16) (k : Vec Ideal S1024x256 .bf16) (y : Vec Ideal S1024x128 .bf16)
    (r : Fin 1024) (d : Fin 128)
    (h : Soft.St s v k0 (a (ix2 r 0)) (b (ix2 r 0)) (c (ix2 r d)))
    (hx : ∀ j : Fin 1024, (if k0 + j.val ≤ qi * 256 + r.val % 256 then (∑ x, q (ix2 r x) * k (ix2 j x) : EReal) else ⊥) = s (k0 + j.val))
    (hy : ∀ j : Fin 1024, (y (ix2 j d) : EReal) = (v (k0 + j.val) : EReal)) :
    ∃ m : EReal, Soft.St s v (k0 + 1024) m
      (k0_pay8 (F := Ideal) (BitVec.ofNat 32 qi) a b (BitVec.ofNat 32 k0) q k (ix2 r 0))
      (k0_pay50 (F := Ideal) c (k0_pay6 (BitVec.ofNat 32 qi) a (BitVec.ofNat 32 k0) q k)
        (k0_pay7 (BitVec.ofNat 32 qi) a (BitVec.ofNat 32 k0) q k) y (ix2 r d)) := by
  generalize hw1 : BitVec.ofNat 32 qi = w1
  generalize hw2 : BitVec.ofNat 32 k0 = w2
  have e1 : ∀ j : Fin 1024, k0_pay4 (F := Ideal) w1 w2 q k (ix2 r j)
      = (if k0 + j.val ≤ qi * 256 + r.val % 256 then (∑ x, q (ix2 r x) * k (ix2 j x) : EReal) else ⊥) := by
    intro j
    unfold k0_pay4
    pointwise
    rw [row_word, ← hw1, ← hw2, causal_word qi (r.val % 256) k0 j.val hq (Nat.mod_lt _ (by norm_num)) hk (by omega), mask_bot]
    split_ifs <;> rfl
  have e2 : k0_pay5 (F := Ideal) w1 a w2 q k (ix2 r 0)
      = (max (a (ix2 r 0)) (Finset.univ.fold max ⊥ fun j => k0_pay4 (F := Ideal) w1 w2 q k (ix2 r j)) : EReal) := by
    unfold k0_pay5; pointwise; rw [ninf]
  have e3 : k0_pay8 (F := Ideal) w1 a b w2 q k (ix2 r 0)
      = (Ideal.exp2 (a (ix2 r 0) - k0_pay5 (F := Ideal) w1 a w2 q k (ix2 r 0)) * b (ix2 r 0)
        + ∑ j, Ideal.exp2 (k0_pay4 (F := Ideal) w1 w2 q k (ix2 r j) - k0_pay5 (F := Ideal) w1 a w2 q k (ix2 r 0)) : EReal) := by
    unfold k0_pay8 k0_pay6 k0_pay7; pointwise; rfl
  have e4 : k0_pay50 (F := Ideal) c (k0_pay6 w1 a w2 q k) (k0_pay7 w1 a w2 q k) y (ix2 r d)
      = (Ideal.exp2 (a (ix2 r 0) - k0_pay5 (F := Ideal) w1 a w2 q k (ix2 r 0)) * c (ix2 r d)
        + ∑ j, Ideal.exp2 (k0_pay4 (F := Ideal) w1 w2 q k (ix2 r j) - k0_pay5 (F := Ideal) w1 a w2 q k (ix2 r 0)) * y (ix2 j d) : EReal) := by
    unfold k0_pay50 k0_pay6 k0_pay7; pointwise; rfl
  rw [e3, e4, e2]
  exact ⟨_, h.step _ (fun j => (e1 j).trans (hx j)) hs _ hy⟩

/-- The masked tile of width 768: the carry takes in 768 scores, those past the query's position being minus infinity. -/
theorem last_step768 {s : ℕ → EReal} {v : ℕ → ℝ} (qi k0 : ℕ) (hq : qi < 32) (hk : k0 < 8192) (hs : ∀ j, s j ≠ ⊤)
    (a b : FVec Ideal S1024x1 .f32) (c : FVec Ideal S1024x128 .f32)
    (q : Vec Ideal S1024x256 .bf16) (k : Vec Ideal S768x256 .bf16) (y : Vec Ideal S768x128 .bf16)
    (r : Fin 1024) (d : Fin 128)
    (h : Soft.St s v k0 (a (ix2 r 0)) (b (ix2 r 0)) (c (ix2 r d)))
    (hx : ∀ j : Fin 768, (if k0 + j.val ≤ qi * 256 + r.val % 256 then (∑ x, q (ix2 r x) * k (ix2 j x) : EReal) else ⊥) = s (k0 + j.val))
    (hy : ∀ j : Fin 768, (y (ix2 j d) : EReal) = (v (k0 + j.val) : EReal)) :
    ∃ m : EReal, Soft.St s v (k0 + 768) m
      (k0_pay13 (F := Ideal) (BitVec.ofNat 32 qi) a b (BitVec.ofNat 32 k0) q k (ix2 r 0))
      (k0_pay51 (F := Ideal) c (k0_pay11 (BitVec.ofNat 32 qi) a (BitVec.ofNat 32 k0) q k)
        (k0_pay12 (BitVec.ofNat 32 qi) a (BitVec.ofNat 32 k0) q k) y (ix2 r d)) := by
  generalize hw1 : BitVec.ofNat 32 qi = w1
  generalize hw2 : BitVec.ofNat 32 k0 = w2
  have e1 : ∀ j : Fin 768, k0_pay9 (F := Ideal) w1 w2 q k (ix2 r j)
      = (if k0 + j.val ≤ qi * 256 + r.val % 256 then (∑ x, q (ix2 r x) * k (ix2 j x) : EReal) else ⊥) := by
    intro j
    unfold k0_pay9
    pointwise
    rw [row_word, ← hw1, ← hw2, causal_word qi (r.val % 256) k0 j.val hq (Nat.mod_lt _ (by norm_num)) hk (by omega), mask_bot]
    split_ifs <;> rfl
  have e2 : k0_pay10 (F := Ideal) w1 a w2 q k (ix2 r 0)
      = (max (a (ix2 r 0)) (Finset.univ.fold max ⊥ fun j => k0_pay9 (F := Ideal) w1 w2 q k (ix2 r j)) : EReal) := by
    unfold k0_pay10; pointwise; rw [ninf]
  have e3 : k0_pay13 (F := Ideal) w1 a b w2 q k (ix2 r 0)
      = (Ideal.exp2 (a (ix2 r 0) - k0_pay10 (F := Ideal) w1 a w2 q k (ix2 r 0)) * b (ix2 r 0)
        + ∑ j, Ideal.exp2 (k0_pay9 (F := Ideal) w1 w2 q k (ix2 r j) - k0_pay10 (F := Ideal) w1 a w2 q k (ix2 r 0)) : EReal) := by
    unfold k0_pay13 k0_pay11 k0_pay12; pointwise; rfl
  have e4 : k0_pay51 (F := Ideal) c (k0_pay11 w1 a w2 q k) (k0_pay12 w1 a w2 q k) y (ix2 r d)
      = (Ideal.exp2 (a (ix2 r 0) - k0_pay10 (F := Ideal) w1 a w2 q k (ix2 r 0)) * c (ix2 r d)
        + ∑ j, Ideal.exp2 (k0_pay9 (F := Ideal) w1 w2 q k (ix2 r j) - k0_pay10 (F := Ideal) w1 a w2 q k (ix2 r 0)) * y (ix2 j d) : EReal) := by
    unfold k0_pay51 k0_pay11 k0_pay12; pointwise; rfl
  rw [e3, e4, e2]
  exact ⟨_, h.step _ (fun j => (e1 j).trans (hx j)) hs _ hy⟩

/-- The masked tile of width 512: the carry takes in 512 scores, those past the query's position being minus infinity. -/
theorem last_step512 {s : ℕ → EReal} {v : ℕ → ℝ} (qi k0 : ℕ) (hq : qi < 32) (hk : k0 < 8192) (hs : ∀ j, s j ≠ ⊤)
    (a b : FVec Ideal S1024x1 .f32) (c : FVec Ideal S1024x128 .f32)
    (q : Vec Ideal S1024x256 .bf16) (k : Vec Ideal S512x256 .bf16) (y : Vec Ideal S512x128 .bf16)
    (r : Fin 1024) (d : Fin 128)
    (h : Soft.St s v k0 (a (ix2 r 0)) (b (ix2 r 0)) (c (ix2 r d)))
    (hx : ∀ j : Fin 512, (if k0 + j.val ≤ qi * 256 + r.val % 256 then (∑ x, q (ix2 r x) * k (ix2 j x) : EReal) else ⊥) = s (k0 + j.val))
    (hy : ∀ j : Fin 512, (y (ix2 j d) : EReal) = (v (k0 + j.val) : EReal)) :
    ∃ m : EReal, Soft.St s v (k0 + 512) m
      (k0_pay18 (F := Ideal) (BitVec.ofNat 32 qi) a b (BitVec.ofNat 32 k0) q k (ix2 r 0))
      (k0_pay52 (F := Ideal) c (k0_pay16 (BitVec.ofNat 32 qi) a (BitVec.ofNat 32 k0) q k)
        (k0_pay17 (BitVec.ofNat 32 qi) a (BitVec.ofNat 32 k0) q k) y (ix2 r d)) := by
  generalize hw1 : BitVec.ofNat 32 qi = w1
  generalize hw2 : BitVec.ofNat 32 k0 = w2
  have e1 : ∀ j : Fin 512, k0_pay14 (F := Ideal) w1 w2 q k (ix2 r j)
      = (if k0 + j.val ≤ qi * 256 + r.val % 256 then (∑ x, q (ix2 r x) * k (ix2 j x) : EReal) else ⊥) := by
    intro j
    unfold k0_pay14
    pointwise
    rw [row_word, ← hw1, ← hw2, causal_word qi (r.val % 256) k0 j.val hq (Nat.mod_lt _ (by norm_num)) hk (by omega), mask_bot]
    split_ifs <;> rfl
  have e2 : k0_pay15 (F := Ideal) w1 a w2 q k (ix2 r 0)
      = (max (a (ix2 r 0)) (Finset.univ.fold max ⊥ fun j => k0_pay14 (F := Ideal) w1 w2 q k (ix2 r j)) : EReal) := by
    unfold k0_pay15; pointwise; rw [ninf]
  have e3 : k0_pay18 (F := Ideal) w1 a b w2 q k (ix2 r 0)
      = (Ideal.exp2 (a (ix2 r 0) - k0_pay15 (F := Ideal) w1 a w2 q k (ix2 r 0)) * b (ix2 r 0)
        + ∑ j, Ideal.exp2 (k0_pay14 (F := Ideal) w1 w2 q k (ix2 r j) - k0_pay15 (F := Ideal) w1 a w2 q k (ix2 r 0)) : EReal) := by
    unfold k0_pay18 k0_pay16 k0_pay17; pointwise; rfl
  have e4 : k0_pay52 (F := Ideal) c (k0_pay16 w1 a w2 q k) (k0_pay17 w1 a w2 q k) y (ix2 r d)
      = (Ideal.exp2 (a (ix2 r 0) - k0_pay15 (F := Ideal) w1 a w2 q k (ix2 r 0)) * c (ix2 r d)
        + ∑ j, Ideal.exp2 (k0_pay14 (F := Ideal) w1 w2 q k (ix2 r j) - k0_pay15 (F := Ideal) w1 a w2 q k (ix2 r 0)) * y (ix2 j d) : EReal) := by
    unfold k0_pay52 k0_pay16 k0_pay17; pointwise; rfl
  rw [e3, e4, e2]
  exact ⟨_, h.step _ (fun j => (e1 j).trans (hx j)) hs _ hy⟩

/-- The masked tile of width 256: the carry takes in 256 scores, those past the query's position being minus infinity. -/
theorem last_step256 {s : ℕ → EReal} {v : ℕ → ℝ} (qi k0 : ℕ) (hq : qi < 32) (hk : k0 < 8192) (hs : ∀ j, s j ≠ ⊤)
    (a b : FVec Ideal S1024x1 .f32) (c : FVec Ideal S1024x128 .f32)
    (q : Vec Ideal S1024x256 .bf16) (k : Vec Ideal S256x256 .bf16) (y : Vec Ideal S256x128 .bf16)
    (r : Fin 1024) (d : Fin 128)
    (h : Soft.St s v k0 (a (ix2 r 0)) (b (ix2 r 0)) (c (ix2 r d)))
    (hx : ∀ j : Fin 256, (if k0 + j.val ≤ qi * 256 + r.val % 256 then (∑ x, q (ix2 r x) * k (ix2 j x) : EReal) else ⊥) = s (k0 + j.val))
    (hy : ∀ j : Fin 256, (y (ix2 j d) : EReal) = (v (k0 + j.val) : EReal)) :
    ∃ m : EReal, Soft.St s v (k0 + 256) m
      (k0_pay23 (F := Ideal) (BitVec.ofNat 32 qi) a b (BitVec.ofNat 32 k0) q k (ix2 r 0))
      (k0_pay53 (F := Ideal) c (k0_pay21 (BitVec.ofNat 32 qi) a (BitVec.ofNat 32 k0) q k)
        (k0_pay22 (BitVec.ofNat 32 qi) a (BitVec.ofNat 32 k0) q k) y (ix2 r d)) := by
  generalize hw1 : BitVec.ofNat 32 qi = w1
  generalize hw2 : BitVec.ofNat 32 k0 = w2
  have e1 : ∀ j : Fin 256, k0_pay19 (F := Ideal) w1 w2 q k (ix2 r j)
      = (if k0 + j.val ≤ qi * 256 + r.val % 256 then (∑ x, q (ix2 r x) * k (ix2 j x) : EReal) else ⊥) := by
    intro j
    unfold k0_pay19
    pointwise
    rw [row_word, ← hw1, ← hw2, causal_word qi (r.val % 256) k0 j.val hq (Nat.mod_lt _ (by norm_num)) hk (by omega), mask_bot]
    split_ifs <;> rfl
  have e2 : k0_pay20 (F := Ideal) w1 a w2 q k (ix2 r 0)
      = (max (a (ix2 r 0)) (Finset.univ.fold max ⊥ fun j => k0_pay19 (F := Ideal) w1 w2 q k (ix2 r j)) : EReal) := by
    unfold k0_pay20; pointwise; rw [ninf]
  have e3 : k0_pay23 (F := Ideal) w1 a b w2 q k (ix2 r 0)
      = (Ideal.exp2 (a (ix2 r 0) - k0_pay20 (F := Ideal) w1 a w2 q k (ix2 r 0)) * b (ix2 r 0)
        + ∑ j, Ideal.exp2 (k0_pay19 (F := Ideal) w1 w2 q k (ix2 r j) - k0_pay20 (F := Ideal) w1 a w2 q k (ix2 r 0)) : EReal) := by
    unfold k0_pay23 k0_pay21 k0_pay22; pointwise; rfl
  have e4 : k0_pay53 (F := Ideal) c (k0_pay21 w1 a w2 q k) (k0_pay22 w1 a w2 q k) y (ix2 r d)
      = (Ideal.exp2 (a (ix2 r 0) - k0_pay20 (F := Ideal) w1 a w2 q k (ix2 r 0)) * c (ix2 r d)
        + ∑ j, Ideal.exp2 (k0_pay19 (F := Ideal) w1 w2 q k (ix2 r j) - k0_pay20 (F := Ideal) w1 a w2 q k (ix2 r 0)) * y (ix2 j d) : EReal) := by
    unfold k0_pay53 k0_pay21 k0_pay22; pointwise; rfl
  rw [e3, e4, e2]
  exact ⟨_, h.step _ (fun j => (e1 j).trans (hx j)) hs _ hy⟩

end Cert.Proof.Value

end
-- ==== Proof.Value.Grid.lean ====
/- What the grid's integers are at a point: the tile count, the tiles' offsets, the switch's branch. -/
module

public import proofs.«01_k».proof.Proof.Ideal.Blocks

@[expose] public section

set_option maxRecDepth 16384

noncomputable section

namespace Cert.Proof.Value

open Cert.KernelIdeal Cert.KernelIdeal.Gen Cert.Proof.Ideal
open Idealize.ShloMosaic

/-- The unmasked tiles before query block `qi` are `qi / 4`. -/
theorem trips_eq : ∀ t : Fin grid0.N, (k0_t2_loop (grid0.coords t)).trips = (grid0.coords t 1).val / 4 := by decide +kernel

theorem off4_eq : ∀ (t : Fin grid0.N) (k : Fin (k0_t2_loop (grid0.coords t)).trips),
    k0_off4 (grid0.coords t) k = ![k.val * 1024, 0] := by decide +kernel

theorem off5_eq : ∀ (t : Fin grid0.N) (k : Fin (k0_t2_loop (grid0.coords t)).trips),
    k0_off5 (grid0.coords t) k = ![k.val * 1024, 0] := by decide +kernel

/-- The masked tile begins at key `qi / 4 * 1024`, -/
theorem V80_eq : ∀ t : Fin grid0.N, V80 (grid0.coords t) = BitVec.ofNat 32 ((grid0.coords t 1).val / 4 * 1024) := by decide +kernel

/-- and the switch's branch is `qi % 4`. -/
theorem cond2_eq : ∀ t : Fin grid0.N, (k0_cond2 (grid0.coords t) = 1#1) ↔ (grid0.coords t 1).val % 4 ≠ 0 := by decide +kernel
theorem cond3_eq : ∀ t : Fin grid0.N, k0_cond2 (grid0.coords t) = 1#1 →
    ((k0_cond3 (grid0.coords t) = 1#1) ↔ (grid0.coords t 1).val % 4 ≠ 1) := by decide +kernel
theorem cond4_eq : ∀ t : Fin grid0.N, k0_cond2 (grid0.coords t) = 1#1 → k0_cond3 (grid0.coords t) = 1#1 →
    ((k0_cond4 (grid0.coords t) = 1#1) ↔ (grid0.coords t 1).val % 4 ≠ 2) := by decide +kernel

theorem off8_eq : ∀ t : Fin grid0.N, k0_off8 (grid0.coords t) = ![(grid0.coords t 1).val / 4 * 1024, 0] := by decide +kernel
theorem off9_eq : ∀ t : Fin grid0.N, k0_off9 (grid0.coords t) = ![(grid0.coords t 1).val / 4 * 1024, 0] := by decide +kernel
theorem off10_eq : ∀ t : Fin grid0.N, k0_off10 (grid0.coords t) = ![(grid0.coords t 1).val / 4 * 1024, 0] := by decide +kernel
theorem off11_eq : ∀ t : Fin grid0.N, k0_off11 (grid0.coords t) = ![(grid0.coords t 1).val / 4 * 1024, 0] := by decide +kernel
theorem off12_eq : ∀ t : Fin grid0.N, k0_off12 (grid0.coords t) = ![(grid0.coords t 1).val / 4 * 1024, 0] := by decide +kernel
theorem off13_eq : ∀ t : Fin grid0.N, k0_off13 (grid0.coords t) = ![(grid0.coords t 1).val / 4 * 1024, 0] := by decide +kernel
theorem off14_eq : ∀ t : Fin grid0.N, k0_off14 (grid0.coords t) = ![(grid0.coords t 1).val / 4 * 1024, 0] := by decide +kernel
theorem off15_eq : ∀ t : Fin grid0.N, k0_off15 (grid0.coords t) = ![(grid0.coords t 1).val / 4 * 1024, 0] := by decide +kernel

end Cert.Proof.Value

end
-- ==== Proof.Value.Point.lean ====
/- The sum and the weighted sum a grid point ends with, at a row and a column, over all the keys up to its last query. -/
module

public import proofs.«01_k».proof.Proof.Value.Tiles
public import proofs.«01_k».proof.Proof.Value.Grid

@[expose] public section

set_option maxRecDepth 16384

noncomputable section

namespace Cert.Proof.Value

open Cert.KernelIdeal Cert.KernelIdeal.Gen Cert.Proof.Ideal
open Idealize.ShloMosaic

/-- A tile of key rows, read at an index. -/
theorem ld_kb {w : ℕ} (kb : S8192x256.Idx → Elt Ideal .bf16) (off : Fin 2 → ℕ) (n : ℕ)
    (inb : ∀ a, off a + (![w, 256] : Fin 2 → ℕ) a ≤ S8192x256.size a) (j : Fin w) (x : Fin 256)
    (h : n + j.val < 8192) (ho : off = ![n, 0]) :
    (View.ld kb (Rect.unit (s := S8192x256) off (![w, 256] : Fin 2 → ℕ) inb) (ix2 j x) : Elt Ideal .bf16)
      = kb (ix2 (n0 := 8192) (n1 := 256) ⟨n + j.val, h⟩ x) := by
  subst ho
  exact View.ld_unit_apply_of kb _ _ _ _ _ fun a => by
    match a with
    | 0 => rfl
    | 1 => exact (Nat.zero_add _).symm

/-- A tile of value rows, read at an index. -/
theorem ld_vb {w : ℕ} (vb : S8192x128.Idx → Elt Ideal .bf16) (off : Fin 2 → ℕ) (n : ℕ)
    (inb : ∀ a, off a + (![w, 128] : Fin 2 → ℕ) a ≤ S8192x128.size a) (j : Fin w) (d : Fin 128)
    (h : n + j.val < 8192) (ho : off = ![n, 0]) :
    (View.ld vb (Rect.unit (s := S8192x128) off (![w, 128] : Fin 2 → ℕ) inb) (ix2 j d) : Elt Ideal .bf16)
      = vb (ix2 (n0 := 8192) (n1 := 128) ⟨n + j.val, h⟩ d) := by
  subst ho
  exact View.ld_unit_apply_of vb _ _ _ _ _ fun a => by
    match a with
    | 0 => rfl
    | 1 => exact (Nat.zero_add _).symm

section
variable {s : ℕ → EReal} {v : ℕ → ℝ} (t : Fin grid0.N) (qi : ℕ) (hqi : (grid0.coords t 1).val = qi) (hq : qi < 32)
  (qa : S1024x256.Idx → EReal) (kb : S8192x256.Idx → EReal) (vb : S8192x128.Idx → EReal) (r : Fin 1024) (d : Fin 128)
  (hs : ∀ j, s j ≠ ⊤)
  (hsc : ∀ (j : ℕ) (h : j < 8192), (if j ≤ qi * 256 + r.val % 256 then
    (∑ x : Fin 256, qa (ix2 r x) * kb (ix2 (n0 := 8192) (n1 := 256) ⟨j, h⟩ x) : EReal) else ⊥) = s j)
  (hv : ∀ (j : ℕ) (h : j < 8192), vb (ix2 (n0 := 8192) (n1 := 128) ⟨j, h⟩ d) = (v j : EReal))

include hqi hq hs hsc hv

/-- The carry before unmasked tile `k` is over the first `1024 k` keys. -/
theorem carry_st (k : ℕ) (hk : k ≤ qi / 4) :
    Soft.St s v (k * 1024) ((carryC (F := Ideal) (grid0.coords t) qa kb vb k).1 (ix2 r 0))
      ((carryC (F := Ideal) (grid0.coords t) qa kb vb k).2.1 (ix2 r 0))
      ((carryC (F := Ideal) (grid0.coords t) qa kb vb k).2.2 (ix2 r d)) := by
  subst hqi
  induction k with
  | zero =>
    obtain ⟨M, hM⟩ := minit
    have e1 : (carryC (F := Ideal) (grid0.coords t) qa kb vb 0).1 (ix2 r 0) = (M : EReal) := hM
    have e2 : (carryC (F := Ideal) (grid0.coords t) qa kb vb 0).2.1 (ix2 r 0) = (0 : EReal) := Ideal.ofBits_zero .f32
    have e3 : (carryC (F := Ideal) (grid0.coords t) qa kb vb 0).2.2 (ix2 r d) = (0 : EReal) := Ideal.ofBits_zero .f32
    rw [e1, e2, e3, Nat.zero_mul]
    exact Soft.St.zero s v M
  | succ k ih =>
    have hk' : k < (k0_t2_loop (grid0.coords t)).trips := by rw [trips_eq]; omega
    have h := ih (by omega)
    rw [carryC_succ (F := Ideal) (grid0.coords t) qa kb vb ⟨k, hk'⟩, Nat.succ_mul]
    generalize carryC (F := Ideal) (grid0.coords t) qa kb vb k = a at h
    refine full_step hs a.1 a.2.1 a.2.2 qa _ _ r d h (fun j => ?_) fun j => ?_
    · have hj : k * 1024 + j.val < 8192 := by omega
      rw [← hsc _ hj, if_pos (by omega)]
      refine Finset.sum_congr rfl fun x _ => congrArg (fun e : EReal => qa (ix2 r x) * e) ?_
      exact ld_kb kb _ _ _ j x hj (off4_eq t ⟨k, hk'⟩)
    · have hj : k * 1024 + j.val < 8192 := by omega
      exact (ld_vb vb _ _ _ j d hj (off5_eq t ⟨k, hk'⟩)).trans (hv _ hj)

/-- The point ends with the sums over the keys up to its last query. -/
theorem end_st : ∃ m : EReal, Soft.St s v ((qi + 1) * 256) m
    ((endC (F := Ideal) (grid0.coords t) qa kb vb).1 (ix2 r 0)) ((endC (F := Ideal) (grid0.coords t) qa kb vb).2 (ix2 r d)) := by
  have ha := carry_st t qi hqi hq qa kb vb r d hs hsc hv (qi / 4) le_rfl
  unfold endC
  rw [trips_eq, hqi]
  generalize carryC (F := Ideal) (grid0.coords t) qa kb vb (qi / 4) = a at ha
  have c2 := cond2_eq t
  have c3 := cond3_eq t
  have c4 := cond4_eq t
  rw [hqi] at c2 c3 c4
  have hV := V80_eq t
  rw [hqi] at hV
  have hA : A1 (grid0.coords t) = BitVec.ofNat 32 qi := by rw [← hqi]
  have o8 := off8_eq t
  have o9 := off9_eq t
  have o10 := off10_eq t
  have o11 := off11_eq t
  have o12 := off12_eq t
  have o13 := off13_eq t
  have o14 := off14_eq t
  have o15 := off15_eq t
  rw [hqi] at o8 o9 o10 o11 o12 o13 o14 o15
  unfold lastC
  rw [hV, hA]
  by_cases h2 : k0_cond2 (grid0.coords t) = 1#1
  · rw [dif_pos h2]
    by_cases h3 : k0_cond3 (grid0.coords t) = 1#1
    · rw [dif_pos h3]
      by_cases h4 : k0_cond4 (grid0.coords t) = 1#1
      · rw [dif_pos h4]
        have hn : (qi + 1) * 256 = qi / 4 * 1024 + 1024 := by
          have e2 := c2.mp h2; have e3 := (c3 h2).mp h3; have e4 := (c4 h2 h3).mp h4; omega
        exact hn ▸ last_step1024 qi (qi / 4 * 1024) hq (by omega) hs a.1 a.2.1 a.2.2 qa _ _ r d ha
          (fun j => by
            have hj : qi / 4 * 1024 + j.val < 8192 := by omega
            rw [← hsc _ hj]
            refine if_congr Iff.rfl (Finset.sum_congr rfl fun x _ => congrArg (fun e : EReal => qa (ix2 r x) * e) ?_) rfl
            exact ld_kb kb _ _ _ j x hj o8)
          (fun j => (ld_vb vb _ _ _ j d (by omega) o9).trans (hv _ _))
      · rw [dif_neg h4]
        have hn : (qi + 1) * 256 = qi / 4 * 1024 + 768 := by
          have e4 : qi % 4 = 2 := by_contra fun h => h4 ((c4 h2 h3).mpr h)
          omega
        exact hn ▸ last_step768 qi (qi / 4 * 1024) hq (by omega) hs a.1 a.2.1 a.2.2 qa _ _ r d ha
          (fun j => by
            have hj : qi / 4 * 1024 + j.val < 8192 := by omega
            rw [← hsc _ hj]
            refine if_congr Iff.rfl (Finset.sum_congr rfl fun x _ => congrArg (fun e : EReal => qa (ix2 r x) * e) ?_) rfl
            exact ld_kb kb _ _ _ j x hj o10)
          (fun j => (ld_vb vb _ _ _ j d (by omega) o11).trans (hv _ _))
    · rw [dif_neg h3]
      have hn : (qi + 1) * 256 = qi / 4 * 1024 + 512 := by
        have e3 : qi % 4 = 1 := by_contra fun h => h3 ((c3 h2).mpr h)
        omega
      exact hn ▸ last_step512 qi (qi / 4 * 1024) hq (by omega) hs a.1 a.2.1 a.2.2 qa _ _ r d ha
        (fun j => by
          have hj : qi / 4 * 1024 + j.val < 8192 := by omega
          rw [← hsc _ hj]
          refine if_congr Iff.rfl (Finset.sum_congr rfl fun x _ => congrArg (fun e : EReal => qa (ix2 r x) * e) ?_) rfl
          exact ld_kb kb _ _ _ j x hj o12)
        (fun j => (ld_vb vb _ _ _ j d (by omega) o13).trans (hv _ _))
  · rw [dif_neg h2]
    have hn : (qi + 1) * 256 = qi / 4 * 1024 + 256 := by
      have e2 : qi % 4 = 0 := by_contra fun h => h2 (c2.mpr h)
      omega
    exact hn ▸ last_step256 qi (qi / 4 * 1024) hq (by omega) hs a.1 a.2.1 a.2.2 qa _ _ r d ha
      (fun j => by
        have hj : qi / 4 * 1024 + j.val < 8192 := by omega
        rw [← hsc _ hj]
        refine if_congr Iff.rfl (Finset.sum_congr rfl fun x _ => congrArg (fun e : EReal => qa (ix2 r x) * e) ?_) rfl
        exact ld_kb kb _ _ _ j x hj o14)
      (fun j => (ld_vb vb _ _ _ j d (by omega) o15).trans (hv _ _))

end

end Cert.Proof.Value

end
-- ==== Proof.Value.Rows.lean ====
/- The rows the point multiplies, at an index: the query scratch (scaled queries beside the bias), the key scratch
   (keys beside the one-hot rows of their blocks). -/
module

public import proofs.«01_k».proof.Proof.Ideal.Blocks
public import proofs.«01_k».proof.Proof.Value.Words
public import Idealize.ShloMosaic.PureOps.Ideal
public import Idealize.ShloMosaic.Lib.Pointwise
public import Idealize.ShloMosaic.Lib.Pipeline.ValueKit

@[expose] public section

set_option maxRecDepth 16384

noncomputable section

namespace Cert.Proof.Value

open Cert.KernelIdeal Cert.KernelIdeal.Gen Cert.Proof.Ideal
open Idealize.ShloMosaic

/-- The scale of the queries. -/
abbrev scale : EReal := (Named.named κ "scale" 0x3E0293EE#32 : Ideal .f32)

/-- A query row: the head's query in the first 128 columns, scaled, the row's bias in the last. -/
def qaAt (Q : S256x512.Idx → EReal) (B : S1x256x128.Idx → EReal) (r c : ℕ) (hr : r < 1024) (hc : c < 256) : EReal :=
  if h : c < 128 then
    Q (ix2 (n0 := 256) (n1 := 512) ⟨r % 256, Nat.mod_lt _ (by norm_num)⟩ ⟨r / 256 * 128 + c, by omega⟩) * scale
  else B (ix3 (n0 := 1) (n1 := 256) (n2 := 128) 0 ⟨r % 256, Nat.mod_lt _ (by norm_num)⟩ ⟨c - 128, by omega⟩)

theorem qa_apply (Q : S256x512.Idx → Elt Ideal .f32) (B : S1x256x128.Idx → Elt Ideal .bf16) (y : S1024x256.Idx) :
    QA (F := Ideal) Q B y = qaAt Q B (y 0).val (y 1).val (y 0).isLt (y 1).isLt := by
  unfold QA qaPieces
  canon_tiles x h
  all_goals (rw [eq_ix2 x]; unfold_payloads; pointwise; unfold qaAt)
  all_goals first | rw [dif_pos (by omega)] | rw [dif_neg (by omega)]
  all_goals first
    | exact congrArg₂ (fun a b => B (ix3 (n0 := 1) (n1 := 256) (n2 := 128) 0 a b)) (Fin.ext (show (x 0).val = (y 0).val % 256 by omega))
        (Fin.ext (show (x 1).val = (y 1).val - 128 by omega))
    | exact congrArg₂ (fun a b => Q (ix2 (n0 := 256) (n1 := 512) a b) * scale) (Fin.ext (show (x 0).val = (y 0).val % 256 by omega))
        (Fin.ext (by show _ = (y 0).val / 256 * 128 + (y 1).val; dsimp only; omega))

end Cert.Proof.Value

end
-- ==== Proof.Value.Spec.lean ====
/- What both programs compute: the selected attention over the reals. A query at position `t` weighs the keys of its
   group's chosen blocks up to its own position; its result is the weighted mean of their values. -/
module

public import proofs.«01_k».proof.Proof.Value.Soft

@[expose] public section

noncomputable section

open scoped Classical

namespace Cert.Proof.Spec

/-- The product of a query and a key. -/
def dot (z : ℕ → ℕ → ℝ) (t g r k : ℕ) : ℝ := ∑ j : Fin 128, z t (g * 512 + r * 128 + j.val) * z k (13312 + g * 128 + j.val)

/-- Whether the block of a key is among the chosen blocks. -/
def Sel (b : Fin 16 → Fin 128) (k : ℕ) : Prop := ∃ n, (b n).val = k / 64

/-- The weight of a key. -/
def weight (z : ℕ → ℕ → ℝ) (b : Fin 16 → Fin 128) (t g r k : ℕ) : ℝ :=
  if Sel b k ∧ k ≤ t then Real.exp (dot z t g r k / Real.sqrt 128) else 0

/-- The weighted mean of the values. -/
def value (z : ℕ → ℕ → ℝ) (b : Fin 16 → Fin 128) (t g r d : ℕ) : ℝ :=
  (∑ k ∈ Finset.range 8192, weight z b t g r k * z k (13824 + g * 128 + d)) / ∑ k ∈ Finset.range 8192, weight z b t g r k

theorem weight_nonneg (z : ℕ → ℕ → ℝ) (b : Fin 16 → Fin 128) (t g r k : ℕ) : 0 ≤ weight z b t g r k := by
  unfold weight
  split
  · exact (Real.exp_pos _).le
  · exact le_rfl

end Cert.Proof.Spec

end
-- ==== Proof.Value.Block.lean ====
/- A grid point's output block: from real queries, keys and values, the bias of the chosen blocks and the one-hot rows of the
   blocks, each element is the weighted mean. -/
module

public import proofs.«01_k».proof.Proof.Value.Point
public import proofs.«01_k».proof.Proof.Value.Rows
public import proofs.«01_k».proof.Proof.Value.Spec

@[expose] public section

set_option maxRecDepth 16384

noncomputable section

open scoped Classical

namespace Cert.Proof.Value

open Cert.KernelIdeal Cert.KernelIdeal.Gen Cert.Proof.Ideal
open Idealize.ShloMosaic

/-- The scale, as a real number. -/
def scl : ℝ := (Real.sqrt 128)⁻¹ * (Real.log 2)⁻¹

theorem scale_eq : scale = (scl : EReal) := rfl

/-- The power of two of a scaled score is the exponential of the score. -/
theorem rpow_scl (x : ℝ) : Real.rpow 2 (x * scl) = Real.exp (x / Real.sqrt 128) := by
  show (2 : ℝ) ^ (x * scl) = _
  have hl : Real.log 2 ≠ 0 := (Real.log_pos (by norm_num)).ne'
  rw [Real.rpow_def_of_pos (by norm_num)]
  congr 1
  unfold scl
  field_simp

theorem KB_lo (K : S8192x128.Idx → Elt Ideal .f32) (H : S8192x128.Idx → Elt Ideal .bf16) (k : Fin 8192) (x : Fin 256) (h : x.val < 128) :
    (KB (F := Ideal) K H (ix2 k x) : EReal) = K (ix2 (n0 := 8192) (n1 := 128) k ⟨x.val, h⟩) := by
  unfold KB
  rw [dif_pos (show ((ix2 k x : S8192x256.Idx) 1).val < 128 from h)]
  rfl

theorem KB_hi (K : S8192x128.Idx → Elt Ideal .f32) (H : S8192x128.Idx → Elt Ideal .bf16) (k : Fin 8192) (x : Fin 256) (h : ¬ x.val < 128) :
    (KB (F := Ideal) K H (ix2 k x) : EReal) = H (ix2 (n0 := 8192) (n1 := 128) k ⟨x.val - 128, by omega⟩) := by
  unfold KB
  rw [dif_neg (show ¬ ((ix2 k x : S8192x256.Idx) 1).val < 128 from h)]
  rfl

/-- A query of a block of queries is a query. -/
theorem row_lt {qi : ℕ} (hq : qi < 32) (a : Fin 256) : qi * 256 + a.val < 8192 := by omega

section
variable (z : ℕ → ℕ → ℝ) (b : Fin 8192 → Fin 4 → Fin 16 → Fin 128) (g : Fin 4) (qi : ℕ) (hq : qi < 32)
  (Q : S256x512.Idx → Elt Ideal .f32) (K W : S8192x128.Idx → Elt Ideal .f32) (B : S1x256x128.Idx → Elt Ideal .bf16)
  (H : S8192x128.Idx → Elt Ideal .bf16)
  (hQ : ∀ (a : Fin 256) (c : Fin 512), (Q (ix2 a c) : EReal) = (z (qi * 256 + a.val) (g.val * 512 + c.val) : EReal))
  (hK : ∀ (k : Fin 8192) (j : Fin 128), (K (ix2 k j) : EReal) = (z k.val (13312 + g.val * 128 + j.val) : EReal))
  (hW : ∀ (k : Fin 8192) (j : Fin 128), (W (ix2 k j) : EReal) = (z k.val (13824 + g.val * 128 + j.val) : EReal))
  (hB : ∀ (a : Fin 256) (n : Fin 128), (B (ix3 0 a n) : EReal)
    = if ∃ i, b ⟨qi * 256 + a.val, row_lt hq a⟩ g i = n then (0 : EReal) else ⊥)
  (hH : ∀ (k : Fin 8192) (n : Fin 128), (H (ix2 k n) : EReal) = if k.val / 64 = n.val then (1 : EReal) else 0)
  (a : Fin 256) (r : Fin 4)

include hQ hK hB hH in
/-- A query row's product with a key row. -/
theorem row_dot (R : Fin 1024) (hR : R.val = r.val * 256 + a.val) (k : Fin 8192) :
    (∑ x : Fin 256, (QA (F := Ideal) Q B (ix2 R x) : EReal) * KB (F := Ideal) K H (ix2 k x) : EReal)
      = if Spec.Sel (b ⟨qi * 256 + a.val, row_lt hq a⟩ g) k.val
        then ((Spec.dot z (qi * 256 + a.val) g r k.val * scl : ℝ) : EReal) else ⊥ := by
  have hsum : (∑ x : Fin 256, (QA (F := Ideal) Q B (ix2 R x) : EReal) * KB (F := Ideal) K H (ix2 k x) : EReal)
      = (∑ j : Fin 128, (QA (F := Ideal) Q B (ix2 R ⟨j.val, by omega⟩) : EReal) * KB (F := Ideal) K H (ix2 k ⟨j.val, by omega⟩))
        + ∑ j : Fin 128, (QA (F := Ideal) Q B (ix2 R ⟨128 + j.val, by omega⟩) : EReal) * KB (F := Ideal) K H (ix2 k ⟨128 + j.val, by omega⟩) :=
    Fin.sum_univ_add (a := 128) (b := 128) fun x : Fin (128 + 128) => (QA (F := Ideal) Q B (ix2 R x) : EReal) * KB (F := Ideal) K H (ix2 k x)
  have hr : R.val % 256 = a.val := by omega
  have hr' : R.val / 256 = r.val := by omega
  have h1 : (∑ j : Fin 128, (QA (F := Ideal) Q B (ix2 R ⟨j.val, by omega⟩) : EReal) * KB (F := Ideal) K H (ix2 k ⟨j.val, by omega⟩))
      = ((Spec.dot z (qi * 256 + a.val) g r k.val * scl : ℝ) : EReal) := by
    rw [Spec.dot, Finset.sum_mul, Soft.coe_sum]
    refine Finset.sum_congr rfl fun j _ => ?_
    have e1 : (QA (F := Ideal) Q B (ix2 R ⟨j.val, by omega⟩) : EReal)
        = ((z (qi * 256 + a.val) (g.val * 512 + r.val * 128 + j.val) * scl : ℝ) : EReal) := by
      refine (qa_apply Q B _).trans ?_
      unfold qaAt
      refine (dif_pos (show ((ix2 R ⟨j.val, _⟩ : S1024x256.Idx) 1).val < 128 from j.isLt)).trans ?_
      rw [scale_eq, EReal.coe_mul, hQ]
      refine congrArg₂ (fun u v : ℕ => (z u v : EReal) * (scl : EReal)) ?_ ?_
      · show qi * 256 + R.val % 256 = _
        rw [hr]
      · show g.val * 512 + (R.val / 256 * 128 + j.val) = _
        rw [hr']
        omega
    rw [e1, KB_lo K H k ⟨j.val, by omega⟩ j.isLt, hK, ← EReal.coe_mul]
    congr 1
    ring
  have h2 : (∑ j : Fin 128, (QA (F := Ideal) Q B (ix2 R ⟨128 + j.val, by omega⟩) : EReal) * KB (F := Ideal) K H (ix2 k ⟨128 + j.val, by omega⟩))
      = if Spec.Sel (b ⟨qi * 256 + a.val, row_lt hq a⟩ g) k.val then (0 : EReal) else ⊥ := by
    have e : ∀ j : Fin 128, (QA (F := Ideal) Q B (ix2 R ⟨128 + j.val, by omega⟩) : EReal) * KB (F := Ideal) K H (ix2 k ⟨128 + j.val, by omega⟩)
        = (if ∃ i, b ⟨qi * 256 + a.val, row_lt hq a⟩ g i = j then (0 : EReal) else ⊥) * if k.val / 64 = j.val then (1 : EReal) else 0 := by
      intro j
      have e1 : (QA (F := Ideal) Q B (ix2 R ⟨128 + j.val, by omega⟩) : EReal) = B (ix3 0 a j) := by
        refine (qa_apply Q B _).trans ?_
        unfold qaAt
        refine (dif_neg (show ¬ ((ix2 R ⟨128 + j.val, _⟩ : S1024x256.Idx) 1).val < 128 from by show ¬ 128 + j.val < 128; omega)).trans ?_
        refine congrArg₂ (fun u v => (B (ix3 (n0 := 1) (n1 := 256) (n2 := 128) 0 u v) : EReal)) (Fin.ext hr) (Fin.ext ?_)
        show 128 + j.val - 128 = j.val
        omega
      rw [e1, hB, KB_hi K H k ⟨128 + j.val, by omega⟩ (by show ¬ 128 + j.val < 128; omega)]
      refine congrArg (fun e : EReal => _ * e) ((hH k _).trans (if_congr ?_ rfl rfl))
      show k.val / 64 = 128 + j.val - 128 ↔ _
      rw [Nat.add_sub_cancel_left]
    rw [Finset.sum_congr rfl fun j _ => e j, Finset.sum_eq_single (⟨k.val / 64, by omega⟩ : Fin 128)]
    · rw [if_pos rfl, mul_one]
      refine if_congr ?_ rfl rfl
      exact exists_congr fun i => ⟨fun h => congrArg Fin.val h, fun h => Fin.ext h⟩
    · intro j _ hj
      rw [if_neg (show ¬ k.val / 64 = j.val from fun h => hj (Fin.ext h.symm)), mul_zero]
    · exact fun h => absurd (Finset.mem_univ _) h
  rw [hsum, h1, h2]
  by_cases h : Spec.Sel (b ⟨qi * 256 + a.val, row_lt hq a⟩ g) k.val
  · rw [if_pos h, if_pos h, add_zero]
  · rw [if_neg h, if_neg h, EReal.add_bot]

/-- The score of a key. -/
def score (j : ℕ) : EReal :=
  if Spec.Sel (b ⟨qi * 256 + a.val, row_lt hq a⟩ g) j ∧ j ≤ qi * 256 + a.val
  then ((Spec.dot z (qi * 256 + a.val) g r j * scl : ℝ) : EReal) else ⊥

theorem wt_score (j : ℕ) :
    Soft.wt (score z b g qi hq a r j) = Spec.weight z (b ⟨qi * 256 + a.val, row_lt hq a⟩ g) (qi * 256 + a.val) g r j := by
  unfold score Spec.weight
  by_cases h : Spec.Sel (b ⟨qi * 256 + a.val, row_lt hq a⟩ g) j ∧ j ≤ qi * 256 + a.val
  · rw [if_pos h, if_pos h, Soft.wt_coe, rpow_scl]
  · rw [if_neg h, if_neg h, Soft.wt_bot]

include hQ hK hW hB hH in
/-- The quotient a point stores for a row and a channel. -/
theorem quot_at (t : Fin grid0.N) (hqi : (grid0.coords t 1).val = qi) (h0 : ∃ i, (b ⟨qi * 256 + a.val, row_lt hq a⟩ g i).val = 0)
    (d : Fin 128) (R : Fin 1024) (hR : R.val = r.val * 256 + a.val) :
    Ideal.div ((endC (F := Ideal) (grid0.coords t) (QA Q B) (KB K H) (VB W)).2 (ix2 R d))
      ((endC (F := Ideal) (grid0.coords t) (QA Q B) (KB K H) (VB W)).1 (ix2 R 0))
      = (Spec.value z (b ⟨qi * 256 + a.val, row_lt hq a⟩ g) (qi * 256 + a.val) g r d : EReal) := by
  have hr : R.val % 256 = a.val := by omega
  obtain ⟨m, hm⟩ := end_st (s := score z b g qi hq a r) (v := fun k => z k (13824 + g.val * 128 + d.val)) t qi hqi hq
    (QA (F := Ideal) Q B) (KB (F := Ideal) K H) (VB (F := Ideal) W) R d
    (fun j => by unfold score; split; exact EReal.coe_ne_top _; exact bot_ne_top)
    (fun j h => by
      rw [hr]
      unfold score
      rw [row_dot z b g qi hq Q K B H hQ hK hB hH a r R hR ⟨j, h⟩]
      by_cases h1 : j ≤ qi * 256 + a.val
      · rw [if_pos h1]
        exact if_congr ⟨fun h => ⟨h, h1⟩, fun h => h.1⟩ rfl rfl
      · rw [if_neg h1, if_neg fun h => h1 h.2])
    (fun j h => hW ⟨j, h⟩ d)
  have e : ∀ f : ℕ → ℝ, ∑ j ∈ Finset.range ((qi + 1) * 256), Soft.wt (score z b g qi hq a r j) * f j
      = ∑ k ∈ Finset.range 8192, Spec.weight z (b ⟨qi * 256 + a.val, row_lt hq a⟩ g) (qi * 256 + a.val) g r k * f k := by
    intro f
    simp only [wt_score]
    refine Finset.sum_subset (Finset.range_subset_range.mpr (by omega)) fun k _ hk => ?_
    have : (qi + 1) * 256 ≤ k := not_lt.mp fun h => hk (Finset.mem_range.mpr h)
    unfold Spec.weight
    rw [if_neg fun h => by omega, zero_mul]
  have e1 := e fun _ => 1
  simp only [mul_one] at e1
  have hpos : 0 < ∑ j ∈ Finset.range ((qi + 1) * 256), Soft.wt (score z b g qi hq a r j) := by
    refine Finset.sum_pos' (fun j _ => Soft.wt_nonneg _) ⟨0, Finset.mem_range.mpr (by omega), ?_⟩
    rw [wt_score]
    unfold Spec.weight
    rw [if_pos ⟨h0, Nat.zero_le _⟩]
    exact Real.exp_pos _
  rw [hm.quot hpos, e fun k => z k (13824 + g.val * 128 + d.val), e1]
  rfl

include hQ hK hW hB hH in
/-- The point's output block at an index. -/
theorem out_at (t : Fin grid0.N) (hqi : (grid0.coords t 1).val = qi) (hz : ∃ i, (b ⟨qi * 256 + a.val, row_lt hq a⟩ g i).val = 0)
    (d : Fin 128) (y : S256x512.Idx) (hy0 : (y 0).val = a.val) (hy1 : (y 1).val = r.val * 128 + d.val) :
    (OUT (F := Ideal) (grid0.coords t) Q K W B H y : EReal)
      = (Spec.value z (b ⟨qi * 256 + a.val, row_lt hq a⟩ g) (qi * 256 + a.val) g r d : EReal) := by
  have hd := d.isLt
  have hr := r.isLt
  unfold OUT outPieces
  canon_tiles x h
  all_goals (rw [eq_ix2 x]; unfold_payloads; pointwise)
  all_goals refine Eq.trans (quot_at z b g qi hq Q K W B H hQ hK hW hB hH a r t hqi hz (x 1) _ ?_) ?_
  all_goals first
    | exact congrArg (fun e : ℕ => ((Spec.value z (b ⟨qi * 256 + a.val, row_lt hq a⟩ g) (qi * 256 + a.val) g r e : ℝ) : EReal)) (by omega)
    | (simp only; omega)

end

end Cert.Proof.Value

end
-- ==== Proof.Value.Array.lean ====
/- The kernel's result array: the blocks its windows hold, read off the arguments, and the array the points' blocks make. -/
module

public import proofs.«01_k».proof.Proof.Value.Block
public import proofs.«01_k».proof.Proof.Ideal.Body
public import Idealize.ShloMosaic.Lib.StableHlo.Run

@[expose] public section

set_option maxRecDepth 16384

noncomputable section

open scoped Classical

namespace Cert.Proof.Value

open Cert.KernelIdeal Cert.KernelIdeal.Gen Cert.Proof.Ideal
open Idealize.ShloMosaic Idealize.ShloMosaic.TcCoe

/-- The one-hot rows, as the operations before the call make them. -/
def oh : FVec Ideal S8192x128 .bf16 :=
  uitofp .bf16 (cmpi .eq (broadcastInDim S8192x128 ![0, 1] bcast_S8192x1_S8192x128_0_1
    (select (andi (cmpi .ne (signi (broadcastInDim S8192x1 ![0] bcast_S8192_S8192x1_0 (iotaInDim S8192 32 0)))
          (broadcastInDim S8192x1 ![] bcast_S_S8192x1 (signi (id (constantI S_ 32 64#32)))))
        (cmpi .ne (Host.remsi (broadcastInDim S8192x1 ![0] bcast_S8192_S8192x1_0 (iotaInDim S8192 32 0))
            (broadcastInDim S8192x1 ![] bcast_S_S8192x1 (id (constantI S_ 32 64#32))))
          (broadcastInDim S8192x1 ![] bcast_S_S8192x1 (constantI S_ 32 0#32))))
      (subi (Host.divsi (broadcastInDim S8192x1 ![0] bcast_S8192_S8192x1_0 (iotaInDim S8192 32 0))
          (broadcastInDim S8192x1 ![] bcast_S_S8192x1 (id (constantI S_ 32 64#32))))
        (broadcastInDim S8192x1 ![] bcast_S_S8192x1 (constantI S_ 32 1#32)))
      (Host.divsi (broadcastInDim S8192x1 ![0] bcast_S8192_S8192x1_0 (iotaInDim S8192 32 0))
        (broadcastInDim S8192x1 ![] bcast_S_S8192x1 (id (constantI S_ 32 64#32))))))
    (broadcastInDim S8192x128 ![0, 1] bcast_S1x128_S8192x128_0_1 (broadcastInDim S1x128 ![1] bcast_S128_S1x128_1 (iotaInDim S128 32 0))))

variable (m : (ℓ : Loc nD τ sig) → Buf (Elt Ideal) ℓ)

theorem V_oh (c : Dev nD) : V (F := Ideal) m c main_v8 = oh := by
  unfold V
  simp only [hostOps0, hostOps0_1, hostOps0_2, List.flatten_cons, List.flatten_nil, List.append_nil, List.cons_append,
    List.nil_append, StableHlo.TRef.ternary, StableHlo.TRef.unary, StableHlo.TRef.binary, StableHlo.TRef.nullary,
    StableHlo.TRef.toBuf, StableHlo.TRef.ofBuf, cast_eq]
  after_results_simp
  rfl

/-- The floor division of a key's position by a block's length, as the words make it. -/
theorem block_word : ∀ k : Fin 8192,
    Scalar.select
        (IntOp.andi
          (IntOp.cmpi CmpIPredicate.ne
            (if BitVec.ofNat 32 k.val = 0 then (0 : BitVec 32) else if (BitVec.ofNat 32 k.val).msb = true then -1 else 1)
            (if (64#32 : BitVec 32) = 0 then (0 : BitVec 32) else if (64#32 : BitVec 32).msb = true then -1 else 1))
          (IntOp.cmpi CmpIPredicate.ne (IntOp.remsi ArithUnit.host (BitVec.ofNat 32 k.val) 64#32) 0#32))
        (IntOp.subi (IntOp.divsi ArithUnit.host (BitVec.ofNat 32 k.val) 64#32) 1#32)
        (IntOp.divsi ArithUnit.host (BitVec.ofNat 32 k.val) 64#32)
      = BitVec.ofNat 32 (k.val / 64) := by decide +kernel

theorem eq_word : ∀ p n : Fin 128,
    IntOp.cmpi CmpIPredicate.eq (BitVec.ofNat 32 p.val) (BitVec.ofNat 32 n.val) = if p.val = n.val then 1#1 else 0#1 := by decide +kernel

theorem oh_apply (k : Fin 8192) (n : Fin 128) : (oh (ix2 k n) : EReal) = if k.val / 64 = n.val then (1 : EReal) else 0 := by
  unfold oh
  pointwise
  refine (congrArg (fun w => FloatOps.uitofp (F := Ideal) FTy.bf16 (IntOp.cmpi CmpIPredicate.eq w (BitVec.ofNat 32 n.val)))
    (block_word k)).trans ?_
  rw [eq_word ⟨k.val / 64, by omega⟩ n]
  split <;> simp [FloatOps.uitofp]

theorem index0 : ∀ t : Fin grid0.N, (cfg0.win 0).index t = ![(grid0.coords t 1).val, (grid0.coords t 0).val] := by decide +kernel
theorem index1 : ∀ t : Fin grid0.N, (cfg0.win 1).index t = ![0, 104 + (grid0.coords t 0).val] := by decide +kernel
theorem index2 : ∀ t : Fin grid0.N, (cfg0.win 2).index t = ![0, 108 + (grid0.coords t 0).val] := by decide +kernel
theorem index3 : ∀ t : Fin grid0.N, (cfg0.win 3).index t = ![(grid0.coords t 0).val, (grid0.coords t 1).val, 0] := by decide +kernel
theorem index4 : ∀ t : Fin grid0.N, (cfg0.win 4).index t = ![0, 0] := by decide +kernel
theorem index5 : ∀ t : Fin grid0.N, (cfg0.win 5).index t = ![(grid0.coords t 1).val, (grid0.coords t 0).val] := by decide +kernel

variable (c : Dev nD) (t : Fin grid0.N)

theorem lt_g : (grid0.coords t 0).val < 4 := (grid0.coords t 0).isLt
theorem lt_q : (grid0.coords t 1).val < 32 := (grid0.coords t 1).isLt

theorem blk0 (a : Fin 256) (j : Fin 512) :
    (iblk (F := Ideal) m c 0 t : S256x512.Idx → EReal) (ix2 a j)
      = m ((c : Thread nD τ).loc main_arg0) (ix2 ⟨(grid0.coords t 1).val * 256 + a.val, by have := lt_q t; omega⟩
          ⟨(grid0.coords t 0).val * 512 + j.val, by have := lt_g t; omega⟩) := by
  have := lt_q t
  have := lt_g t
  blk_ext [iblk, V_main_arg0 m c, index0 t]

theorem blk1 (k : Fin 8192) (j : Fin 128) :
    (iblk (F := Ideal) m c 1 t : S8192x128.Idx → EReal) (ix2 k j)
      = m ((c : Thread nD τ).loc main_arg0) (ix2 k ⟨13312 + (grid0.coords t 0).val * 128 + j.val, by have := lt_g t; omega⟩) := by
  have := lt_g t
  blk_ext [iblk, V_main_arg0 m c, index1 t]

theorem blk2 (k : Fin 8192) (j : Fin 128) :
    (iblk (F := Ideal) m c 2 t : S8192x128.Idx → EReal) (ix2 k j)
      = m ((c : Thread nD τ).loc main_arg0) (ix2 k ⟨13824 + (grid0.coords t 0).val * 128 + j.val, by have := lt_g t; omega⟩) := by
  have := lt_g t
  blk_ext [iblk, V_main_arg0 m c, index2 t]

theorem blk3 (a : Fin 256) (n : Fin 128) :
    (iblk (F := Ideal) m c 3 t : S1x256x128.Idx → EReal) (ix3 0 a n)
      = m ((c : Thread nD τ).loc main_arg2) (ix3 ⟨(grid0.coords t 0).val, lt_g t⟩
          ⟨(grid0.coords t 1).val * 256 + a.val, by have := lt_q t; omega⟩ n) := by
  have := lt_q t
  have := lt_g t
  blk_ext [iblk, V_main_arg2 m c, index3 t]

theorem blk4 (k : Fin 8192) (n : Fin 128) :
    (iblk (F := Ideal) m c 4 t : S8192x128.Idx → EReal) (ix2 k n) = oh (ix2 k n) := by
  blk_ext [iblk, V_oh m c, index4 t]

section
variable (z : ℕ → ℕ → ℝ) (b : Fin 8192 → Fin 4 → Fin 16 → Fin 128)

/-- The result array. -/
def G : S8192x2048.Idx → EReal := fun y =>
  (Spec.value z (b ⟨(y 0).val, (y 0).isLt⟩ ⟨(y 1).val / 512, by have : (y 1).val < 2048 := (y 1).isLt; omega⟩) (y 0).val ((y 1).val / 512)
    ((y 1).val % 512 / 128) ((y 1).val % 128) : EReal)

theorem G_at (i : Fin 8192) (g r : Fin 4) (d : Fin 128) (j : Fin 2048) (hj : j.val = g.val * 512 + r.val * 128 + d.val) :
    G z b (ix2 i j) = (Spec.value z (b i g) i.val g.val r.val d.val : EReal) := by
  have e1 : j.val / 512 = g.val := by omega
  have e2 : j.val % 512 / 128 = r.val := by omega
  have e3 : j.val % 128 = d.val := by omega
  have e4 : (⟨j.val / 512, by omega⟩ : Fin 4) = g := Fin.ext e1
  show (Spec.value z (b i ⟨j.val / 512, _⟩) i.val (j.val / 512) (j.val % 512 / 128) (j.val % 128) : EReal) = _
  rw [e4, e1, e2, e3]

variable (hZ : ∀ (i : Fin 8192) (j : Fin 15872), (m ((c : Thread nD τ).loc main_arg0) (ix2 i j) : EReal) = (z i.val j.val : EReal))
  (hB : ∀ (g : Fin 4) (t : Fin 8192) (n : Fin 128), (m ((c : Thread nD τ).loc main_arg2) (ix3 g t n) : EReal)
    = if ∃ i, b t g i = n then (0 : EReal) else ⊥)
  (h0 : ∀ t g, ∃ n, (b t g n).val = 0)

include hZ hB h0 in
/-- A point's block: the mathematics at the block's place in the result. -/
theorem point_eq (t : Fin grid0.N) (y : S256x512.Idx) (i : Fin 8192) (j : Fin 2048)
    (hi : i.val = (grid0.coords t 1).val * 256 + (y 0).val) (hj : j.val = (grid0.coords t 0).val * 512 + (y 1).val) :
    (OUT (F := Ideal) (grid0.coords t) (iblk (F := Ideal) m c 0 t) (iblk (F := Ideal) m c 1 t)
      (iblk (F := Ideal) m c 2 t) (iblk (F := Ideal) m c 3 t) (iblk (F := Ideal) m c 4 t) y : EReal) = G z b (ix2 i j) := by
  have hg := lt_g t
  have hq := lt_q t
  have y0 : (y 0).val < 256 := (y 0).isLt
  have y1 : (y 1).val < 512 := (y 1).isLt
  have key := out_at z b ⟨(grid0.coords t 0).val, hg⟩ (grid0.coords t 1).val hq (iblk (F := Ideal) m c 0 t) (iblk (F := Ideal) m c 1 t)
    (iblk (F := Ideal) m c 2 t) (iblk (F := Ideal) m c 3 t) (iblk (F := Ideal) m c 4 t)
    (fun a j => (blk0 m c t a j).trans (hZ _ _)) (fun k j => (blk1 m c t k j).trans (hZ _ _))
    (fun k j => (blk2 m c t k j).trans (hZ _ _)) (fun a n => (blk3 m c t a n).trans (hB _ _ _))
    (fun k n => (blk4 m c t k n).trans (oh_apply k n)) ⟨(y 0).val, y0⟩ ⟨(y 1).val / 128, by omega⟩ t rfl (h0 _ _)
    ⟨(y 1).val % 128, by omega⟩ y rfl (by simp only; omega)
  rw [key]
  rw [G_at z b i ⟨(grid0.coords t 0).val, hg⟩ ⟨(y 1).val / 128, by omega⟩ ⟨(y 1).val % 128, by omega⟩ j (by simp only; omega)]
  obtain ⟨i, hi'⟩ := i
  have hi : i = (grid0.coords t 1).val * 256 + (y 0).val := hi
  subst hi
  rfl

theorem after5 (t : Fin grid0.N) : (dats (F := Ideal) m 0 c).after 5 t = outAt (F := Ideal) m c t := rfl

include hZ hB h0 in
theorem arr_eq : (dats (F := Ideal) m 0 c).arrAt 5 (cfgs 0).N = (G z b : S8192x2048.Idx → EReal) := by
  refine (dats (F := Ideal) m 0 c).arrAt_eq_of_covers 5 _ (by decide +kernel) fun t hf y => ?_
  have hg := lt_g t
  have hq := lt_q t
  have y0 : (y 0).val < 256 := (y 0).isLt
  have y1 : (y 1).val < 512 := (y 1).isLt
  have e : (((cfgs 0).win 5).blk t).view.emb y
      = (ix2 ⟨(grid0.coords t 1).val * 256 + (y 0).val, by omega⟩ ⟨(grid0.coords t 0).val * 512 + (y 1).val, by omega⟩ : S8192x2048.Idx) := by
    blk_ext [index5 t]
  have p := point_eq m c z b hZ hB h0 t y ⟨(grid0.coords t 1).val * 256 + (y 0).val, by omega⟩
    ⟨(grid0.coords t 0).val * 512 + (y 1).val, by omega⟩ rfl rfl
  rw [e, ← p, after5]
  rfl

end

end Cert.Proof.Value

end
-- ==== Proof.Value.Pre.lean ====
/- What the precondition says of the arguments: finite projections, sixteen distinct blocks with the first among them, and the bias they make. -/
module

public import proofs.«01_k».proof.Defs
public import proofs.«01_k».proof.Proof.Gen.Pre_sound_selection
public import proofs.«01_k».proof.Proof.Value.Words
public import Idealize.ShloMosaic.Lib.Routing.OpsOrder

@[expose] public section

set_option maxRecDepth 16384

noncomputable section

open scoped Classical

namespace Cert.Proof.Pre

open Cert.Pre_sound_selection Cert.Pre_sound_selection.Gen
open Idealize.ShloMosaic Idealize.ShloMosaic.Routing

variable (Z : FVec Ideal S8192x15872 .f32) (I : IVec S8192x4x16 32) (B : FVec Ideal S4x8192x128 .bf16)

theorem real_of_lt : ∀ x : EReal, (FloatOps.absf (F := Ideal) (φ := .f32) x : EReal) < ⊤ → ∃ r : ℝ, x = (r : EReal) := by
  intro x h
  induction x with
  | bot => exact absurd h (by simp [FloatOps.absf])
  | coe r => exact ⟨r, rfl⟩
  | top => exact absurd h (by simp [FloatOps.absf])

theorem part1 (i : Fin 8192) (j : Fin 15872) (h : (fn (F := Ideal) Z I B).1 (ix2 i j) = 1#1) :
    ∃ r : ℝ, (Z (ix2 i j) : EReal) = (r : EReal) := by
  have e : (fn (F := Ideal) Z I B).1 (ix2 i j)
      = BitVec.ofBool (decide ((FloatOps.absf (F := Ideal) (φ := .f32) (Z (ix2 i j)) : EReal) < Ideal.ofBits FTy.f32 2139095040#32)) := by
    unfold fn fn_part1
    pointwise
  rw [e, Value.pinf] at h
  refine real_of_lt _ ?_
  by_contra hn
  rw [decide_eq_false hn] at h
  exact absurd h (by decide)

theorem small_word (w : BitVec 32) (h : IntOp.andi (IntOp.cmpi CmpIPredicate.sge w 0#32) (IntOp.cmpi CmpIPredicate.slt w 128#32) = 1#1) :
    w.toNat < 128 := by
  by_contra hn
  have e := BitVec.toInt_eq_toNat_bmod w
  rw [Int.bmod_def] at e
  have hw := w.isLt
  have : IntOp.cmpi CmpIPredicate.sge w 0#32 = 0#1 ∨ IntOp.cmpi CmpIPredicate.slt w 128#32 = 0#1 := by
    by_cases hs : w.toNat < 2 ^ 31
    · right
      have : ¬ w.toInt < 128 := by omega
      simp [IntOp.cmpi, BitVec.slt, this]
    · left
      have : ¬ 0 ≤ w.toInt := by omega
      simp [IntOp.cmpi, BitVec.sle, this]
  rcases this with k | k <;> rw [k] at h
  · exact absurd h (by rcases BitVec.eq_zero_or_eq_one (IntOp.cmpi CmpIPredicate.slt w 128#32) with q | q <;> rw [q] <;> decide)
  · exact absurd h (by rcases BitVec.eq_zero_or_eq_one (IntOp.cmpi CmpIPredicate.sge w 0#32) with q | q <;> rw [q] <;> decide)

theorem part2 (t : Fin 8192) (g : Fin 4) (n : Fin 16) (h : (fn (F := Ideal) Z I B).2.1 (ix3 t g n) = 1#1) :
    (I (ix3 t g n)).toNat < 128 := by
  refine small_word _ (Eq.trans (Eq.symm ?_) h)
  unfold fn fn_part1
  pointwise

theorem small_ne : ∀ n n' : Fin 16, IntOp.cmpi CmpIPredicate.eq (BitVec.ofNat 32 n.val) (BitVec.ofNat 32 n'.val) = 1#1 → n = n' := by
  decide +kernel

theorem part3 (t : Fin 8192) (g : Fin 4) (n n' : Fin 16) (h : (fn (F := Ideal) Z I B).2.2.1 (ix4 t g n n') = 1#1)
    (he : I (ix3 t g n) = I (ix3 t g n')) : n = n' := by
  have e : (fn (F := Ideal) Z I B).2.2.1 (ix4 t g n n') = IntOp.ori (IntOp.cmpi CmpIPredicate.ne (I (ix3 t g n)) (I (ix3 t g n')))
      (IntOp.cmpi CmpIPredicate.eq (BitVec.ofNat 32 n.val) (BitVec.ofNat 32 n'.val)) := by
    unfold fn fn_part1
    pointwise
  rw [e, he, show IntOp.cmpi CmpIPredicate.ne (I (ix3 t g n')) (I (ix3 t g n')) = 0#1 by simp [IntOp.cmpi]] at h
  refine small_ne n n' ?_
  rcases BitVec.eq_zero_or_eq_one (IntOp.cmpi CmpIPredicate.eq (BitVec.ofNat 32 n.val) (BitVec.ofNat 32 n'.val)) with q | q
  · rw [q] at h
    exact absurd h (by decide)
  · exact q

theorem eq_of_cmpi (v w : BitVec 32) : IntOp.cmpi CmpIPredicate.eq v w = 1#1 ↔ v = w := by
  by_cases h : v = w
  · simp [IntOp.cmpi, h]
  · have e : (v == w) = false := by simpa using h
    simp [IntOp.cmpi, h, e]

theorem part4 (t : Fin 8192) (g : Fin 4) (h : (fn (F := Ideal) Z I B).2.2.2.1 (ix2 t g) = 1#1) : ∃ n, I (ix3 t g n) = 0#32 := by
  have e : (fn (F := Ideal) Z I B).2.2.2.1 (ix2 t g)
      = Finset.fold IntOp.ori (0#1) (fun x : Fin 16 => IntOp.cmpi CmpIPredicate.eq (I (ix3 t g x)) 0#32) Finset.univ := by
    unfold fn fn_part1
    pointwise
  rw [e, fold_ori] at h
  obtain ⟨n, -, hn⟩ := h
  exact ⟨n, (eq_of_cmpi _ _).1 hn⟩

theorem part5 (t : Fin 8192) (g : Fin 4) (n : Fin 128) (h : (fn (F := Ideal) Z I B).2.2.2.2 (ix3 g t n) = 1#1) :
    (B (ix3 g t n) : EReal) = if ∃ i, I (ix3 t g i) = BitVec.ofNat 32 n.val then (0 : EReal) else ⊥ := by
  have e : (fn (F := Ideal) Z I B).2.2.2.2 (ix3 g t n) = BitVec.ofBool (decide ((B (ix3 g t n) : EReal)
      = Scalar.select (Finset.fold IntOp.ori (0#1) (fun x : Fin 16 => IntOp.cmpi CmpIPredicate.eq (I (ix3 t g x)) (BitVec.ofNat 32 n.val)) Finset.univ)
          (0 : EReal) (Ideal.ofBits FTy.f32 4286578688#32))) := by
    unfold fn fn_part1 fn_where
    pointwise
  rw [e, Value.ninf] at h
  have h' : (B (ix3 g t n) : EReal)
      = Scalar.select (Finset.fold IntOp.ori (0#1) (fun x : Fin 16 => IntOp.cmpi CmpIPredicate.eq (I (ix3 t g x)) (BitVec.ofNat 32 n.val)) Finset.univ)
          (0 : EReal) ⊥ := by
    by_contra hn
    rw [decide_eq_false hn] at h
    exact absurd h (by decide)
  rw [h']
  by_cases hi : ∃ i, I (ix3 t g i) = BitVec.ofNat 32 n.val
  · rw [if_pos hi, (fold_ori _ _).2 (by obtain ⟨i, hi⟩ := hi; exact ⟨i, Finset.mem_univ _, (eq_of_cmpi _ _).2 hi⟩)]
    rfl
  · rw [if_neg hi]
    rcases BitVec.eq_zero_or_eq_one (Finset.fold IntOp.ori (0#1)
      (fun x : Fin 16 => IntOp.cmpi CmpIPredicate.eq (I (ix3 t g x)) (BitVec.ofNat 32 n.val)) Finset.univ) with q | q
    · rw [q]
      rfl
    · obtain ⟨i, -, hq⟩ := (fold_ori _ _).1 q
      exact absurd ⟨i, (eq_of_cmpi _ _).1 hq⟩ hi

/-- The arguments the precondition admits: real projections, and for each query and group sixteen distinct blocks, the
first block among them, whose bias is given. -/
theorem sound (h : (fn (F := Ideal) Z I B).1 = (fun _ => 1#1) ∧ (fn (F := Ideal) Z I B).2.1 = (fun _ => 1#1)
      ∧ (fn (F := Ideal) Z I B).2.2.1 = (fun _ => 1#1) ∧ (fn (F := Ideal) Z I B).2.2.2.1 = (fun _ => 1#1)
      ∧ (fn (F := Ideal) Z I B).2.2.2.2 = (fun _ => 1#1)) :
    ∃ (z : ℕ → ℕ → ℝ) (b : Fin 8192 → Fin 4 → Fin 16 → Fin 128),
      (∀ (i : Fin 8192) (j : Fin 15872), (Z (ix2 i j) : EReal) = (z i.val j.val : EReal))
      ∧ (∀ t g n, I (ix3 t g n) = BitVec.ofNat 32 (b t g n).val)
      ∧ (∀ t g, Function.Injective (b t g))
      ∧ (∀ t g, ∃ n, (b t g n).val = 0)
      ∧ (∀ (g : Fin 4) (t : Fin 8192) (n : Fin 128), (B (ix3 g t n) : EReal) = if ∃ i, b t g i = n then (0 : EReal) else ⊥) := by
  obtain ⟨h1, h2, h3, h4, h5⟩ := h
  have hI : ∀ t g n, I (ix3 t g n) = BitVec.ofNat 32 (⟨(I (ix3 t g n)).toNat, part2 Z I B t g n (congrFun h2 _)⟩ : Fin 128).val := by
    intro t g n
    apply BitVec.eq_of_toNat_eq
    rw [BitVec.toNat_ofNat]
    have := (I (ix3 t g n)).isLt
    exact (Nat.mod_eq_of_lt this).symm
  refine ⟨fun i j => if hi : i < 8192 then if hj : j < 15872 then (Z (ix2 ⟨i, hi⟩ ⟨j, hj⟩) : EReal).toReal else 0 else 0,
    fun t g n => ⟨(I (ix3 t g n)).toNat, part2 Z I B t g n (congrFun h2 _)⟩, ?_, hI, ?_, ?_, ?_⟩
  · intro i j
    obtain ⟨r, hr⟩ := part1 Z I B i j (congrFun h1 _)
    show (Z (ix2 i j) : EReal) = ((if hi : i.val < 8192 then if hj : j.val < 15872 then (Z (ix2 ⟨i.val, hi⟩ ⟨j.val, hj⟩) : EReal).toReal else 0 else 0 : ℝ) : EReal)
    rw [dif_pos i.isLt, dif_pos j.isLt]
    show (Z (ix2 i j) : EReal) = ((Z (ix2 i j) : EReal).toReal : EReal)
    rw [hr, EReal.toReal_coe]
  · intro t g n n' e
    refine part3 Z I B t g n n' (congrFun h3 _) (BitVec.eq_of_toNat_eq ?_)
    have e' : (⟨(I (ix3 t g n)).toNat, _⟩ : Fin 128) = ⟨(I (ix3 t g n')).toNat, _⟩ := e
    exact Fin.mk.inj e'
  · intro t g
    obtain ⟨n, hn⟩ := part4 Z I B t g (congrFun h4 _)
    exact ⟨n, by show (I (ix3 t g n)).toNat = 0; rw [hn]; rfl⟩
  · intro g t n
    rw [part5 Z I B t g n (congrFun h5 _)]
    refine if_congr (exists_congr fun i => ?_) rfl rfl
    rw [hI t g i]
    constructor
    · intro e
      apply Fin.ext
      have := congrArg BitVec.toNat e
      rw [← hI t g i, BitVec.toNat_ofNat] at this
      show (I (ix3 t g i)).toNat = n.val
      omega
    · intro e
      exact congrArg (fun q : Fin 128 => BitVec.ofNat 32 q.val) e

end Cert.Proof.Pre

end
-- ==== Proof.Value.Ref.lean ====
/- The reference's result as a chain of named arrays: the gathered key and value rows, the mask, the masked scores,
   their maximum, the weights, the weighted sum. Each is a function of the projections and the selected block ids. -/
module

public import proofs.«01_k».proof.Proof.Gen.ReferenceIdeal.Run
public import Idealize.ShloMosaic.PureOps.Ideal
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic Idealize.ShloMosaic.TcCoe

/-- The key and value columns by block, row in block, key or value, group and channel. -/
def kvb (Z : FVec Ideal S8192x15872 .f32) : FVec Ideal S128x64x2x4x128 .f32 :=
  shapeCast _ (shapeCast _ (extractStridedSlice S8192x1024 ![0, 13312] Z slices_S8192x15872_S8192x1024_0_13312)
    shapeCasts_S8192x1024_S8192x2x4x128) shapeCasts_S8192x2x4x128_S128x64x2x4x128

/-- The ids, an id below zero counted from the end. -/
def ids (I : IVec S8192x4x16 32) : IVec S8192x4x16 32 :=
  select (cmpi .slt I (broadcastInDim S8192x4x16 ![] bcast_S_S8192x4x16 (constantI S_ 32 0#32)))
    (addi I (broadcastInDim S8192x4x16 ![] bcast_S_S8192x4x16 (constantI S_ 32 128#32))) I

/-- The groups' numbers, a number below zero counted from the end. -/
def groups : IVec S1x4x1 32 :=
  select (cmpi .slt (broadcastInDim S1x4x1 ![1] bcast_S4_S1x4x1_1 (iotaInDim S4 32 0))
      (broadcastInDim S1x4x1 ![] bcast_S_S1x4x1 (constantI S_ 32 0#32)))
    (addi (broadcastInDim S1x4x1 ![1] bcast_S4_S1x4x1_1 (iotaInDim S4 32 0))
      (broadcastInDim S1x4x1 ![] bcast_S_S1x4x1 (constantI S_ 32 4#32)))
    (broadcastInDim S1x4x1 ![1] bcast_S4_S1x4x1_1 (iotaInDim S4 32 0))

/-- The pairs (block, group) the gather starts at. -/
def starts (I : IVec S8192x4x16 32) : IVec S8192x4x16x2 32 :=
  concatenate S8192x4x16x2 3
    [⟨S8192x4x16x1, (broadcastInDim S8192x4x16x1 ![0, 1, 2] bcast_S8192x4x16_S8192x4x16x1_0_1_2 (ids I))⟩,
     ⟨S8192x4x16x1, (broadcastInDim S8192x4x16x1 ![0, 1, 2] bcast_S8192x4x16_S8192x4x16x1_0_1_2
        (broadcastInDim S8192x4x16 ![0, 1, 2] bcast_S1x4x1_S8192x4x16_0_1_2 groups))⟩]
    concatenates_S8192x4x16x1_S8192x4x16x1_S8192x4x16x2_d3

/-- The selected blocks' rows. -/
def rows (Z : FVec Ideal S8192x15872 .f32) (I : IVec S8192x4x16 32) : FVec Ideal S8192x4x16x64x2x128 .f32 :=
  Host.gather gather_S128x64x2x4x128_S8192x4x16x2_S8192x4x16x64x2x128_345_03_n_n_03_3_16421128 (kvb Z) (starts I)

/-- The selected key rows. -/
def keys (Z : FVec Ideal S8192x15872 .f32) (I : IVec S8192x4x16 32) : FVec Ideal S8192x4x1024x128 .f32 :=
  shapeCast _ (shapeCast _ (extractStridedSlice S8192x4x16x64x1x128 ![0, 0, 0, 0, 0, 0] (rows Z I)
    slices_S8192x4x16x64x2x128_S8192x4x16x64x1x128_0_0_0_0_0_0) shapeCasts_S8192x4x16x64x1x128_S8192x4x16x64x128)
    shapeCasts_S8192x4x16x64x128_S8192x4x1024x128

/-- The selected value rows. -/
def vals (Z : FVec Ideal S8192x15872 .f32) (I : IVec S8192x4x16 32) : FVec Ideal S8192x4x1024x128 .f32 :=
  shapeCast _ (shapeCast _ (extractStridedSlice S8192x4x16x64x1x128 ![0, 0, 0, 0, 1, 0] (rows Z I)
    slices_S8192x4x16x64x2x128_S8192x4x16x64x1x128_0_0_0_0_1_0) shapeCasts_S8192x4x16x64x1x128_S8192x4x16x64x128)
    shapeCasts_S8192x4x16x64x128_S8192x4x1024x128

/-- The queries by row, group, head in group and channel. -/
def qs (Z : FVec Ideal S8192x15872 .f32) : FVec Ideal S8192x4x4x128 .f32 :=
  shapeCast _ (extractStridedSlice S8192x2048 ![0, 0] Z slices_S8192x15872_S8192x2048_0_0) shapeCasts_S8192x2048_S8192x4x4x128

/-- Which selected rows a query may see. -/
def mask0 (I : IVec S8192x4x16 32) : IVec S8192x4x16x64 1 :=
  cmpi .sle (addi (broadcastInDim S8192x4x16x64 ![0, 1, 2, 3] bcast_S8192x4x16x1_S8192x4x16x64_0_1_2_3
        (muli (broadcastInDim S8192x4x16x1 ![0, 1, 2] bcast_S8192x4x16_S8192x4x16x1_0_1_2 I)
          (broadcastInDim S8192x4x16x1 ![] bcast_S_S8192x4x16x1 (constantI S_ 32 64#32))))
      (broadcastInDim S8192x4x16x64 ![0, 1, 2, 3] bcast_S1x1x1x64_S8192x4x16x64_0_1_2_3
        (broadcastInDim S1x1x1x64 ![3] bcast_S64_S1x1x1x64_3 (iotaInDim S64 32 0))))
    (broadcastInDim S8192x4x16x64 ![0, 1, 2, 3] bcast_S8192x1x1x1_S8192x4x16x64_0_1_2_3
      (broadcastInDim S8192x1x1x1 ![0] bcast_S8192_S8192x1x1x1_0 (iotaInDim S8192 32 0)))

/-- The mask, by row, group and selected row. -/
def mask1 (I : IVec S8192x4x16 32) : IVec S8192x4x1x1024 1 := shapeCast _ (mask0 I) shapeCasts_S8192x4x16x64_S8192x4x1x1024

/-- The mask, for every head. -/
def mask (I : IVec S8192x4x16 32) : IVec S8192x4x4x1024 1 :=
  broadcastInDim S8192x4x4x1024 ![0, 1, 2, 3] bcast_S8192x4x1x1024_S8192x4x4x1024_0_1_2_3 (mask1 I)

/-- The scores. -/
def scores0 (Z : FVec Ideal S8192x15872 .f32) (I : IVec S8192x4x16 32) : FVec Ideal S8192x4x4x1024 .f32 :=
  Host.divf (Host.dotGeneral dot_S8192x4x4x128_S8192x4x1024x128_S8192x4x4x1024_3_3_2_2_01_01 none (qs Z) (keys Z I))
    (broadcastInDim S8192x4x4x1024 ![] bcast_S_S8192x4x4x1024 (Host.sqrt (constant S_ .f32 0x43000000#32)))

/-- The masked scores. -/
def scores (M : IVec S8192x4x4x1024 1) (S : FVec Ideal S8192x4x4x1024 .f32) : FVec Ideal S8192x4x4x1024 .f32 :=
  select M S (broadcastInDim S8192x4x4x1024 ![] bcast_S_S8192x4x4x1024 (id (constant S_ .f32 0xFF800000#32)))

/-- The maxima of the scores. -/
def mx (S : FVec Ideal S8192x4x4x1024 .f32) : FVec Ideal S8192x4x4 .f32 :=
  Host.reduce FloatOps.maximumf S (constant S_ .f32 0xFF800000#32) reducesTo_S8192x4x4x1024_S8192x4x4_d3 h_S_

/-- The maxima, zero for one that is not a finite number. -/
def mz (X : FVec Ideal S8192x4x4 .f32) : FVec Ideal S8192x4x4x1 .f32 :=
  select (cmpf .olt (Host.absf (broadcastInDim S8192x4x4x1 ![0, 1, 2] bcast_S8192x4x4_S8192x4x4x1_0_1_2 X))
      (broadcastInDim S8192x4x4x1 ![] bcast_S_S8192x4x4x1 (constant S_ .f32 0x7F800000#32)))
    (broadcastInDim S8192x4x4x1 ![0, 1, 2] bcast_S8192x4x4_S8192x4x4x1_0_1_2 X)
    (broadcastInDim S8192x4x4x1 ![] bcast_S_S8192x4x4x1 (id (constant S_ .f32 0x00000000#32)))

/-- The weights. -/
def wts (M : IVec S8192x4x4x1024 1) (S : FVec Ideal S8192x4x4x1024 .f32) (X : FVec Ideal S8192x4x4x1 .f32) :
    FVec Ideal S8192x4x4x1024 .f32 :=
  select M (Host.exp (subf S (broadcastInDim S8192x4x4x1024 ![0, 1, 2, 3] bcast_S8192x4x4x1_S8192x4x4x1024_0_1_2_3 X)))
    (broadcastInDim S8192x4x4x1024 ![] bcast_S_S8192x4x4x1024 (id (constant S_ .f32 0x00000000#32)))

/-- The sums of the weights. -/
def sm (E : FVec Ideal S8192x4x4x1024 .f32) : FVec Ideal S8192x4x4 .f32 :=
  Host.reduceAdd E (constant S_ .f32 0x00000000#32) reducesTo_S8192x4x4x1024_S8192x4x4_d3 h_S_

/-- The weights over their sum. -/
def prob (E : FVec Ideal S8192x4x4x1024 .f32) : FVec Ideal S8192x4x4x1024 .f32 :=
  Host.divf E (broadcastInDim S8192x4x4x1024 ![0, 1, 2, 3] bcast_S8192x4x4x1_S8192x4x4x1024_0_1_2_3
    (maximumf (broadcastInDim S8192x4x4x1 ![0, 1, 2] bcast_S8192x4x4_S8192x4x4x1_0_1_2 (sm E))
      (broadcastInDim S8192x4x4x1 ![] bcast_S_S8192x4x4x1 (constant S_ .f32 0x0DA24260#32))))

/-- The result of the probabilities and the value rows. -/
def result (P : FVec Ideal S8192x4x4x1024 .f32) (V : FVec Ideal S8192x4x1024x128 .f32) : FVec Ideal S8192x2048 .f32 :=
  shapeCast _ (Host.dotGeneral dot_S8192x4x4x1024_S8192x4x1024x128_S8192x4x4x128_3_2_2_3_01_01 none P V)
    shapeCasts_S8192x4x4x128_S8192x2048

/-- The whole chain. -/
def chain (Z : FVec Ideal S8192x15872 .f32) (I : IVec S8192x4x16 32) : FVec Ideal S8192x2048 .f32 :=
  result (prob (wts (mask I) (scores (mask I) (scores0 Z I)) (mz (mx (scores (mask I) (scores0 Z I)))))) (vals Z I)

theorem res_eq (m : (ℓ : Loc nD τ sig) → Buf (Elt Ideal) ℓ) (c : Dev nD) :
    res_out0 (F := Ideal) m c = chain (m ((c.tc : Thread nD τ).loc main_arg0)) (m ((c.tc : Thread nD τ).loc main_arg1)) := rfl

end Cert.Proof.Ref

end
-- ==== Proof.Value.RefA.lean ====
/- The reference's arrays at an index. -/
module

public import proofs.«01_k».proof.Proof.Value.Ref
public import proofs.«01_k».proof.Proof.Value.Words

@[expose] public section

set_option maxRecDepth 16384

noncomputable section

namespace Cert.Proof.Ref

open Cert.ReferenceIdeal Cert.ReferenceIdeal.Gen Cert.ReferenceIdeal.Value
open Idealize.ShloMosaic

/-- A small word is not below zero, -/
theorem slt_zero (n : ℕ) (h : n < 1024) : IntOp.cmpi CmpIPredicate.slt (BitVec.ofNat 32 n) 0#32 = 0#1 := by
  have h0 : (BitVec.ofNat 32 n).toInt = (n : ℤ) := by
    rw [BitVec.toInt_eq_toNat_bmod, BitVec.toNat_ofNat]
    simp only [Int.bmod_def]
    omega
  have h1 : IntOp.cmpi CmpIPredicate.slt (BitVec.ofNat 32 n) 0#32 = BitVec.ofBool (decide ((BitVec.ofNat 32 n).toInt < 0)) := rfl
  rw [h1, h0, decide_eq_false (by omega)]
  rfl

/-- a small word read signed is its number, -/
theorem toInt_small (n : ℕ) (h : n < 16384) : (BitVec.ofNat 32 n).toInt = (n : ℤ) := by
  rw [BitVec.toInt_eq_toNat_bmod, BitVec.toNat_ofNat]
  simp only [Int.bmod_def]
  omega

/-- and the row's position is compared with the query's. -/
theorem sle_word (b l t : ℕ) (hb : b < 128) (hl : l < 64) (ht : t < 8192) :
    IntOp.cmpi CmpIPredicate.sle (IntOp.addi (IntOp.muli (BitVec.ofNat 32 b) 64#32) (BitVec.ofNat 32 l)) (BitVec.ofNat 32 t)
      = if b * 64 + l ≤ t then 1#1 else 0#1 := by
  have e : IntOp.addi (IntOp.muli (BitVec.ofNat 32 b) 64#32) (BitVec.ofNat 32 l) = BitVec.ofNat 32 (b * 64 + l) := by
    show BitVec.ofNat 32 b * BitVec.ofNat 32 64 + BitVec.ofNat 32 l = _
    rw [BitVec.ofNat_add, BitVec.ofNat_mul]
  rw [e]
  have h1 : IntOp.cmpi CmpIPredicate.sle (BitVec.ofNat 32 (b * 64 + l)) (BitVec.ofNat 32 t)
      = BitVec.ofBool (decide ((BitVec.ofNat 32 (b * 64 + l)).toInt ≤ (BitVec.ofNat 32 t).toInt)) := rfl
  rw [h1, toInt_small _ (by omega), toInt_small _ (by omega)]
  by_cases h : b * 64 + l ≤ t
  · rw [if_pos h, decide_eq_true (by omega)]; rfl
  · rw [if_neg h, decide_eq_false (by omega)]; rfl

theorem kvb_apply (Z : FVec Ideal S8192x15872 .f32) (b : Fin 128) (l : Fin 64) (w : Fin 2) (g : Fin 4) (d : Fin 128) :
    kvb Z (ix5 b l w g d) = Z (ix2 (n0 := 8192) (n1 := 15872) ⟨b.val * 64 + l.val, by omega⟩
      ⟨13312 + w.val * 512 + g.val * 128 + d.val, by omega⟩) := by
  unfold kvb
  pointwise
  exact congrArg (fun a => Z (ix2 (n0 := 8192) (n1 := 15872) _ a)) (Fin.ext (by show 13312 + (w.val * 512 + g.val * 128 + d.val) = 13312 + w.val * 512 + g.val * 128 + d.val; omega))

theorem ids_apply (I : IVec S8192x4x16 32) (t : Fin 8192) (g : Fin 4) (n : Fin 16) (b : ℕ)
    (hb : b < 128) (h : I (ix3 t g n) = BitVec.ofNat 32 b) :
    ids I (ix3 t g n) = BitVec.ofNat 32 b := by
  unfold ids
  pointwise
  rw [h, slt_zero _ (by omega)]
  rfl

theorem groups_apply (g : Fin 4) : groups (ix3 0 g 0) = BitVec.ofNat 32 g.val := by
  unfold groups
  pointwise
  rw [slt_zero _ (by omega)]
  rfl

theorem starts0 (I : IVec S8192x4x16 32) (t : Fin 8192) (g : Fin 4) (n : Fin 16) :
    starts I (ix4 t g n 0) = ids I (ix3 t g n) := by
  unfold starts
  pointwise

theorem starts1 (I : IVec S8192x4x16 32) (t : Fin 8192) (g : Fin 4) (n : Fin 16) :
    starts I (ix4 t g n 1) = groups (ix3 0 g 0) := by
  unfold starts
  pointwise

/-- The gather's dimension numbers. -/
abbrev gd := gather_S128x64x2x4x128_S8192x4x16x2_S8192x4x16x64x2x128_345_03_n_n_03_3_16421128

theorem rows_apply (Z : FVec Ideal S8192x15872 .f32) (I : IVec S8192x4x16 32) (t : Fin 8192) (g : Fin 4) (n : Fin 16)
    (l : Fin 64) (w : Fin 2) (d : Fin 128) (b : Fin 128) (h : I (ix3 t g n) = BitVec.ofNat 32 b.val) :
    rows Z I (ix6 t g n l w d) = kvb Z (ix5 b l w g d) := by
  have e0 : gd.siIdx (ix6 t g n l w d) ⟨0, by decide⟩ = ix4 t g n 0 := by
    funext a
    match a with
    | 0 => rfl
    | 1 => rfl
    | 2 => rfl
    | 3 => rfl
  have e1 : gd.siIdx (ix6 t g n l w d) ⟨1, by decide⟩ = ix4 t g n 1 := by
    funext a
    match a with
    | 0 => rfl
    | 1 => rfl
    | 2 => rfl
    | 3 => rfl
  have s0 : gd.start (ix6 t g n l w d) (starts I) 0 = b.val := by
    have e : gd.start (ix6 t g n l w d) (starts I) 0 = min (starts I (gd.siIdx (ix6 t g n l w d) ⟨0, by decide⟩)).toInt.toNat 127 := rfl
    rw [e, e0, starts0, ids_apply I t g n b.val b.isLt h, toInt_small _ (by omega)]
    omega
  have s3 : gd.start (ix6 t g n l w d) (starts I) 3 = g.val := by
    have e : gd.start (ix6 t g n l w d) (starts I) 3 = min (starts I (gd.siIdx (ix6 t g n l w d) ⟨1, by decide⟩)).toInt.toNat 3 := rfl
    rw [e, e1, starts1, groups_apply, toInt_small _ (by omega)]
    omega
  unfold rows Host.gather
  congr 1
  funext a
  refine Fin.ext ?_
  show gd.start (ix6 t g n l w d) (starts I) a + gd.batchCoord (ix6 t g n l w d) a + gd.offCoord (ix6 t g n l w d) a = _
  match a with
  | 0 => rw [s0]; rfl
  | 1 => exact Nat.zero_add _
  | 2 => exact Nat.zero_add _
  | 3 => rw [s3]; rfl
  | 4 => exact Nat.zero_add _

theorem qs_apply (Z : FVec Ideal S8192x15872 .f32) (t : Fin 8192) (g r : Fin 4) (d : Fin 128) :
    qs Z (ix4 t g r d) = Z (ix2 (n0 := 8192) (n1 := 15872) t ⟨g.val * 512 + r.val * 128 + d.val, by omega⟩) := by
  unfold qs
  pointwise

theorem mask0_apply (I : IVec S8192x4x16 32) (t : Fin 8192) (g : Fin 4) (n : Fin 16) (l : Fin 64) (b : ℕ)
    (hb : b < 128) (h : I (ix3 t g n) = BitVec.ofNat 32 b) :
    mask0 I (ix4 t g n l) = if b * 64 + l.val ≤ t.val then 1#1 else 0#1 := by
  unfold mask0
  pointwise
  rw [h]
  exact sle_word _ _ _ hb l.isLt t.isLt

theorem mask_apply (I : IVec S8192x4x16 32) (t : Fin 8192) (g r : Fin 4) (n : Fin 16) (l : Fin 64) :
    mask I (ix4 (n3 := 1024) t g r ⟨n.val * 64 + l.val, by omega⟩) = mask0 I (ix4 t g n l) := by
  unfold mask mask1
  pointwise

theorem keys_apply (Z : FVec Ideal S8192x15872 .f32) (I : IVec S8192x4x16 32) (t : Fin 8192) (g : Fin 4) (n : Fin 16)
    (l : Fin 64) (d : Fin 128) :
    keys Z I (ix4 (n2 := 1024) t g ⟨n.val * 64 + l.val, by omega⟩ d) = rows Z I (ix6 t g n l 0 d) := by
  unfold keys
  pointwise

theorem vals_apply (Z : FVec Ideal S8192x15872 .f32) (I : IVec S8192x4x16 32) (t : Fin 8192) (g : Fin 4) (n : Fin 16)
    (l : Fin 64) (d : Fin 128) :
    vals Z I (ix4 (n2 := 1024) t g ⟨n.val * 64 + l.val, by omega⟩ d) = rows Z I (ix6 t g n l 1 d) := by
  unfold vals
  pointwise

theorem scores0_apply (Z : FVec Ideal S8192x15872 .f32) (I : IVec S8192x4x16 32) (t : Fin 8192) (g r : Fin 4) (m : Fin 1024) :
    scores0 Z I (ix4 t g r m) = Ideal.div (∑ d : Fin 128, (qs Z (ix4 t g r d) : EReal) * keys Z I (ix4 t g m d) : EReal) (Ideal.sqrt ((128 : ℝ) : EReal)) := by
  unfold scores0
  pointwise
  rw [Value.c128]

theorem scores_apply (M : IVec S8192x4x4x1024 1) (S : FVec Ideal S8192x4x4x1024 .f32) (t : Fin 8192) (g r : Fin 4) (m : Fin 1024) :
    scores M S (ix4 t g r m) = if M (ix4 t g r m) = 1#1 then S (ix4 t g r m) else (⊥ : EReal) := by
  unfold scores
  pointwise
  exact congrArg (fun e : EReal => if M (ix4 t g r m) = 1#1 then S (ix4 t g r m) else e) Value.ninf

theorem mx_apply (S : FVec Ideal S8192x4x4x1024 .f32) (t : Fin 8192) (g r : Fin 4) :
    mx S (ix3 t g r) = Finset.univ.fold max (⊥ : EReal) fun m : Fin 1024 => S (ix4 t g r m) := by
  unfold mx
  pointwise
  rw [Value.ninf]

theorem mz_apply (X : FVec Ideal S8192x4x4 .f32) (t : Fin 8192) (g r : Fin 4) (M : ℝ)
    (h : X (ix3 t g r) = (M : EReal)) :
    mz X (ix4 t g r 0) = (M : EReal) := by
  unfold mz
  pointwise
  rw [Value.pinf, h]
  exact if_pos (show max (M : EReal) (-(M : EReal)) < ⊤ from max_lt (EReal.coe_lt_top M) (by rw [← EReal.coe_neg]; exact EReal.coe_lt_top _))

theorem wts_apply (M : IVec S8192x4x4x1024 1) (S : FVec Ideal S8192x4x4x1024 .f32) (X : FVec Ideal S8192x4x4x1 .f32)
    (t : Fin 8192) (g r : Fin 4) (m : Fin 1024) :
    wts M S X (ix4 t g r m) = if M (ix4 t g r m) = 1#1 then Ideal.exp ((S (ix4 t g r m) : EReal) - X (ix4 t g r 0)) else (0 : EReal) := by
  unfold wts
  pointwise
  exact congrArg (fun e : EReal => if M (ix4 t g r m) = 1#1 then Ideal.exp ((S (ix4 t g r m) : EReal) - X (ix4 t g r 0)) else e) (Ideal.ofBits_zero .f32)

theorem sm_apply (E : FVec Ideal S8192x4x4x1024 .f32) (t : Fin 8192) (g r : Fin 4) :
    sm E (ix3 t g r) = (∑ m : Fin 1024, (E (ix4 t g r m) : EReal) : EReal) := by
  unfold sm
  pointwise

theorem prob_apply (E : FVec Ideal S8192x4x4x1024 .f32) (t : Fin 8192) (g r : Fin 4) (m : Fin 1024) :
    prob E (ix4 t g r m) = Ideal.div (E (ix4 t g r m)) (max (sm E (ix3 t g r) : EReal) (Ideal.ofBits .f32 0x0DA24260#32)) := by
  unfold prob
  pointwise

theorem result_apply (P : FVec Ideal S8192x4x4x1024 .f32) (V : FVec Ideal S8192x4x1024x128 .f32) (t : Fin 8192) (g r : Fin 4) (d : Fin 128) :
    result P V (ix2 (n0 := 8192) (n1 := 2048) t ⟨g.val * 512 + r.val * 128 + d.val, by omega⟩)
      = (∑ m : Fin 1024, (P (ix4 t g r m) : EReal) * V (ix4 t g m d) : EReal) := by
  unfold result
  pointwise

end Cert.Proof.Ref

end
-- ==== Proof.Value.RefB.lean ====
/- The reference's result: at real projections and distinct chosen blocks, block 0 among them, it is the weighted mean. -/
module

public import proofs.«01_k».proof.Proof.Value.RefA
public import proofs.«01_k».proof.Proof.Value.Spec

@[expose] public section

set_option maxRecDepth 16384

noncomputable section

open scoped Classical

namespace Cert.Proof.Ref

open Cert.ReferenceIdeal Cert.ReferenceIdeal.Gen Cert.ReferenceIdeal.Value
open Idealize.ShloMosaic

/-- A selected row's number: its block among the sixteen and its place in the block. -/
abbrev mk (n : Fin 16) (l : Fin 64) : Fin 1024 := ⟨n.val * 64 + l.val, by omega⟩

theorem mk_surj (m : Fin 1024) : ∃ n l, m = mk n l :=
  ⟨⟨m.val / 64, by omega⟩, ⟨m.val % 64, by omega⟩, Fin.ext (by show m.val = m.val / 64 * 64 + m.val % 64; omega)⟩

theorem sum_mk (f : Fin 1024 → ℝ) : ∑ m, f m = ∑ n : Fin 16, ∑ l : Fin 64, f (mk n l) := by
  rw [← (finProdFinEquiv (m := 16) (n := 64)).sum_comp f, Fintype.sum_prod_type]
  refine Finset.sum_congr rfl fun n _ => Finset.sum_congr rfl fun l _ => congrArg f (Fin.ext ?_)
  show l.val + 64 * n.val = n.val * 64 + l.val
  omega

/-- The position of a selected row. -/
def pos (b : Fin 16 → Fin 128) (m : Fin 1024) : ℕ := (b ⟨m.val / 64, by omega⟩).val * 64 + m.val % 64

theorem pos_mk (b : Fin 16 → Fin 128) (n : Fin 16) (l : Fin 64) : pos b (mk n l) = (b n).val * 64 + l.val := by
  have h1 : (⟨(mk n l).val / 64, by omega⟩ : Fin 16) = n := Fin.ext (by show (n.val * 64 + l.val) / 64 = n.val; omega)
  have h2 : (mk n l).val % 64 = l.val := by show (n.val * 64 + l.val) % 64 = l.val; omega
  unfold pos
  rw [h1, h2]

section
variable (Z : FVec Ideal S8192x15872 .f32) (I : IVec S8192x4x16 32) (z : ℕ → ℕ → ℝ) (b : Fin 8192 → Fin 4 → Fin 16 → Fin 128)
  (hZ : ∀ (i : Fin 8192) (j : Fin 15872), Z (ix2 i j) = (z i.val j.val : EReal))
  (hI : ∀ t g n, I (ix3 t g n) = BitVec.ofNat 32 (b t g n).val)
  (t : Fin 8192) (g r : Fin 4)

/-- The masked score of a selected row. -/
def score (m : Fin 1024) : EReal :=
  if pos (b t g) m ≤ t.val then ((Spec.dot z t g r (pos (b t g) m) / Real.sqrt 128 : ℝ) : EReal) else ⊥

theorem score_ne_top (m : Fin 1024) : score z b t g r m ≠ ⊤ := by
  unfold score
  split
  · exact EReal.coe_ne_top _
  · exact bot_ne_top

include hI in
theorem mask_at (m : Fin 1024) : mask I (ix4 t g r m) = if pos (b t g) m ≤ t.val then 1#1 else 0#1 := by
  obtain ⟨n, l, rfl⟩ := mk_surj m
  rw [mask_apply, mask0_apply I t g n l _ (b t g n).isLt (hI t g n), pos_mk]

include hZ hI in
theorem scores0_at (m : Fin 1024) :
    scores0 Z I (ix4 t g r m) = ((Spec.dot z t g r (pos (b t g) m) / Real.sqrt 128 : ℝ) : EReal) := by
  obtain ⟨n, l, rfl⟩ := mk_surj m
  rw [scores0_apply, Ideal.sqrt_coe, if_neg (by norm_num), Ideal.div_coe (Real.sqrt_ne_zero'.mpr (by norm_num)), pos_mk,
    Spec.dot, div_eq_mul_one_div (∑ j : Fin 128, _) (Real.sqrt 128), EReal.coe_mul, Soft.coe_sum]
  refine congrArg (fun e : EReal => e * _) (Finset.sum_congr rfl fun d _ => ?_)
  rw [keys_apply, rows_apply Z I t g n l 0 d (b t g n) (hI t g n), kvb_apply, qs_apply, hZ, hZ, ← EReal.coe_mul]
  refine congrArg (fun e : ℕ => ((z t.val (g.val * 512 + r.val * 128 + d.val) * z ((b t g n).val * 64 + l.val) e : ℝ) : EReal)) ?_
  show 13312 + 0 * 512 + g.val * 128 + d.val = _
  omega

include hZ hI in
theorem scores_at (m : Fin 1024) : scores (mask I) (scores0 Z I) (ix4 t g r m) = score z b t g r m := by
  rw [scores_apply, mask_at I b hI, scores0_at Z I z b hZ hI]
  unfold score
  by_cases h : pos (b t g) m ≤ t.val
  · rw [if_pos h, if_pos h, if_pos rfl]
  · rw [if_neg h, if_neg h, if_neg (by decide)]

include hZ hI in
theorem vals_at (m : Fin 1024) (d : Fin 128) :
    vals Z I (ix4 t g m d) = (z (pos (b t g) m) (13824 + g.val * 128 + d.val) : EReal) := by
  obtain ⟨n, l, rfl⟩ := mk_surj m
  rw [vals_apply, rows_apply Z I t g n l 1 d (b t g n) (hI t g n), kvb_apply, hZ, pos_mk]
  refine congrArg (fun e : ℕ => (z ((b t g n).val * 64 + l.val) e : EReal)) ?_
  show 13312 + 1 * 512 + g.val * 128 + d.val = _
  omega

/-- A sum over the selected rows is one over the keys of the chosen blocks. -/
theorem sum_sel (hinj : Function.Injective (b t g)) (f : ℕ → ℝ) :
    ∑ m : Fin 1024, Soft.we (score z b t g r m) * f (pos (b t g) m)
      = ∑ k ∈ Finset.range 8192, Spec.weight z (b t g) t g r k * f k := by
  rw [sum_mk]
  have e : ∀ (n : Fin 16) (l : Fin 64), Soft.we (score z b t g r (mk n l)) * f (pos (b t g) (mk n l))
      = (fun k : ℕ => (if k ≤ t.val then Real.exp (Spec.dot z t g r k / Real.sqrt 128) else 0) * f k) ((b t g n).val * 64 + l.val) := by
    intro n l
    unfold score
    rw [pos_mk]
    by_cases h : (b t g n).val * 64 + l.val ≤ t.val
    · simp only [if_pos h, Soft.we_coe]
    · simp only [if_neg h, Soft.we_bot]
  refine (Finset.sum_congr rfl fun n _ => Finset.sum_congr rfl fun l _ => e n l).trans ?_
  refine (Soft.sum_blocks (fun n => (b t g n).val) (fun x y h => hinj (Fin.ext h)) (fun n => (b t g n).isLt)
    (fun k : ℕ => (if k ≤ t.val then Real.exp (Spec.dot z t g r k / Real.sqrt 128) else 0) * f k)).trans ?_
  refine Finset.sum_congr rfl fun k _ => ?_
  unfold Spec.weight Spec.Sel
  by_cases h1 : ∃ n, (b t g n).val = k / 64
  · by_cases h2 : k ≤ t.val
    · rw [if_pos h1, if_pos h2, if_pos ⟨h1, h2⟩]
    · rw [if_pos h1, if_neg h2, if_neg fun h => h2 h.2]
  · rw [if_neg h1, if_neg fun h => h1 h.1, zero_mul]

include hZ hI in
/-- The reference's result at an index. -/
theorem chain_at (hinj : Function.Injective (b t g)) (h0 : ∃ n, (b t g n).val = 0) (d : Fin 128) :
    chain Z I (ix2 (n0 := 8192) (n1 := 2048) t ⟨g.val * 512 + r.val * 128 + d.val, by omega⟩)
      = (Spec.value z (b t g) t g r d : EReal) := by
  obtain ⟨n0, hn0⟩ := h0
  have hp : pos (b t g) (mk n0 0) = 0 := by rw [pos_mk, hn0]; rfl
  obtain ⟨M, j, hM, hj⟩ := Soft.fold_attained (score z b t g r) (score_ne_top z b t g r) (mk n0 0)
    (by unfold score; rw [hp, if_pos (Nat.zero_le _)]; exact EReal.coe_ne_bot _)
  obtain ⟨ε, hε, hεe⟩ := Value.ceps
  have hmx : mx (scores (mask I) (scores0 Z I)) (ix3 t g r) = (M : EReal) := by
    rw [mx_apply, ← hM]
    exact congrArg (fun f : Fin 1024 → EReal => Finset.univ.fold max (⊥ : EReal) f) (funext fun m => scores_at Z I z b hZ hI t g r m)
  have hmz := mz_apply (mx (scores (mask I) (scores0 Z I))) t g r M hmx
  have hw : ∀ m, wts (mask I) (scores (mask I) (scores0 Z I)) (mz (mx (scores (mask I) (scores0 Z I)))) (ix4 t g r m)
      = ((Soft.we (score z b t g r m) * Real.exp (-M) : ℝ) : EReal) := by
    intro m
    rw [wts_apply, mask_at I b hI, scores_at Z I z b hZ hI, hmz]
    by_cases h : pos (b t g) m ≤ t.val
    · rw [if_pos h, if_pos rfl]
      exact Soft.exp_sub _ (score_ne_top z b t g r m) M
    · rw [if_neg h, if_neg (by decide)]
      unfold score
      rw [if_neg h, Soft.we_bot, zero_mul]
      rfl
  unfold chain
  rw [result_apply]
  generalize wts (mask I) (scores (mask I) (scores0 Z I)) (mz (mx (scores (mask I) (scores0 Z I)))) = E at hw
  have hsm : sm E (ix3 t g r) = (∑ m : Fin 1024, ((Soft.we (score z b t g r m) * Real.exp (-M) : ℝ) : EReal) : EReal) := by
    rw [sm_apply]
    exact Finset.sum_congr rfl fun m _ => hw m
  have e : ∀ m, (prob E (ix4 t g r m) : EReal) * vals Z I (ix4 t g m d)
      = Ideal.div ((Soft.we (score z b t g r m) * Real.exp (-M) : ℝ) : EReal)
          (max (∑ m : Fin 1024, ((Soft.we (score z b t g r m) * Real.exp (-M) : ℝ) : EReal)) (ε : EReal))
        * (z (pos (b t g) m) (13824 + g.val * 128 + d.val) : EReal) := by
    intro m
    rw [prob_apply, hw, hsm, hεe, vals_at Z I z b hZ hI]
  rw [Finset.sum_congr rfl fun m _ => e m, Soft.softmax (score z b t g r) _ M j hj ε hε]
  unfold Spec.value
  rw [sum_sel z b t g r hinj fun k => z k (13824 + g.val * 128 + d.val)]
  have e1 := sum_sel z b t g r hinj fun _ => 1
  simp only [mul_one] at e1
  rw [e1]

end

end Cert.Proof.Ref

end
-- ==== Proof.Value.Algebraic.lean ====
/- The kernel's result is the reference's, on the arguments the precondition admits. -/
module

public import proofs.«01_k».proof.Defs
public import proofs.«01_k».proof.Proof.Frames
public import proofs.«01_k».proof.Proof.Value.Array
public import proofs.«01_k».proof.Proof.Value.Pre
public import proofs.«01_k».proof.Proof.Value.RefB

@[expose] public section

set_option maxRecDepth 16384

noncomputable section

open scoped Classical

namespace Cert.Proof

open Idealize.ShloMosaic Idealize.SL.Sem

/-- The array the kernel leaves is the reference's chain of the same arguments. -/
theorem out_eq (m : (ℓ : Loc Cert.KernelIdeal.nD Cert.KernelIdeal.τ Cert.KernelIdeal.sig) → Buf (Elt Ideal) ℓ)
    (hP : Cert.Pre_KernelIdeal_sound_selection m) (c : Dev Cert.KernelIdeal.nD) :
    (Ideal.dats (F := Idealize.ShloMosaic.Ideal) m 0 c).arrAt 5 (Cert.KernelIdeal.cfgs 0).N
      = (Ref.chain (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
        : Cert.KernelIdeal.S8192x2048.Idx → EReal) := by
  obtain ⟨z, b, hZ, hI, hinj, h0, hB⟩ := Pre.sound _ _ _ (hP c)
  refine (Value.arr_eq m c z b hZ hB h0).trans ?_
  funext y
  have hy : (y 1).val < 2048 := (y 1).isLt
  have e : y = (ix2 (⟨(y 0).val, (y 0).isLt⟩ : Fin 8192) (⟨(y 1).val, hy⟩ : Fin 2048) : Cert.KernelIdeal.S8192x2048.Idx) := eq_ix2 y
  have ej : (⟨(y 1).val, hy⟩ : Fin 2048)
      = ⟨(y 1).val / 512 * 512 + (y 1).val % 512 / 128 * 128 + (y 1).val % 128, by omega⟩ := Fin.ext (by simp only; omega)
  have k := Ref.chain_at _ _ z b hZ hI ⟨(y 0).val, (y 0).isLt⟩ ⟨(y 1).val / 512, by omega⟩ ⟨(y 1).val % 512 / 128, by omega⟩
    (hinj _ _) (h0 _ _) ⟨(y 1).val % 128, by omega⟩
  rw [e, ej]
  exact (Value.G_at z b _ ⟨(y 1).val / 512, by omega⟩ ⟨(y 1).val % 512 / 128, by omega⟩ ⟨(y 1).val % 128, by omega⟩ _ rfl).trans k.symm

theorem equal : Cert.algebraic_KernelIdeal_ReferenceIdeal_pre_sound_selection := by
  intro m g m' g' hP hagree
  refine ⟨fun c => (Ideal.dats (F := Idealize.ShloMosaic.Ideal) m 0 c).arrAt 5 (Cert.KernelIdeal.cfgs 0).N, ?_, ?_⟩
  · exact (θ_run _ _ _).mono (fun _ h c => ⟨(h.1 c).1 5,
      ((h.1 c).1 2).trans (((Ideal.dats m 0 c).arrAt_in 2 rfl _).trans (Cert.KernelIdeal.Gen.V_main_arg0 m c)),
      ((h.1 c).2 Cert.KernelIdeal.main_arg1 (Pipeline.mem_restRefs_of Cert.KernelIdeal.main_arg1 (by decide) (by decide))).trans
        (Cert.KernelIdeal.Gen.V_main_arg1 m c),
      ((h.1 c).1 3).trans (((Ideal.dats m 0 c).arrAt_in 3 rfl _).trans (Cert.KernelIdeal.Gen.V_main_arg2 m c))⟩)
      (Ideal.run (F := Idealize.ShloMosaic.Ideal) m g)
  · refine (θ_run _ _ _).mono (fun _ h c => ⟨(h c).1.trans ?_, (h c).2⟩) (Cert.ReferenceIdeal.Value.run (F := Idealize.ShloMosaic.Ideal) m' g')
    refine (Ref.res_eq m' c).trans ?_
    rw [(hagree c).1, (hagree c).2.1]
    exact (out_eq m hP c).symm

end Cert.Proof

end
-- ==== Proof.Proj.Spec.lean ====
/- The projection, as mathematics over the extended reals: the rows normalised and scaled, times the weights, the parts in
   the result's order, and the queries' and keys' columns rotated by their position. The rows have any index, and a
   position each: the prompt's and the sample's calls are both read by it. -/
module

public import Idealize.ShloMosaic.PureOps.Ideal
public import Idealize.ShloMosaic.Lib.Pointwise

@[expose] public section

noncomputable section

open scoped Classical

namespace Cert.Proof.ProjSpec

open Idealize.ShloMosaic

/-- The column blocks of the second weight array. -/
def Tail (n : ℕ) : Prop := n = 16 ∨ n = 17 ∨ n = 18 ∨ n = 19 ∨ n = 20 ∨ n = 21 ∨ n = 22 ∨ n = 23 ∨ n = 30

/-- The column blocks that are rotated. -/
def Rope (n : ℕ) : Prop := n = 0 ∨ n = 1 ∨ n = 2 ∨ n = 3 ∨ n = 24 ∨ n = 26 ∨ n = 28

/-- The weight column of a result column. -/
def col (n : ℕ) : ℕ :=
  if n < 2048 then n + 4096 else if n < 6144 then n - 2048 else if n < 8192 then n + 3072
  else if n < 12288 then n + 3120 else if n < 15360 then n - 6144 else n - 4096

theorem col_lt {n : ℕ} (h : n < 15408) : col n < 15408 := by
  unfold col
  split_ifs <;> omega

/-- The angle of a position and a frequency. -/
def theta (i d : ℕ) : EReal :=
  FloatOps.sitofp (F := Ideal) FTy.f32 (BitVec.ofNat 32 i) *
    Ideal.pow (Ideal.ofBits FTy.f32 1176256512#32)
      (Ideal.div (-FloatOps.sitofp (F := Ideal) FTy.f32 (BitVec.ofNat 32 d)) (Ideal.ofBits FTy.f32 1115684864#32))

section
variable {ι : Type} (pos : ι → ℕ) (X : ι → Fin 2048 → EReal) (g : Fin 2048 → EReal) (W : Fin 2048 → Fin 15408 → EReal)

/-- A row normalised and scaled. -/
def hn (i : ι) (k : Fin 2048) : EReal :=
  X i k * Ideal.rsqrt (Ideal.div (∑ x, X i x * X i x) (Ideal.ofBits FTy.f32 1157627904#32) + Ideal.ofBits FTy.f32 897988541#32) * g k

/-- Its product with the weights. -/
def z (i : ι) (n : Fin 15408) : EReal := ∑ k, hn X g i k * W k n

/-- The product's columns in the result's order, then zeros. -/
def zc (i : ι) (n : ℕ) : EReal := if h : n < 15408 then z X g W i ⟨col n, col_lt h⟩ else 0

/-- The result, of rows at given positions. -/
def out (i : ι) (n : ℕ) : EReal :=
  if Rope (n / 512) then
    zc X g W i n * Ideal.cos (theta (pos i) (n % 64))
      + zc X g W i (n / 128 * 128 + (n % 128 + 64) % 128)
        * (if n % 128 < 64 then -Ideal.sin (theta (pos i) (n % 64)) else Ideal.sin (theta (pos i) (n % 64)))
  else zc X g W i n

/-- A rotated column of the first half of 128. -/
theorem rot_lo (i : ι) (n d : ℕ) (a b : EReal) (hr : Rope (n / 512)) (hd : n % 128 < 64) (hdd : d = n % 64)
    (ha : a = zc X g W i n) (hb : b = zc X g W i (n + 64)) :
    a * Ideal.cos (theta (pos i) d) - b * Ideal.sin (theta (pos i) d) = out pos X g W i n := by
  unfold out
  rw [if_pos hr, if_pos hd, show n / 128 * 128 + (n % 128 + 64) % 128 = n + 64 by omega, ← ha, ← hb, ← hdd, mul_neg, sub_eq_add_neg]

/-- A rotated column of the second half of 128. -/
theorem rot_hi (i : ι) (n d : ℕ) (a b : EReal) (hr : Rope (n / 512)) (hd : ¬ n % 128 < 64) (hdd : d = n % 64)
    (ha : a = zc X g W i n) (hb : b = zc X g W i (n - 64)) :
    a * Ideal.cos (theta (pos i) d) + b * Ideal.sin (theta (pos i) d) = out pos X g W i n := by
  unfold out
  rw [if_pos hr, if_neg hd, show n / 128 * 128 + (n % 128 + 64) % 128 = n - 64 by omega, ← ha, ← hb, ← hdd]

/-- A column that is not rotated. -/
theorem out_plain (i : ι) (n : ℕ) (hr : ¬ Rope (n / 512)) : out pos X g W i n = zc X g W i n := if_neg hr

theorem col_q {n : ℕ} (h : n < 2048) : col n = n + 4096 := by
  unfold col
  rw [if_pos h]

theorem col_xr {n : ℕ} (h : 2048 ≤ n) (h' : n < 6144) : col n = n - 2048 := by
  unfold col
  rw [if_neg (by omega), if_pos h']

theorem col_gn {n : ℕ} (h : 6144 ≤ n) (h' : n < 8192) : col n = n + 3072 := by
  unfold col
  rw [if_neg (by omega), if_neg (by omega), if_pos h']

theorem col_mg {n : ℕ} (h : 8192 ≤ n) (h' : n < 12288) : col n = n + 3120 := by
  unfold col
  rw [if_neg (by omega), if_neg (by omega), if_neg (by omega), if_pos h']

theorem col_kv {n : ℕ} (h : 12288 ≤ n) (h' : n < 15360) : col n = n - 6144 := by
  unfold col
  rw [if_neg (by omega), if_neg (by omega), if_neg (by omega), if_neg (by omega), if_pos h']

theorem col_bg {n : ℕ} (h : 15360 ≤ n) : col n = n - 4096 := by
  unfold col
  rw [if_neg (by omega), if_neg (by omega), if_neg (by omega), if_neg (by omega), if_neg (by omega)]

theorem rope_iff (n : ℕ) : Rope (n / 512) ↔ n < 2048 ∨ 12288 ≤ n ∧ n < 15360 ∧ (n - 12288) / 512 % 2 = 0 := by
  unfold Rope
  omega

/-- A column of the product, by the result's column it is moved to. -/
theorem z_eq_zc (i : ι) (n : ℕ) (p : Fin 15408) (hn : n < 15408) (hp : col n = p.val) : z X g W i p = zc X g W i n := by
  unfold zc
  rw [dif_pos hn]
  exact congrArg (z X g W i) (Fin.ext hp.symm)

end

/-- The block of `w_in`'s transpose a column block reads. -/
def src (j : ℕ) : ℕ := if j < 4 then j + 8 else if j < 12 then j - 4 else if j < 16 then j + 6 else if j < 24 then 21 else if j < 30 then j - 12 else 17

/-- The block of the second weight array a column block reads. -/
def tl (j : ℕ) : ℕ := if j < 16 then 0 else if j < 24 then j - 16 else if j < 30 then 7 else 8

theorem tail_tl {j : ℕ} (h : Tail j) : j = 30 ∧ tl j = 8 ∨ 16 ≤ j ∧ j < 24 ∧ tl j = j - 16 := by
  unfold Tail at h
  unfold tl
  rcases h with h | h | h | h | h | h | h | h | h <;> subst h <;> decide

end Cert.Proof.ProjSpec

end
-- ==== Proof.Proj.Block.lean ====
/- A grid point of the projection: what its block holds at an index. -/
module

public import proofs.«01_k».proof.Proof.Gen.ProjIdeal.Frame
public import proofs.«01_k».proof.Proof.Proj.Spec
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open scoped Classical

namespace Cert.Proof.Proj

open Cert.ProjIdeal Cert.ProjIdeal.Gen
open Cert.Proof.ProjSpec
open Idealize.ShloMosaic Idealize.ShloMosaic.TcCoe

/-- A block of rows times a block of weights (a row of weights per column of the product). -/
def dot (h : S1024x2048.Idx → EReal) (w : S512x2048.Idx → EReal) (a : Fin 1024) (j : Fin 512) : EReal :=
  ∑ k : Fin 2048, h (ix2 a k) * w (ix2 j k)

/-- The product's columns rotated, 128 at a time. -/
def rot (h : S1024x2048.Idx → EReal) (w : S512x2048.Idx → EReal) (C S : S1024x128.Idx → EReal) (a : Fin 1024) (j : Fin 512) : EReal :=
  dot h w a j * C (ix2 a ⟨j.val % 128, by omega⟩)
    + dot h w a ⟨j.val / 128 * 128 + (j.val % 128 + 64) % 128, by omega⟩ * S (ix2 a ⟨j.val % 128, by omega⟩)

variable (m : (ℓ : Loc nD τ sig) → Buf (Elt Ideal) ℓ) (c : Dev nD) (t : Fin cfg0.N)

theorem pay2_at (h : S1024x2048.Idx → EReal) (w : S512x2048.Idx → EReal) (a : Fin 1024) (j : Fin 512) :
    (k0_pay2 (F := Ideal) h w (ix2 a j) : EReal) = dot h w a j := by
  unfold k0_pay2 dot
  pointwise

theorem pay6_at (C S x : S1024x128.Idx → EReal) (a : Fin 1024) (j : Fin 128) :
    (k0_pay6 (F := Ideal) C S x (ix2 a j) : EReal)
      = x (ix2 a j) * C (ix2 a j) + x (ix2 a ⟨(j.val + 64) % 128, by omega⟩) * S (ix2 a j) := by
  unfold k0_pay6 k0_pay4 k0_pay5
  pointwise
  simp only [show j.val + 128 - 64 = j.val + 64 from by omega]

section
variable (h : S1024x2048.Idx → EReal) (w : S512x2048.Idx → EReal) (C S : S1024x128.Idx → EReal)

/-- One piece of 128 columns, rotated: the columns from `o` of the rotated product. -/
theorem piece (o : ℕ) (ho : o % 128 = 0) (ho' : o + 128 ≤ 512) (inb)
    (x : (Rect.unit (s := S1024x512) ![0, o] S1024x128.size inb).shape.Idx) :
    (k0_pay6 (F := Ideal) C S (View.ld (k0_pay2 (F := Ideal) h w) (Rect.unit (s := S1024x512) ![0, o] S1024x128.size inb)) x : EReal)
      = (fun y : S1024x512.Idx => rot h w C S (y 0) (y 1)) ((Rect.unit (s := S1024x512) ![0, o] S1024x128.size inb).emb x) := by
  have x0 : (x 0).val < 1024 := (x 0).isLt
  have x1 : (x 1).val < 128 := (x 1).isLt
  have ex : x = (ix2 (⟨(x 0).val, x0⟩ : Fin 1024) (⟨(x 1).val, x1⟩ : Fin 128) : S1024x128.Idx) := eq_ix2 x
  have l : ∀ b : Fin 128, (View.ld (Val := Elt Ideal) (e' := .f32) (k0_pay2 (F := Ideal) h w) (Rect.unit (s := S1024x512) ![0, o] S1024x128.size inb)
      (ix2 (⟨(x 0).val, x0⟩ : Fin 1024) b : S1024x128.Idx) : EReal) = dot h w ⟨(x 0).val, x0⟩ ⟨o + b.val, by omega⟩ := fun b =>
    Eq.trans (View.ld_unit_apply_of (S := S1024x512) (Val := Elt Ideal) (e := .f32) (k0_pay2 (F := Ideal) h w) ![0, o] S1024x128.size inb
      (ix2 (⟨(x 0).val, x0⟩ : Fin 1024) b : S1024x128.Idx) (ix2 (⟨(x 0).val, x0⟩ : Fin 1024) (⟨o + b.val, by omega⟩ : Fin 512) : S1024x512.Idx)
      (Fin.forall_fin_two.mpr ⟨(Nat.zero_add _).symm, rfl⟩)) (pay2_at h w _ _)
  have e0 : ((Rect.unit (s := S1024x512) ![0, o] S1024x128.size inb).emb x) 0 = (⟨(x 0).val, x0⟩ : Fin 1024) :=
    Fin.ext ((Rect.idx_unit_val (s := S1024x512) ![0, o] S1024x128.size inb x 0).trans (Nat.zero_add _))
  have e1 : ((Rect.unit (s := S1024x512) ![0, o] S1024x128.size inb).emb x) 1 = (⟨o + (x 1).val, by omega⟩ : Fin 512) :=
    Fin.ext (Rect.idx_unit_val (s := S1024x512) ![0, o] S1024x128.size inb x 1)
  rw [ex]
  refine (pay6_at C S _ _ _).trans ?_
  rw [l, l, ← ex]
  show _ = rot h w C S _ _
  rw [e0, e1]
  unfold rot
  have m1 : (o + (x 1).val) % 128 = (x 1).val := by omega
  have m2 : (o + (x 1).val) / 128 * 128 = o := by omega
  simp only [m1, m2]
  rw [congrArg C ex, congrArg S ex]

/-- The stores of a rotated point, read back. -/
theorem rot_canon (L : List (View.Piece (Elt Ideal) S1024x512 .f32)) (i0 i1 i2 i3) (y : S1024x512.Idx) :
    (View.canon ([⟨Rect.unit (s := S1024x512) ![0, 384] S1024x128.size i3, k0_pay9 (F := Ideal) C S
            (View.ld (k0_pay2 (F := Ideal) h w) (Rect.unit (s := S1024x512) ![0, 384] S1024x128.size i3))⟩,
        ⟨Rect.unit (s := S1024x512) ![0, 256] S1024x128.size i2, k0_pay8 (F := Ideal) C S
            (View.ld (k0_pay2 (F := Ideal) h w) (Rect.unit (s := S1024x512) ![0, 256] S1024x128.size i2))⟩,
        ⟨Rect.unit (s := S1024x512) ![0, 128] S1024x128.size i1, k0_pay7 (F := Ideal) C S
            (View.ld (k0_pay2 (F := Ideal) h w) (Rect.unit (s := S1024x512) ![0, 128] S1024x128.size i1))⟩,
        ⟨Rect.unit (s := S1024x512) ![0, 0] S1024x128.size i0, k0_pay6 (F := Ideal) C S
            (View.ld (k0_pay2 (F := Ideal) h w) (Rect.unit (s := S1024x512) ![0, 0] S1024x128.size i0))⟩] ++ L) y : EReal)
      = rot h w C S (y 0) (y 1) :=
  View.canon_append_of_piecesOf (fun y : S1024x512.Idx => rot h w C S (y 0) (y 1)) L [_, _, _, _]
    ⟨piece h w C S 384 (by decide) (by decide) i3, piece h w C S 256 (by decide) (by decide) i2,
      piece h w C S 128 (by decide) (by decide) i1, piece h w C S 0 (by decide) (by decide) i0, trivial⟩ y
    (View.cover_of_tiledL (s := S1024x512) _ ![1024, 128] rfl y)

end

/-- What the point before left in the carried rows. -/
abbrev prev : S1024x2048.Idx → EReal := (outsAt0 (F := Ideal) m c (t.val - 1) (Nat.lt_of_le_of_lt (Nat.sub_le _ _) t.isLt)).2

/-- The normalised rows, as the first point of a run computes them. -/
abbrev rows : S1024x2048.Idx → EReal := k0_pay1 (F := Ideal) (iblk m c 0 t) (iblk m c 1 t)

theorem carry_A (h0 : t.val % 31 = 0) : (outsAt0 (F := Ideal) m c t.val t.isLt).2 = rows m c t := by
  have h1 : ¬ Tail (t.val % 31) := by unfold Tail; omega
  rw [outsAt0_A m c t h0 h1 h1 (Or.inl h0)]
  frame_open
  frame_out

theorem carry_BCD (h0 : ¬ t.val % 31 = 0) : (outsAt0 (F := Ideal) m c t.val t.isLt).2 = prev m c t := by
  by_cases h1 : Tail (t.val % 31)
  · have h3 : ¬ Rope (t.val % 31) := by unfold Tail at h1; unfold Rope; omega
    rw [outsAt0_D m c t h0 (not_not.mpr h1) h1 h3]
    rfl
  · by_cases h3 : Rope (t.val % 31)
    · rw [outsAt0_B m c t h0 h1 h1 h3]
      rfl
    · rw [outsAt0_C m c t h0 h1 h1 h3]
      rfl

theorem start_lt : 31 * (t.val / 31) < cfg0.N := Nat.lt_of_le_of_lt (Nat.mul_div_le _ _) t.isLt

/-- The carried rows are the rows of the run's first point. -/
theorem carry : (outsAt0 (F := Ideal) m c t.val t.isLt).2 = rows m c ⟨31 * (t.val / 31), start_lt t⟩ :=
  Pipeline.eq_of_write_hold (fun n h => (outsAt0 (F := Ideal) m c n h).2) 31 (fun t => rows m c t) (fun t h => carry_A m c t h)
    (fun t h => carry_BCD m c t h) t

theorem out_A (h0 : t.val % 31 = 0) (y : S1024x512.Idx) :
    ((outsAt0 (F := Ideal) m c t.val t.isLt).1 y : EReal)
      = rot (rows m c t) (X0_2 m c t) (iblk m c 4 t) (iblk m c 5 t) (y 0) (y 1) := by
  have h1 : ¬ Tail (t.val % 31) := by unfold Tail; omega
  rw [outsAt0_A m c t h0 h1 h1 (Or.inl h0)]
  frame_open
  simp (disch := decide) only [↓ View.readCov_skip, ↓ View.readCov_cons_toLoadRect, ↓ View.readCov_fill]
  frame_out
  exact rot_canon _ _ _ _ [_] _ _ _ _ y

theorem out_B (h0 : ¬ t.val % 31 = 0) (h3 : Rope (t.val % 31)) (y : S1024x512.Idx) :
    ((outsAt0 (F := Ideal) m c t.val t.isLt).1 y : EReal)
      = rot (prev m c t) (X0_2 m c t) (iblk m c 4 t) (iblk m c 5 t) (y 0) (y 1) := by
  have h1 : ¬ Tail (t.val % 31) := by unfold Rope at h3; unfold Tail; omega
  rw [outsAt0_B m c t h0 h1 h1 h3]
  frame_open
  simp (disch := decide) only [↓ View.readCov_skip, ↓ View.readCov_cons_toLoadRect, ↓ View.readCov_fill]
  frame_out
  simp only [read_unread_whole]
  exact rot_canon _ _ _ _ [_] _ _ _ _ y

theorem out_C (h0 : ¬ t.val % 31 = 0) (h1 : ¬ Tail (t.val % 31)) (h3 : ¬ Rope (t.val % 31)) (y : S1024x512.Idx) :
    ((outsAt0 (F := Ideal) m c t.val t.isLt).1 y : EReal) = dot (prev m c t) (X0_2 m c t) (y 0) (y 1) := by
  rw [outsAt0_C m c t h0 h1 h1 h3]
  frame_open
  frame_out
  simp only [read_unread_whole]
  exact (congrArg _ (eq_ix2 y)).trans (pay2_at _ _ _ _)

theorem out_D (h0 : ¬ t.val % 31 = 0) (h1 : Tail (t.val % 31)) (y : S1024x512.Idx) :
    ((outsAt0 (F := Ideal) m c t.val t.isLt).1 y : EReal) = dot (prev m c t) (iblk m c 3 t) (y 0) (y 1) := by
  have h3 : ¬ Rope (t.val % 31) := by unfold Tail at h1; unfold Rope; omega
  rw [outsAt0_D m c t h0 (not_not.mpr h1) h1 h3]
  frame_open
  frame_out
  simp only [read_unread_whole]
  exact (congrArg _ (eq_ix2 y)).trans (pay2_at _ _ _ _)

/-- A point's block, over the rows of its run's first point. -/
theorem out_at (y : S1024x512.Idx) :
    ((outsAt0 (F := Ideal) m c t.val t.isLt).1 y : EReal)
      = if Tail (t.val % 31) then dot (rows m c ⟨31 * (t.val / 31), start_lt t⟩) (iblk m c 3 t) (y 0) (y 1)
        else if Rope (t.val % 31) then
          rot (rows m c ⟨31 * (t.val / 31), start_lt t⟩) (X0_2 m c t) (iblk m c 4 t) (iblk m c 5 t) (y 0) (y 1)
        else dot (rows m c ⟨31 * (t.val / 31), start_lt t⟩) (X0_2 m c t) (y 0) (y 1) := by
  rw [← carry m c t]
  by_cases h0 : t.val % 31 = 0
  · have h1 : ¬ Tail (t.val % 31) := by unfold Tail; omega
    rw [if_neg h1, if_pos (show Rope (t.val % 31) from Or.inl h0), out_A m c t h0, carry_A m c t h0]
  · rw [carry_BCD m c t h0]
    by_cases h1 : Tail (t.val % 31)
    · rw [if_pos h1, out_D m c t h0 h1]
    · rw [if_neg h1]
      by_cases h3 : Rope (t.val % 31)
      · rw [if_pos h3, out_B m c t h0 h3]
      · rw [if_neg h3, out_C m c t h0 h1 h3]

end Cert.Proof.Proj

end
-- ==== Proof.Proj.Host.lean ====
/- The arrays the projection's call is given, read at an index, and the blocks its windows hold. -/
module

public import proofs.«01_k».proof.Proof.Proj.Block
public import Idealize.ShloMosaic.Lib.StableHlo.Run

@[expose] public section

set_option maxRecDepth 16384

noncomputable section

open scoped Classical

namespace Cert.Proof.Proj

open Cert.ProjIdeal Cert.ProjIdeal.Gen
open Cert.Proof.ProjSpec
open Idealize.ShloMosaic Idealize.ShloMosaic.TcCoe

variable (m : (ℓ : Loc nD τ sig) → Buf (Elt Ideal) ℓ) (c : Dev nD) (t : Fin cfg0.N)

abbrev Xin : S1x8192x2048.Idx → EReal := m ((c : Thread nD τ).loc main_arg0)
abbrev Gin : S1x2048.Idx → EReal := m ((c : Thread nD τ).loc main_arg1)
abbrev Win : S1x2048x15408.Idx → EReal := m ((c : Thread nD τ).loc main_arg2)

/-- The transposed weights. -/
def wt (W : S1x2048x15408.Idx → EReal) : FVec Ideal S15408x2048 .f32 :=
  transpose S15408x2048 [1, 0] (shapeCast _ W shapeCasts_S1x2048x15408_S2048x15408) transposes_S2048x15408_S15408x2048_1_0

/-- The angles. -/
def ang : FVec Ideal S8192x64 .f32 :=
  mulf (broadcastInDim S8192x64 ![0, 1] bcast_S8192x1_S8192x64_0_1 (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- The weights of the last columns. -/
def wtail (W : S1x2048x15408.Idx → EReal) : FVec Ideal S4608x2048 .f32 :=
  concatenate S4608x2048 0 [⟨S4096x2048, extractStridedSlice S4096x2048 ![11312, 0] (wt W) slices_S15408x2048_S4096x2048_11312_0⟩,
    ⟨S48x2048, extractStridedSlice S48x2048 ![11264, 0] (wt W) slices_S15408x2048_S48x2048_11264_0⟩,
    ⟨S464x2048, broadcastInDim S464x2048 ![] bcast_S_S464x2048 (constant S_ .f32 0x00000000#32)⟩] concatenates_S4096x2048_S48x2048_S464x2048_S4608x2048_d0

theorem V_x : V (F := Ideal) m c main_v24 = shapeCast _ (Xin m c) shapeCasts_S1x8192x2048_S8192x2048 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_w : V (F := Ideal) m c main_v1 = wt (Win m c) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_tail : V (F := Ideal) m c main_v5 = wtail (Win m c) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_cos : V (F := Ideal) m c main_v21
    = concatenate S8192x128 1 [⟨S8192x64, Host.cos ang⟩, ⟨S8192x64, Host.cos ang⟩] concatenates_S8192x64_S8192x64_S8192x128_d1 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_sin : V (F := Ideal) m c main_v23
    = concatenate S8192x128 1 [⟨S8192x64, Host.negf (Host.sin ang)⟩, ⟨S8192x64, Host.sin ang⟩] concatenates_S8192x64_S8192x64_S8192x128_d1 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem wt_at (W : S1x2048x15408.Idx → EReal) (n : Fin 15408) (k : Fin 2048) : (wt W (ix2 n k) : EReal) = W (ix3 0 k n) := by
  unfold wt
  pointwise

theorem wtail_at (W : S1x2048x15408.Idx → EReal) (n : Fin 4608) (k : Fin 2048) : (wtail W (ix2 n k) : EReal)
    = if h : n.val < 4096 then W (ix3 0 k ⟨11312 + n.val, by omega⟩)
      else if h : n.val < 4144 then W (ix3 0 k ⟨7168 + n.val, by omega⟩) else 0 := by
  unfold wtail wt
  pointwise
  by_cases h1 : n.val < 4096
  · rw [dif_pos h1, dif_pos h1]
  · rw [dif_neg h1, dif_neg h1]
    by_cases h2 : n.val < 4144
    · rw [dif_pos h2, dif_pos (by omega)]
      exact congrArg (fun q => W (ix3 0 k q)) (Fin.ext (by simp only; omega))
    · rw [dif_neg h2, dif_neg (by omega)]

theorem ang_at (i : Fin 8192) (d : Fin 64) : (ang (ix2 i d) : EReal) = theta i.val d.val := by
  unfold ang theta
  pointwise

theorem cos_at (i : Fin 8192) (d : Fin 128) : (V (F := Ideal) m c main_v21 (ix2 i d) : EReal) = Ideal.cos (theta i.val (d.val % 64)) := by
  rw [V_cos]
  pointwise
  by_cases h : d.val < 64
  · rw [dif_pos h, ang_at, Nat.mod_eq_of_lt h]
  · rw [dif_neg h, ang_at]
    exact congrArg (fun q => Ideal.cos (theta i.val q)) (show d.val - 64 = d.val % 64 by omega)

theorem sin_at (i : Fin 8192) (d : Fin 128) : (V (F := Ideal) m c main_v23 (ix2 i d) : EReal)
    = if d.val < 64 then -Ideal.sin (theta i.val (d.val % 64)) else Ideal.sin (theta i.val (d.val % 64)) := by
  rw [V_sin]
  pointwise
  by_cases h : d.val < 64
  · rw [dif_pos h, if_pos h, ang_at, Nat.mod_eq_of_lt h]
  · rw [dif_neg h, if_neg h, ang_at]
    exact congrArg (fun q => Ideal.sin (theta i.val q)) (show d.val - 64 = d.val % 64 by omega)

theorem index0 : ∀ t : Fin cfg0.N, (cfg0.win 0).index t = ![t.val / 31, 0] := by decide +kernel
theorem index1 : ∀ t : Fin cfg0.N, (cfg0.win 1).index t = ![0, 0] := by decide +kernel
theorem index2 : ∀ t : Fin cfg0.N, (cfg0.win 2).index t = ![src (t.val % 31), 0] := by decide +kernel
theorem index3 : ∀ t : Fin cfg0.N, (cfg0.win 3).index t = ![tl (t.val % 31), 0] := by decide +kernel
theorem index4 : ∀ t : Fin cfg0.N, (cfg0.win 4).index t = ![t.val / 31, 0] := by decide +kernel
theorem index5 : ∀ t : Fin cfg0.N, (cfg0.win 5).index t = ![t.val / 31, 0] := by decide +kernel
theorem index6 : ∀ t : Fin cfg0.N, (cfg0.win 6).index t = ![t.val / 31, t.val % 31] := by decide +kernel
theorem src_lt : ∀ t : Fin cfg0.N, src (t.val % 31) < 30 := by decide +kernel
theorem tl_lt : ∀ t : Fin cfg0.N, tl (t.val % 31) < 9 := by decide +kernel

theorem row_lt (a : Fin 1024) : t.val / 31 * 1024 + a.val < 8192 := by
  have : t.val < 248 := t.isLt
  omega

theorem src_row_lt (j : Fin 512) : src (t.val % 31) * 512 + j.val < 15408 := by
  have := src_lt t
  omega

theorem tl_row_lt (j : Fin 512) : tl (t.val % 31) * 512 + j.val < 4608 := by
  have := tl_lt t
  omega

theorem x_at (i : Fin 8192) (k : Fin 2048) : (V (F := Ideal) m c main_v24 (ix2 i k) : EReal) = Xin m c (ix3 0 i k) := by
  rw [V_x]
  pointwise

theorem w_at (n : Fin 15408) (k : Fin 2048) : (V (F := Ideal) m c main_v1 (ix2 n k) : EReal) = Win m c (ix3 0 k n) := by
  rw [V_w]
  exact wt_at _ _ _

theorem blk0 (a : Fin 1024) (k : Fin 2048) :
    (iblk (F := Ideal) m c 0 t : S1024x2048.Idx → EReal) (ix2 a k) = Xin m c (ix3 0 ⟨t.val / 31 * 1024 + a.val, row_lt t a⟩ k) := by
  refine Eq.trans ?_ (x_at m c _ _)
  blk_ext [iblk, index0 t]

theorem blk1 (k : Fin 2048) : (iblk (F := Ideal) m c 1 t : S1x2048.Idx → EReal) (ix2 0 k) = Gin m c (ix2 0 k) := by
  blk_ext [iblk, V_main_arg1 m c, index1 t]

theorem blk2 (j : Fin 512) (k : Fin 2048) :
    (X0_2 (F := Ideal) m c t : S512x2048.Idx → EReal) (ix2 j k) = Win m c (ix3 0 k ⟨src (t.val % 31) * 512 + j.val, src_row_lt t j⟩) := by
  refine Eq.trans ?_ (w_at m c _ _)
  unfold X0_2 Pipeline.Window.fill
  rw [dif_pos (moved0_2 t _)]
  blk_ext [iblk, index2 t]

theorem blk3 (j : Fin 512) (k : Fin 2048) :
    (iblk (F := Ideal) m c 3 t : S512x2048.Idx → EReal) (ix2 j k) = wtail (Win m c) (ix2 ⟨tl (t.val % 31) * 512 + j.val, tl_row_lt t j⟩ k) := by
  blk_ext [iblk, V_tail m c, index3 t]

theorem blk4 (a : Fin 1024) (d : Fin 128) :
    (iblk (F := Ideal) m c 4 t : S1024x128.Idx → EReal) (ix2 a d) = Ideal.cos (theta (t.val / 31 * 1024 + a.val) (d.val % 64)) := by
  refine Eq.trans ?_ (cos_at m c ⟨t.val / 31 * 1024 + a.val, row_lt t a⟩ d)
  blk_ext [iblk, index4 t]

theorem blk5 (a : Fin 1024) (d : Fin 128) :
    (iblk (F := Ideal) m c 5 t : S1024x128.Idx → EReal) (ix2 a d)
      = if d.val < 64 then -Ideal.sin (theta (t.val / 31 * 1024 + a.val) (d.val % 64)) else Ideal.sin (theta (t.val / 31 * 1024 + a.val) (d.val % 64)) := by
  refine Eq.trans ?_ (sin_at m c ⟨t.val / 31 * 1024 + a.val, row_lt t a⟩ d)
  blk_ext [iblk, index5 t]

/-- The arguments, by their coordinates. -/
abbrev xs (i : Fin 8192) (k : Fin 2048) : EReal := Xin m c (ix3 0 i k)
abbrev gs (k : Fin 2048) : EReal := Gin m c (ix2 0 k)
abbrev ws (k : Fin 2048) (n : Fin 15408) : EReal := Win m c (ix3 0 k n)

theorem rows_at (a : Fin 1024) (k : Fin 2048) :
    (rows m c t (ix2 a k) : EReal) = hn (xs m c) (gs m c) ⟨t.val / 31 * 1024 + a.val, row_lt t a⟩ k := by
  unfold rows k0_pay1 hn
  pointwise
  simp only [blk0, blk1]

end Cert.Proof.Proj

end
-- ==== Proof.Proj.Array.lean ====
/- The array the projection's points make. -/
module

public import proofs.«01_k».proof.Proof.Proj.Host

@[expose] public section

set_option maxRecDepth 16384

noncomputable section

open scoped Classical

namespace Cert.Proof.Proj

open Cert.ProjIdeal Cert.ProjIdeal.Gen
open Cert.Proof.ProjSpec
open Idealize.ShloMosaic Idealize.ShloMosaic.TcCoe

variable (m : (ℓ : Loc nD τ sig) → Buf (Elt Ideal) ℓ) (c : Dev nD) (t : Fin cfg0.N)

theorem start_div : 31 * (t.val / 31) / 31 = t.val / 31 := by omega

/-- The rows of a run, at any of its points. -/
theorem start_rows_at (a : Fin 1024) (k : Fin 2048) :
    (rows m c ⟨31 * (t.val / 31), start_lt t⟩ (ix2 a k) : EReal)
      = hn (xs m c) (gs m c) ⟨t.val / 31 * 1024 + a.val, row_lt t a⟩ k := by
  refine (rows_at m c _ a k).trans ?_
  simp only [start_div]

/-- A column block of the first weight array: the result's columns before rotation. -/
theorem dot_src (h1 : ¬ Tail (t.val % 31)) (a : Fin 1024) (j : Fin 512) :
    dot (rows m c ⟨31 * (t.val / 31), start_lt t⟩) (X0_2 (F := Ideal) m c t) a j
      = zc (xs m c) (gs m c) (ws m c) ⟨t.val / 31 * 1024 + a.val, row_lt t a⟩ (t.val % 31 * 512 + j.val) := by
  have hj : t.val % 31 * 512 + j.val < 15408 := by unfold Tail at h1; omega
  have e : col (t.val % 31 * 512 + j.val) = src (t.val % 31) * 512 + j.val := by
    unfold Tail at h1
    unfold col src
    split_ifs <;> omega
  unfold dot zc z
  rw [dif_pos hj]
  refine Finset.sum_congr rfl fun k _ => ?_
  rw [start_rows_at, blk2]
  simp only [e]

/-- A column block of the second weight array: the result's columns, and zeros after them. -/
theorem dot_tail (h1 : Tail (t.val % 31)) (a : Fin 1024) (j : Fin 512) :
    dot (rows m c ⟨31 * (t.val / 31), start_lt t⟩) (iblk (F := Ideal) m c 3 t) a j
      = zc (xs m c) (gs m c) (ws m c) ⟨t.val / 31 * 1024 + a.val, row_lt t a⟩ (t.val % 31 * 512 + j.val) := by
  have hw : ∀ k, (iblk (F := Ideal) m c 3 t : S512x2048.Idx → EReal) (ix2 j k)
      = if h : t.val % 31 * 512 + j.val < 15408 then ws m c k ⟨col (t.val % 31 * 512 + j.val), col_lt h⟩ else 0 := fun k => by
    rw [blk3, wtail_at]
    rcases tail_tl h1 with ⟨h, e⟩ | ⟨h, h', e⟩
    · rw [dif_neg (show ¬ tl (t.val % 31) * 512 + j.val < 4096 by omega)]
      by_cases hj : j.val < 48
      · rw [dif_pos (show tl (t.val % 31) * 512 + j.val < 4144 by omega), dif_pos (show t.val % 31 * 512 + j.val < 15408 by omega)]
        refine congrArg (ws m c k) (Fin.ext ?_)
        show 7168 + (tl (t.val % 31) * 512 + j.val) = col (t.val % 31 * 512 + j.val)
        rw [col_bg (by omega)]
        omega
      · rw [dif_neg (show ¬ tl (t.val % 31) * 512 + j.val < 4144 by omega), dif_neg (show ¬ t.val % 31 * 512 + j.val < 15408 by omega)]
    · rw [dif_pos (show tl (t.val % 31) * 512 + j.val < 4096 by omega), dif_pos (show t.val % 31 * 512 + j.val < 15408 by omega)]
      refine congrArg (ws m c k) (Fin.ext ?_)
      show 11312 + (tl (t.val % 31) * 512 + j.val) = col (t.val % 31 * 512 + j.val)
      rw [col_mg (by omega) (by omega)]
      omega
  unfold dot zc z
  by_cases hj : t.val % 31 * 512 + j.val < 15408
  · rw [dif_pos hj]
    refine Finset.sum_congr rfl fun k _ => ?_
    rw [start_rows_at, hw, dif_pos hj]
  · rw [dif_neg hj]
    refine Finset.sum_eq_zero fun k _ => ?_
    rw [hw, dif_neg hj, mul_zero]

/-- The result array. -/
def G : S8192x15872.Idx → EReal := fun y => out Fin.val (xs m c) (gs m c) (ws m c) ⟨(y 0).val, (y 0).isLt⟩ (y 1).val

/-- A point's block: the result at the block's place. -/
theorem point_eq (y : S1024x512.Idx) (i : Fin 8192) (n : ℕ) (hi : i.val = t.val / 31 * 1024 + (y 0).val)
    (hn : n = t.val % 31 * 512 + (y 1).val) :
    ((outsAt0 (F := Ideal) m c t.val t.isLt).1 y : EReal) = out Fin.val (xs m c) (gs m c) (ws m c) i n := by
  have y0 : (y 0).val < 1024 := (y 0).isLt
  have y1 : (y 1).val < 512 := (y 1).isLt
  have ei : i = ⟨t.val / 31 * 1024 + (y 0).val, row_lt t ⟨(y 0).val, y0⟩⟩ := Fin.ext hi
  have ed : n / 512 = t.val % 31 := by omega
  rw [out_at m c t y]
  unfold out
  rw [ed]
  by_cases h1 : Tail (t.val % 31)
  · have h3 : ¬ Rope (t.val % 31) := by unfold Tail at h1; unfold Rope; omega
    rw [if_pos h1, if_neg h3, ei, hn]
    exact dot_tail m c t h1 _ _
  · rw [if_neg h1]
    by_cases h3 : Rope (t.val % 31)
    · rw [if_pos h3, if_pos h3]
      unfold rot
      have e1 : n % 128 = (y 1).val % 128 := by omega
      have e2 : n % 64 = (y 1).val % 128 % 64 := by omega
      have e3 : n / 128 * 128 + (n % 128 + 64) % 128 = t.val % 31 * 512 + ((y 1).val / 128 * 128 + ((y 1).val % 128 + 64) % 128) := by omega
      refine congrArg₂ (· + ·) (congrArg₂ (· * ·) ?_ ?_) (congrArg₂ (· * ·) ?_ ?_)
      · rw [ei, hn]
        exact dot_src m c t h1 _ _
      · rw [e2, ei]
        exact blk4 m c t (y 0) ⟨(y 1).val % 128, by omega⟩
      · rw [e3, ei]
        exact dot_src m c t h1 _ _
      · rw [e1, e2, ei]
        exact blk5 m c t (y 0) ⟨(y 1).val % 128, by omega⟩
    · rw [if_neg h3, if_neg h3, ei, hn]
      exact dot_src m c t h1 _ _

theorem arr_eq : (dats (F := Ideal) m 0 c).arrAt 6 (cfgs 0).N = (G m c : S8192x15872.Idx → EReal) := by
  refine (dats (F := Ideal) m 0 c).arrAt_eq_of_covers 6 _ (by decide +kernel) fun t hf y => ?_
  have ht : t.val < 248 := t.isLt
  have y0 : (y 0).val < 1024 := (y 0).isLt
  have y1 : (y 1).val < 512 := (y 1).isLt
  have e : (((cfgs 0).win 6).blk t).view.emb y
      = (ix2 ⟨t.val / 31 * 1024 + (y 0).val, by omega⟩ ⟨t.val % 31 * 512 + (y 1).val, by omega⟩ : S8192x15872.Idx) := by
    blk_ext [index6 t]
  have p := point_eq m c t y ⟨t.val / 31 * 1024 + (y 0).val, by omega⟩ (t.val % 31 * 512 + (y 1).val) rfl rfl
  rw [e]
  show _ = out Fin.val (xs m c) (gs m c) (ws m c) ⟨t.val / 31 * 1024 + (y 0).val, _⟩ (t.val % 31 * 512 + (y 1).val)
  rw [← p, after0_6]
  rfl

end Cert.Proof.Proj

end
-- ==== Proof.Proj.Ref.lean ====
/- The reference's projection as a chain of named arrays, each read at an index. -/
module

public import proofs.«01_k».proof.Proof.Gen.ProjRefIdeal.Run
public import proofs.«01_k».proof.Proof.Proj.Spec
public import Idealize.ShloMosaic.PureOps.Ideal
public import Idealize.ShloMosaic.Lib.Pointwise

@[expose] public section

set_option maxRecDepth 16384

noncomputable section

open scoped Classical

namespace Cert.Proof.ProjRef

open Cert.ProjRefIdeal Cert.ProjRefIdeal.Gen Cert.ProjRefIdeal.Value Cert.Proof.ProjSpec
open Idealize.ShloMosaic Idealize.ShloMosaic.TcCoe

/-- The normalised, scaled rows. -/
def rhn (X : FVec Ideal S1x8192x2048 .f32) (g : FVec Ideal S1x2048 .f32) : FVec Ideal S1x8192x2048 .f32 :=
  mulf (mulf X (broadcastInDim S1x8192x2048 ![0, 1, 2] bcast_S1x8192x1_S1x8192x2048_0_1_2 (Host.rsqrt (addf
      (Host.divf (broadcastInDim S1x8192x1 ![0, 1] bcast_S1x8192_S1x8192x1_0_1
          (Host.reduceAdd (mulf X X) (constant S_ .f32 0x00000000#32) reducesTo_S1x8192x2048_S1x8192_d2 h_S_))
        (broadcastInDim S1x8192x1 ![] bcast_S_S1x8192x1 (constant S_ .f32 0x45000000#32)))
      (broadcastInDim S1x8192x1 ![] bcast_S_S1x8192x1 (constant S_ .f32 0x358637BD#32))))))
    (broadcastInDim S1x8192x2048 ![0, 1, 2] bcast_S1x1x2048_S1x8192x2048_0_1_2 (broadcastInDim S1x1x2048 ![2] bcast_S2048_S1x1x2048_2
      (shapeCast _ g shapeCasts_S1x2048_S2048)))

/-- Their product with the weights. -/
def rz (X : FVec Ideal S1x8192x2048 .f32) (g : FVec Ideal S1x2048 .f32) (W : FVec Ideal S1x2048x15408 .f32) : FVec Ideal S1x8192x15408 .f32 :=
  Host.dotGeneral dot_S1x8192x2048_S2048x15408_S1x8192x15408_2_0_01_1_n_n none (rhn X g) (shapeCast _ W shapeCasts_S1x2048x15408_S2048x15408)

/-- The angles. -/
def rang : FVec Ideal S8192x64 .f32 :=
  mulf (broadcastInDim S8192x64 ![0, 1] bcast_S8192x1_S8192x64_0_1 (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- The queries, rotated. -/
def rq (Z : FVec Ideal S1x8192x15408 .f32) : FVec Ideal S1x8192x16x128 .f32 :=
  have q : FVec Ideal S1x8192x16x128 .f32 :=
    shapeCast _ (extractStridedSlice S1x8192x2048 ![0, 0, 4096] Z slices_S1x8192x15408_S1x8192x2048_0_0_4096) shapeCasts_S1x8192x2048_S1x8192x16x128
  have a : FVec Ideal S1x8192x16x64 .f32 := extractStridedSlice S1x8192x16x64 ![0, 0, 0, 0] q slices_S1x8192x16x128_S1x8192x16x64_0_0_0_0
  have b : FVec Ideal S1x8192x16x64 .f32 := extractStridedSlice S1x8192x16x64 ![0, 0, 0, 64] q slices_S1x8192x16x128_S1x8192x16x64_0_0_0_64
  have C : FVec Ideal S1x8192x16x64 .f32 := broadcastInDim S1x8192x16x64 ![0, 1, 2, 3] bcast_S1x8192x1x64_S1x8192x16x64_0_1_2_3
    (broadcastInDim S1x8192x1x64 ![1, 2, 3] bcast_S8192x1x64_S1x8192x1x64_1_2_3 (shapeCast _ (Host.cos rang) shapeCasts_S8192x64_S8192x1x64))
  have S : FVec Ideal S1x8192x16x64 .f32 := broadcastInDim S1x8192x16x64 ![0, 1, 2, 3] bcast_S1x8192x1x64_S1x8192x16x64_0_1_2_3
    (broadcastInDim S1x8192x1x64 ![1, 2, 3] bcast_S8192x1x64_S1x8192x1x64_1_2_3 (shapeCast _ (Host.sin rang) shapeCasts_S8192x64_S8192x1x64))
  concatenate S1x8192x16x128 3 [⟨S1x8192x16x64, subf (mulf a C) (mulf b S)⟩, ⟨S1x8192x16x64, addf (mulf b C) (mulf a S)⟩]
    concatenates_S1x8192x16x64_S1x8192x16x64_S1x8192x16x128_d3

/-- The keys and values by kind, key or value, group and channel. -/
def rkv (Z : FVec Ideal S1x8192x15408 .f32) : FVec Ideal S1x8192x3x2x4x128 .f32 :=
  shapeCast _ (extractStridedSlice S1x8192x3072 ![0, 0, 6144] Z slices_S1x8192x15408_S1x8192x3072_0_0_6144) shapeCasts_S1x8192x3072_S1x8192x3x2x4x128

/-- The keys, rotated. -/
def rk (Z : FVec Ideal S1x8192x15408 .f32) : FVec Ideal S1x8192x3x4x128 .f32 :=
  have q : FVec Ideal S1x8192x3x4x128 .f32 :=
    shapeCast _ (extractStridedSlice S1x8192x3x1x4x128 ![0, 0, 0, 0, 0, 0] (rkv Z) slices_S1x8192x3x2x4x128_S1x8192x3x1x4x128_0_0_0_0_0_0)
      shapeCasts_S1x8192x3x1x4x128_S1x8192x3x4x128
  have a : FVec Ideal S1x8192x3x4x64 .f32 := extractStridedSlice S1x8192x3x4x64 ![0, 0, 0, 0, 0] q slices_S1x8192x3x4x128_S1x8192x3x4x64_0_0_0_0_0
  have b : FVec Ideal S1x8192x3x4x64 .f32 := extractStridedSlice S1x8192x3x4x64 ![0, 0, 0, 0, 64] q slices_S1x8192x3x4x128_S1x8192x3x4x64_0_0_0_0_64
  have C : FVec Ideal S1x8192x3x4x64 .f32 := broadcastInDim S1x8192x3x4x64 ![0, 1, 2, 3, 4] bcast_S1x8192x1x1x64_S1x8192x3x4x64_0_1_2_3_4
    (broadcastInDim S1x8192x1x1x64 ![1, 2, 3, 4] bcast_S8192x1x1x64_S1x8192x1x1x64_1_2_3_4 (shapeCast _ (Host.cos rang) shapeCasts_S8192x64_S8192x1x1x64))
  have S : FVec Ideal S1x8192x3x4x64 .f32 := broadcastInDim S1x8192x3x4x64 ![0, 1, 2, 3, 4] bcast_S1x8192x1x1x64_S1x8192x3x4x64_0_1_2_3_4
    (broadcastInDim S1x8192x1x1x64 ![1, 2, 3, 4] bcast_S8192x1x1x64_S1x8192x1x1x64_1_2_3_4 (shapeCast _ (Host.sin rang) shapeCasts_S8192x64_S8192x1x1x64))
  concatenate S1x8192x3x4x128 4 [⟨S1x8192x3x4x64, subf (mulf a C) (mulf b S)⟩, ⟨S1x8192x3x4x64, addf (mulf b C) (mulf a S)⟩]
    concatenates_S1x8192x3x4x64_S1x8192x3x4x64_S1x8192x3x4x128_d4

/-- The rotated keys and the values. -/
def rkv' (Z : FVec Ideal S1x8192x15408 .f32) : FVec Ideal S1x8192x3x2x4x128 .f32 :=
  concatenate S1x8192x3x2x4x128 3
    [⟨S1x8192x3x1x4x128, broadcastInDim S1x8192x3x1x4x128 ![0, 1, 2, 4, 5] bcast_S1x8192x3x4x128_S1x8192x3x1x4x128_0_1_2_4_5 (rk Z)⟩,
     ⟨S1x8192x3x1x4x128, broadcastInDim S1x8192x3x1x4x128 ![0, 1, 2, 4, 5] bcast_S1x8192x3x4x128_S1x8192x3x1x4x128_0_1_2_4_5
        (shapeCast _ (extractStridedSlice S1x8192x3x1x4x128 ![0, 0, 0, 1, 0, 0] (rkv Z) slices_S1x8192x3x2x4x128_S1x8192x3x1x4x128_0_0_0_1_0_0)
          shapeCasts_S1x8192x3x1x4x128_S1x8192x3x4x128)⟩]
    concatenates_S1x8192x3x1x4x128_S1x8192x3x1x4x128_S1x8192x3x2x4x128_d3

/-- The parts side by side. -/
def rall (Z : FVec Ideal S1x8192x15408 .f32) (Q : FVec Ideal S1x8192x16x128 .f32) (KV : FVec Ideal S1x8192x3x2x4x128 .f32) : FVec Ideal S8192x15872 .f32 :=
  shapeCast _ (concatenate S1x8192x15872 2
    [⟨S1x8192x2048, shapeCast _ Q shapeCasts_S1x8192x16x128_S1x8192x2048⟩,
     ⟨S1x8192x2048, extractStridedSlice S1x8192x2048 ![0, 0, 0] Z slices_S1x8192x15408_S1x8192x2048_0_0_0⟩,
     ⟨S1x8192x2048, extractStridedSlice S1x8192x2048 ![0, 0, 2048] Z slices_S1x8192x15408_S1x8192x2048_0_0_2048⟩,
     ⟨S1x8192x2048, extractStridedSlice S1x8192x2048 ![0, 0, 9216] Z slices_S1x8192x15408_S1x8192x2048_0_0_9216⟩,
     ⟨S1x8192x4096, extractStridedSlice S1x8192x4096 ![0, 0, 11312] Z slices_S1x8192x15408_S1x8192x4096_0_0_11312⟩,
     ⟨S1x8192x3072, shapeCast _ KV shapeCasts_S1x8192x3x2x4x128_S1x8192x3072⟩,
     ⟨S1x8192x48, extractStridedSlice S1x8192x48 ![0, 0, 11264] Z slices_S1x8192x15408_S1x8192x48_0_0_11264⟩,
     ⟨S1x8192x464, broadcastInDim S1x8192x464 ![] bcast_S_S1x8192x464 (constant S_ .f32 0x00000000#32)⟩]
    concatenates_S1x8192x2048_S1x8192x2048_S1x8192x2048_S1x8192x2048_S1x8192x4096_S1x8192x3072_S1x8192x48_S1x8192x464_S1x8192x15872_d2)
    shapeCasts_S1x8192x15872_S8192x15872

/-- The chain. -/
def chain (X : FVec Ideal S1x8192x2048 .f32) (g : FVec Ideal S1x2048 .f32) (W : FVec Ideal S1x2048x15408 .f32) : FVec Ideal S8192x15872 .f32 :=
  rall (rz X g W) (rq (rz X g W)) (rkv' (rz X g W))

theorem res_eq (m : (ℓ : Loc nD τ sig) → Buf (Elt Ideal) ℓ) (c : Dev nD) :
    res_out0 (F := Ideal) m c = chain (m ((c.tc : Thread nD τ).loc main_arg0)) (m ((c.tc : Thread nD τ).loc main_arg1))
      (m ((c.tc : Thread nD τ).loc main_arg2)) := rfl

section
variable (X : S1x8192x2048.Idx → EReal) (g : S1x2048.Idx → EReal) (W : S1x2048x15408.Idx → EReal)

theorem rhn_at (i : Fin 8192) (k : Fin 2048) :
    (rhn X g (ix3 0 i k) : EReal) = hn (fun i k => X (ix3 0 i k)) (fun k => g (ix2 0 k)) i k := by
  unfold rhn hn
  pointwise

theorem rz_at (i : Fin 8192) (n : Fin 15408) :
    (rz X g W (ix3 0 i n) : EReal) = z (fun i k => X (ix3 0 i k)) (fun k => g (ix2 0 k)) (fun k n => W (ix3 0 k n)) i n := by
  unfold rz z
  pointwise
  exact Finset.sum_congr rfl fun k _ => by rw [rhn_at]

theorem rang_at (i : Fin 8192) (d : Fin 64) : (rang (ix2 i d) : EReal) = theta i.val d.val := by
  unfold rang theta
  pointwise

end

section
variable (x : Fin 8192 → Fin 2048 → EReal) (g : Fin 2048 → EReal) (w : Fin 2048 → Fin 15408 → EReal)

variable (Z : S1x8192x15408.Idx → EReal) (hZ : ∀ (i : Fin 8192) (n : Fin 15408), Z (ix3 0 i n) = z x g w i n)

include hZ in
theorem z_zc (i : Fin 8192) (n : ℕ) (p : Fin 15408) (hn : n < 15408) (hp : col n = p.val) : Z (ix3 0 i p) = zc x g w i n :=
  (hZ i p).trans (z_eq_zc x g w i n p hn hp)

include hZ in
theorem rq_at (i : Fin 8192) (h : Fin 16) (d : Fin 128) : (rq Z (ix4 0 i h d) : EReal) = out Fin.val x g w i (h.val * 128 + d.val) := by
  have hr : Rope ((h.val * 128 + d.val) / 512) := (rope_iff _).mpr (Or.inl (by omega))
  unfold rq
  pointwise
  by_cases hd : d.val < 64
  · rw [dif_pos hd, rang_at]
    exact rot_lo Fin.val x g w i _ _ _ _ hr (by omega) (by simp only; omega)
      (z_zc x g w Z hZ i _ _ (by omega) (by rw [col_q (by omega)]; simp only; omega))
      (z_zc x g w Z hZ i _ _ (by omega) (by rw [col_q (by omega)]; simp only; omega))
  · rw [dif_neg hd, rang_at]
    exact rot_hi Fin.val x g w i _ _ _ _ hr (by omega) (by simp only; omega)
      (z_zc x g w Z hZ i _ _ (by omega) (by rw [col_q (by omega)]; simp only; omega))
      (z_zc x g w Z hZ i _ _ (by omega) (by rw [col_q (by omega)]; simp only; omega))

include hZ in
theorem rk_at (i : Fin 8192) (e : Fin 3) (h : Fin 4) (d : Fin 128) :
    (rk Z (ix5 0 i e h d) : EReal) = out Fin.val x g w i (12288 + (e.val * 1024 + h.val * 128 + d.val)) := by
  have hr : Rope ((12288 + (e.val * 1024 + h.val * 128 + d.val)) / 512) := (rope_iff _).mpr (Or.inr (by omega))
  unfold rk rkv
  pointwise
  by_cases hd : d.val < 64
  · rw [dif_pos hd, rang_at]
    exact rot_lo Fin.val x g w i _ _ _ _ hr (by omega) (by simp only; omega)
      (z_zc x g w Z hZ i _ _ (by omega) (by rw [col_kv (by omega) (by omega)]; simp only; omega))
      (z_zc x g w Z hZ i _ _ (by omega) (by rw [col_kv (by omega) (by omega)]; simp only; omega))
  · rw [dif_neg hd, rang_at]
    exact rot_hi Fin.val x g w i _ _ _ _ hr (by omega) (by simp only; omega)
      (z_zc x g w Z hZ i _ _ (by omega) (by rw [col_kv (by omega) (by omega)]; simp only; omega))
      (z_zc x g w Z hZ i _ _ (by omega) (by rw [col_kv (by omega) (by omega)]; simp only; omega))

include hZ in
theorem rkv'_at (i : Fin 8192) (e : Fin 3) (s : Fin 2) (h : Fin 4) (d : Fin 128) :
    (rkv' Z (ix6 0 i e s h d) : EReal) = out Fin.val x g w i (12288 + (e.val * 1024 + s.val * 512 + h.val * 128 + d.val)) := by
  unfold rkv' rkv
  pointwise
  by_cases hs : s.val < 1
  · rw [dif_pos hs, rk_at x g w Z hZ]
    exact congrArg (out Fin.val x g w i) (by omega)
  · rw [dif_neg hs, out_plain Fin.val x g w i _ (fun hr => by have := (rope_iff _).mp hr; omega)]
    exact z_zc x g w Z hZ i _ _ (by omega) (by rw [col_kv (by omega) (by omega)]; simp only; omega)

include hZ in
theorem rall_at (Q : S1x8192x16x128.Idx → EReal) (KV : S1x8192x3x2x4x128.Idx → EReal)
    (hQ : ∀ i h d, Q (ix4 0 i h d) = out Fin.val x g w i (h.val * 128 + d.val))
    (hKV : ∀ i e s h d, KV (ix6 0 i e s h d) = out Fin.val x g w i (12288 + (e.val * 1024 + s.val * 512 + h.val * 128 + d.val)))
    (i : Fin 8192) (n : Fin 15872) : (rall Z Q KV (ix2 i n) : EReal) = out Fin.val x g w i n.val := by
  have plain : ∀ p : Fin 15408, (2048 ≤ n.val ∧ n.val < 12288 ∨ 15360 ≤ n.val) → n.val < 15408 → col n.val = p.val →
      Z (ix3 0 i p) = out Fin.val x g w i n.val := fun p h h' hp => by
    rw [out_plain Fin.val x g w i _ (fun hr => by have := (rope_iff _).mp hr; omega)]
    exact z_zc x g w Z hZ i _ p h' hp
  unfold rall
  pointwise
  by_cases h1 : n.val < 2048
  · rw [dif_pos h1, hQ]
    exact congrArg (out Fin.val x g w i) (by simp only; omega)
  rw [dif_neg h1]
  by_cases h2 : n.val - 2048 < 2048
  · rw [dif_pos h2]
    exact plain _ (by omega) (by omega) (by rw [col_xr (by omega) (by omega)])
  rw [dif_neg h2]
  by_cases h3 : n.val - 2048 - 2048 < 2048
  · rw [dif_pos h3]
    exact plain _ (by omega) (by omega) (by rw [col_xr (by omega) (by omega)]; simp only; omega)
  rw [dif_neg h3]
  by_cases h4 : n.val - 2048 - 2048 - 2048 < 2048
  · rw [dif_pos h4]
    exact plain _ (by omega) (by omega) (by rw [col_gn (by omega) (by omega)]; simp only; omega)
  rw [dif_neg h4]
  by_cases h5 : n.val - 2048 - 2048 - 2048 - 2048 < 4096
  · rw [dif_pos h5]
    exact plain _ (by omega) (by omega) (by rw [col_mg (by omega) (by omega)]; simp only; omega)
  rw [dif_neg h5]
  by_cases h6 : n.val - 2048 - 2048 - 2048 - 2048 - 4096 < 3072
  · rw [dif_pos h6, hKV]
    exact congrArg (out Fin.val x g w i) (by simp only; omega)
  rw [dif_neg h6]
  by_cases h7 : n.val - 2048 - 2048 - 2048 - 2048 - 4096 - 3072 < 48
  · rw [dif_pos h7]
    exact plain _ (by omega) (by omega) (by rw [col_bg (by omega)]; simp only; omega)
  rw [dif_neg h7, out_plain Fin.val x g w i _ (fun hr => by have := (rope_iff _).mp hr; omega)]
  unfold zc
  rw [dif_neg (by omega)]

end

/-- The chain, at an index. -/
theorem chain_at (X : S1x8192x2048.Idx → EReal) (g : S1x2048.Idx → EReal) (W : S1x2048x15408.Idx → EReal) (i : Fin 8192) (n : Fin 15872) :
    (chain X g W (ix2 i n) : EReal) = out Fin.val (fun i k => X (ix3 0 i k)) (fun k => g (ix2 0 k)) (fun k n => W (ix3 0 k n)) i n.val := by
  have hZ := rz_at X g W
  exact rall_at _ _ _ (rz X g W) hZ _ _ (rq_at _ _ _ _ hZ) (rkv'_at _ _ _ _ hZ) i n

end Cert.Proof.ProjRef

end
-- ==== Proof.Proj.Algebraic.lean ====
/- The projection's result is the reference's, and the frames of its three programs. -/
module

public import proofs.«01_k».proof.Defs
public import proofs.«01_k».proof.Proof.Proj.Array
public import proofs.«01_k».proof.Proof.Proj.Ref
public import proofs.«01_k».proof.Proof.Gen.Proj.Frame
public import proofs.«01_k».proof.Proof.Gen.ProjIdeal.Value
public import Idealize.ShloMosaic.Lib.Quiescent
public import Idealize.ShloMosaic.Adequacy
public import Idealize.ShloMosaic.Init

@[expose] public section

set_option maxRecDepth 16384

noncomputable section

open scoped Classical

namespace Cert.Proof

open Idealize.ShloMosaic Idealize.SL.Sem

theorem frame_proj : Cert.quiescent_Proj := fun m ρ _ => Cert.Proj.Gen.frame m ρ

theorem frame_projIdeal : Cert.quiescent_ProjIdeal := fun m ρ _ => Cert.ProjIdeal.Gen.frame m ρ

theorem frame_projRef : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

/-- The array the kernel leaves is the reference's chain of the same arguments. -/
theorem proj_eq (m : (ℓ : Loc Cert.ProjIdeal.nD Cert.ProjIdeal.τ Cert.ProjIdeal.sig) → Buf (Elt Ideal) ℓ) (c : Dev Cert.ProjIdeal.nD) :
    (Cert.ProjIdeal.Gen.dats (F := Ideal) m 0 c).arrAt 6 (Cert.ProjIdeal.cfgs 0).N
      = (ProjRef.chain (m ((c.tc : Thread Cert.ProjIdeal.nD Cert.ProjIdeal.τ).loc Cert.ProjIdeal.main_arg0))
          (m ((c.tc : Thread Cert.ProjIdeal.nD Cert.ProjIdeal.τ).loc Cert.ProjIdeal.main_arg1))
          (m ((c.tc : Thread Cert.ProjIdeal.nD Cert.ProjIdeal.τ).loc Cert.ProjIdeal.main_arg2))
        : Cert.ProjIdeal.S8192x15872.Idx → EReal) := by
  refine (Proj.arr_eq m c).trans ?_
  funext y
  have e : y = (ix2 (⟨(y 0).val, (y 0).isLt⟩ : Fin 8192) (⟨(y 1).val, (y 1).isLt⟩ : Fin 15872) : Cert.ProjIdeal.S8192x15872.Idx) := eq_ix2 y
  rw [e]
  exact (ProjRef.chain_at _ _ _ ⟨(y 0).val, (y 0).isLt⟩ ⟨(y 1).val, (y 1).isLt⟩).symm

theorem proj_equal : Cert.algebraic_ProjIdeal_ProjRefIdeal := by
  intro m g m' g' hP hagree
  refine ⟨fun c => (Cert.ProjIdeal.Gen.dats (F := Ideal) m 0 c).arrAt 6 (Cert.ProjIdeal.cfgs 0).N, ?_, ?_⟩
  · exact Cert.ProjIdeal.Value.run_blocks (F := Ideal) m g
  · refine (θ_run _ _ _).mono (fun _ h c => ⟨(h c).1.trans ?_, (h c).2⟩) (Cert.ProjRefIdeal.Value.run (F := Ideal) m' g')
    refine (ProjRef.res_eq m' c).trans ?_
    rw [(hagree c).1, (hagree c).2.1, (hagree c).2.2]
    exact (proj_eq m c).symm

end Cert.Proof

end
-- ==== Proof.Tail.Gate.lean ====
/- The attention's branches gated and projected (`nsa_out`): the kernel's array is the reference's. -/
module

public import proofs.«01_k».proof.Defs
public import proofs.«01_k».proof.Proof.Gen.GateIdeal.Value
public import proofs.«01_k».proof.Proof.Gen.Gate.Frame
public import proofs.«01_k».proof.Proof.Gen.GateRefIdeal.Run
public import Idealize.ShloMosaic.Lib.Pipeline.ValueKit
public import Idealize.ShloMosaic.Lib.Pipeline.ReadBack
public import Idealize.ShloMosaic.Lib.Pipeline.ValueKit.Held
public import Idealize.ShloMosaic.Lib.StableHlo.Run
public import Idealize.ShloMosaic.PureOps.Ideal
public import Idealize.ShloMosaic.Lib.Pointwise
public import Idealize.ShloMosaic.Lib.Quiescent
public import Idealize.ShloMosaic.Adequacy
public import Idealize.ShloMosaic.Init

@[expose] public section

set_option maxRecDepth 16384

noncomputable section

open scoped Classical

namespace Cert.Proof.Gate

open Idealize.ShloMosaic Idealize.ShloMosaic.TcCoe Idealize.SL.Sem

section
variable (z : Fin 8192 → Fin 15872 → EReal) (u v s : Fin 8192 → Fin 2048 → EReal) (w : Fin 2048 → Fin 2048 → EReal)

/-- The three branches of a column's head, each under its gate, times the gate of the column. -/
def gated (i : Fin 8192) (k : Fin 2048) : EReal :=
  (Ideal.logistic (z i ⟨15360 + k.val / 128, by omega⟩) * u i k + Ideal.logistic (z i ⟨15376 + k.val / 128, by omega⟩) * v i k
      + Ideal.logistic (z i ⟨15392 + k.val / 128, by omega⟩) * s i k)
    * (z i ⟨6144 + k.val, by omega⟩ * Ideal.logistic (z i ⟨6144 + k.val, by omega⟩))

/-- The gated branches projected. -/
def out (i : Fin 8192) (j : Fin 2048) : EReal := ∑ k, gated z u v s i k * w k j

end

/-- The result at an index, from the arguments. -/
def res (Z : (Shape.mk 2 ![8192, 15872]).Idx → EReal) (U V S : (Shape.mk 2 ![8192, 2048]).Idx → EReal)
    (W : (Shape.mk 3 ![1, 2048, 2048]).Idx → EReal) : (Shape.mk 2 ![8192, 2048]).Idx → EReal := fun y =>
  out (fun i k => Z (ix2 i k)) (fun i k => U (ix2 i k)) (fun i k => V (ix2 i k)) (fun i k => S (ix2 i k)) (fun k j => W (ix3 0 k j))
    ⟨(y 0).val, (y 0).isLt⟩ ⟨(y 1).val, (y 1).isLt⟩

section kernel

open Cert.GateIdeal Cert.GateIdeal.Gen

section
variable (gb : S256x512.Idx → EReal) (gn : S256x2048.Idx → EReal) (x y w : S256x128.Idx → EReal)

/-- A head's columns of a block: its branches under their gates, times the gate of the columns. -/
def head (h : Fin 16) (a : Fin 256) (j : Fin 128) : EReal :=
  (Ideal.logistic (gb (ix2 a ⟨h.val, by omega⟩)) * x (ix2 a j) + Ideal.logistic (gb (ix2 a ⟨16 + h.val, by omega⟩)) * y (ix2 a j)
      + Ideal.logistic (gb (ix2 a ⟨32 + h.val, by omega⟩)) * w (ix2 a j))
    * (gn (ix2 a ⟨h.val * 128 + j.val, by omega⟩) * Ideal.logistic (gn (ix2 a ⟨h.val * 128 + j.val, by omega⟩)))

theorem head0 (a : Fin 256) (j : Fin 128) : (k0_pay4 (F := Ideal) gb gn x y w (ix2 a j) : EReal) = head gb gn x y w 0 a j := by
  unfold k0_pay4 k0_pay3 head
  pointwise

theorem head1 (a : Fin 256) (j : Fin 128) : (k0_pay7 (F := Ideal) (k0_pay5 (F := Ideal) gb x y w) (k0_pay6 (F := Ideal) gn) (ix2 a j) : EReal) = head gb gn x y w 1 a j := by
  unfold k0_pay7 k0_pay5 k0_pay6 k0_pay3 head
  pointwise

theorem head2 (a : Fin 256) (j : Fin 128) : (k0_pay8 (F := Ideal) (k0_pay3 (F := Ideal) gb) gn x y w (ix2 a j) : EReal) = head gb gn x y w 2 a j := by
  unfold k0_pay8 k0_pay3 head
  pointwise

theorem head3 (a : Fin 256) (j : Fin 128) : (k0_pay11 (F := Ideal) gn (k0_pay9 (F := Ideal) (k0_pay3 (F := Ideal) gb) x y) (k0_pay10 (F := Ideal) (k0_pay3 (F := Ideal) gb) w) (ix2 a j) : EReal) = head gb gn x y w 3 a j := by
  unfold k0_pay11 k0_pay9 k0_pay3 k0_pay10 head
  pointwise

theorem head4 (a : Fin 256) (j : Fin 128) : (k0_pay12 (F := Ideal) (k0_pay3 (F := Ideal) gb) gn x y w (ix2 a j) : EReal) = head gb gn x y w 4 a j := by
  unfold k0_pay12 k0_pay3 head
  pointwise

theorem head5 (a : Fin 256) (j : Fin 128) : (k0_pay15 (F := Ideal) gn (k0_pay13 (F := Ideal) (k0_pay3 (F := Ideal) gb) x y) (k0_pay14 (F := Ideal) (k0_pay3 (F := Ideal) gb)) w (ix2 a j) : EReal) = head gb gn x y w 5 a j := by
  unfold k0_pay15 k0_pay13 k0_pay3 k0_pay14 head
  pointwise

theorem head6 (a : Fin 256) (j : Fin 128) : (k0_pay16 (F := Ideal) (k0_pay3 (F := Ideal) gb) gn x y w (ix2 a j) : EReal) = head gb gn x y w 6 a j := by
  unfold k0_pay16 k0_pay3 head
  pointwise

theorem head7 (a : Fin 256) (j : Fin 128) : (k0_pay19 (F := Ideal) gn (k0_pay17 (F := Ideal) (k0_pay3 (F := Ideal) gb) x y) (k0_pay18 (F := Ideal) (k0_pay3 (F := Ideal) gb)) w (ix2 a j) : EReal) = head gb gn x y w 7 a j := by
  unfold k0_pay19 k0_pay17 k0_pay3 k0_pay18 head
  pointwise

theorem head8 (a : Fin 256) (j : Fin 128) : (k0_pay20 (F := Ideal) (k0_pay3 (F := Ideal) gb) gn x y w (ix2 a j) : EReal) = head gb gn x y w 8 a j := by
  unfold k0_pay20 k0_pay3 head
  pointwise

theorem head9 (a : Fin 256) (j : Fin 128) : (k0_pay22 (F := Ideal) (k0_pay3 (F := Ideal) gb) gn (k0_pay21 (F := Ideal) (k0_pay3 (F := Ideal) gb) x y) w (ix2 a j) : EReal) = head gb gn x y w 9 a j := by
  unfold k0_pay22 k0_pay3 k0_pay21 head
  pointwise

theorem head10 (a : Fin 256) (j : Fin 128) : (k0_pay23 (F := Ideal) (k0_pay3 (F := Ideal) gb) gn x y w (ix2 a j) : EReal) = head gb gn x y w 10 a j := by
  unfold k0_pay23 k0_pay3 head
  pointwise

theorem head11 (a : Fin 256) (j : Fin 128) : (k0_pay26 (F := Ideal) (k0_pay3 (F := Ideal) gb) gn (k0_pay24 (F := Ideal) (k0_pay3 (F := Ideal) gb) x) y (k0_pay25 (F := Ideal) (k0_pay3 (F := Ideal) gb)) w (ix2 a j) : EReal) = head gb gn x y w 11 a j := by
  unfold k0_pay26 k0_pay3 k0_pay24 k0_pay25 head
  pointwise

theorem head12 (a : Fin 256) (j : Fin 128) : (k0_pay27 (F := Ideal) (k0_pay3 (F := Ideal) gb) gn x y w (ix2 a j) : EReal) = head gb gn x y w 12 a j := by
  unfold k0_pay27 k0_pay3 head
  pointwise

theorem head13 (a : Fin 256) (j : Fin 128) : (k0_pay30 (F := Ideal) (k0_pay3 (F := Ideal) gb) gn (k0_pay28 (F := Ideal) (k0_pay3 (F := Ideal) gb) x) (k0_pay29 (F := Ideal) (k0_pay3 (F := Ideal) gb)) y w (ix2 a j) : EReal) = head gb gn x y w 13 a j := by
  unfold k0_pay30 k0_pay3 k0_pay28 k0_pay29 head
  pointwise

theorem head14 (a : Fin 256) (j : Fin 128) : (k0_pay31 (F := Ideal) (k0_pay3 (F := Ideal) gb) gn x y w (ix2 a j) : EReal) = head gb gn x y w 14 a j := by
  unfold k0_pay31 k0_pay3 head
  pointwise

theorem head15 (a : Fin 256) (j : Fin 128) : (k0_pay1 (F := Ideal) (k0_pay3 (F := Ideal) gb) gn (k0_pay32 (F := Ideal) (k0_pay3 (F := Ideal) gb) x) (k0_pay33 (F := Ideal) (k0_pay3 (F := Ideal) gb)) y w (ix2 a j) : EReal) = head gb gn x y w 15 a j := by
  unfold k0_pay1 k0_pay3 k0_pay32 k0_pay33 head
  pointwise

end

section
variable (gb : S256x512.Idx → EReal) (gn u v s : S256x2048.Idx → EReal)

/-- A block's gated branches, column by column. -/
def colsAt (a : Fin 256) (k : Fin 2048) : EReal :=
  (Ideal.logistic (gb (ix2 a ⟨k.val / 128, by omega⟩)) * u (ix2 a k) + Ideal.logistic (gb (ix2 a ⟨16 + k.val / 128, by omega⟩)) * v (ix2 a k)
      + Ideal.logistic (gb (ix2 a ⟨32 + k.val / 128, by omega⟩)) * s (ix2 a k))
    * (gn (ix2 a k) * Ideal.logistic (gn (ix2 a k)))

def cols (y : S256x2048.Idx) : EReal := colsAt gb gn u v s ⟨(y 0).val, (y 0).isLt⟩ ⟨(y 1).val, (y 1).isLt⟩

/-- A head's columns are the columns from `o` of the block. -/
theorem piece (h : Fin 16) (o : ℕ) (ho : o = h.val * 128) (inb)
    (x : (Rect.unit (s := S256x2048) ![0, o] S256x128.size inb).shape.Idx) (P : S256x128.Idx → EReal)
    (hP : ∀ a j, P (ix2 a j) = head gb gn (View.ld (Val := Elt Ideal) (e' := .f32) u (Rect.unit (s := S256x2048) ![0, o] S256x128.size inb))
      (View.ld (Val := Elt Ideal) (e' := .f32) v (Rect.unit (s := S256x2048) ![0, o] S256x128.size inb))
      (View.ld (Val := Elt Ideal) (e' := .f32) s (Rect.unit (s := S256x2048) ![0, o] S256x128.size inb)) h a j) :
    P x = cols gb gn u v s ((Rect.unit (s := S256x2048) ![0, o] S256x128.size inb).emb x) := by
  have x0 : (x 0).val < 256 := (x 0).isLt
  have x1 : (x 1).val < 128 := (x 1).isLt
  have ex : x = (ix2 (⟨(x 0).val, x0⟩ : Fin 256) (⟨(x 1).val, x1⟩ : Fin 128) : S256x128.Idx) := eq_ix2 x
  have l : ∀ q : S256x2048.Idx → EReal, (View.ld (Val := Elt Ideal) (e' := .f32) q (Rect.unit (s := S256x2048) ![0, o] S256x128.size inb)
      (ix2 (⟨(x 0).val, x0⟩ : Fin 256) (⟨(x 1).val, x1⟩ : Fin 128) : S256x128.Idx) : EReal)
        = q (ix2 (⟨(x 0).val, x0⟩ : Fin 256) ⟨h.val * 128 + (x 1).val, by omega⟩) := fun q =>
    View.ld_unit_apply_of (S := S256x2048) (Val := Elt Ideal) (e := .f32) q ![0, o] S256x128.size inb
      (ix2 (⟨(x 0).val, x0⟩ : Fin 256) (⟨(x 1).val, x1⟩ : Fin 128) : S256x128.Idx)
      (ix2 (⟨(x 0).val, x0⟩ : Fin 256) (⟨h.val * 128 + (x 1).val, by omega⟩ : Fin 2048) : S256x2048.Idx)
      (Fin.forall_fin_two.mpr ⟨(Nat.zero_add _).symm, by subst ho; rfl⟩)
  have e0 : ((Rect.unit (s := S256x2048) ![0, o] S256x128.size inb).emb x) 0 = (⟨(x 0).val, x0⟩ : Fin 256) :=
    Fin.ext ((Rect.idx_unit_val (s := S256x2048) ![0, o] S256x128.size inb x 0).trans (Nat.zero_add _))
  have e1 : ((Rect.unit (s := S256x2048) ![0, o] S256x128.size inb).emb x) 1 = (⟨h.val * 128 + (x 1).val, by omega⟩ : Fin 2048) :=
    Fin.ext ((Rect.idx_unit_val (s := S256x2048) ![0, o] S256x128.size inb x 1).trans (by subst ho; rfl))
  have e : ((Rect.unit (s := S256x2048) ![0, o] S256x128.size inb).emb x)
      = (ix2 (⟨(x 0).val, x0⟩ : Fin 256) (⟨h.val * 128 + (x 1).val, by omega⟩ : Fin 2048) : S256x2048.Idx) :=
    (eq_ix2 _).trans (congrArg₂ (ix2 (n0 := 256) (n1 := 2048)) e0 e1)
  rw [congrArg P ex, hP, e]
  show _ = colsAt gb gn u v s ⟨(x 0).val, x0⟩ ⟨h.val * 128 + (x 1).val, by omega⟩
  unfold head colsAt
  rw [l, l, l]
  have d : (h.val * 128 + (x 1).val) / 128 = h.val := by omega
  simp only [d]

/-- The stores of a block, read back. -/
theorem cols_canon (L : List (View.Piece (Elt Ideal) S256x2048 .bf16)) (i0 i1 i2 i3 i4 i5 i6 i7 i8 i9 i10 i11 i12 i13 i14 i15) (y : S256x2048.Idx) :
    (View.canon ([⟨Rect.unit (s := S256x2048) ![0, 1920] S256x128.size i15, k0_pay1 (F := Ideal) (k0_pay3 (F := Ideal) gb) gn (k0_pay32 (F := Ideal) (k0_pay3 (F := Ideal) gb) (View.ld u (Rect.unit (s := S256x2048) ![0, 1920] S256x128.size i15))) (k0_pay33 (F := Ideal) (k0_pay3 (F := Ideal) gb)) (View.ld v (Rect.unit (s := S256x2048) ![0, 1920] S256x128.size i15)) (View.ld s (Rect.unit (s := S256x2048) ![0, 1920] S256x128.size i15))⟩,
        ⟨Rect.unit (s := S256x2048) ![0, 1792] S256x128.size i14, k0_pay31 (F := Ideal) (k0_pay3 (F := Ideal) gb) gn (View.ld u (Rect.unit (s := S256x2048) ![0, 1792] S256x128.size i14)) (View.ld v (Rect.unit (s := S256x2048) ![0, 1792] S256x128.size i14)) (View.ld s (Rect.unit (s := S256x2048) ![0, 1792] S256x128.size i14))⟩,
        ⟨Rect.unit (s := S256x2048) ![0, 1664] S256x128.size i13, k0_pay30 (F := Ideal) (k0_pay3 (F := Ideal) gb) gn (k0_pay28 (F := Ideal) (k0_pay3 (F := Ideal) gb) (View.ld u (Rect.unit (s := S256x2048) ![0, 1664] S256x128.size i13))) (k0_pay29 (F := Ideal) (k0_pay3 (F := Ideal) gb)) (View.ld v (Rect.unit (s := S256x2048) ![0, 1664] S256x128.size i13)) (View.ld s (Rect.unit (s := S256x2048) ![0, 1664] S256x128.size i13))⟩,
        ⟨Rect.unit (s := S256x2048) ![0, 1536] S256x128.size i12, k0_pay27 (F := Ideal) (k0_pay3 (F := Ideal) gb) gn (View.ld u (Rect.unit (s := S256x2048) ![0, 1536] S256x128.size i12)) (View.ld v (Rect.unit (s := S256x2048) ![0, 1536] S256x128.size i12)) (View.ld s (Rect.unit (s := S256x2048) ![0, 1536] S256x128.size i12))⟩,
        ⟨Rect.unit (s := S256x2048) ![0, 1408] S256x128.size i11, k0_pay26 (F := Ideal) (k0_pay3 (F := Ideal) gb) gn (k0_pay24 (F := Ideal) (k0_pay3 (F := Ideal) gb) (View.ld u (Rect.unit (s := S256x2048) ![0, 1408] S256x128.size i11))) (View.ld v (Rect.unit (s := S256x2048) ![0, 1408] S256x128.size i11)) (k0_pay25 (F := Ideal) (k0_pay3 (F := Ideal) gb)) (View.ld s (Rect.unit (s := S256x2048) ![0, 1408] S256x128.size i11))⟩,
        ⟨Rect.unit (s := S256x2048) ![0, 1280] S256x128.size i10, k0_pay23 (F := Ideal) (k0_pay3 (F := Ideal) gb) gn (View.ld u (Rect.unit (s := S256x2048) ![0, 1280] S256x128.size i10)) (View.ld v (Rect.unit (s := S256x2048) ![0, 1280] S256x128.size i10)) (View.ld s (Rect.unit (s := S256x2048) ![0, 1280] S256x128.size i10))⟩,
        ⟨Rect.unit (s := S256x2048) ![0, 1152] S256x128.size i9, k0_pay22 (F := Ideal) (k0_pay3 (F := Ideal) gb) gn (k0_pay21 (F := Ideal) (k0_pay3 (F := Ideal) gb) (View.ld u (Rect.unit (s := S256x2048) ![0, 1152] S256x128.size i9)) (View.ld v (Rect.unit (s := S256x2048) ![0, 1152] S256x128.size i9))) (View.ld s (Rect.unit (s := S256x2048) ![0, 1152] S256x128.size i9))⟩,
        ⟨Rect.unit (s := S256x2048) ![0, 1024] S256x128.size i8, k0_pay20 (F := Ideal) (k0_pay3 (F := Ideal) gb) gn (View.ld u (Rect.unit (s := S256x2048) ![0, 1024] S256x128.size i8)) (View.ld v (Rect.unit (s := S256x2048) ![0, 1024] S256x128.size i8)) (View.ld s (Rect.unit (s := S256x2048) ![0, 1024] S256x128.size i8))⟩,
        ⟨Rect.unit (s := S256x2048) ![0, 896] S256x128.size i7, k0_pay19 (F := Ideal) gn (k0_pay17 (F := Ideal) (k0_pay3 (F := Ideal) gb) (View.ld u (Rect.unit (s := S256x2048) ![0, 896] S256x128.size i7)) (View.ld v (Rect.unit (s := S256x2048) ![0, 896] S256x128.size i7))) (k0_pay18 (F := Ideal) (k0_pay3 (F := Ideal) gb)) (View.ld s (Rect.unit (s := S256x2048) ![0, 896] S256x128.size i7))⟩,
        ⟨Rect.unit (s := S256x2048) ![0, 768] S256x128.size i6, k0_pay16 (F := Ideal) (k0_pay3 (F := Ideal) gb) gn (View.ld u (Rect.unit (s := S256x2048) ![0, 768] S256x128.size i6)) (View.ld v (Rect.unit (s := S256x2048) ![0, 768] S256x128.size i6)) (View.ld s (Rect.unit (s := S256x2048) ![0, 768] S256x128.size i6))⟩,
        ⟨Rect.unit (s := S256x2048) ![0, 640] S256x128.size i5, k0_pay15 (F := Ideal) gn (k0_pay13 (F := Ideal) (k0_pay3 (F := Ideal) gb) (View.ld u (Rect.unit (s := S256x2048) ![0, 640] S256x128.size i5)) (View.ld v (Rect.unit (s := S256x2048) ![0, 640] S256x128.size i5))) (k0_pay14 (F := Ideal) (k0_pay3 (F := Ideal) gb)) (View.ld s (Rect.unit (s := S256x2048) ![0, 640] S256x128.size i5))⟩,
        ⟨Rect.unit (s := S256x2048) ![0, 512] S256x128.size i4, k0_pay12 (F := Ideal) (k0_pay3 (F := Ideal) gb) gn (View.ld u (Rect.unit (s := S256x2048) ![0, 512] S256x128.size i4)) (View.ld v (Rect.unit (s := S256x2048) ![0, 512] S256x128.size i4)) (View.ld s (Rect.unit (s := S256x2048) ![0, 512] S256x128.size i4))⟩,
        ⟨Rect.unit (s := S256x2048) ![0, 384] S256x128.size i3, k0_pay11 (F := Ideal) gn (k0_pay9 (F := Ideal) (k0_pay3 (F := Ideal) gb) (View.ld u (Rect.unit (s := S256x2048) ![0, 384] S256x128.size i3)) (View.ld v (Rect.unit (s := S256x2048) ![0, 384] S256x128.size i3))) (k0_pay10 (F := Ideal) (k0_pay3 (F := Ideal) gb) (View.ld s (Rect.unit (s := S256x2048) ![0, 384] S256x128.size i3)))⟩,
        ⟨Rect.unit (s := S256x2048) ![0, 256] S256x128.size i2, k0_pay8 (F := Ideal) (k0_pay3 (F := Ideal) gb) gn (View.ld u (Rect.unit (s := S256x2048) ![0, 256] S256x128.size i2)) (View.ld v (Rect.unit (s := S256x2048) ![0, 256] S256x128.size i2)) (View.ld s (Rect.unit (s := S256x2048) ![0, 256] S256x128.size i2))⟩,
        ⟨Rect.unit (s := S256x2048) ![0, 128] S256x128.size i1, k0_pay7 (F := Ideal) (k0_pay5 (F := Ideal) gb (View.ld u (Rect.unit (s := S256x2048) ![0, 128] S256x128.size i1)) (View.ld v (Rect.unit (s := S256x2048) ![0, 128] S256x128.size i1)) (View.ld s (Rect.unit (s := S256x2048) ![0, 128] S256x128.size i1))) (k0_pay6 (F := Ideal) gn)⟩,
        ⟨Rect.unit (s := S256x2048) ![0, 0] S256x128.size i0, k0_pay4 (F := Ideal) gb gn (View.ld u (Rect.unit (s := S256x2048) ![0, 0] S256x128.size i0)) (View.ld v (Rect.unit (s := S256x2048) ![0, 0] S256x128.size i0)) (View.ld s (Rect.unit (s := S256x2048) ![0, 0] S256x128.size i0))⟩] ++ L) y : EReal)
      = cols gb gn u v s y :=
  View.canon_append_of_piecesOf (cols gb gn u v s) L [_, _, _, _, _, _, _, _, _, _, _, _, _, _, _, _]
    ⟨fun x => piece gb gn u v s 15 1920 rfl i15 x _ fun a j => head15 gb gn _ _ _ a j,
      fun x => piece gb gn u v s 14 1792 rfl i14 x _ fun a j => head14 gb gn _ _ _ a j,
      fun x => piece gb gn u v s 13 1664 rfl i13 x _ fun a j => head13 gb gn _ _ _ a j,
      fun x => piece gb gn u v s 12 1536 rfl i12 x _ fun a j => head12 gb gn _ _ _ a j,
      fun x => piece gb gn u v s 11 1408 rfl i11 x _ fun a j => head11 gb gn _ _ _ a j,
      fun x => piece gb gn u v s 10 1280 rfl i10 x _ fun a j => head10 gb gn _ _ _ a j,
      fun x => piece gb gn u v s 9 1152 rfl i9 x _ fun a j => head9 gb gn _ _ _ a j,
      fun x => piece gb gn u v s 8 1024 rfl i8 x _ fun a j => head8 gb gn _ _ _ a j,
      fun x => piece gb gn u v s 7 896 rfl i7 x _ fun a j => head7 gb gn _ _ _ a j,
      fun x => piece gb gn u v s 6 768 rfl i6 x _ fun a j => head6 gb gn _ _ _ a j,
      fun x => piece gb gn u v s 5 640 rfl i5 x _ fun a j => head5 gb gn _ _ _ a j,
      fun x => piece gb gn u v s 4 512 rfl i4 x _ fun a j => head4 gb gn _ _ _ a j,
      fun x => piece gb gn u v s 3 384 rfl i3 x _ fun a j => head3 gb gn _ _ _ a j,
      fun x => piece gb gn u v s 2 256 rfl i2 x _ fun a j => head2 gb gn _ _ _ a j,
      fun x => piece gb gn u v s 1 128 rfl i1 x _ fun a j => head1 gb gn _ _ _ a j,
      fun x => piece gb gn u v s 0 0 rfl i0 x _ fun a j => head0 gb gn _ _ _ a j, trivial⟩ y
    (View.cover_of_tiledL (s := S256x2048) _ ![256, 128] rfl y)

end

variable (m : (ℓ : Loc nD τ sig) → Buf (Elt Ideal) ℓ) (c : Dev nD) (t : Fin cfg0.N)

abbrev Zin : S8192x15872.Idx → EReal := m ((c : Thread nD τ).loc main_arg0)
abbrev Uin : S8192x2048.Idx → EReal := m ((c : Thread nD τ).loc main_arg1)
abbrev Vin : S8192x2048.Idx → EReal := m ((c : Thread nD τ).loc main_arg2)
abbrev Sin : S8192x2048.Idx → EReal := m ((c : Thread nD τ).loc main_arg3)
abbrev Win : S1x2048x2048.Idx → EReal := m ((c : Thread nD τ).loc main_arg4)

theorem V_w : (V (F := Ideal) m c main_v1 : S2048x2048.Idx → EReal)
    = (truncf (F := Ideal) .bf16 (shapeCast _ (Win m c) shapeCasts_S1x2048x2048_S2048x2048 : FVec Ideal S2048x2048 .f32) bitsLt_bf16_f32) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem w_at (k j : Fin 2048) : ((V (F := Ideal) m c main_v1 : S2048x2048.Idx → EReal) (ix2 k j) : EReal) = Win m c (ix3 0 k j) := by
  rw [V_w]
  pointwise

theorem index0 : ∀ t : Fin cfg0.N, (cfg0.win 0).index t = ![t.val, 0] := by decide +kernel
theorem index1 : ∀ t : Fin cfg0.N, (cfg0.win 1).index t = ![t.val, 0] := by decide +kernel
theorem index2 : ∀ t : Fin cfg0.N, (cfg0.win 2).index t = ![t.val, 0] := by decide +kernel
theorem index3 : ∀ t : Fin cfg0.N, (cfg0.win 3).index t = ![t.val, 3] := by decide +kernel
theorem index4 : ∀ t : Fin cfg0.N, (cfg0.win 4).index t = ![t.val, 30] := by decide +kernel
theorem index5 : ∀ t : Fin cfg0.N, (cfg0.win 5).index t = ![0, 0] := by decide +kernel
theorem index6 : ∀ t : Fin cfg0.N, (cfg0.win 6).index t = ![t.val, 0] := by decide +kernel

theorem row_lt (a : Fin 256) : t.val * 256 + a.val < 8192 := by
  have : t.val < 32 := t.isLt
  omega

theorem blk0 (a : Fin 256) (k : Fin 2048) :
    (iblk (F := Ideal) m c 0 t : S256x2048.Idx → EReal) (ix2 a k) = Uin m c (ix2 ⟨t.val * 256 + a.val, row_lt t a⟩ k) := by
  blk_ext [iblk, V_main_arg1 m c, index0 t]

theorem blk1 (a : Fin 256) (k : Fin 2048) :
    (iblk (F := Ideal) m c 1 t : S256x2048.Idx → EReal) (ix2 a k) = Vin m c (ix2 ⟨t.val * 256 + a.val, row_lt t a⟩ k) := by
  blk_ext [iblk, V_main_arg2 m c, index1 t]

theorem blk2 (a : Fin 256) (k : Fin 2048) :
    (iblk (F := Ideal) m c 2 t : S256x2048.Idx → EReal) (ix2 a k) = Sin m c (ix2 ⟨t.val * 256 + a.val, row_lt t a⟩ k) := by
  blk_ext [iblk, V_main_arg3 m c, index2 t]

theorem blk3 (a : Fin 256) (k : Fin 2048) :
    (X0_3 (F := Ideal) m c t : S256x2048.Idx → EReal) (ix2 a k)
      = Zin m c (ix2 ⟨t.val * 256 + a.val, row_lt t a⟩ ⟨6144 + k.val, by omega⟩) := by
  unfold X0_3 Pipeline.Window.fill
  rw [dif_pos (moved0_3 t _)]
  blk_ext [iblk, V_main_arg0 m c, index3 t]

theorem blk4 (a : Fin 256) (k : Fin 512) :
    (iblk (F := Ideal) m c 4 t : S256x512.Idx → EReal) (ix2 a k)
      = Zin m c (ix2 ⟨t.val * 256 + a.val, row_lt t a⟩ ⟨15360 + k.val, by omega⟩) := by
  blk_ext [iblk, V_main_arg0 m c, index4 t]

theorem blk5 (k j : Fin 2048) : (iblk (F := Ideal) m c 5 t : S2048x2048.Idx → EReal) (ix2 k j) = Win m c (ix3 0 k j) := by
  refine Eq.trans ?_ (w_at m c _ _)
  blk_ext [iblk, index5 t]

/-- The gated branches of a point, from the arguments. -/
theorem cols_at (a : Fin 256) (k : Fin 2048) :
    cols (iblk (F := Ideal) m c 4 t) (X0_3 (F := Ideal) m c t) (iblk (F := Ideal) m c 0 t) (iblk (F := Ideal) m c 1 t) (iblk (F := Ideal) m c 2 t) (ix2 a k)
      = gated (fun i k => Zin m c (ix2 i k)) (fun i k => Uin m c (ix2 i k)) (fun i k => Vin m c (ix2 i k)) (fun i k => Sin m c (ix2 i k))
          ⟨t.val * 256 + a.val, row_lt t a⟩ k := by
  show colsAt _ _ _ _ _ a k = _
  unfold colsAt gated
  rw [blk0, blk1, blk2, blk3]
  refine congrArg (fun q : EReal => q * _) ?_
  refine congrArg₂ (fun p q : EReal => p + q) (congrArg₂ (fun p q : EReal => p + q) ?_ ?_) ?_
  · exact congrArg (fun q : EReal => Ideal.logistic q * _) (blk4 m c t a _)
  · refine congrArg (fun q : EReal => Ideal.logistic q * _) ((blk4 m c t a _).trans ?_)
    exact congrArg (fun q => Zin m c (ix2 _ q)) (Fin.ext (by show 15360 + (16 + k.val / 128) = 15376 + k.val / 128; omega))
  · refine congrArg (fun q : EReal => Ideal.logistic q * _) ((blk4 m c t a _).trans ?_)
    exact congrArg (fun q => Zin m c (ix2 _ q)) (Fin.ext (by show 15360 + (32 + k.val / 128) = 15392 + k.val / 128; omega))

/-- A point's block, over its gated branches. -/
theorem out_eq : (outsAt0 (F := Ideal) m c t)
    = k0_pay2 (F := Ideal) (cols (iblk (F := Ideal) m c 4 t) (X0_3 (F := Ideal) m c t) (iblk (F := Ideal) m c 0 t) (iblk (F := Ideal) m c 1 t) (iblk (F := Ideal) m c 2 t))
        (iblk m c 5 t) := by
  unfold outsAt0
  frame_open
  frame_out
  refine congrArg (fun q => k0_pay2 (F := Ideal) q (iblk m c 5 t)) ?_
  rw [View.readCov_eq_canon']
  funext y
  have ey : (Rect.unit (s := S256x2048) ![0, 0] S256x2048.size inb_S256x2048_S256x2048_0_0).toLoadRect.idx y = y :=
    funext (Fin.forall_fin_two.mpr
      ⟨Fin.ext ((Rect.idx_unit_val (s := S256x2048) ![0, 0] S256x2048.size inb_S256x2048_S256x2048_0_0 y 0).trans (Nat.zero_add _)),
        Fin.ext ((Rect.idx_unit_val (s := S256x2048) ![0, 0] S256x2048.size inb_S256x2048_S256x2048_0_0 y 1).trans (Nat.zero_add _))⟩)
  refine (congrArg _ ey).trans ?_
  exact cols_canon _ _ _ _ _ [] _ _ _ _ _ _ _ _ _ _ _ _ _ _ _ _ y

/-- A point's block at an index. -/
theorem pay_at (a : Fin 256) (j : Fin 2048) : (k0_pay2 (F := Ideal) (cols (iblk (F := Ideal) m c 4 t) (X0_3 (F := Ideal) m c t) (iblk (F := Ideal) m c 0 t) (iblk (F := Ideal) m c 1 t) (iblk (F := Ideal) m c 2 t))
        (iblk m c 5 t) (ix2 a j) : EReal)
      = res (Zin m c) (Uin m c) (Vin m c) (Sin m c) (Win m c) (ix2 ⟨t.val * 256 + a.val, row_lt t a⟩ j) := by
  unfold k0_pay2 res out
  pointwise
  simp only [cols_at, blk5]

theorem arr_eq : (dats (F := Ideal) m 0 c).arrAt 6 (cfgs 0).N
    = (res (Zin m c) (Uin m c) (Vin m c) (Sin m c) (Win m c) : S8192x2048.Idx → EReal) := by
  refine (dats (F := Ideal) m 0 c).arrAt_eq_of_covers 6 _ (by decide +kernel) fun t hf y => ?_
  have ht : t.val < 32 := t.isLt
  have y0 : (y 0).val < 256 := (y 0).isLt
  have y1 : (y 1).val < 2048 := (y 1).isLt
  have e : (((cfgs 0).win 6).blk t).view.emb y
      = (ix2 ⟨t.val * 256 + (y 0).val, by omega⟩ ⟨(y 1).val, y1⟩ : S8192x2048.Idx) := by
    blk_ext [index6 t]
  have ey : y = (ix2 (⟨(y 0).val, y0⟩ : Fin 256) (⟨(y 1).val, y1⟩ : Fin 2048) : S256x2048.Idx) := eq_ix2 y
  rw [e, after0_6, out_eq]
  refine Eq.trans ?_ (pay_at m c t ⟨(y 0).val, y0⟩ ⟨(y 1).val, y1⟩)
  exact congrArg (k0_pay2 (F := Ideal) (cols (iblk (F := Ideal) m c 4 t) (X0_3 (F := Ideal) m c t) (iblk (F := Ideal) m c 0 t) (iblk (F := Ideal) m c 1 t) (iblk (F := Ideal) m c 2 t)) (iblk m c 5 t)) ey

end kernel

section reference

open Cert.GateRefIdeal Cert.GateRefIdeal.Gen Cert.GateRefIdeal.Value

/-- The reference's gates of the branches. -/
def gates (Z : FVec Ideal S8192x15872 .f32) : FVec Ideal S8192x3x4x4x1 .f32 :=
  shapeCast _ (Host.divf (broadcastInDim S8192x48 ![] bcast_S_S8192x48 (constant S_ .f32 0x3F800000#32))
    (addf (broadcastInDim S8192x48 ![] bcast_S_S8192x48 (constant S_ .f32 0x3F800000#32))
      (Host.exp (Host.negf (extractStridedSlice S8192x48 ![0, 15360] Z slices_S8192x15872_S8192x48_0_15360)))) : FVec Ideal S8192x48 .f32)
    shapeCasts_S8192x48_S8192x3x4x4x1

/-- The reference's branches, gated and added. -/
def branches (Z : FVec Ideal S8192x15872 .f32) (U V S : FVec Ideal S8192x2048 .f32) : FVec Ideal S8192x4x4x128 .f32 :=
  addf (addf
    (mulf (broadcastInDim S8192x4x4x128 ![0, 1, 2, 3] bcast_S8192x4x4x1_S8192x4x4x128_0_1_2_3 (shapeCast _
        (extractStridedSlice S8192x1x4x4x1 ![0, 0, 0, 0, 0] (gates Z) slices_S8192x3x4x4x1_S8192x1x4x4x1_0_0_0_0_0)
        shapeCasts_S8192x1x4x4x1_S8192x4x4x1)) (shapeCast _ U shapeCasts_S8192x2048_S8192x4x4x128))
    (mulf (broadcastInDim S8192x4x4x128 ![0, 1, 2, 3] bcast_S8192x4x4x1_S8192x4x4x128_0_1_2_3 (shapeCast _
        (extractStridedSlice S8192x1x4x4x1 ![0, 1, 0, 0, 0] (gates Z) slices_S8192x3x4x4x1_S8192x1x4x4x1_0_1_0_0_0)
        shapeCasts_S8192x1x4x4x1_S8192x4x4x1)) (shapeCast _ V shapeCasts_S8192x2048_S8192x4x4x128)))
    (mulf (broadcastInDim S8192x4x4x128 ![0, 1, 2, 3] bcast_S8192x4x4x1_S8192x4x4x128_0_1_2_3 (shapeCast _
        (extractStridedSlice S8192x1x4x4x1 ![0, 2, 0, 0, 0] (gates Z) slices_S8192x3x4x4x1_S8192x1x4x4x1_0_2_0_0_0)
        shapeCasts_S8192x1x4x4x1_S8192x4x4x1)) (shapeCast _ S shapeCasts_S8192x2048_S8192x4x4x128))

/-- The reference's gate of the columns. -/
def silu (Z : FVec Ideal S8192x15872 .f32) : FVec Ideal S8192x2048 .f32 :=
  mulf (extractStridedSlice S8192x2048 ![0, 6144] Z slices_S8192x15872_S8192x2048_0_6144)
    (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (extractStridedSlice S8192x2048 ![0, 6144] Z slices_S8192x15872_S8192x2048_0_6144)))))

/-- The reference's result. -/
def chain (Z : FVec Ideal S8192x15872 .f32) (U V S : FVec Ideal S8192x2048 .f32)
    (W : FVec Ideal S1x2048x2048 .f32) : FVec Ideal S8192x2048 .f32 :=
  Host.dotGeneral dot_S8192x2048_S2048x2048_S8192x2048_1_0_0_1_n_n none
    (mulf (shapeCast _ (branches Z U V S) shapeCasts_S8192x4x4x128_S8192x2048) (silu Z)) (shapeCast _ W shapeCasts_S1x2048x2048_S2048x2048)

theorem gates_at (Z : FVec Ideal S8192x15872 .f32) (i : Fin 8192) (b : Fin 3) (p q : Fin 4) :
    (gates Z (ix5 i b p q 0) : EReal) = Ideal.logistic (Z (ix2 i ⟨15360 + (b.val * 16 + p.val * 4 + q.val), by omega⟩)) := by
  unfold gates Ideal.logistic
  pointwise

theorem silu_at (Z : FVec Ideal S8192x15872 .f32) (i : Fin 8192) (k : Fin 2048) :
    (silu Z (ix2 i k) : EReal) = Z (ix2 i ⟨6144 + k.val, by omega⟩) * Ideal.logistic (Z (ix2 i ⟨6144 + k.val, by omega⟩)) := by
  unfold silu Ideal.logistic
  pointwise

theorem term_eq (Z : FVec Ideal S8192x15872 .f32) (U : FVec Ideal S8192x2048 .f32) (i : Fin 8192) (k : Fin 2048) (A A' B : ℕ) (hA : A < 15872)
    (hA' : A' < 15872) (hB : B < 2048) (h : A = A') (h' : B = k.val) :
    Ideal.logistic (Z (ix2 i ⟨A, hA⟩)) * U (ix2 i ⟨B, hB⟩) = Ideal.logistic (Z (ix2 i ⟨A', hA'⟩)) * U (ix2 i k) := by
  subst h; subst h'; rfl

theorem branches_at (Z : FVec Ideal S8192x15872 .f32) (U V S : FVec Ideal S8192x2048 .f32) (i : Fin 8192) (p q : Fin 4) (d : Fin 128) :
    (branches Z U V S (ix4 i p q d) : EReal)
      = Ideal.logistic (Z (ix2 i ⟨15360 + (0 * 16 + p.val * 4 + q.val), by omega⟩)) * U (ix2 i ⟨p.val * 512 + q.val * 128 + d.val, by omega⟩)
        + Ideal.logistic (Z (ix2 i ⟨15360 + (1 * 16 + p.val * 4 + q.val), by omega⟩)) * V (ix2 i ⟨p.val * 512 + q.val * 128 + d.val, by omega⟩)
        + Ideal.logistic (Z (ix2 i ⟨15360 + (2 * 16 + p.val * 4 + q.val), by omega⟩)) * S (ix2 i ⟨p.val * 512 + q.val * 128 + d.val, by omega⟩) := by
  unfold branches
  pointwise
  simp only [gates_at]
  refine congrArg₂ (fun p q : EReal => p + q) (congrArg₂ (fun p q : EReal => p + q) ?_ ?_) ?_
  · exact term_eq Z U i _ _ _ _ _ _ _ (congrArg (15360 + ·) (by show 0 * 16 + _ + _ = _; omega)) rfl
  · exact term_eq Z V i _ _ _ _ _ _ _ (congrArg (15360 + ·) (by show 1 * 16 + _ + _ = _; omega)) rfl
  · exact term_eq Z S i _ _ _ _ _ _ _ (congrArg (15360 + ·) (by show 2 * 16 + _ + _ = _; omega)) rfl

theorem chain_at (Z : FVec Ideal S8192x15872 .f32) (U V S : FVec Ideal S8192x2048 .f32)
    (W : FVec Ideal S1x2048x2048 .f32) (i : Fin 8192) (j : Fin 2048) : (chain Z U V S W (ix2 i j) : EReal)
      = out (fun i k => Z (ix2 i k)) (fun i k => U (ix2 i k)) (fun i k => V (ix2 i k)) (fun i k => S (ix2 i k))
          (fun k j => W (ix3 0 k j)) i j := by
  unfold chain out gated
  pointwise
  simp only [silu_at, branches_at]
  refine Finset.sum_congr rfl fun k _ => congrArg (fun q : EReal => q * _ * W (ix3 0 k j)) ?_
  have hk : k.val / 512 * 512 + k.val / 128 % 4 * 128 + k.val % 128 = k.val := by omega
  refine congrArg₂ (fun p q : EReal => p + q) (congrArg₂ (fun p q : EReal => p + q) ?_ ?_) ?_
  · exact term_eq Z U i k _ _ _ _ _ _ (by omega) hk
  · exact term_eq Z V i k _ _ _ _ _ _ (by omega) hk
  · exact term_eq Z S i k _ _ _ _ _ _ (by omega) hk

end reference

theorem frame_plain : Cert.quiescent_Gate := fun m ρ _ => Cert.Gate.Gen.frame m ρ

theorem frame_ideal : Cert.quiescent_GateIdeal := fun m ρ _ => Cert.GateIdeal.Gen.frame m ρ

theorem frame_reference : Cert.quiescent_GateRefIdeal := fun m ρ _ =>
  (θ_run Cert.GateRefIdeal.defs _ _).mono (fun r h => ⟨fun c => (h c).2,
      Idealize.ShloMosaic.sem_eq_zero_of_no_sems (by decide) r.2⟩)
    (Cert.GateRefIdeal.Value.run (F := Ideal) m ρ)

/-- The kernel's result is the reference's. -/
theorem equal : Cert.algebraic_GateIdeal_GateRefIdeal := by
  intro m g m' g' hP hagree
  refine ⟨fun c => (Cert.GateIdeal.Gen.dats (F := Ideal) m 0 c).arrAt 6 (Cert.GateIdeal.cfgs 0).N,
    Cert.GateIdeal.Value.run_blocks (F := Ideal) m g, ?_⟩
  refine (θ_run _ _ _).mono (fun _ h c => ⟨(h c).1.trans ?_, (h c).2⟩) (Cert.GateRefIdeal.Value.run (F := Ideal) m' g')
  refine Eq.trans ?_ (arr_eq m c).symm
  obtain ⟨h0, h1, h2, h3, h4⟩ := hagree c
  rw [h0, h1, h2, h3, h4]
  funext y
  refine (congrArg _ (eq_ix2 y)).trans ?_
  exact chain_at _ _ _ _ _ ⟨(y 0).val, (y 0).isLt⟩ ⟨(y 1).val, (y 1).isLt⟩

end Cert.Proof.Gate

end
-- ==== Proof.Tail.Merge.lean ====
/- The branches merged and added to the rows (`merge_out`): the kernel's array is the reference's. -/
module

public import proofs.«01_k».proof.Defs
public import proofs.«01_k».proof.Proof.Gen.MergeIdeal.Value
public import proofs.«01_k».proof.Proof.Gen.Merge.Frame
public import proofs.«01_k».proof.Proof.Gen.MergeRefIdeal.Run
public import Idealize.ShloMosaic.Lib.Pipeline.ValueKit
public import Idealize.ShloMosaic.Lib.Pipeline.ReadBack
public import Idealize.ShloMosaic.Lib.Pipeline.ValueKit.Held
public import Idealize.ShloMosaic.Lib.StableHlo.Run
public import Idealize.ShloMosaic.PureOps.Ideal
public import Idealize.ShloMosaic.Lib.Pointwise
public import Idealize.ShloMosaic.Lib.Quiescent
public import Idealize.ShloMosaic.Adequacy
public import Idealize.ShloMosaic.Init

@[expose] public section

set_option maxRecDepth 16384

noncomputable section

open scoped Classical

namespace Cert.Proof.Merge

open Idealize.ShloMosaic Idealize.ShloMosaic.TcCoe Idealize.SL.Sem

section
variable (z : Fin 8192 → Fin 15872 → EReal) (x r n : Fin 8192 → Fin 2048 → EReal) (w : Fin 2048 → Fin 2048 → EReal)

/-- The two branches, each under its gate of the projection. -/
def both (i : Fin 8192) (k : Fin 2048) : EReal :=
  Ideal.logistic (z i ⟨8192 + k.val, by omega⟩) * r i k + Ideal.logistic (z i ⟨10240 + k.val, by omega⟩) * n i k

/-- The merged branches projected and added to the rows. -/
def out (i : Fin 8192) (j : Fin 2048) : EReal := x i j + ∑ k, both z r n i k * w k j

end

/-- The result at an index, from the arguments. -/
def res (Z : (Shape.mk 2 ![8192, 15872]).Idx → EReal) (X : (Shape.mk 3 ![1, 8192, 2048]).Idx → EReal)
    (R N : (Shape.mk 2 ![8192, 2048]).Idx → EReal) (W : (Shape.mk 3 ![1, 2048, 2048]).Idx → EReal) :
    (Shape.mk 2 ![8192, 2048]).Idx → EReal := fun y =>
  out (fun i k => Z (ix2 i k)) (fun i k => X (ix3 0 i k)) (fun i k => R (ix2 i k)) (fun i k => N (ix2 i k)) (fun k j => W (ix3 0 k j))
    ⟨(y 0).val, (y 0).isLt⟩ ⟨(y 1).val, (y 1).isLt⟩

section kernel

open Cert.MergeIdeal Cert.MergeIdeal.Gen

variable (m : (ℓ : Loc nD τ sig) → Buf (Elt Ideal) ℓ) (c : Dev nD) (t : Fin cfg0.N)

abbrev Zin : S8192x15872.Idx → EReal := m ((c : Thread nD τ).loc main_arg0)
abbrev Xin : S1x8192x2048.Idx → EReal := m ((c : Thread nD τ).loc main_arg1)
abbrev Rin : S8192x2048.Idx → EReal := m ((c : Thread nD τ).loc main_arg2)
abbrev Nin : S8192x2048.Idx → EReal := m ((c : Thread nD τ).loc main_arg3)
abbrev Win : S1x2048x2048.Idx → EReal := m ((c : Thread nD τ).loc main_arg4)

theorem V_x : V (F := Ideal) m c main_v0 = shapeCast _ (Xin m c) shapeCasts_S1x8192x2048_S8192x2048 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_w : (V (F := Ideal) m c main_v2 : S2048x2048.Idx → EReal)
    = (truncf (F := Ideal) .bf16 (shapeCast _ (Win m c) shapeCasts_S1x2048x2048_S2048x2048 : FVec Ideal S2048x2048 .f32) bitsLt_bf16_f32) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem x_at (i : Fin 8192) (k : Fin 2048) : (V (F := Ideal) m c main_v0 (ix2 i k) : EReal) = Xin m c (ix3 0 i k) := by
  rw [V_x]
  pointwise

theorem w_at (k j : Fin 2048) : ((V (F := Ideal) m c main_v2 : S2048x2048.Idx → EReal) (ix2 k j) : EReal) = Win m c (ix3 0 k j) := by
  rw [V_w]
  pointwise

theorem index0 : ∀ t : Fin cfg0.N, (cfg0.win 0).index t = ![t.val, 0] := by decide +kernel
theorem index1 : ∀ t : Fin cfg0.N, (cfg0.win 1).index t = ![t.val, 0] := by decide +kernel
theorem index2 : ∀ t : Fin cfg0.N, (cfg0.win 2).index t = ![t.val, 4] := by decide +kernel
theorem index3 : ∀ t : Fin cfg0.N, (cfg0.win 3).index t = ![t.val, 5] := by decide +kernel
theorem index4 : ∀ t : Fin cfg0.N, (cfg0.win 4).index t = ![t.val, 0] := by decide +kernel
theorem index5 : ∀ t : Fin cfg0.N, (cfg0.win 5).index t = ![0, 0] := by decide +kernel
theorem index6 : ∀ t : Fin cfg0.N, (cfg0.win 6).index t = ![t.val, 0] := by decide +kernel

theorem row_lt (a : Fin 256) : t.val * 256 + a.val < 8192 := by
  have : t.val < 32 := t.isLt
  omega

theorem blk0 (a : Fin 256) (k : Fin 2048) :
    (iblk (F := Ideal) m c 0 t : S256x2048.Idx → EReal) (ix2 a k) = Rin m c (ix2 ⟨t.val * 256 + a.val, row_lt t a⟩ k) := by
  blk_ext [iblk, V_main_arg2 m c, index0 t]

theorem blk1 (a : Fin 256) (k : Fin 2048) :
    (iblk (F := Ideal) m c 1 t : S256x2048.Idx → EReal) (ix2 a k) = Nin m c (ix2 ⟨t.val * 256 + a.val, row_lt t a⟩ k) := by
  blk_ext [iblk, V_main_arg3 m c, index1 t]

theorem blk2 (a : Fin 256) (k : Fin 2048) :
    (X0_2 (F := Ideal) m c t : S256x2048.Idx → EReal) (ix2 a k)
      = Zin m c (ix2 ⟨t.val * 256 + a.val, row_lt t a⟩ ⟨8192 + k.val, by omega⟩) := by
  unfold X0_2 Pipeline.Window.fill
  rw [dif_pos (moved0_2 t _)]
  blk_ext [iblk, V_main_arg0 m c, index2 t]

theorem blk3 (a : Fin 256) (k : Fin 2048) :
    (X0_3 (F := Ideal) m c t : S256x2048.Idx → EReal) (ix2 a k)
      = Zin m c (ix2 ⟨t.val * 256 + a.val, row_lt t a⟩ ⟨10240 + k.val, by omega⟩) := by
  unfold X0_3 Pipeline.Window.fill
  rw [dif_pos (moved0_3 t _)]
  blk_ext [iblk, V_main_arg0 m c, index3 t]

theorem blk4 (a : Fin 256) (k : Fin 2048) :
    (iblk (F := Ideal) m c 4 t : S256x2048.Idx → EReal) (ix2 a k) = Xin m c (ix3 0 ⟨t.val * 256 + a.val, row_lt t a⟩ k) := by
  refine Eq.trans ?_ (x_at m c _ _)
  blk_ext [iblk, index4 t]

theorem blk5 (k j : Fin 2048) : (iblk (F := Ideal) m c 5 t : S2048x2048.Idx → EReal) (ix2 k j) = Win m c (ix3 0 k j) := by
  refine Eq.trans ?_ (w_at m c _ _)
  blk_ext [iblk, index5 t]

/-- A point's block at an index. -/
theorem pay_at (a : Fin 256) (j : Fin 2048) :
    (k0_pay1 (F := Ideal) (X0_2 m c t) (iblk m c 0 t) (X0_3 m c t) (iblk m c 1 t) (iblk m c 4 t) (iblk m c 5 t) (ix2 a j) : EReal)
      = res (Zin m c) (Xin m c) (Rin m c) (Nin m c) (Win m c) (ix2 ⟨t.val * 256 + a.val, row_lt t a⟩ j) := by
  unfold k0_pay1 res out both
  pointwise
  simp only [blk0, blk1, blk2, blk3, blk4, blk5]

theorem out_eq : (outsAt0 (F := Ideal) m c t)
    = k0_pay1 (F := Ideal) (X0_2 m c t) (iblk m c 0 t) (X0_3 m c t) (iblk m c 1 t) (iblk m c 4 t) (iblk m c 5 t) := by
  unfold outsAt0
  frame_open
  frame_out

theorem arr_eq : (dats (F := Ideal) m 0 c).arrAt 6 (cfgs 0).N
    = (res (Zin m c) (Xin m c) (Rin m c) (Nin m c) (Win m c) : S8192x2048.Idx → EReal) := by
  refine (dats (F := Ideal) m 0 c).arrAt_eq_of_covers 6 _ (by decide +kernel) fun t hf y => ?_
  have ht : t.val < 32 := t.isLt
  have y0 : (y 0).val < 256 := (y 0).isLt
  have y1 : (y 1).val < 2048 := (y 1).isLt
  have e : (((cfgs 0).win 6).blk t).view.emb y
      = (ix2 ⟨t.val * 256 + (y 0).val, by omega⟩ ⟨(y 1).val, y1⟩ : S8192x2048.Idx) := by
    blk_ext [index6 t]
  have ey : y = (ix2 (⟨(y 0).val, y0⟩ : Fin 256) (⟨(y 1).val, y1⟩ : Fin 2048) : S256x2048.Idx) := eq_ix2 y
  rw [e, after0_6, out_eq]
  refine Eq.trans ?_ (pay_at m c t ⟨(y 0).val, y0⟩ ⟨(y 1).val, y1⟩)
  exact congrArg (k0_pay1 (F := Ideal) (X0_2 m c t) (iblk m c 0 t) (X0_3 m c t) (iblk m c 1 t) (iblk m c 4 t) (iblk m c 5 t)) ey

end kernel

section reference

open Cert.MergeRefIdeal Cert.MergeRefIdeal.Gen Cert.MergeRefIdeal.Value

/-- The reference's gates. -/
def gates (Z : FVec Ideal S8192x15872 .f32) : FVec Ideal S8192x2x2048 .f32 :=
  shapeCast _ (Host.divf (broadcastInDim S8192x4096 ![] bcast_S_S8192x4096 (constant S_ .f32 0x3F800000#32))
    (addf (broadcastInDim S8192x4096 ![] bcast_S_S8192x4096 (constant S_ .f32 0x3F800000#32))
      (Host.exp (Host.negf (extractStridedSlice S8192x4096 ![0, 8192] Z slices_S8192x15872_S8192x4096_0_8192)))) : FVec Ideal S8192x4096 .f32)
    shapeCasts_S8192x4096_S8192x2x2048

/-- The reference's result. -/
def chain (Z : FVec Ideal S8192x15872 .f32) (X : FVec Ideal S1x8192x2048 .f32) (R N : FVec Ideal S8192x2048 .f32)
    (W : FVec Ideal S1x2048x2048 .f32) : FVec Ideal S8192x2048 .f32 :=
  addf (shapeCast _ X shapeCasts_S1x8192x2048_S8192x2048) (Host.dotGeneral dot_S8192x2048_S2048x2048_S8192x2048_1_0_0_1_n_n none
    (addf (mulf (shapeCast _ (extractStridedSlice S8192x1x2048 ![0, 0, 0] (gates Z) slices_S8192x2x2048_S8192x1x2048_0_0_0)
        shapeCasts_S8192x1x2048_S8192x2048) R)
      (mulf (shapeCast _ (extractStridedSlice S8192x1x2048 ![0, 1, 0] (gates Z) slices_S8192x2x2048_S8192x1x2048_0_1_0)
        shapeCasts_S8192x1x2048_S8192x2048) N)) (shapeCast _ W shapeCasts_S1x2048x2048_S2048x2048))

theorem gates_at (Z : FVec Ideal S8192x15872 .f32) (i : Fin 8192) (b : Fin 2) (k : Fin 2048) :
    (gates Z (ix3 i b k) : EReal) = Ideal.logistic (Z (ix2 i ⟨8192 + (b.val * 2048 + k.val), by omega⟩)) := by
  unfold gates Ideal.logistic
  pointwise

theorem chain_at (Z : FVec Ideal S8192x15872 .f32) (X : FVec Ideal S1x8192x2048 .f32) (R N : FVec Ideal S8192x2048 .f32)
    (W : FVec Ideal S1x2048x2048 .f32) (i : Fin 8192) (j : Fin 2048) : (chain Z X R N W (ix2 i j) : EReal)
      = out (fun i k => Z (ix2 i k)) (fun i k => X (ix3 0 i k)) (fun i k => R (ix2 i k)) (fun i k => N (ix2 i k))
          (fun k j => W (ix3 0 k j)) i j := by
  unfold chain out both
  pointwise
  simp only [gates_at]
  refine congrArg (fun q : EReal => X (ix3 0 i j) + q) (Finset.sum_congr rfl fun k _ => congrArg (· * W (ix3 0 k j)) ?_)
  refine congrArg₂ (fun p q : Fin 15872 => Ideal.logistic (Z (ix2 i p)) * R (ix2 i k) + Ideal.logistic (Z (ix2 i q)) * N (ix2 i k))
    (Fin.ext ?_) (Fin.ext ?_)
  · show 8192 + (0 * 2048 + k.val) = 8192 + k.val
    omega
  · show 8192 + (1 * 2048 + k.val) = 10240 + k.val
    omega

end reference

theorem frame_plain : Cert.quiescent_Merge := fun m ρ _ => Cert.Merge.Gen.frame m ρ

theorem frame_ideal : Cert.quiescent_MergeIdeal := fun m ρ _ => Cert.MergeIdeal.Gen.frame m ρ

theorem frame_reference : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- The kernel's result is the reference's. -/
theorem equal : Cert.algebraic_MergeIdeal_MergeRefIdeal := by
  intro m g m' g' hP hagree
  refine ⟨fun c => (Cert.MergeIdeal.Gen.dats (F := Ideal) m 0 c).arrAt 6 (Cert.MergeIdeal.cfgs 0).N,
    Cert.MergeIdeal.Value.run_blocks (F := Ideal) m g, ?_⟩
  refine (θ_run _ _ _).mono (fun _ h c => ⟨(h c).1.trans ?_, (h c).2⟩) (Cert.MergeRefIdeal.Value.run (F := Ideal) m' g')
  refine Eq.trans ?_ (arr_eq m c).symm
  obtain ⟨h0, h1, h2, h3, h4⟩ := hagree c
  rw [h0, h1, h2, h3, h4]
  funext y
  refine (congrArg _ (eq_ix2 y)).trans ?_
  exact chain_at _ _ _ _ _ ⟨(y 0).val, (y 0).isLt⟩ ⟨(y 1).val, (y 1).isLt⟩

end Cert.Proof.Merge

end
-- ==== Proof.Tail.Embed.lean ====
/- The gated per-layer embedding and the last norm (`ple_norm`): the kernel's array is the reference's. -/
module

public import proofs.«01_k».proof.Defs
public import proofs.«01_k».proof.Proof.Gen.EmbedIdeal.Value
public import proofs.«01_k».proof.Proof.Gen.Embed.Frame
public import proofs.«01_k».proof.Proof.Gen.EmbedRefIdeal.Run
public import Idealize.ShloMosaic.Lib.Pipeline.ValueKit
public import Idealize.ShloMosaic.Lib.Pipeline.ReadBack
public import Idealize.ShloMosaic.Lib.StableHlo.Run
public import Idealize.ShloMosaic.PureOps.Ideal
public import Idealize.ShloMosaic.Lib.Pointwise
public import Idealize.ShloMosaic.Lib.Quiescent
public import Idealize.ShloMosaic.Adequacy
public import Idealize.ShloMosaic.Init

@[expose] public section

set_option maxRecDepth 16384

noncomputable section

open scoped Classical

namespace Cert.Proof.Embed

open Idealize.ShloMosaic Idealize.ShloMosaic.TcCoe Idealize.SL.Sem

section
variable {ι : Type} (x : ι → Fin 2048 → EReal) (p : ι → Fin 256 → EReal) (wp : Fin 256 → Fin 2048 → EReal)
  (wg : Fin 2048 → Fin 2048 → EReal) (g : Fin 2048 → EReal)

/-- The rows with the gated embedding added. -/
def mix (i : ι) (j : Fin 2048) : EReal :=
  x i j + (∑ k, p i k * wp k j) * Ideal.logistic (∑ k, x i k * wg k j)

/-- Those rows normalised and scaled. -/
def out (i : ι) (j : Fin 2048) : EReal :=
  mix x p wp wg i j * Ideal.rsqrt (Ideal.div (∑ k, mix x p wp wg i k * mix x p wp wg i k) (Ideal.ofBits FTy.f32 1157627904#32)
    + Ideal.ofBits FTy.f32 897988541#32) * g j

end

section kernel

open Cert.EmbedIdeal Cert.EmbedIdeal.Gen

variable (m : (ℓ : Loc nD τ sig) → Buf (Elt Ideal) ℓ) (c : Dev nD) (t : Fin cfg0.N)

abbrev Xin : S8192x2048.Idx → EReal := m ((c : Thread nD τ).loc main_arg0)
abbrev Pin : S1x1x8192x256.Idx → EReal := m ((c : Thread nD τ).loc main_arg1)
abbrev WPin : S1x256x2048.Idx → EReal := m ((c : Thread nD τ).loc main_arg2)
abbrev WGin : S1x2048x2048.Idx → EReal := m ((c : Thread nD τ).loc main_arg3)
abbrev Gin : S2048.Idx → EReal := m ((c : Thread nD τ).loc main_arg4)

/-- The result at an index, from the arguments. -/
def res (X : S8192x2048.Idx → EReal) (P : S1x1x8192x256.Idx → EReal) (WP : S1x256x2048.Idx → EReal) (WG : S1x2048x2048.Idx → EReal)
    (G : S2048.Idx → EReal) : S8192x2048.Idx → EReal := fun y =>
  out (fun i k => X (ix2 i k)) (fun i k => P (ix4 0 0 i k)) (fun k j => WP (ix3 0 k j)) (fun k j => WG (ix3 0 k j)) (fun k => G (ix1 k))
    ⟨(y 0).val, (y 0).isLt⟩ ⟨(y 1).val, (y 1).isLt⟩

theorem V_p : V (F := Ideal) m c main_v4 = shapeCast _ (Pin m c) shapeCasts_S1x1x8192x256_S8192x256 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_wp : (V (F := Ideal) m c main_v1 : S256x2048.Idx → EReal)
    = (truncf (F := Ideal) .bf16 (shapeCast _ (WPin m c) shapeCasts_S1x256x2048_S256x2048 : FVec Ideal S256x2048 .f32) bitsLt_bf16_f32) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_wg : (V (F := Ideal) m c main_v3 : S2048x2048.Idx → EReal)
    = (truncf (F := Ideal) .bf16 (shapeCast _ (WGin m c) shapeCasts_S1x2048x2048_S2048x2048 : FVec Ideal S2048x2048 .f32) bitsLt_bf16_f32) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_g : V (F := Ideal) m c main_v5 = shapeCast _ (Gin m c) shapeCasts_S2048_S1x2048 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem p_at (i : Fin 8192) (k : Fin 256) : (V (F := Ideal) m c main_v4 (ix2 i k) : EReal) = Pin m c (ix4 0 0 i k) := by
  rw [V_p]
  pointwise

theorem wp_at (k : Fin 256) (j : Fin 2048) : ((V (F := Ideal) m c main_v1 : S256x2048.Idx → EReal) (ix2 k j) : EReal) = WPin m c (ix3 0 k j) := by
  rw [V_wp]
  pointwise

theorem wg_at (k j : Fin 2048) : ((V (F := Ideal) m c main_v3 : S2048x2048.Idx → EReal) (ix2 k j) : EReal) = WGin m c (ix3 0 k j) := by
  rw [V_wg]
  pointwise

theorem g_at (k : Fin 2048) : (V (F := Ideal) m c main_v5 (ix2 0 k) : EReal) = Gin m c (ix1 k) := by
  rw [V_g]
  pointwise

theorem index0 : ∀ t : Fin cfg0.N, (cfg0.win 0).index t = ![t.val, 0] := by decide +kernel
theorem index1 : ∀ t : Fin cfg0.N, (cfg0.win 1).index t = ![t.val, 0] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![t.val, 0] := by decide +kernel

theorem row_lt (a : Fin 256) : t.val * 256 + a.val < 8192 := by
  have : t.val < 32 := t.isLt
  omega

theorem blk0 (a : Fin 256) (k : Fin 2048) :
    (iblk (F := Ideal) m c 0 t : S256x2048.Idx → EReal) (ix2 a k) = Xin m c (ix2 ⟨t.val * 256 + a.val, row_lt t a⟩ k) := by
  blk_ext [iblk, V_main_arg0 m c, index0 t]

theorem blk1 (a : Fin 256) (k : Fin 256) :
    (iblk (F := Ideal) m c 1 t : S256x256.Idx → EReal) (ix2 a k) = Pin m c (ix4 0 0 ⟨t.val * 256 + a.val, row_lt t a⟩ k) := by
  refine Eq.trans ?_ (p_at m c _ _)
  blk_ext [iblk, index1 t]

theorem blk2 (k : Fin 256) (j : Fin 2048) : (iblk (F := Ideal) m c 2 t : S256x2048.Idx → EReal) (ix2 k j) = WPin m c (ix3 0 k j) := by
  refine Eq.trans ?_ (wp_at m c _ _)
  blk_ext [iblk, index2 t]

theorem blk3 (k j : Fin 2048) : (iblk (F := Ideal) m c 3 t : S2048x2048.Idx → EReal) (ix2 k j) = WGin m c (ix3 0 k j) := by
  refine Eq.trans ?_ (wg_at m c _ _)
  blk_ext [iblk, index3 t]

theorem blk4 (k : Fin 2048) : (iblk (F := Ideal) m c 4 t : S1x2048.Idx → EReal) (ix2 0 k) = Gin m c (ix1 k) := by
  refine Eq.trans ?_ (g_at m c _)
  blk_ext [iblk, index4 t]

/-- A point's block at an index. -/
theorem pay_at (a : Fin 256) (j : Fin 2048) :
    (k0_pay1 (F := Ideal) (iblk m c 0 t) (iblk m c 1 t) (iblk m c 2 t) (iblk m c 3 t) (iblk m c 4 t) (ix2 a j) : EReal)
      = res (Xin m c) (Pin m c) (WPin m c) (WGin m c) (Gin m c) (ix2 ⟨t.val * 256 + a.val, row_lt t a⟩ j) := by
  unfold k0_pay1 res out mix
  pointwise
  simp only [blk0, blk1, blk2, blk3, blk4]

theorem arr_eq : (dats (F := Ideal) m 0 c).arrAt 5 (cfgs 0).N
    = (res (Xin m c) (Pin m c) (WPin m c) (WGin m c) (Gin m c) : S8192x2048.Idx → EReal) := by
  refine (dats (F := Ideal) m 0 c).arrAt_eq_of_covers 5 _ (by decide +kernel) fun t hf y => ?_
  have ht : t.val < 32 := t.isLt
  have y0 : (y 0).val < 256 := (y 0).isLt
  have y1 : (y 1).val < 2048 := (y 1).isLt
  have e : (((cfgs 0).win 5).blk t).view.emb y
      = (ix2 ⟨t.val * 256 + (y 0).val, by omega⟩ ⟨(y 1).val, y1⟩ : S8192x2048.Idx) := by
    blk_ext [index5 t]
  have ey : y = (ix2 (⟨(y 0).val, y0⟩ : Fin 256) (⟨(y 1).val, y1⟩ : Fin 2048) : S256x2048.Idx) := eq_ix2 y
  have o : (out0_5 (F := Ideal) (iblk m c 0 t) (iblk m c 1 t) (iblk m c 2 t) (iblk m c 3 t) (iblk m c 4 t))
      = k0_pay1 (F := Ideal) (iblk m c 0 t) (iblk m c 1 t) (iblk m c 2 t) (iblk m c 3 t) (iblk m c 4 t) := by
    unfold out0_5
    frame_out
  rw [e, after0_5, o]
  refine Eq.trans ?_ (pay_at m c t ⟨(y 0).val, y0⟩ ⟨(y 1).val, y1⟩)
  exact congrArg (k0_pay1 (F := Ideal) (iblk m c 0 t) (iblk m c 1 t) (iblk m c 2 t) (iblk m c 3 t) (iblk m c 4 t)) ey

end kernel

section reference

open Cert.EmbedRefIdeal Cert.EmbedRefIdeal.Gen Cert.EmbedRefIdeal.Value

/-- The reference's rows with the gated embedding added. -/
def rmix (X : FVec Ideal S8192x2048 .f32) (P : FVec Ideal S1x1x8192x256 .f32) (WP : FVec Ideal S1x256x2048 .f32)
    (WG : FVec Ideal S1x2048x2048 .f32) : FVec Ideal S8192x2048 .f32 :=
  addf X (mulf (Host.dotGeneral dot_S8192x256_S256x2048_S8192x2048_1_0_0_1_n_n none (shapeCast _ P shapeCasts_S1x1x8192x256_S8192x256)
      (shapeCast _ WP shapeCasts_S1x256x2048_S256x2048))
    (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (Host.dotGeneral dot_S8192x2048_S2048x2048_S8192x2048_1_0_0_1_n_n none X
          (shapeCast _ WG shapeCasts_S1x2048x2048_S2048x2048)))))))

/-- The reference's result. -/
def chain (X : FVec Ideal S8192x2048 .f32) (P : FVec Ideal S1x1x8192x256 .f32) (WP : FVec Ideal S1x256x2048 .f32)
    (WG : FVec Ideal S1x2048x2048 .f32) (G : FVec Ideal S2048 .f32) : FVec Ideal S8192x2048 .f32 :=
  mulf (mulf (rmix X P WP WG) (broadcastInDim S8192x2048 ![0, 1] bcast_S8192x1_S8192x2048_0_1 (Host.rsqrt (addf
      (Host.divf (broadcastInDim S8192x1 ![0] bcast_S8192_S8192x1_0
          (Host.reduceAdd (mulf (rmix X P WP WG) (rmix X P WP WG)) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 G))

theorem rmix_at (X : FVec Ideal S8192x2048 .f32) (P : FVec Ideal S1x1x8192x256 .f32) (WP : FVec Ideal S1x256x2048 .f32)
    (WG : FVec Ideal S1x2048x2048 .f32) (i : Fin 8192) (j : Fin 2048) : (rmix X P WP WG (ix2 i j) : EReal)
      = mix (fun i k => X (ix2 i k)) (fun i k => P (ix4 0 0 i k)) (fun k j => WP (ix3 0 k j)) (fun k j => WG (ix3 0 k j)) i j := by
  unfold rmix mix Ideal.logistic
  pointwise

theorem chain_at (X : FVec Ideal S8192x2048 .f32) (P : FVec Ideal S1x1x8192x256 .f32) (WP : FVec Ideal S1x256x2048 .f32)
    (WG : FVec Ideal S1x2048x2048 .f32) (G : FVec Ideal S2048 .f32) (i : Fin 8192) (j : Fin 2048) : (chain X P WP WG G (ix2 i j) : EReal)
      = out (fun i k => X (ix2 i k)) (fun i k => P (ix4 0 0 i k)) (fun k j => WP (ix3 0 k j)) (fun k j => WG (ix3 0 k j))
          (fun k => G (ix1 k)) i j := by
  unfold chain out
  pointwise
  simp only [rmix_at]

end reference

theorem frame_plain : Cert.quiescent_Embed := fun m ρ _ => Cert.Embed.Gen.frame m ρ

theorem frame_ideal : Cert.quiescent_EmbedIdeal := fun m ρ _ => Cert.EmbedIdeal.Gen.frame m ρ

theorem frame_reference : Cert.quiescent_EmbedRefIdeal := fun m ρ _ =>
  (θ_run Cert.EmbedRefIdeal.defs _ _).mono (fun r h => ⟨fun c => (h c).2,
      Idealize.ShloMosaic.sem_eq_zero_of_no_sems (by decide) r.2⟩)
    (Cert.EmbedRefIdeal.Value.run (F := Ideal) m ρ)

/-- The kernel's result is the reference's. -/
theorem equal : Cert.algebraic_EmbedIdeal_EmbedRefIdeal := by
  intro m g m' g' hP hagree
  refine ⟨fun c => (Cert.EmbedIdeal.Gen.dats (F := Ideal) m 0 c).arrAt 5 (Cert.EmbedIdeal.cfgs 0).N,
    Cert.EmbedIdeal.Value.run_blocks (F := Ideal) m g, ?_⟩
  refine (θ_run _ _ _).mono (fun _ h c => ⟨(h c).1.trans ?_, (h c).2⟩) (Cert.EmbedRefIdeal.Value.run (F := Ideal) m' g')
  refine Eq.trans ?_ (arr_eq m c).symm
  obtain ⟨h0, h1, h2, h3, h4⟩ := hagree c
  rw [h0, h1, h2, h3, h4]
  funext y
  refine (congrArg _ (eq_ix2 y)).trans ?_
  exact chain_at _ _ _ _ _ ⟨(y 0).val, (y 0).isLt⟩ ⟨(y 1).val, (y 1).isLt⟩

end Cert.Proof.Embed

end
-- ==== Proof.Samp.Pos.lean ====
/- The rows of the sample batch: a sample and a step, and the position of the step. -/
module

public import Idealize.ShloMosaic.PureOps.Ideal
public import Idealize.ShloMosaic.Lib.Pointwise

@[expose] public section

noncomputable section

namespace Cert.Proof.Samp

open Idealize.ShloMosaic

/-- The position of a sample's step. -/
def pos (i : Fin 32 × Fin 8) : ℕ := 16384 + i.2.val

/-- A row's sample and step. -/
abbrev row (a : Fin 256) : Fin 32 × Fin 8 := (⟨a.val / 8, by omega⟩, ⟨a.val % 8, by omega⟩)

/-- The row of a sample's step. -/
def flat (i : Fin 32 × Fin 8) : Fin 256 := ⟨i.1.val * 8 + i.2.val, by omega⟩

theorem flat_row (a : Fin 256) : flat (row a) = a := Fin.ext (by simp only [flat]; omega)

/-- The sum of the past's length and a step, as machine numbers. -/
theorem addi_past (n : ℕ) : IntOp.addi (16384#32) (BitVec.ofNat 32 n) = BitVec.ofNat 32 (16384 + n) := by
  rw [BitVec.ofNat_add]
  rfl

end Cert.Proof.Samp

end
-- ==== Proof.Tail.Last.lean ====
/- The gated per-layer embedding and the last norm (`ple_norm`) of the sample batch: the kernel's array is the reference's. -/
module

public import proofs.«01_k».proof.Defs
public import proofs.«01_k».proof.Proof.Tail.Embed
public import proofs.«01_k».proof.Proof.Samp.Pos
public import proofs.«01_k».proof.Proof.Gen.LastIdeal.Value
public import proofs.«01_k».proof.Proof.Gen.Last.Frame
public import proofs.«01_k».proof.Proof.Gen.LastRefIdeal.Run
public import Idealize.ShloMosaic.Lib.Pipeline.ValueKit
public import Idealize.ShloMosaic.Lib.Pipeline.ReadBack
public import Idealize.ShloMosaic.Lib.StableHlo.Run
public import Idealize.ShloMosaic.PureOps.Ideal
public import Idealize.ShloMosaic.Lib.Pointwise
public import Idealize.ShloMosaic.Lib.Quiescent
public import Idealize.ShloMosaic.Adequacy
public import Idealize.ShloMosaic.Init

@[expose] public section

set_option maxRecDepth 16384

noncomputable section

open scoped Classical

namespace Cert.Proof.Last

open Cert.Proof.Embed (mix out)
open Cert.Proof.Samp (row flat flat_row)
open Idealize.ShloMosaic Idealize.ShloMosaic.TcCoe Idealize.SL.Sem

section kernel

open Cert.LastIdeal Cert.LastIdeal.Gen

variable (m : (ℓ : Loc nD τ sig) → Buf (Elt Ideal) ℓ) (c : Dev nD) (t : Fin cfg0.N)

abbrev Xin : S256x2048.Idx → EReal := m ((c : Thread nD τ).loc main_arg0)
abbrev Pin : S1x32x8x256.Idx → EReal := m ((c : Thread nD τ).loc main_arg1)
abbrev WPin : S1x256x2048.Idx → EReal := m ((c : Thread nD τ).loc main_arg2)
abbrev WGin : S1x2048x2048.Idx → EReal := m ((c : Thread nD τ).loc main_arg3)
abbrev Gin : S2048.Idx → EReal := m ((c : Thread nD τ).loc main_arg4)

/-- The result at an index, from the arguments. -/
def res (X : S256x2048.Idx → EReal) (P : S1x32x8x256.Idx → EReal) (WP : S1x256x2048.Idx → EReal) (WG : S1x2048x2048.Idx → EReal)
    (G : S2048.Idx → EReal) : S256x2048.Idx → EReal := fun y =>
  out (fun i k => X (ix2 (flat i) k)) (fun i k => P (ix4 0 i.1 i.2 k)) (fun k j => WP (ix3 0 k j)) (fun k j => WG (ix3 0 k j)) (fun k => G (ix1 k))
    (row ⟨(y 0).val, (y 0).isLt⟩) ⟨(y 1).val, (y 1).isLt⟩

theorem V_p : V (F := Ideal) m c main_v4 = shapeCast _ (Pin m c) shapeCasts_S1x32x8x256_S256x256 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_wp : (V (F := Ideal) m c main_v1 : S256x2048.Idx → EReal)
    = (truncf (F := Ideal) .bf16 (shapeCast _ (WPin m c) shapeCasts_S1x256x2048_S256x2048 : FVec Ideal S256x2048 .f32) bitsLt_bf16_f32) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_wg : (V (F := Ideal) m c main_v3 : S2048x2048.Idx → EReal)
    = (truncf (F := Ideal) .bf16 (shapeCast _ (WGin m c) shapeCasts_S1x2048x2048_S2048x2048 : FVec Ideal S2048x2048 .f32) bitsLt_bf16_f32) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_g : V (F := Ideal) m c main_v5 = shapeCast _ (Gin m c) shapeCasts_S2048_S1x2048 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem p_at (i : Fin 256) (k : Fin 256) : (V (F := Ideal) m c main_v4 (ix2 i k) : EReal) = Pin m c (ix4 0 (row i).1 (row i).2 k) := by
  rw [V_p]
  pointwise

theorem wp_at (k : Fin 256) (j : Fin 2048) : ((V (F := Ideal) m c main_v1 : S256x2048.Idx → EReal) (ix2 k j) : EReal) = WPin m c (ix3 0 k j) := by
  rw [V_wp]
  pointwise

theorem wg_at (k j : Fin 2048) : ((V (F := Ideal) m c main_v3 : S2048x2048.Idx → EReal) (ix2 k j) : EReal) = WGin m c (ix3 0 k j) := by
  rw [V_wg]
  pointwise

theorem g_at (k : Fin 2048) : (V (F := Ideal) m c main_v5 (ix2 0 k) : EReal) = Gin m c (ix1 k) := by
  rw [V_g]
  pointwise

theorem index0 : ∀ t : Fin cfg0.N, (cfg0.win 0).index t = ![0, 0] := by decide +kernel
theorem index1 : ∀ t : Fin cfg0.N, (cfg0.win 1).index t = ![0, 0] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel

theorem blk0 (a : Fin 256) (k : Fin 2048) :
    (iblk (F := Ideal) m c 0 t : S256x2048.Idx → EReal) (ix2 a k) = Xin m c (ix2 (flat (row a)) k) := by
  rw [flat_row]
  blk_ext [iblk, V_main_arg0 m c, index0 t]

theorem blk1 (a : Fin 256) (k : Fin 256) :
    (iblk (F := Ideal) m c 1 t : S256x256.Idx → EReal) (ix2 a k) = Pin m c (ix4 0 (row a).1 (row a).2 k) := by
  refine Eq.trans ?_ (p_at m c _ _)
  blk_ext [iblk, index1 t]

theorem blk2 (k : Fin 256) (j : Fin 2048) : (iblk (F := Ideal) m c 2 t : S256x2048.Idx → EReal) (ix2 k j) = WPin m c (ix3 0 k j) := by
  refine Eq.trans ?_ (wp_at m c _ _)
  blk_ext [iblk, index2 t]

theorem blk3 (k j : Fin 2048) : (iblk (F := Ideal) m c 3 t : S2048x2048.Idx → EReal) (ix2 k j) = WGin m c (ix3 0 k j) := by
  refine Eq.trans ?_ (wg_at m c _ _)
  blk_ext [iblk, index3 t]

theorem blk4 (k : Fin 2048) : (iblk (F := Ideal) m c 4 t : S1x2048.Idx → EReal) (ix2 0 k) = Gin m c (ix1 k) := by
  refine Eq.trans ?_ (g_at m c _)
  blk_ext [iblk, index4 t]

/-- A point's block at an index. -/
theorem pay_at (a : Fin 256) (j : Fin 2048) :
    (k0_pay1 (F := Ideal) (iblk m c 0 t) (iblk m c 1 t) (iblk m c 2 t) (iblk m c 3 t) (iblk m c 4 t) (ix2 a j) : EReal)
      = res (Xin m c) (Pin m c) (WPin m c) (WGin m c) (Gin m c) (ix2 a j) := by
  unfold k0_pay1 res out mix
  pointwise
  simp only [blk0, blk1, blk2, blk3, blk4]

theorem arr_eq : (dats (F := Ideal) m 0 c).arrAt 5 (cfgs 0).N
    = (res (Xin m c) (Pin m c) (WPin m c) (WGin m c) (Gin m c) : S256x2048.Idx → EReal) := by
  refine (dats (F := Ideal) m 0 c).arrAt_eq_of_covers 5 _ (by decide +kernel) fun t hf y => ?_
  have y0 : (y 0).val < 256 := (y 0).isLt
  have y1 : (y 1).val < 2048 := (y 1).isLt
  have e : (((cfgs 0).win 5).blk t).view.emb y
      = (ix2 ⟨(y 0).val, y0⟩ ⟨(y 1).val, y1⟩ : S256x2048.Idx) := by
    blk_ext [index5 t]
  have ey : y = (ix2 (⟨(y 0).val, y0⟩ : Fin 256) (⟨(y 1).val, y1⟩ : Fin 2048) : S256x2048.Idx) := eq_ix2 y
  have o : (out0_5 (F := Ideal) (iblk m c 0 t) (iblk m c 1 t) (iblk m c 2 t) (iblk m c 3 t) (iblk m c 4 t))
      = k0_pay1 (F := Ideal) (iblk m c 0 t) (iblk m c 1 t) (iblk m c 2 t) (iblk m c 3 t) (iblk m c 4 t) := by
    unfold out0_5
    frame_out
  rw [e, after0_5, o]
  refine Eq.trans ?_ (pay_at m c t ⟨(y 0).val, y0⟩ ⟨(y 1).val, y1⟩)
  exact congrArg (k0_pay1 (F := Ideal) (iblk m c 0 t) (iblk m c 1 t) (iblk m c 2 t) (iblk m c 3 t) (iblk m c 4 t)) ey

end kernel

section reference

open Cert.LastRefIdeal Cert.LastRefIdeal.Gen Cert.LastRefIdeal.Value

/-- The reference's rows with the gated embedding added. -/
def rmix (X : FVec Ideal S256x2048 .f32) (P : FVec Ideal S1x32x8x256 .f32) (WP : FVec Ideal S1x256x2048 .f32)
    (WG : FVec Ideal S1x2048x2048 .f32) : FVec Ideal S32x8x2048 .f32 :=
  addf (shapeCast _ X shapeCasts_S256x2048_S32x8x2048)
    (mulf (Host.dotGeneral dot_S32x8x256_S256x2048_S32x8x2048_2_0_01_1_n_n none (shapeCast _ P shapeCasts_S1x32x8x256_S32x8x256)
      (shapeCast _ WP shapeCasts_S1x256x2048_S256x2048))
    (Host.divf (broadcastInDim S32x8x2048 ![] bcast_S_S32x8x2048 (constant S_ .f32 0x3F800000#32))
      (addf (broadcastInDim S32x8x2048 ![] bcast_S_S32x8x2048 (constant S_ .f32 0x3F800000#32))
        (Host.exp (Host.negf (Host.dotGeneral dot_S32x8x2048_S2048x2048_S32x8x2048_2_0_01_1_n_n none
          (shapeCast _ X shapeCasts_S256x2048_S32x8x2048) (shapeCast _ WG shapeCasts_S1x2048x2048_S2048x2048)))))))

/-- The reference's result. -/
def chain (X : FVec Ideal S256x2048 .f32) (P : FVec Ideal S1x32x8x256 .f32) (WP : FVec Ideal S1x256x2048 .f32)
    (WG : FVec Ideal S1x2048x2048 .f32) (G : FVec Ideal S2048 .f32) : FVec Ideal S256x2048 .f32 :=
  shapeCast _ (mulf (mulf (rmix X P WP WG) (broadcastInDim S32x8x2048 ![0, 1, 2] bcast_S32x8x1_S32x8x2048_0_1_2 (Host.rsqrt (addf
      (Host.divf (broadcastInDim S32x8x1 ![0, 1] bcast_S32x8_S32x8x1_0_1
          (Host.reduceAdd (mulf (rmix X P WP WG) (rmix X P WP WG)) (constant S_ .f32 0x00000000#32) reducesTo_S32x8x2048_S32x8_d2 h_S_))
        (broadcastInDim S32x8x1 ![] bcast_S_S32x8x1 (constant S_ .f32 0x45000000#32)))
      (broadcastInDim S32x8x1 ![] bcast_S_S32x8x1 (constant S_ .f32 0x358637BD#32))))))
    (broadcastInDim S32x8x2048 ![0, 1, 2] bcast_S1x1x2048_S32x8x2048_0_1_2 (broadcastInDim S1x1x2048 ![2] bcast_S2048_S1x1x2048_2 G)))
    shapeCasts_S32x8x2048_S256x2048

theorem rmix_at (X : FVec Ideal S256x2048 .f32) (P : FVec Ideal S1x32x8x256 .f32) (WP : FVec Ideal S1x256x2048 .f32)
    (WG : FVec Ideal S1x2048x2048 .f32) (b : Fin 32) (s : Fin 8) (j : Fin 2048) : (rmix X P WP WG (ix3 b s j) : EReal)
      = mix (fun i k => X (ix2 (flat i) k)) (fun i k => P (ix4 0 i.1 i.2 k)) (fun k j => WP (ix3 0 k j)) (fun k j => WG (ix3 0 k j)) (b, s) j := by
  unfold rmix mix Ideal.logistic flat
  pointwise

theorem chain_at (X : FVec Ideal S256x2048 .f32) (P : FVec Ideal S1x32x8x256 .f32) (WP : FVec Ideal S1x256x2048 .f32)
    (WG : FVec Ideal S1x2048x2048 .f32) (G : FVec Ideal S2048 .f32) (i : Fin 256) (j : Fin 2048) : (chain X P WP WG G (ix2 i j) : EReal)
      = out (fun i k => X (ix2 (flat i) k)) (fun i k => P (ix4 0 i.1 i.2 k)) (fun k j => WP (ix3 0 k j)) (fun k j => WG (ix3 0 k j))
          (fun k => G (ix1 k)) (row i) j := by
  unfold chain out
  pointwise
  simp only [rmix_at]

end reference

theorem frame_plain : Cert.quiescent_Last := fun m ρ _ => Cert.Last.Gen.frame m ρ

theorem frame_ideal : Cert.quiescent_LastIdeal := fun m ρ _ => Cert.LastIdeal.Gen.frame m ρ

theorem frame_reference : Cert.quiescent_LastRefIdeal := fun m ρ _ =>
  (θ_run Cert.LastRefIdeal.defs _ _).mono (fun r h => ⟨fun c => (h c).2,
      Idealize.ShloMosaic.sem_eq_zero_of_no_sems (by decide) r.2⟩)
    (Cert.LastRefIdeal.Value.run (F := Ideal) m ρ)

/-- The kernel's result is the reference's. -/
theorem equal : Cert.algebraic_LastIdeal_LastRefIdeal := by
  intro m g m' g' hP hagree
  refine ⟨fun c => (Cert.LastIdeal.Gen.dats (F := Ideal) m 0 c).arrAt 5 (Cert.LastIdeal.cfgs 0).N,
    Cert.LastIdeal.Value.run_blocks (F := Ideal) m g, ?_⟩
  refine (θ_run _ _ _).mono (fun _ h c => ⟨(h c).1.trans ?_, (h c).2⟩) (Cert.LastRefIdeal.Value.run (F := Ideal) m' g')
  refine Eq.trans ?_ (arr_eq m c).symm
  obtain ⟨h0, h1, h2, h3, h4⟩ := hagree c
  rw [h0, h1, h2, h3, h4]
  funext y
  refine (congrArg _ (eq_ix2 y)).trans ?_
  exact chain_at _ _ _ _ _ ⟨(y 0).val, (y 0).isLt⟩ ⟨(y 1).val, (y 1).isLt⟩

end Cert.Proof.Last

end
-- ==== Proof.Samp.Block.lean ====
/- A grid point of the projection of the sample batch: what its block holds at an index. -/
module

public import proofs.«01_k».proof.Proof.Gen.SampIdeal.Frame
public import proofs.«01_k».proof.Proof.Proj.Spec
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open scoped Classical

namespace Cert.Proof.Samp

open Cert.SampIdeal Cert.SampIdeal.Gen
open Cert.Proof.ProjSpec
open Idealize.ShloMosaic Idealize.ShloMosaic.TcCoe

/-- A block of rows times a block of weights (a row of weights per column of the product). -/
def dot (h : S256x2048.Idx → EReal) (w : S512x2048.Idx → EReal) (a : Fin 256) (j : Fin 512) : EReal :=
  ∑ k : Fin 2048, h (ix2 a k) * w (ix2 j k)

/-- The product's columns rotated, 128 at a time. -/
def rot (h : S256x2048.Idx → EReal) (w : S512x2048.Idx → EReal) (C S : S256x128.Idx → EReal) (a : Fin 256) (j : Fin 512) : EReal :=
  dot h w a j * C (ix2 a ⟨j.val % 128, by omega⟩)
    + dot h w a ⟨j.val / 128 * 128 + (j.val % 128 + 64) % 128, by omega⟩ * S (ix2 a ⟨j.val % 128, by omega⟩)

variable (m : (ℓ : Loc nD τ sig) → Buf (Elt Ideal) ℓ) (c : Dev nD) (t : Fin cfg0.N)

theorem pay2_at (h : S256x2048.Idx → EReal) (w : S512x2048.Idx → EReal) (a : Fin 256) (j : Fin 512) :
    (k0_pay2 (F := Ideal) h w (ix2 a j) : EReal) = dot h w a j := by
  unfold k0_pay2 dot
  pointwise

theorem pay6_at (C S x : S256x128.Idx → EReal) (a : Fin 256) (j : Fin 128) :
    (k0_pay6 (F := Ideal) C S x (ix2 a j) : EReal)
      = x (ix2 a j) * C (ix2 a j) + x (ix2 a ⟨(j.val + 64) % 128, by omega⟩) * S (ix2 a j) := by
  unfold k0_pay6 k0_pay4 k0_pay5
  pointwise
  simp only [show j.val + 128 - 64 = j.val + 64 from by omega]

section
variable (h : S256x2048.Idx → EReal) (w : S512x2048.Idx → EReal) (C S : S256x128.Idx → EReal)

/-- One piece of 128 columns, rotated: the columns from `o` of the rotated product. -/
theorem piece (o : ℕ) (ho : o % 128 = 0) (ho' : o + 128 ≤ 512) (inb)
    (x : (Rect.unit (s := S256x512) ![0, o] S256x128.size inb).shape.Idx) :
    (k0_pay6 (F := Ideal) C S (View.ld (k0_pay2 (F := Ideal) h w) (Rect.unit (s := S256x512) ![0, o] S256x128.size inb)) x : EReal)
      = (fun y : S256x512.Idx => rot h w C S (y 0) (y 1)) ((Rect.unit (s := S256x512) ![0, o] S256x128.size inb).emb x) := by
  have x0 : (x 0).val < 256 := (x 0).isLt
  have x1 : (x 1).val < 128 := (x 1).isLt
  have ex : x = (ix2 (⟨(x 0).val, x0⟩ : Fin 256) (⟨(x 1).val, x1⟩ : Fin 128) : S256x128.Idx) := eq_ix2 x
  have l : ∀ b : Fin 128, (View.ld (Val := Elt Ideal) (e' := .f32) (k0_pay2 (F := Ideal) h w) (Rect.unit (s := S256x512) ![0, o] S256x128.size inb)
      (ix2 (⟨(x 0).val, x0⟩ : Fin 256) b : S256x128.Idx) : EReal) = dot h w ⟨(x 0).val, x0⟩ ⟨o + b.val, by omega⟩ := fun b =>
    Eq.trans (View.ld_unit_apply_of (S := S256x512) (Val := Elt Ideal) (e := .f32) (k0_pay2 (F := Ideal) h w) ![0, o] S256x128.size inb
      (ix2 (⟨(x 0).val, x0⟩ : Fin 256) b : S256x128.Idx) (ix2 (⟨(x 0).val, x0⟩ : Fin 256) (⟨o + b.val, by omega⟩ : Fin 512) : S256x512.Idx)
      (Fin.forall_fin_two.mpr ⟨(Nat.zero_add _).symm, rfl⟩)) (pay2_at h w _ _)
  have e0 : ((Rect.unit (s := S256x512) ![0, o] S256x128.size inb).emb x) 0 = (⟨(x 0).val, x0⟩ : Fin 256) :=
    Fin.ext ((Rect.idx_unit_val (s := S256x512) ![0, o] S256x128.size inb x 0).trans (Nat.zero_add _))
  have e1 : ((Rect.unit (s := S256x512) ![0, o] S256x128.size inb).emb x) 1 = (⟨o + (x 1).val, by omega⟩ : Fin 512) :=
    Fin.ext (Rect.idx_unit_val (s := S256x512) ![0, o] S256x128.size inb x 1)
  rw [ex]
  refine (pay6_at C S _ _ _).trans ?_
  rw [l, l, ← ex]
  show _ = rot h w C S _ _
  rw [e0, e1]
  unfold rot
  have m1 : (o + (x 1).val) % 128 = (x 1).val := by omega
  have m2 : (o + (x 1).val) / 128 * 128 = o := by omega
  simp only [m1, m2]
  rw [congrArg C ex, congrArg S ex]

/-- The stores of a rotated point, read back. -/
theorem rot_canon (L : List (View.Piece (Elt Ideal) S256x512 .f32)) (i0 i1 i2 i3) (y : S256x512.Idx) :
    (View.canon ([⟨Rect.unit (s := S256x512) ![0, 384] S256x128.size i3, k0_pay9 (F := Ideal) C S
            (View.ld (k0_pay2 (F := Ideal) h w) (Rect.unit (s := S256x512) ![0, 384] S256x128.size i3))⟩,
        ⟨Rect.unit (s := S256x512) ![0, 256] S256x128.size i2, k0_pay8 (F := Ideal) C S
            (View.ld (k0_pay2 (F := Ideal) h w) (Rect.unit (s := S256x512) ![0, 256] S256x128.size i2))⟩,
        ⟨Rect.unit (s := S256x512) ![0, 128] S256x128.size i1, k0_pay7 (F := Ideal) C S
            (View.ld (k0_pay2 (F := Ideal) h w) (Rect.unit (s := S256x512) ![0, 128] S256x128.size i1))⟩,
        ⟨Rect.unit (s := S256x512) ![0, 0] S256x128.size i0, k0_pay6 (F := Ideal) C S
            (View.ld (k0_pay2 (F := Ideal) h w) (Rect.unit (s := S256x512) ![0, 0] S256x128.size i0))⟩] ++ L) y : EReal)
      = rot h w C S (y 0) (y 1) :=
  View.canon_append_of_piecesOf (fun y : S256x512.Idx => rot h w C S (y 0) (y 1)) L [_, _, _, _]
    ⟨piece h w C S 384 (by decide) (by decide) i3, piece h w C S 256 (by decide) (by decide) i2,
      piece h w C S 128 (by decide) (by decide) i1, piece h w C S 0 (by decide) (by decide) i0, trivial⟩ y
    (View.cover_of_tiledL (s := S256x512) _ ![256, 128] rfl y)

end

/-- What the point before left in the carried rows. -/
abbrev prev : S256x2048.Idx → EReal := (outsAt0 (F := Ideal) m c (t.val - 1) (Nat.lt_of_le_of_lt (Nat.sub_le _ _) t.isLt)).2

/-- The normalised rows, as the first point of a run computes them. -/
abbrev rows : S256x2048.Idx → EReal := k0_pay1 (F := Ideal) (iblk m c 0 t) (iblk m c 1 t)

theorem carry_A (h0 : t.val % 31 = 0) : (outsAt0 (F := Ideal) m c t.val t.isLt).2 = rows m c t := by
  have h1 : ¬ Tail (t.val % 31) := by unfold Tail; omega
  rw [outsAt0_A m c t h0 h1 h1 (Or.inl h0)]
  frame_open
  frame_out

theorem carry_BCD (h0 : ¬ t.val % 31 = 0) : (outsAt0 (F := Ideal) m c t.val t.isLt).2 = prev m c t := by
  by_cases h1 : Tail (t.val % 31)
  · have h3 : ¬ Rope (t.val % 31) := by unfold Tail at h1; unfold Rope; omega
    rw [outsAt0_D m c t h0 (not_not.mpr h1) h1 h3]
    rfl
  · by_cases h3 : Rope (t.val % 31)
    · rw [outsAt0_B m c t h0 h1 h1 h3]
      rfl
    · rw [outsAt0_C m c t h0 h1 h1 h3]
      rfl

theorem start_lt : 31 * (t.val / 31) < cfg0.N := Nat.lt_of_le_of_lt (Nat.mul_div_le _ _) t.isLt

/-- The carried rows are the rows of the run's first point. -/
theorem carry : (outsAt0 (F := Ideal) m c t.val t.isLt).2 = rows m c ⟨31 * (t.val / 31), start_lt t⟩ :=
  Pipeline.eq_of_write_hold (fun n h => (outsAt0 (F := Ideal) m c n h).2) 31 (fun t => rows m c t) (fun t h => carry_A m c t h)
    (fun t h => carry_BCD m c t h) t

theorem out_A (h0 : t.val % 31 = 0) (y : S256x512.Idx) :
    ((outsAt0 (F := Ideal) m c t.val t.isLt).1 y : EReal)
      = rot (rows m c t) (X0_2 m c t) (iblk m c 4 t) (iblk m c 5 t) (y 0) (y 1) := by
  have h1 : ¬ Tail (t.val % 31) := by unfold Tail; omega
  rw [outsAt0_A m c t h0 h1 h1 (Or.inl h0)]
  frame_open
  simp (disch := decide) only [↓ View.readCov_skip, ↓ View.readCov_cons_toLoadRect, ↓ View.readCov_fill]
  frame_out
  exact rot_canon _ _ _ _ [_] _ _ _ _ y

theorem out_B (h0 : ¬ t.val % 31 = 0) (h3 : Rope (t.val % 31)) (y : S256x512.Idx) :
    ((outsAt0 (F := Ideal) m c t.val t.isLt).1 y : EReal)
      = rot (prev m c t) (X0_2 m c t) (iblk m c 4 t) (iblk m c 5 t) (y 0) (y 1) := by
  have h1 : ¬ Tail (t.val % 31) := by unfold Rope at h3; unfold Tail; omega
  rw [outsAt0_B m c t h0 h1 h1 h3]
  frame_open
  simp (disch := decide) only [↓ View.readCov_skip, ↓ View.readCov_cons_toLoadRect, ↓ View.readCov_fill]
  frame_out
  simp only [read_unread_whole]
  exact rot_canon _ _ _ _ [_] _ _ _ _ y

theorem out_C (h0 : ¬ t.val % 31 = 0) (h1 : ¬ Tail (t.val % 31)) (h3 : ¬ Rope (t.val % 31)) (y : S256x512.Idx) :
    ((outsAt0 (F := Ideal) m c t.val t.isLt).1 y : EReal) = dot (prev m c t) (X0_2 m c t) (y 0) (y 1) := by
  rw [outsAt0_C m c t h0 h1 h1 h3]
  frame_open
  frame_out
  simp only [read_unread_whole]
  exact (congrArg _ (eq_ix2 y)).trans (pay2_at _ _ _ _)

theorem out_D (h0 : ¬ t.val % 31 = 0) (h1 : Tail (t.val % 31)) (y : S256x512.Idx) :
    ((outsAt0 (F := Ideal) m c t.val t.isLt).1 y : EReal) = dot (prev m c t) (iblk m c 3 t) (y 0) (y 1) := by
  have h3 : ¬ Rope (t.val % 31) := by unfold Tail at h1; unfold Rope; omega
  rw [outsAt0_D m c t h0 (not_not.mpr h1) h1 h3]
  frame_open
  frame_out
  simp only [read_unread_whole]
  exact (congrArg _ (eq_ix2 y)).trans (pay2_at _ _ _ _)

/-- A point's block, over the rows of its run's first point. -/
theorem out_at (y : S256x512.Idx) :
    ((outsAt0 (F := Ideal) m c t.val t.isLt).1 y : EReal)
      = if Tail (t.val % 31) then dot (rows m c ⟨31 * (t.val / 31), start_lt t⟩) (iblk m c 3 t) (y 0) (y 1)
        else if Rope (t.val % 31) then
          rot (rows m c ⟨31 * (t.val / 31), start_lt t⟩) (X0_2 m c t) (iblk m c 4 t) (iblk m c 5 t) (y 0) (y 1)
        else dot (rows m c ⟨31 * (t.val / 31), start_lt t⟩) (X0_2 m c t) (y 0) (y 1) := by
  rw [← carry m c t]
  by_cases h0 : t.val % 31 = 0
  · have h1 : ¬ Tail (t.val % 31) := by unfold Tail; omega
    rw [if_neg h1, if_pos (show Rope (t.val % 31) from Or.inl h0), out_A m c t h0, carry_A m c t h0]
  · rw [carry_BCD m c t h0]
    by_cases h1 : Tail (t.val % 31)
    · rw [if_pos h1, out_D m c t h0 h1]
    · rw [if_neg h1]
      by_cases h3 : Rope (t.val % 31)
      · rw [if_pos h3, out_B m c t h0 h3]
      · rw [if_neg h3, out_C m c t h0 h1 h3]

end Cert.Proof.Samp

end
-- ==== Proof.Samp.Host.lean ====
/- The arrays the projection's call on the sample batch is given, read at an index, and the blocks its windows hold. -/
module

public import proofs.«01_k».proof.Proof.Samp.Block
public import proofs.«01_k».proof.Proof.Samp.Pos
public import proofs.«01_k».proof.Proof.Proj.Host
public import Idealize.ShloMosaic.Lib.StableHlo.Run

@[expose] public section

set_option maxRecDepth 16384

noncomputable section

open scoped Classical

namespace Cert.Proof.Samp

open Cert.SampIdeal Cert.SampIdeal.Gen
open Cert.Proof.ProjSpec
open Idealize.ShloMosaic Idealize.ShloMosaic.TcCoe

variable (m : (ℓ : Loc nD τ sig) → Buf (Elt Ideal) ℓ) (c : Dev nD) (t : Fin cfg0.N)

abbrev Xin : S32x8x2048.Idx → EReal := m ((c : Thread nD τ).loc main_arg0)
abbrev Gin : S1x2048.Idx → EReal := m ((c : Thread nD τ).loc main_arg1)
abbrev Win : S1x2048x15408.Idx → EReal := m ((c : Thread nD τ).loc main_arg2)

/-- The angles. -/
def ang : FVec Ideal S256x64 .f32 :=
  mulf (broadcastInDim S256x64 ![0, 1] bcast_S256x1_S256x64_0_1 (broadcastInDim S256x1 ![0] bcast_S256_S256x1_0
      (sitofp .f32 (shapeCast _ (broadcastInDim S32x8 ![0, 1] bcast_S1x8_S32x8_0_1 (shapeCast _
        (addi (broadcastInDim S8 ![] bcast_S_S8 (constantI S_ 32 16384#32)) (iotaInDim S8 32 0) : IVec S8 32)
        shapeCasts_S8_S1x8)) shapeCasts_S32x8_S256 : IVec S256 32))))
    (broadcastInDim S256x64 ![0, 1] bcast_S1x64_S256x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

theorem V_x : V (F := Ideal) m c main_v29 = shapeCast _ (Xin m c) shapeCasts_S32x8x2048_S256x2048 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_w : V (F := Ideal) m c main_v1 = Proj.wt (Win m c) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_tail : V (F := Ideal) m c main_v5 = Proj.wtail (Win m c) := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_cos : V (F := Ideal) m c main_v26
    = concatenate S256x128 1 [⟨S256x64, Host.cos ang⟩, ⟨S256x64, Host.cos ang⟩] concatenates_S256x64_S256x64_S256x128_d1 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem V_sin : V (F := Ideal) m c main_v28
    = concatenate S256x128 1 [⟨S256x64, Host.negf (Host.sin ang)⟩, ⟨S256x64, Host.sin ang⟩] concatenates_S256x64_S256x64_S256x128_d1 := by
  unfold V
  simp only [hostOps0, StableHlo.TRef.ternary, StableHlo.TRef.unary, StableHlo.TRef.binary, StableHlo.TRef.nullary,
    StableHlo.TRef.toBuf, StableHlo.TRef.ofBuf, cast_eq]
  after_results_simp
  rfl

theorem ang_at (i : Fin 256) (d : Fin 64) : (ang (ix2 i d) : EReal) = theta (pos (row i)) d.val := by
  unfold ang theta pos
  pointwise
  rw [addi_past]

theorem cos_at (i : Fin 256) (d : Fin 128) : (V (F := Ideal) m c main_v26 (ix2 i d) : EReal) = Ideal.cos (theta (pos (row i)) (d.val % 64)) := by
  rw [V_cos]
  pointwise
  by_cases h : d.val < 64
  · rw [dif_pos h, ang_at, Nat.mod_eq_of_lt h]
  · rw [dif_neg h, ang_at]
    exact congrArg (fun q => Ideal.cos (theta (pos (row i)) q)) (show d.val - 64 = d.val % 64 by omega)

theorem sin_at (i : Fin 256) (d : Fin 128) : (V (F := Ideal) m c main_v28 (ix2 i d) : EReal)
    = if d.val < 64 then -Ideal.sin (theta (pos (row i)) (d.val % 64)) else Ideal.sin (theta (pos (row i)) (d.val % 64)) := by
  rw [V_sin]
  pointwise
  by_cases h : d.val < 64
  · rw [dif_pos h, if_pos h, ang_at, Nat.mod_eq_of_lt h]
  · rw [dif_neg h, if_neg h, ang_at]
    exact congrArg (fun q => Ideal.sin (theta (pos (row i)) q)) (show d.val - 64 = d.val % 64 by omega)

theorem index0 : ∀ t : Fin cfg0.N, (cfg0.win 0).index t = ![0, 0] := by decide +kernel
theorem index1 : ∀ t : Fin cfg0.N, (cfg0.win 1).index t = ![0, 0] := by decide +kernel
theorem index2 : ∀ t : Fin cfg0.N, (cfg0.win 2).index t = ![src (t.val % 31), 0] := by decide +kernel
theorem index3 : ∀ t : Fin cfg0.N, (cfg0.win 3).index t = ![tl (t.val % 31), 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, t.val % 31] := by decide +kernel
theorem src_lt : ∀ t : Fin cfg0.N, src (t.val % 31) < 30 := by decide +kernel
theorem tl_lt : ∀ t : Fin cfg0.N, tl (t.val % 31) < 9 := by decide +kernel

theorem src_row_lt (j : Fin 512) : src (t.val % 31) * 512 + j.val < 15408 := by
  have := src_lt t
  omega

theorem tl_row_lt (j : Fin 512) : tl (t.val % 31) * 512 + j.val < 4608 := by
  have := tl_lt t
  omega

theorem x_at (i : Fin 256) (k : Fin 2048) : (V (F := Ideal) m c main_v29 (ix2 i k) : EReal) = Xin m c (ix3 (row i).1 (row i).2 k) := by
  rw [V_x]
  pointwise

theorem w_at (n : Fin 15408) (k : Fin 2048) : (V (F := Ideal) m c main_v1 (ix2 n k) : EReal) = Win m c (ix3 0 k n) := by
  rw [V_w]
  exact Proj.wt_at _ _ _

theorem blk0 (a : Fin 256) (k : Fin 2048) :
    (iblk (F := Ideal) m c 0 t : S256x2048.Idx → EReal) (ix2 a k) = Xin m c (ix3 (row a).1 (row a).2 k) := by
  refine Eq.trans ?_ (x_at m c _ _)
  blk_ext [iblk, index0 t]

theorem blk1 (k : Fin 2048) : (iblk (F := Ideal) m c 1 t : S1x2048.Idx → EReal) (ix2 0 k) = Gin m c (ix2 0 k) := by
  blk_ext [iblk, V_main_arg1 m c, index1 t]

theorem blk2 (j : Fin 512) (k : Fin 2048) :
    (X0_2 (F := Ideal) m c t : S512x2048.Idx → EReal) (ix2 j k) = Win m c (ix3 0 k ⟨src (t.val % 31) * 512 + j.val, src_row_lt t j⟩) := by
  refine Eq.trans ?_ (w_at m c _ _)
  unfold X0_2 Pipeline.Window.fill
  rw [dif_pos (moved0_2 t _)]
  blk_ext [iblk, index2 t]

theorem blk3 (j : Fin 512) (k : Fin 2048) :
    (iblk (F := Ideal) m c 3 t : S512x2048.Idx → EReal) (ix2 j k) = Proj.wtail (Win m c) (ix2 ⟨tl (t.val % 31) * 512 + j.val, tl_row_lt t j⟩ k) := by
  blk_ext [iblk, V_tail m c, index3 t]

theorem blk4 (a : Fin 256) (d : Fin 128) :
    (iblk (F := Ideal) m c 4 t : S256x128.Idx → EReal) (ix2 a d) = Ideal.cos (theta (pos (row a)) (d.val % 64)) := by
  refine Eq.trans ?_ (cos_at m c a d)
  blk_ext [iblk, index4 t]

theorem blk5 (a : Fin 256) (d : Fin 128) :
    (iblk (F := Ideal) m c 5 t : S256x128.Idx → EReal) (ix2 a d)
      = if d.val < 64 then -Ideal.sin (theta (pos (row a)) (d.val % 64)) else Ideal.sin (theta (pos (row a)) (d.val % 64)) := by
  refine Eq.trans ?_ (sin_at m c a d)
  blk_ext [iblk, index5 t]

/-- The arguments, by their coordinates. -/
abbrev xs (i : Fin 32 × Fin 8) (k : Fin 2048) : EReal := Xin m c (ix3 i.1 i.2 k)
abbrev gs (k : Fin 2048) : EReal := Gin m c (ix2 0 k)
abbrev ws (k : Fin 2048) (n : Fin 15408) : EReal := Win m c (ix3 0 k n)

theorem rows_at (a : Fin 256) (k : Fin 2048) :
    (rows m c t (ix2 a k) : EReal) = hn (xs m c) (gs m c) (row a) k := by
  unfold rows k0_pay1 hn
  pointwise
  simp only [blk0, blk1]

end Cert.Proof.Samp

end
-- ==== Proof.Samp.Array.lean ====
/- The array the projection's points make, of the sample batch. -/
module

public import proofs.«01_k».proof.Proof.Samp.Host

@[expose] public section

set_option maxRecDepth 16384

noncomputable section

open scoped Classical

namespace Cert.Proof.Samp

open Cert.SampIdeal Cert.SampIdeal.Gen
open Cert.Proof.ProjSpec
open Idealize.ShloMosaic Idealize.ShloMosaic.TcCoe

variable (m : (ℓ : Loc nD τ sig) → Buf (Elt Ideal) ℓ) (c : Dev nD) (t : Fin cfg0.N)

/-- A column block of the first weight array: the result's columns before rotation. -/
theorem dot_src (h1 : ¬ Tail (t.val % 31)) (a : Fin 256) (j : Fin 512) :
    dot (rows m c ⟨31 * (t.val / 31), start_lt t⟩) (X0_2 (F := Ideal) m c t) a j
      = zc (xs m c) (gs m c) (ws m c) (row a) (t.val % 31 * 512 + j.val) := by
  have hj : t.val % 31 * 512 + j.val < 15408 := by unfold Tail at h1; omega
  have e : col (t.val % 31 * 512 + j.val) = src (t.val % 31) * 512 + j.val := by
    unfold Tail at h1
    unfold col src
    split_ifs <;> omega
  unfold dot zc z
  rw [dif_pos hj]
  refine Finset.sum_congr rfl fun k _ => ?_
  rw [rows_at, blk2]
  simp only [e]

/-- A column block of the second weight array: the result's columns, and zeros after them. -/
theorem dot_tail (h1 : Tail (t.val % 31)) (a : Fin 256) (j : Fin 512) :
    dot (rows m c ⟨31 * (t.val / 31), start_lt t⟩) (iblk (F := Ideal) m c 3 t) a j
      = zc (xs m c) (gs m c) (ws m c) (row a) (t.val % 31 * 512 + j.val) := by
  have hw : ∀ k, (iblk (F := Ideal) m c 3 t : S512x2048.Idx → EReal) (ix2 j k)
      = if h : t.val % 31 * 512 + j.val < 15408 then ws m c k ⟨col (t.val % 31 * 512 + j.val), col_lt h⟩ else 0 := fun k => by
    rw [blk3, Proj.wtail_at]
    rcases tail_tl h1 with ⟨h, e⟩ | ⟨h, h', e⟩
    · rw [dif_neg (show ¬ tl (t.val % 31) * 512 + j.val < 4096 by omega)]
      by_cases hj : j.val < 48
      · rw [dif_pos (show tl (t.val % 31) * 512 + j.val < 4144 by omega), dif_pos (show t.val % 31 * 512 + j.val < 15408 by omega)]
        refine congrArg (ws m c k) (Fin.ext ?_)
        show 7168 + (tl (t.val % 31) * 512 + j.val) = col (t.val % 31 * 512 + j.val)
        rw [col_bg (by omega)]
        omega
      · rw [dif_neg (show ¬ tl (t.val % 31) * 512 + j.val < 4144 by omega), dif_neg (show ¬ t.val % 31 * 512 + j.val < 15408 by omega)]
    · rw [dif_pos (show tl (t.val % 31) * 512 + j.val < 4096 by omega), dif_pos (show t.val % 31 * 512 + j.val < 15408 by omega)]
      refine congrArg (ws m c k) (Fin.ext ?_)
      show 11312 + (tl (t.val % 31) * 512 + j.val) = col (t.val % 31 * 512 + j.val)
      rw [col_mg (by omega) (by omega)]
      omega
  unfold dot zc z
  by_cases hj : t.val % 31 * 512 + j.val < 15408
  · rw [dif_pos hj]
    refine Finset.sum_congr rfl fun k _ => ?_
    rw [rows_at, hw, dif_pos hj]
  · rw [dif_neg hj]
    refine Finset.sum_eq_zero fun k _ => ?_
    rw [hw, dif_neg hj, mul_zero]

/-- The result array. -/
def G : S256x15872.Idx → EReal := fun y => out pos (xs m c) (gs m c) (ws m c) (row ⟨(y 0).val, (y 0).isLt⟩) (y 1).val

/-- A point's block: the result at the block's place. -/
theorem point_eq (y : S256x512.Idx) (i : Fin 32 × Fin 8) (n : ℕ) (hi : i = row (y 0))
    (hn : n = t.val % 31 * 512 + (y 1).val) :
    ((outsAt0 (F := Ideal) m c t.val t.isLt).1 y : EReal) = out pos (xs m c) (gs m c) (ws m c) i n := by
  have y0 : (y 0).val < 256 := (y 0).isLt
  have y1 : (y 1).val < 512 := (y 1).isLt
  have ed : n / 512 = t.val % 31 := by omega
  rw [out_at m c t y]
  unfold out
  rw [ed]
  by_cases h1 : Tail (t.val % 31)
  · have h3 : ¬ Rope (t.val % 31) := by unfold Tail at h1; unfold Rope; omega
    rw [if_pos h1, if_neg h3, hi, hn]
    exact dot_tail m c t h1 _ _
  · rw [if_neg h1]
    by_cases h3 : Rope (t.val % 31)
    · rw [if_pos h3, if_pos h3]
      unfold rot
      have e1 : n % 128 = (y 1).val % 128 := by omega
      have e2 : n % 64 = (y 1).val % 128 % 64 := by omega
      have e3 : n / 128 * 128 + (n % 128 + 64) % 128 = t.val % 31 * 512 + ((y 1).val / 128 * 128 + ((y 1).val % 128 + 64) % 128) := by omega
      refine congrArg₂ (· + ·) (congrArg₂ (· * ·) ?_ ?_) (congrArg₂ (· * ·) ?_ ?_)
      · rw [hi, hn]
        exact dot_src m c t h1 _ _
      · rw [e2, hi]
        exact blk4 m c t (y 0) ⟨(y 1).val % 128, by omega⟩
      · rw [e3, hi]
        exact dot_src m c t h1 _ _
      · rw [e1, e2, hi]
        exact blk5 m c t (y 0) ⟨(y 1).val % 128, by omega⟩
    · rw [if_neg h3, if_neg h3, hi, hn]
      exact dot_src m c t h1 _ _

theorem arr_eq : (dats (F := Ideal) m 0 c).arrAt 6 (cfgs 0).N = (G m c : S256x15872.Idx → EReal) := by
  refine (dats (F := Ideal) m 0 c).arrAt_eq_of_covers 6 _ (by decide +kernel) fun t hf y => ?_
  have ht : t.val < 31 := t.isLt
  have y0 : (y 0).val < 256 := (y 0).isLt
  have y1 : (y 1).val < 512 := (y 1).isLt
  have e : (((cfgs 0).win 6).blk t).view.emb y
      = (ix2 ⟨(y 0).val, y0⟩ ⟨t.val % 31 * 512 + (y 1).val, by omega⟩ : S256x15872.Idx) := by
    blk_ext [index6 t]
  have p := point_eq m c t y (row (y 0)) (t.val % 31 * 512 + (y 1).val) rfl rfl
  rw [e]
  show _ = out pos (xs m c) (gs m c) (ws m c) (row ⟨(y 0).val, y0⟩) (t.val % 31 * 512 + (y 1).val)
  rw [← p, after0_6]
  rfl

end Cert.Proof.Samp

end
-- ==== Proof.Samp.Ref.lean ====
/- The reference's projection of the sample batch as a chain of named arrays, each read at an index. -/
module

public import proofs.«01_k».proof.Proof.Gen.SampRefIdeal.Run
public import proofs.«01_k».proof.Proof.Proj.Spec
public import proofs.«01_k».proof.Proof.Samp.Pos
public import Idealize.ShloMosaic.PureOps.Ideal
public import Idealize.ShloMosaic.Lib.Pointwise

@[expose] public section

set_option maxRecDepth 16384

noncomputable section

open scoped Classical

namespace Cert.Proof.SampRef

open Cert.SampRefIdeal Cert.SampRefIdeal.Gen Cert.SampRefIdeal.Value Cert.Proof.ProjSpec Cert.Proof.Samp
open Idealize.ShloMosaic Idealize.ShloMosaic.TcCoe

/-- The normalised, scaled rows. -/
def rhn (X : FVec Ideal S32x8x2048 .f32) (g : FVec Ideal S1x2048 .f32) : FVec Ideal S32x8x2048 .f32 :=
  mulf (mulf X (broadcastInDim S32x8x2048 ![0, 1, 2] bcast_S32x8x1_S32x8x2048_0_1_2 (Host.rsqrt (addf
      (Host.divf (broadcastInDim S32x8x1 ![0, 1] bcast_S32x8_S32x8x1_0_1
          (Host.reduceAdd (mulf X X) (constant S_ .f32 0x00000000#32) reducesTo_S32x8x2048_S32x8_d2 h_S_))
        (broadcastInDim S32x8x1 ![] bcast_S_S32x8x1 (constant S_ .f32 0x45000000#32)))
      (broadcastInDim S32x8x1 ![] bcast_S_S32x8x1 (constant S_ .f32 0x358637BD#32))))))
    (broadcastInDim S32x8x2048 ![0, 1, 2] bcast_S1x1x2048_S32x8x2048_0_1_2 (broadcastInDim S1x1x2048 ![2] bcast_S2048_S1x1x2048_2
      (shapeCast _ g shapeCasts_S1x2048_S2048)))

/-- Their product with the weights. -/
def rz (X : FVec Ideal S32x8x2048 .f32) (g : FVec Ideal S1x2048 .f32) (W : FVec Ideal S1x2048x15408 .f32) : FVec Ideal S32x8x15408 .f32 :=
  Host.dotGeneral dot_S32x8x2048_S2048x15408_S32x8x15408_2_0_01_1_n_n none (rhn X g) (shapeCast _ W shapeCasts_S1x2048x15408_S2048x15408)

/-- The angles. -/
def rang : FVec Ideal S8x64 .f32 :=
  mulf (broadcastInDim S8x64 ![0, 1] bcast_S8x1_S8x64_0_1 (broadcastInDim S8x1 ![0] bcast_S8_S8x1_0 (sitofp .f32 (addi (broadcastInDim S8 ![] bcast_S_S8 (constantI S_ 32 16384#32)) (iotaInDim S8 32 0) : IVec S8 32))))
    (broadcastInDim S8x64 ![0, 1] bcast_S1x64_S8x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- The queries, rotated. -/
def rq (Z : FVec Ideal S32x8x15408 .f32) : FVec Ideal S32x8x16x128 .f32 :=
  have q : FVec Ideal S32x8x16x128 .f32 :=
    shapeCast _ (extractStridedSlice S32x8x2048 ![0, 0, 4096] Z slices_S32x8x15408_S32x8x2048_0_0_4096) shapeCasts_S32x8x2048_S32x8x16x128
  have a : FVec Ideal S32x8x16x64 .f32 := extractStridedSlice S32x8x16x64 ![0, 0, 0, 0] q slices_S32x8x16x128_S32x8x16x64_0_0_0_0
  have b : FVec Ideal S32x8x16x64 .f32 := extractStridedSlice S32x8x16x64 ![0, 0, 0, 64] q slices_S32x8x16x128_S32x8x16x64_0_0_0_64
  have C : FVec Ideal S32x8x16x64 .f32 := broadcastInDim S32x8x16x64 ![0, 1, 2, 3] bcast_S1x8x1x64_S32x8x16x64_0_1_2_3
    (broadcastInDim S1x8x1x64 ![1, 2, 3] bcast_S8x1x64_S1x8x1x64_1_2_3 (shapeCast _ (Host.cos rang) shapeCasts_S8x64_S8x1x64))
  have S : FVec Ideal S32x8x16x64 .f32 := broadcastInDim S32x8x16x64 ![0, 1, 2, 3] bcast_S1x8x1x64_S32x8x16x64_0_1_2_3
    (broadcastInDim S1x8x1x64 ![1, 2, 3] bcast_S8x1x64_S1x8x1x64_1_2_3 (shapeCast _ (Host.sin rang) shapeCasts_S8x64_S8x1x64))
  concatenate S32x8x16x128 3 [⟨S32x8x16x64, subf (mulf a C) (mulf b S)⟩, ⟨S32x8x16x64, addf (mulf b C) (mulf a S)⟩]
    concatenates_S32x8x16x64_S32x8x16x64_S32x8x16x128_d3

/-- The keys and values by kind, key or value, group and channel. -/
def rkv (Z : FVec Ideal S32x8x15408 .f32) : FVec Ideal S32x8x3x2x4x128 .f32 :=
  shapeCast _ (extractStridedSlice S32x8x3072 ![0, 0, 6144] Z slices_S32x8x15408_S32x8x3072_0_0_6144) shapeCasts_S32x8x3072_S32x8x3x2x4x128

/-- The keys, rotated. -/
def rk (Z : FVec Ideal S32x8x15408 .f32) : FVec Ideal S32x8x3x4x128 .f32 :=
  have q : FVec Ideal S32x8x3x4x128 .f32 :=
    shapeCast _ (extractStridedSlice S32x8x3x1x4x128 ![0, 0, 0, 0, 0, 0] (rkv Z) slices_S32x8x3x2x4x128_S32x8x3x1x4x128_0_0_0_0_0_0)
      shapeCasts_S32x8x3x1x4x128_S32x8x3x4x128
  have a : FVec Ideal S32x8x3x4x64 .f32 := extractStridedSlice S32x8x3x4x64 ![0, 0, 0, 0, 0] q slices_S32x8x3x4x128_S32x8x3x4x64_0_0_0_0_0
  have b : FVec Ideal S32x8x3x4x64 .f32 := extractStridedSlice S32x8x3x4x64 ![0, 0, 0, 0, 64] q slices_S32x8x3x4x128_S32x8x3x4x64_0_0_0_0_64
  have C : FVec Ideal S32x8x3x4x64 .f32 := broadcastInDim S32x8x3x4x64 ![0, 1, 2, 3, 4] bcast_S1x8x1x1x64_S32x8x3x4x64_0_1_2_3_4
    (broadcastInDim S1x8x1x1x64 ![1, 2, 3, 4] bcast_S8x1x1x64_S1x8x1x1x64_1_2_3_4 (shapeCast _ (Host.cos rang) shapeCasts_S8x64_S8x1x1x64))
  have S : FVec Ideal S32x8x3x4x64 .f32 := broadcastInDim S32x8x3x4x64 ![0, 1, 2, 3, 4] bcast_S1x8x1x1x64_S32x8x3x4x64_0_1_2_3_4
    (broadcastInDim S1x8x1x1x64 ![1, 2, 3, 4] bcast_S8x1x1x64_S1x8x1x1x64_1_2_3_4 (shapeCast _ (Host.sin rang) shapeCasts_S8x64_S8x1x1x64))
  concatenate S32x8x3x4x128 4 [⟨S32x8x3x4x64, subf (mulf a C) (mulf b S)⟩, ⟨S32x8x3x4x64, addf (mulf b C) (mulf a S)⟩]
    concatenates_S32x8x3x4x64_S32x8x3x4x64_S32x8x3x4x128_d4

/-- The rotated keys and the values. -/
def rkv' (Z : FVec Ideal S32x8x15408 .f32) : FVec Ideal S32x8x3x2x4x128 .f32 :=
  concatenate S32x8x3x2x4x128 3
    [⟨S32x8x3x1x4x128, broadcastInDim S32x8x3x1x4x128 ![0, 1, 2, 4, 5] bcast_S32x8x3x4x128_S32x8x3x1x4x128_0_1_2_4_5 (rk Z)⟩,
     ⟨S32x8x3x1x4x128, broadcastInDim S32x8x3x1x4x128 ![0, 1, 2, 4, 5] bcast_S32x8x3x4x128_S32x8x3x1x4x128_0_1_2_4_5
        (shapeCast _ (extractStridedSlice S32x8x3x1x4x128 ![0, 0, 0, 1, 0, 0] (rkv Z) slices_S32x8x3x2x4x128_S32x8x3x1x4x128_0_0_0_1_0_0)
          shapeCasts_S32x8x3x1x4x128_S32x8x3x4x128)⟩]
    concatenates_S32x8x3x1x4x128_S32x8x3x1x4x128_S32x8x3x2x4x128_d3

/-- The parts side by side. -/
def rall (Z : FVec Ideal S32x8x15408 .f32) (Q : FVec Ideal S32x8x16x128 .f32) (KV : FVec Ideal S32x8x3x2x4x128 .f32) : FVec Ideal S256x15872 .f32 :=
  shapeCast _ (concatenate S32x8x15872 2
    [⟨S32x8x2048, shapeCast _ Q shapeCasts_S32x8x16x128_S32x8x2048⟩,
     ⟨S32x8x2048, extractStridedSlice S32x8x2048 ![0, 0, 0] Z slices_S32x8x15408_S32x8x2048_0_0_0⟩,
     ⟨S32x8x2048, extractStridedSlice S32x8x2048 ![0, 0, 2048] Z slices_S32x8x15408_S32x8x2048_0_0_2048⟩,
     ⟨S32x8x2048, extractStridedSlice S32x8x2048 ![0, 0, 9216] Z slices_S32x8x15408_S32x8x2048_0_0_9216⟩,
     ⟨S32x8x4096, extractStridedSlice S32x8x4096 ![0, 0, 11312] Z slices_S32x8x15408_S32x8x4096_0_0_11312⟩,
     ⟨S32x8x3072, shapeCast _ KV shapeCasts_S32x8x3x2x4x128_S32x8x3072⟩,
     ⟨S32x8x48, extractStridedSlice S32x8x48 ![0, 0, 11264] Z slices_S32x8x15408_S32x8x48_0_0_11264⟩,
     ⟨S32x8x464, broadcastInDim S32x8x464 ![] bcast_S_S32x8x464 (constant S_ .f32 0x00000000#32)⟩]
    concatenates_S32x8x2048_S32x8x2048_S32x8x2048_S32x8x2048_S32x8x4096_S32x8x3072_S32x8x48_S32x8x464_S32x8x15872_d2)
    shapeCasts_S32x8x15872_S256x15872

/-- The chain. -/
def chain (X : FVec Ideal S32x8x2048 .f32) (g : FVec Ideal S1x2048 .f32) (W : FVec Ideal S1x2048x15408 .f32) : FVec Ideal S256x15872 .f32 :=
  rall (rz X g W) (rq (rz X g W)) (rkv' (rz X g W))

theorem res_eq (m : (ℓ : Loc nD τ sig) → Buf (Elt Ideal) ℓ) (c : Dev nD) :
    res_out0 (F := Ideal) m c = chain (m ((c.tc : Thread nD τ).loc main_arg0)) (m ((c.tc : Thread nD τ).loc main_arg1))
      (m ((c.tc : Thread nD τ).loc main_arg2)) := rfl

section
variable (X : S32x8x2048.Idx → EReal) (g : S1x2048.Idx → EReal) (W : S1x2048x15408.Idx → EReal)

theorem rhn_at (i : Fin 32 × Fin 8) (k : Fin 2048) :
    (rhn X g (ix3 i.1 i.2 k) : EReal) = hn (fun i k => X (ix3 i.1 i.2 k)) (fun k => g (ix2 0 k)) i k := by
  unfold rhn hn
  pointwise

theorem rz_at (i : Fin 32 × Fin 8) (n : Fin 15408) :
    (rz X g W (ix3 i.1 i.2 n) : EReal) = z (fun i k => X (ix3 i.1 i.2 k)) (fun k => g (ix2 0 k)) (fun k n => W (ix3 0 k n)) i n := by
  unfold rz z
  pointwise
  exact Finset.sum_congr rfl fun k _ => by rw [rhn_at]

theorem rang_at (i : Fin 8) (d : Fin 64) : (rang (ix2 i d) : EReal) = theta (16384 + i.val) d.val := by
  unfold rang theta
  pointwise
  rw [addi_past]

end

section
variable (x : Fin 32 × Fin 8 → Fin 2048 → EReal) (g : Fin 2048 → EReal) (w : Fin 2048 → Fin 15408 → EReal)

variable (Z : S32x8x15408.Idx → EReal) (hZ : ∀ (i : Fin 32 × Fin 8) (n : Fin 15408), Z (ix3 i.1 i.2 n) = z x g w i n)

include hZ in
theorem z_zc (i : Fin 32 × Fin 8) (n : ℕ) (p : Fin 15408) (hn : n < 15408) (hp : col n = p.val) : Z (ix3 i.1 i.2 p) = zc x g w i n :=
  (hZ i p).trans (z_eq_zc x g w i n p hn hp)

include hZ in
theorem rq_at (i : Fin 32 × Fin 8) (h : Fin 16) (d : Fin 128) : (rq Z (ix4 i.1 i.2 h d) : EReal) = out pos x g w i (h.val * 128 + d.val) := by
  have hr : Rope ((h.val * 128 + d.val) / 512) := (rope_iff _).mpr (Or.inl (by omega))
  unfold rq
  pointwise
  by_cases hd : d.val < 64
  · rw [dif_pos hd, rang_at]
    exact rot_lo pos x g w i _ _ _ _ hr (by omega) (by simp only; omega)
      (z_zc x g w Z hZ i _ _ (by omega) (by rw [col_q (by omega)]; simp only; omega))
      (z_zc x g w Z hZ i _ _ (by omega) (by rw [col_q (by omega)]; simp only; omega))
  · rw [dif_neg hd, rang_at]
    exact rot_hi pos x g w i _ _ _ _ hr (by omega) (by simp only; omega)
      (z_zc x g w Z hZ i _ _ (by omega) (by rw [col_q (by omega)]; simp only; omega))
      (z_zc x g w Z hZ i _ _ (by omega) (by rw [col_q (by omega)]; simp only; omega))

include hZ in
theorem rk_at (i : Fin 32 × Fin 8) (e : Fin 3) (h : Fin 4) (d : Fin 128) :
    (rk Z (ix5 i.1 i.2 e h d) : EReal) = out pos x g w i (12288 + (e.val * 1024 + h.val * 128 + d.val)) := by
  have hr : Rope ((12288 + (e.val * 1024 + h.val * 128 + d.val)) / 512) := (rope_iff _).mpr (Or.inr (by omega))
  unfold rk rkv
  pointwise
  by_cases hd : d.val < 64
  · rw [dif_pos hd, rang_at]
    exact rot_lo pos x g w i _ _ _ _ hr (by omega) (by simp only; omega)
      (z_zc x g w Z hZ i _ _ (by omega) (by rw [col_kv (by omega) (by omega)]; simp only; omega))
      (z_zc x g w Z hZ i _ _ (by omega) (by rw [col_kv (by omega) (by omega)]; simp only; omega))
  · rw [dif_neg hd, rang_at]
    exact rot_hi pos x g w i _ _ _ _ hr (by omega) (by simp only; omega)
      (z_zc x g w Z hZ i _ _ (by omega) (by rw [col_kv (by omega) (by omega)]; simp only; omega))
      (z_zc x g w Z hZ i _ _ (by omega) (by rw [col_kv (by omega) (by omega)]; simp only; omega))

include hZ in
theorem rkv'_at (i : Fin 32 × Fin 8) (e : Fin 3) (s : Fin 2) (h : Fin 4) (d : Fin 128) :
    (rkv' Z (ix6 i.1 i.2 e s h d) : EReal) = out pos x g w i (12288 + (e.val * 1024 + s.val * 512 + h.val * 128 + d.val)) := by
  unfold rkv' rkv
  pointwise
  by_cases hs : s.val < 1
  · rw [dif_pos hs, rk_at x g w Z hZ]
    exact congrArg (out pos x g w i) (by omega)
  · rw [dif_neg hs, out_plain pos x g w i _ (fun hr => by have := (rope_iff _).mp hr; omega)]
    exact z_zc x g w Z hZ i _ _ (by omega) (by rw [col_kv (by omega) (by omega)]; simp only; omega)

include hZ in
theorem rall_at (Q : S32x8x16x128.Idx → EReal) (KV : S32x8x3x2x4x128.Idx → EReal)
    (hQ : ∀ i h d, Q (ix4 i.1 i.2 h d) = out pos x g w i (h.val * 128 + d.val))
    (hKV : ∀ i e s h d, KV (ix6 i.1 i.2 e s h d) = out pos x g w i (12288 + (e.val * 1024 + s.val * 512 + h.val * 128 + d.val)))
    (i : Fin 256) (n : Fin 15872) : (rall Z Q KV (ix2 i n) : EReal) = out pos x g w (row i) n.val := by
  have plain : ∀ p : Fin 15408, (2048 ≤ n.val ∧ n.val < 12288 ∨ 15360 ≤ n.val) → n.val < 15408 → col n.val = p.val →
      Z (ix3 (row i).1 (row i).2 p) = out pos x g w (row i) n.val := fun p h h' hp => by
    rw [out_plain pos x g w (row i) _ (fun hr => by have := (rope_iff _).mp hr; omega)]
    exact z_zc x g w Z hZ (row i) _ p h' hp
  unfold rall
  pointwise
  by_cases h1 : n.val < 2048
  · rw [dif_pos h1]
    refine (hQ (row i) _ _).trans ?_
    exact congrArg (out pos x g w (row i)) (by simp only; omega)
  rw [dif_neg h1]
  by_cases h2 : n.val - 2048 < 2048
  · rw [dif_pos h2]
    exact plain _ (by omega) (by omega) (by rw [col_xr (by omega) (by omega)])
  rw [dif_neg h2]
  by_cases h3 : n.val - 2048 - 2048 < 2048
  · rw [dif_pos h3]
    exact plain _ (by omega) (by omega) (by rw [col_xr (by omega) (by omega)]; simp only; omega)
  rw [dif_neg h3]
  by_cases h4 : n.val - 2048 - 2048 - 2048 < 2048
  · rw [dif_pos h4]
    exact plain _ (by omega) (by omega) (by rw [col_gn (by omega) (by omega)]; simp only; omega)
  rw [dif_neg h4]
  by_cases h5 : n.val - 2048 - 2048 - 2048 - 2048 < 4096
  · rw [dif_pos h5]
    exact plain _ (by omega) (by omega) (by rw [col_mg (by omega) (by omega)]; simp only; omega)
  rw [dif_neg h5]
  by_cases h6 : n.val - 2048 - 2048 - 2048 - 2048 - 4096 < 3072
  · rw [dif_pos h6]
    refine (hKV (row i) _ _ _ _).trans ?_
    exact congrArg (out pos x g w (row i)) (by simp only; omega)
  rw [dif_neg h6]
  by_cases h7 : n.val - 2048 - 2048 - 2048 - 2048 - 4096 - 3072 < 48
  · rw [dif_pos h7]
    exact plain _ (by omega) (by omega) (by rw [col_bg (by omega)]; simp only; omega)
  rw [dif_neg h7, out_plain pos x g w (row i) _ (fun hr => by have := (rope_iff _).mp hr; omega)]
  unfold zc
  rw [dif_neg (by omega)]

end

/-- The chain, at an index. -/
theorem chain_at (X : S32x8x2048.Idx → EReal) (g : S1x2048.Idx → EReal) (W : S1x2048x15408.Idx → EReal) (i : Fin 256) (n : Fin 15872) :
    (chain X g W (ix2 i n) : EReal) = out pos (fun i k => X (ix3 i.1 i.2 k)) (fun k => g (ix2 0 k)) (fun k n => W (ix3 0 k n)) (row i) n.val := by
  have hZ := rz_at X g W
  exact rall_at _ _ _ (rz X g W) hZ _ _ (rq_at _ _ _ _ hZ) (rkv'_at _ _ _ _ hZ) i n

end Cert.Proof.SampRef

end
-- ==== Proof.Samp.Algebraic.lean ====
/- The projection's result on the sample batch is the reference's, and the frames of its three programs. -/
module

public import proofs.«01_k».proof.Defs
public import proofs.«01_k».proof.Proof.Samp.Array
public import proofs.«01_k».proof.Proof.Samp.Ref
public import proofs.«01_k».proof.Proof.Gen.Samp.Frame
public import proofs.«01_k».proof.Proof.Gen.SampIdeal.Value
public import Idealize.ShloMosaic.Lib.Quiescent
public import Idealize.ShloMosaic.Adequacy
public import Idealize.ShloMosaic.Init

@[expose] public section

set_option maxRecDepth 16384

noncomputable section

open scoped Classical

namespace Cert.Proof

open Idealize.ShloMosaic Idealize.SL.Sem

theorem frame_samp : Cert.quiescent_Samp := fun m ρ _ => Cert.Samp.Gen.frame m ρ

theorem frame_sampIdeal : Cert.quiescent_SampIdeal := fun m ρ _ => Cert.SampIdeal.Gen.frame m ρ

theorem frame_sampRef : Cert.quiescent_SampRefIdeal := fun m ρ _ =>
  (θ_run Cert.SampRefIdeal.defs _ _).mono (fun r h => ⟨fun c => (h c).2,
      Idealize.ShloMosaic.sem_eq_zero_of_no_sems (by decide) r.2⟩)
    (Cert.SampRefIdeal.Value.run (F := Ideal) m ρ)

/-- The array the kernel leaves is the reference's chain of the same arguments. -/
theorem samp_eq (m : (ℓ : Loc Cert.SampIdeal.nD Cert.SampIdeal.τ Cert.SampIdeal.sig) → Buf (Elt Ideal) ℓ) (c : Dev Cert.SampIdeal.nD) :
    (Cert.SampIdeal.Gen.dats (F := Ideal) m 0 c).arrAt 6 (Cert.SampIdeal.cfgs 0).N
      = (SampRef.chain (m ((c.tc : Thread Cert.SampIdeal.nD Cert.SampIdeal.τ).loc Cert.SampIdeal.main_arg0))
          (m ((c.tc : Thread Cert.SampIdeal.nD Cert.SampIdeal.τ).loc Cert.SampIdeal.main_arg1))
          (m ((c.tc : Thread Cert.SampIdeal.nD Cert.SampIdeal.τ).loc Cert.SampIdeal.main_arg2))
        : Cert.SampIdeal.S256x15872.Idx → EReal) := by
  refine (Samp.arr_eq m c).trans ?_
  funext y
  have e : y = (ix2 (⟨(y 0).val, (y 0).isLt⟩ : Fin 256) (⟨(y 1).val, (y 1).isLt⟩ : Fin 15872) : Cert.SampIdeal.S256x15872.Idx) := eq_ix2 y
  rw [e]
  exact (SampRef.chain_at _ _ _ ⟨(y 0).val, (y 0).isLt⟩ ⟨(y 1).val, (y 1).isLt⟩).symm

theorem samp_equal : Cert.algebraic_SampIdeal_SampRefIdeal := by
  intro m g m' g' hP hagree
  refine ⟨fun c => (Cert.SampIdeal.Gen.dats (F := Ideal) m 0 c).arrAt 6 (Cert.SampIdeal.cfgs 0).N, ?_, ?_⟩
  · exact Cert.SampIdeal.Value.run_blocks (F := Ideal) m g
  · refine (θ_run _ _ _).mono (fun _ h c => ⟨(h c).1.trans ?_, (h c).2⟩) (Cert.SampRefIdeal.Value.run (F := Ideal) m' g')
    refine (SampRef.res_eq m' c).trans ?_
    rw [(hagree c).1, (hagree c).2.1, (hagree c).2.2]
    exact (samp_eq m c).symm

end Cert.Proof

end
-- ==== Proof.Step.Scan.lean ====
/- The linear recurrence `h_t = a_t h_(t-1) + b_t` over eight steps, and the kernel's way to it: three doublings. -/
module

public import Idealize.ShloMosaic.PureOps.Ideal
public import Mathlib.Tactic.IntervalCases
public import Mathlib.Tactic.Linarith
public import Mathlib.Tactic.Positivity

@[expose] public section

noncomputable section

open scoped Classical

namespace Cert.Proof.Scan

open Idealize.ShloMosaic

/-- The recurrence, from a state. -/
def run (a b : ℕ → EReal) (h : EReal) : ℕ → EReal
  | 0 => a 0 * h + b 0
  | n + 1 => a (n + 1) * run a b h n + b (n + 1)

/-- One doubling of the factors. -/
def lvA (s : ℕ) (a : ℕ → EReal) (t : ℕ) : EReal := if s ≤ t then a t * a (t - s) else a t

/-- One doubling of the terms. -/
def lvB (s : ℕ) (a b : ℕ → EReal) (t : ℕ) : EReal := if s ≤ t then a t * b (t - s) + b t else b t

/-- A factor that distributes over every sum. -/
def Good (a : EReal) : Prop := 0 ≤ a ∧ a ≠ ⊤

theorem Good.add {a : EReal} (ha : Good a) (x y : EReal) : a * (x + y) = a * x + a * y :=
  EReal.left_distrib_of_nonneg_of_ne_top ha.1 ha.2 x y

/-- After the doublings a row's factor and term, on the state, are the recurrence. -/
theorem doubled (a b : ℕ → EReal) (hg : ∀ t, Good (a t)) (h : EReal) (t : ℕ) (ht : t < 8) :
    lvA 4 (lvA 2 (lvA 1 a)) t * h + lvB 4 (lvA 2 (lvA 1 a)) (lvB 2 (lvA 1 a) (lvB 1 a b)) t = run a b h t := by
  have d : ∀ i x y, a i * (x + y) = a i * x + a i * y := fun i => (hg i).add
  interval_cases t <;> simp [lvA, lvB, run, d, mul_assoc, add_assoc]

/-- The words of the constants 2 and -1/2. -/
def two : EReal := Ideal.ofBits FTy.f32 0x40000000#32
def half : EReal := Ideal.ofBits FTy.f32 0xBF000000#32
def eight : EReal := Ideal.ofBits FTy.f32 0xC1000000#32

theorem two_nonneg : 0 ≤ two := by
  unfold two
  simp [Ideal.ofBits, Ideal.ieee]
  exact mul_nonneg (by exact_mod_cast (by norm_num : (0 : ℝ) ≤ 8388608)) (EReal.coe_nonneg.mpr (by positivity))

theorem eight_nonpos : eight ≤ 0 := by
  unfold eight
  simp [Ideal.ofBits, Ideal.ieee]
  exact mul_nonneg (by exact_mod_cast (by norm_num : (0 : ℝ) ≤ 8388608)) (EReal.coe_nonneg.mpr (by positivity))

theorem half_bot : ⊥ < half := by
  unfold half
  simp only [Ideal.ofBits, Ideal.ieee]
  rw [if_neg (by decide), if_neg (by decide)]
  exact EReal.bot_lt_coe _

/-- `e^y - 1` as the kernel computes it. -/
def expm (y : EReal) : EReal :=
  if y < half then Ideal.exp y - 1
  else if Ideal.exp y = 1 then y else Ideal.div ((Ideal.exp y - 1) * y) (Ideal.log (Ideal.exp y))

theorem expm_eq (y : EReal) (hy : y ≤ 0) : expm y = Ideal.exp y - 1 := by
  unfold expm
  by_cases h : y < half
  · rw [if_pos h]
  rw [if_neg h]
  induction y with
  | bot => exact absurd half_bot h
  | top => exact absurd hy (by simp)
  | coe r =>
    have l : Ideal.log (Ideal.exp (r : EReal)) = (r : EReal) := by
      rw [Ideal.exp_coe]
      show (if Real.exp r ≤ 0 then ⊥ else (Real.log (Real.exp r) : EReal)) = r
      rw [if_neg (not_le.mpr (Real.exp_pos r)), Real.log_exp]
    by_cases g : Ideal.exp (r : EReal) = 1
    · rw [if_pos g, g]
      rw [g] at l
      rw [← l]
      show (if (1 : ℝ) ≤ 0 then ⊥ else (Real.log 1 : EReal)) = 1 - 1
      rw [if_neg (by norm_num), Real.log_one]
      exact (EReal.sub_self (by decide) (by decide)).symm
    · have r0 : r ≠ 0 := fun e => g (by rw [e, Ideal.exp_coe, Real.exp_zero]; rfl)
      rw [if_neg g, l, Ideal.exp_coe]
      unfold Ideal.div
      rw [if_neg (by exact_mod_cast r0)]
      have e : ((Real.exp r : EReal) - 1) = ((Real.exp r - 1 : ℝ) : EReal) := by norm_cast
      rw [e, ← EReal.coe_inv, ← EReal.coe_mul, ← EReal.coe_mul, mul_assoc, mul_inv_cancel₀ r0, mul_one]

/-- `log (1 + e^y)`, as both programs compute it. -/
def soft (y : EReal) : EReal := max y 0 + Ideal.log1p (Ideal.exp (-max y (-y)))

theorem soft_nonneg (y : EReal) : 0 ≤ soft y := by
  refine add_nonneg (le_max_right _ _) ?_
  have e : ∀ z, 0 ≤ Ideal.exp z := fun z => by
    induction z with
    | bot => exact le_refl _
    | top => exact le_top
    | coe r => rw [Ideal.exp_coe]; exact_mod_cast (Real.exp_pos r).le
  have h := e (-max y (-y))
  generalize Ideal.exp (-max y (-y)) = u at h
  unfold Ideal.log1p
  induction u with
  | bot => exact absurd h (by simp)
  | top => exact le_top
  | coe r =>
    have r0 : 0 ≤ r := by exact_mod_cast h
    rw [← EReal.coe_one, ← EReal.coe_add]
    show 0 ≤ (if 1 + r ≤ 0 then ⊥ else (Real.log (1 + r) : EReal))
    rw [if_neg (by linarith)]
    exact_mod_cast Real.log_nonneg (by linarith)

theorem good_exp {y : EReal} (h : y ≤ 0) : Good (Ideal.exp y) := by
  induction y with
  | bot => exact ⟨le_refl _, by simp⟩
  | top => exact absurd h (by simp)
  | coe r => exact ⟨by rw [Ideal.exp_coe]; exact_mod_cast (Real.exp_pos r).le, EReal.coe_ne_top _⟩

theorem logistic_nonneg (y : EReal) : 0 ≤ Ideal.logistic y := by
  induction y with
  | bot => simp
  | top => simp
  | coe r => rw [Ideal.logistic_coe]; exact_mod_cast (by positivity)

end Cert.Proof.Scan

end
-- ==== Proof.Step.Block.lean ====
/- The sample batch's recurrence: what the kernel stores for one block of 256 columns. -/
module

public import proofs.«01_k».proof.Proof.Gen.StepIdeal.Frame
public import proofs.«01_k».proof.Proof.Step.Scan
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

open scoped Classical

namespace Cert.Proof.Step

open Cert.StepIdeal Cert.StepIdeal.Gen
open Cert.Proof.Scan
open Idealize.ShloMosaic Idealize.ShloMosaic.TcCoe

/-- A row of the 256: step `t` of a sequence `B`. -/
abbrev at8 (B : Fin 32) (t : Fin 8) : Fin 256 := ⟨8 * B.val + t.val, by omega⟩

/-- The step of a row, as the kernel counts it. -/
theorem step_at (r : Fin 256) (j : Fin 256) : k0_pay1 (ix2 r j) = BitVec.ofNat 32 (r.val % 8) := by
  unfold k0_pay1
  pointwise
  revert r
  clear j
  decide +kernel

theorem sel (B : Fin 32) (t : Fin 8) (s : ℕ) (hs : s < 8) (p q : EReal) :
    Scalar.select (IntOp.cmpi .sge (BitVec.ofNat 32 ((at8 B t).val % 8)) (BitVec.ofNat 32 s)) p q = if s ≤ t.val then p else q := by
  have e : (at8 B t).val % 8 = t.val := by show (8 * B.val + t.val) % 8 = t.val; omega
  have d : ∀ (t s : Fin 8), IntOp.cmpi .sge (BitVec.ofNat 32 t.val) (BitVec.ofNat 32 s.val) = if s.val ≤ t.val then 1#1 else 0#1 := by decide +kernel
  rw [e, d t ⟨s, hs⟩]
  by_cases h : s ≤ t.val
  · simp [h, Scalar.select]
  · simp [h, Scalar.select]

theorem back (B : Fin 32) (t : Fin 8) (s : ℕ) (hs : s ≤ t.val) (h) :
    (⟨(8 * B.val + t.val + 256 - s) % 256, h⟩ : Fin 256) = at8 B ⟨t.val - s, by omega⟩ :=
  Fin.ext (by show (8 * B.val + t.val + 256 - s) % 256 = 8 * B.val + (t.val - s); omega)

/-- One doubling of a block's factors. -/
def lvlA (s : BitVec 32) (X : FVec Ideal S256x256 .f32) : FVec Ideal S256x256 .f32 :=
  select (cmpi .sge k0_pay1 (broadcast S256x256 s)) (mulf X (dynamicRotate 0 s none X rotates_S256x256_d0)) X

/-- One doubling of a block's terms. -/
def lvlB (s : BitVec 32) (X Y : FVec Ideal S256x256 .f32) : FVec Ideal S256x256 .f32 :=
  select (cmpi .sge k0_pay1 (broadcast S256x256 s)) (addf (mulf X (dynamicRotate 0 s none Y rotates_S256x256_d0)) Y) Y

theorem lvlA_at (s : ℕ) (hs : s = 1 ∨ s = 2 ∨ s = 4) (X : S256x256.Idx → EReal) (B : Fin 32) (j : Fin 256) (a : ℕ → EReal)
    (h : ∀ t : Fin 8, X (ix2 (at8 B t) j) = a t.val) (t : Fin 8) :
    (lvlA (BitVec.ofNat 32 s) X (ix2 (at8 B t) j) : EReal) = lvA s a t.val := by
  have k : ∀ s' : ℕ, ∀ h', s' < 8 → Scalar.select (IntOp.cmpi .sge (BitVec.ofNat 32 ((at8 B t).val % 8)) (BitVec.ofNat 32 s'))
      (X (ix2 (at8 B t) j) * X (ix2 (⟨(8 * B.val + t.val + 256 - s') % 256, h'⟩ : Fin 256) j)) (X (ix2 (at8 B t) j))
        = if s' ≤ t.val then a t.val * a (t.val - s') else a t.val := fun s' h' l => by
    rw [sel B t s' l]
    by_cases g : s' ≤ t.val
    · rw [if_pos g, if_pos g, back B t s' g, h, h]
    · rw [if_neg g, if_neg g, h]
  unfold lvlA lvA
  rcases hs with rfl | rfl | rfl
  all_goals
    pointwise
    rw [step_at]
    exact k _ _ (by decide)

theorem lvlB_at (s : ℕ) (hs : s = 1 ∨ s = 2 ∨ s = 4) (X Y : S256x256.Idx → EReal) (B : Fin 32) (j : Fin 256) (a b : ℕ → EReal)
    (h : ∀ t : Fin 8, X (ix2 (at8 B t) j) = a t.val) (h2 : ∀ t : Fin 8, Y (ix2 (at8 B t) j) = b t.val) (t : Fin 8) :
    (lvlB (BitVec.ofNat 32 s) X Y (ix2 (at8 B t) j) : EReal) = lvB s a b t.val := by
  have k : ∀ s' : ℕ, ∀ h', s' < 8 → Scalar.select (IntOp.cmpi .sge (BitVec.ofNat 32 ((at8 B t).val % 8)) (BitVec.ofNat 32 s'))
      (X (ix2 (at8 B t) j) * Y (ix2 (⟨(8 * B.val + t.val + 256 - s') % 256, h'⟩ : Fin 256) j) + Y (ix2 (at8 B t) j)) (Y (ix2 (at8 B t) j))
        = if s' ≤ t.val then a t.val * b (t.val - s') + b t.val else b t.val := fun s' h' l => by
    rw [sel B t s' l]
    by_cases g : s' ≤ t.val
    · rw [if_pos g, if_pos g, back B t s' g, h, h2, h2]
    · rw [if_neg g, if_neg g, h2]
  unfold lvlB lvB
  rcases hs with rfl | rfl | rfl
  all_goals
    pointwise
    rw [step_at]
    exact k _ _ (by decide)

section
variable (x st : S256x256.Idx → EReal) (bc w0 w1 w2 w3 : S1x256.Idx → EReal) (W : S1x256x512.Idx → EReal) (br bi cc : S1x256.Idx → EReal)

/-- The convolved rows of a block. -/
def conv : FVec Ideal S256x256 .f32 := k0_pay5 (F := Ideal) k0_pay1 x (k0_pay2 (F := Ideal) x bc st w0) (k0_pay3 (F := Ideal) st) k0_pay4 w1 st w2 w3

/-- The first gate. -/
def gateR : FVec Ideal S256x256 .f32 := k0_pay7 (F := Ideal) k0_pay1 x (k0_pay2 (F := Ideal) x bc st w0) (k0_pay3 (F := Ideal) st) k0_pay4 w1 st w2 w3 W br

/-- The second gate's argument. -/
def gateI : FVec Ideal S256x256 .f32 := k0_pay8 (F := Ideal) k0_pay1 x (k0_pay2 (F := Ideal) x bc st w0) (k0_pay3 (F := Ideal) st) k0_pay4 w1 st w2 w3 W bi

/-- The logarithm of the factors. -/
def logA (r : S256x256.Idx → EReal) : FVec Ideal S256x256 .f32 := k0_pay9 (F := Ideal) r cc

/-- The factors before the doublings. -/
def fac (r : S256x256.Idx → EReal) : FVec Ideal S256x256 .f32 := exp (logA cc r)

/-- The terms before the doublings. -/
def term (v r g : S256x256.Idx → EReal) : FVec Ideal S256x256 .f32 :=
  have y : FVec Ideal S256x256 .f32 := mulf (broadcast S256x256 (Scalar.ofBits .f32 0x40000000#32)) (logA cc r)
  have u : FVec Ideal S256x256 .f32 := exp y
  have one : FVec Ideal S256x256 .f32 := broadcast S256x256 (Scalar.ofBits .f32 0x3F800000#32)
  have e : FVec Ideal S256x256 .f32 := select (cmpf .olt y (broadcast S256x256 (Scalar.ofBits .f32 0xBF000000#32))) (subf u one)
    (select (cmpf .oeq u one) y (divf (mulf (subf u one) y) (log u)))
  mulf (sqrt (subf (broadcast S256x256 (Scalar.ofBits .f32 0x00000000#32)) e)) (mulf (logistic g) v)

theorem logA_at (r : S256x256.Idx → EReal) (a j : Fin 256) : (logA cc r (ix2 a j) : EReal) = cc (ix2 0 j) * r (ix2 a j) := by
  unfold logA k0_pay9
  pointwise

theorem fac_at (r : S256x256.Idx → EReal) (a j : Fin 256) : (fac cc r (ix2 a j) : EReal) = Ideal.exp (cc (ix2 0 j) * r (ix2 a j)) := by
  unfold fac logA k0_pay9
  pointwise

theorem term_at (v r g : S256x256.Idx → EReal) (a j : Fin 256) : (term cc v r g (ix2 a j) : EReal)
    = Ideal.sqrt (-(expm (two * (cc (ix2 0 j) * r (ix2 a j))))) * (Ideal.logistic (g (ix2 a j)) * v (ix2 a j)) := by
  unfold term expm logA k0_pay9 two half
  pointwise
  rw [zero_sub]

/-- A row of the sequence some steps before, or of the state where the sequence has none. -/
theorem tap (B : Fin 32) (t : Fin 8) (j : Fin 256) (X : ℕ → EReal) (hx : ∀ u : Fin 8, x (ix2 (at8 B u) j) = X (u.val + 3))
    (hs : ∀ u : Fin 8, 5 ≤ u.val → st (ix2 (at8 B u) j) = X (u.val - 5)) (s : ℕ) (hs3 : s ≤ 3) (h h') :
    Scalar.select (IntOp.cmpi .sge (k0_pay1 (ix2 (at8 B t) j)) (BitVec.ofNat 32 s)) (x (ix2 (⟨(8 * B.val + t.val + 256 - s) % 256, h⟩ : Fin 256) j))
      (st (ix2 (⟨(8 * B.val + t.val + 256 - (248 + s)) % 256, h'⟩ : Fin 256) j)) = X (t.val + 3 - s) := by
  rw [step_at, sel B t s (by omega)]
  by_cases g : s ≤ t.val
  · rw [if_pos g, back B t s g, hx]
    exact congrArg X (show t.val - s + 3 = t.val + 3 - s by omega)
  · have e : (⟨(8 * B.val + t.val + 256 - (248 + s)) % 256, h'⟩ : Fin 256) = at8 B ⟨t.val + 8 - s, by omega⟩ :=
      Fin.ext (by show (8 * B.val + t.val + 256 - (248 + s)) % 256 = 8 * B.val + (t.val + 8 - s); omega)
    rw [if_neg g, e, hs _ (by show 5 ≤ t.val + 8 - s; omega)]
    exact congrArg X (show t.val + 8 - s - 5 = t.val + 3 - s by omega)

theorem conv_at (B : Fin 32) (t : Fin 8) (j : Fin 256) (X : ℕ → EReal) (hx : ∀ u : Fin 8, x (ix2 (at8 B u) j) = X (u.val + 3))
    (hs : ∀ u : Fin 8, 5 ≤ u.val → st (ix2 (at8 B u) j) = X (u.val - 5)) :
    (conv x st bc w0 w1 w2 w3 (ix2 (at8 B t) j) : EReal)
      = bc (ix2 0 j) + X t.val * w0 (ix2 0 j) + X (t.val + 1) * w1 (ix2 0 j) + X (t.val + 2) * w2 (ix2 0 j) + X (t.val + 3) * w3 (ix2 0 j) := by
  have q : ∀ s : ℕ, s ≤ 3 → _ := tap x st B t j X hx hs
  unfold conv k0_pay5 k0_pay4 k0_pay3 k0_pay2
  pointwise
  rw [q 3 (by decide), q 2 (by decide), q 1 (by decide), hx]
  rfl

theorem gateR_at (a j : Fin 256) : (gateR x st bc w0 w1 w2 w3 W br (ix2 a j) : EReal)
    = Ideal.logistic ((∑ k : Fin 256, conv x st bc w0 w1 w2 w3 (ix2 a k) * W (ix3 0 k ⟨j.val, by omega⟩)) + br (ix2 0 j)) := by
  unfold gateR k0_pay7 k0_pay6
  change _ = Ideal.logistic ((∑ k : Fin 256, k0_pay5 (F := Ideal) k0_pay1 x (k0_pay2 (F := Ideal) x bc st w0) (k0_pay3 (F := Ideal) st) k0_pay4 w1 st w2 w3 (ix2 a k) * W (ix3 0 k ⟨j.val, by omega⟩)) + br (ix2 0 j))
  generalize k0_pay5 (F := Ideal) k0_pay1 x (k0_pay2 (F := Ideal) x bc st w0) (k0_pay3 (F := Ideal) st) k0_pay4 w1 st w2 w3 = v
  pointwise

theorem gateI_at (a j : Fin 256) : (gateI x st bc w0 w1 w2 w3 W bi (ix2 a j) : EReal)
    = (∑ k : Fin 256, conv x st bc w0 w1 w2 w3 (ix2 a k) * W (ix3 0 k ⟨256 + j.val, by omega⟩)) + bi (ix2 0 j) := by
  unfold gateI k0_pay8 k0_pay6
  change _ = (∑ k : Fin 256, k0_pay5 (F := Ideal) k0_pay1 x (k0_pay2 (F := Ideal) x bc st w0) (k0_pay3 (F := Ideal) st) k0_pay4 w1 st w2 w3 (ix2 a k) * W (ix3 0 k ⟨256 + j.val, by omega⟩)) + bi (ix2 0 j)
  generalize k0_pay5 (F := Ideal) k0_pay1 x (k0_pay2 (F := Ideal) x bc st w0) (k0_pay3 (F := Ideal) st) k0_pay4 w1 st w2 w3 = v
  pointwise

/-- The factors a block stores. -/
def facs : FVec Ideal S256x256 .f32 :=
  shapeCast S256x256 (lvlA 4#32 (lvlA 2#32 (lvlA 1#32 (fac cc (gateR x st bc w0 w1 w2 w3 W br))))) shapeCasts_S256x256_S256x256

/-- The terms a block stores. -/
def terms : FVec Ideal S256x256 .f32 :=
  have A : FVec Ideal S256x256 .f32 := fac cc (gateR x st bc w0 w1 w2 w3 W br)
  have T : FVec Ideal S256x256 .f32 := term cc (conv x st bc w0 w1 w2 w3) (gateR x st bc w0 w1 w2 w3 W br) (gateI x st bc w0 w1 w2 w3 W bi)
  shapeCast S256x256 (lvlB 4#32 (lvlA 2#32 (lvlA 1#32 A)) (lvlB 2#32 (lvlA 1#32 A) (lvlB 1#32 A T))) shapeCasts_S256x256_S256x256

theorem facs_at (B : Fin 32) (j : Fin 256) (a : ℕ → EReal)
    (ha : ∀ t : Fin 8, (fac cc (gateR x st bc w0 w1 w2 w3 W br) (ix2 (at8 B t) j) : EReal) = a t.val) (t : Fin 8) :
    (facs x st bc w0 w1 w2 w3 W br cc (ix2 (at8 B t) j) : EReal) = lvA 4 (lvA 2 (lvA 1 a)) t.val := by
  have e : (facs x st bc w0 w1 w2 w3 W br cc (ix2 (at8 B t) j) : EReal)
      = lvlA 4#32 (lvlA 2#32 (lvlA 1#32 (fac cc (gateR x st bc w0 w1 w2 w3 W br)))) (ix2 (at8 B t) j) := by
    unfold facs
    pointwise
  rw [e]
  exact lvlA_at 4 (by decide) _ B j _ (lvlA_at 2 (by decide) _ B j _ (lvlA_at 1 (by decide) _ B j a ha)) t

theorem terms_at (B : Fin 32) (j : Fin 256) (a b : ℕ → EReal)
    (ha : ∀ t : Fin 8, (fac cc (gateR x st bc w0 w1 w2 w3 W br) (ix2 (at8 B t) j) : EReal) = a t.val)
    (hb : ∀ t : Fin 8, (term cc (conv x st bc w0 w1 w2 w3) (gateR x st bc w0 w1 w2 w3 W br) (gateI x st bc w0 w1 w2 w3 W bi) (ix2 (at8 B t) j) : EReal) = b t.val)
    (t : Fin 8) :
    (terms x st bc w0 w1 w2 w3 W br bi cc (ix2 (at8 B t) j) : EReal)
      = lvB 4 (lvA 2 (lvA 1 a)) (lvB 2 (lvA 1 a) (lvB 1 a b)) t.val := by
  have h1 := lvlA_at 1 (by decide) _ B j a ha
  have h2 := lvlA_at 2 (by decide) _ B j _ h1
  have g1 := lvlB_at 1 (by decide) _ _ B j a b ha hb
  have g2 := lvlB_at 2 (by decide) _ _ B j _ _ h1 g1
  refine Eq.trans ?_ (lvlB_at 4 (by decide) _ _ B j _ _ h2 g2 t)
  unfold terms
  pointwise

end

end Cert.Proof.Step

end
-- ==== Proof.Step.Spec.lean ====
/- The gated linear recurrence of the sample batch: its numbers, sequence by sequence and channel by channel. -/
module

public import proofs.«01_k».proof.Proof.Step.Scan
public import Idealize.ShloMosaic.Lib.Pointwise

@[expose] public section

noncomputable section

open scoped Classical

namespace Cert.Proof.StepSpec

open Idealize.ShloMosaic Cert.Proof.Scan

/-- What the recurrence is given: the projected rows, the two states, the convolution's weights and offsets, the gates' weights
    and offsets, and the decay of each channel. -/
structure Args where
  x : Fin 32 → Fin 8 → Fin 2048 → EReal
  past : Fin 32 → Fin 3 → Fin 2048 → EReal
  h0 : Fin 32 → Fin 2048 → EReal
  w : Fin 4 → Fin 2048 → EReal
  wb : Fin 2048 → EReal
  g : Fin 2 → Fin 8 → Fin 256 → Fin 256 → EReal
  gb : Fin 2 → Fin 2048 → EReal
  lam : Fin 2048 → EReal

/-- A row of the 256: step `t` of a sequence `B`. -/
abbrev rw8 (B : Fin 32) (t : Fin 8) : Fin 256 := ⟨8 * B.val + t.val, by omega⟩

/-- The numbers the arrays hold. -/
def argsOf (Z : (⟨2, ![256, 15872]⟩ : Shape).Idx → EReal) (P : (⟨4, ![1, 32, 3, 2048]⟩ : Shape).Idx → EReal)
    (h : (⟨3, ![1, 32, 2048]⟩ : Shape).Idx → EReal) (w : (⟨3, ![1, 4, 2048]⟩ : Shape).Idx → EReal) (wb : (⟨2, ![1, 2048]⟩ : Shape).Idx → EReal)
    (g : (⟨5, ![1, 2, 8, 256, 256]⟩ : Shape).Idx → EReal) (gb : (⟨3, ![1, 2, 2048]⟩ : Shape).Idx → EReal)
    (lam : (⟨2, ![1, 2048]⟩ : Shape).Idx → EReal) : Args where
  x B t d := Z (ix2 (rw8 B t) ⟨2048 + d.val, by omega⟩)
  past B q d := P (ix4 0 B q d)
  h0 B d := h (ix3 0 B d)
  w k d := w (ix3 0 k d)
  wb d := wb (ix2 0 d)
  g e n k j := g (ix5 0 e n k j)
  gb e d := gb (ix3 0 e d)
  lam d := lam (ix2 0 d)

variable (A : Args) (B : Fin 32)

/-- The past's three rows and the eight of the sequence. -/
def xp (d : Fin 2048) (q : ℕ) : EReal :=
  if h : q < 3 then A.past B ⟨q, h⟩ d else if h' : q - 3 < 8 then A.x B ⟨q - 3, h'⟩ d else 0

/-- The convolved rows. -/
def xc (t : ℕ) (d : Fin 2048) : EReal :=
  A.wb d + xp A B d t * A.w 0 d + xp A B d (t + 1) * A.w 1 d + xp A B d (t + 2) * A.w 2 d + xp A B d (t + 3) * A.w 3 d

/-- A channel of a block of 256. -/
abbrev ch (n : Fin 8) (j : Fin 256) : Fin 2048 := ⟨256 * n.val + j.val, by omega⟩

/-- A gate's argument. -/
def gate (e : Fin 2) (t : ℕ) (n : Fin 8) (j : Fin 256) : EReal :=
  (∑ k : Fin 256, xc A B t (ch n k) * A.g e n k j) + A.gb e (ch n j)

/-- The logarithm of a factor. -/
def la (t : ℕ) (n : Fin 8) (j : Fin 256) : EReal := eight * soft (-A.lam (ch n j)) * Ideal.logistic (gate A B 0 t n j)

/-- The factors. -/
def fac (n : Fin 8) (j : Fin 256) (t : ℕ) : EReal := Ideal.exp (la A B t n j)

/-- The terms. -/
def term (n : Fin 8) (j : Fin 256) (t : ℕ) : EReal :=
  Ideal.sqrt (-(Ideal.exp (two * la A B t n j) - 1)) * (Ideal.logistic (gate A B 1 t n j) * xc A B t (ch n j))

/-- The states. -/
def h (t : ℕ) (n : Fin 8) (j : Fin 256) : EReal := run (fac A B n j) (term A B n j) (A.h0 B (ch n j)) t

theorem la_nonpos (t : ℕ) (n : Fin 8) (j : Fin 256) : la A B t n j ≤ 0 :=
  mul_nonpos_of_nonpos_of_nonneg (mul_nonpos_of_nonpos_of_nonneg eight_nonpos (soft_nonneg _)) (logistic_nonneg _)

theorem two_la (t : ℕ) (n : Fin 8) (j : Fin 256) : two * la A B t n j ≤ 0 :=
  mul_nonpos_of_nonneg_of_nonpos two_nonneg (la_nonpos A B t n j)

theorem fac_good (n : Fin 8) (j : Fin 256) (t : ℕ) : Good (fac A B n j t) := good_exp (la_nonpos A B t n j)

end Cert.Proof.StepSpec

end
-- ==== Proof.Step.Pieces.lean ====
/- The sample batch's recurrence: the two arrays the kernel's blocks of columns make, and the states and products it leaves. -/
module

public import proofs.«01_k».proof.Proof.Step.Block
public import proofs.«01_k».proof.Proof.Step.Spec

@[expose] public section

set_option maxRecDepth 16384

noncomputable section

open scoped Classical

namespace Cert.Proof.Step

open Cert.StepIdeal Cert.StepIdeal.Gen
open Cert.Proof.Scan Cert.Proof.StepSpec
open Idealize.ShloMosaic Idealize.ShloMosaic.TcCoe

/-- The arrays of a launch hold the numbers of `A`. -/
structure Holds (A : Args) (x st : S256x2048.Idx → EReal) (w : S4x2048.Idx → EReal) (wb : S1x2048.Idx → EReal)
    (g : S8x256x512.Idx → EReal) (gb : S2x2048.Idx → EReal) (cc : S1x2048.Idx → EReal) : Prop where
  x : ∀ B t d, x (ix2 (at8 B t) d) = A.x B t d
  st : ∀ B (u : Fin 8) (h : 5 ≤ u.val) d, st (ix2 (at8 B u) d) = A.past B ⟨u.val - 5, by omega⟩ d
  w : ∀ k d, w (ix2 k d) = A.w k d
  wb : ∀ d, wb (ix2 0 d) = A.wb d
  g0 : ∀ n k (j : Fin 256), g (ix3 n k ⟨j.val, by omega⟩) = A.g 0 n k j
  g1 : ∀ n k (j : Fin 256), g (ix3 n k ⟨256 + j.val, by omega⟩) = A.g 1 n k j
  gb : ∀ e d, gb (ix2 e d) = A.gb e d
  cc : ∀ d, cc (ix2 0 d) = eight * soft (-A.lam d)

section
variable (A : Args) (x st : S256x2048.Idx → EReal) (w : S4x2048.Idx → EReal) (wb : S1x2048.Idx → EReal)
  (g : S8x256x512.Idx → EReal) (gb : S2x2048.Idx → EReal) (cc : S1x2048.Idx → EReal)

section
variable (n : Fin 8) (X S : S256x256.Idx → EReal) (wb' w0 w1 w2 w3 : S1x256.Idx → EReal) (G : S1x256x512.Idx → EReal) (br bi c' : S1x256.Idx → EReal)

/-- The arrays of a block of columns are those columns. -/
structure Cols : Prop where
  x : ∀ B t j, X (ix2 (at8 B t) j) = A.x B t (ch n j)
  st : ∀ B (u : Fin 8) (h : 5 ≤ u.val) j, S (ix2 (at8 B u) j) = A.past B ⟨u.val - 5, by omega⟩ (ch n j)
  wb : ∀ j, wb' (ix2 0 j) = A.wb (ch n j)
  w0 : ∀ j, w0 (ix2 0 j) = A.w 0 (ch n j)
  w1 : ∀ j, w1 (ix2 0 j) = A.w 1 (ch n j)
  w2 : ∀ j, w2 (ix2 0 j) = A.w 2 (ch n j)
  w3 : ∀ j, w3 (ix2 0 j) = A.w 3 (ch n j)
  g0 : ∀ k (j : Fin 256), G (ix3 0 k ⟨j.val, by omega⟩) = A.g 0 n k j
  g1 : ∀ k (j : Fin 256), G (ix3 0 k ⟨256 + j.val, by omega⟩) = A.g 1 n k j
  br : ∀ j, br (ix2 0 j) = A.gb 0 (ch n j)
  bi : ∀ j, bi (ix2 0 j) = A.gb 1 (ch n j)
  cc : ∀ j, c' (ix2 0 j) = eight * soft (-A.lam (ch n j))

variable {A n X S wb' w0 w1 w2 w3 G br bi c'} (C : Cols A n X S wb' w0 w1 w2 w3 G br bi c')
include C

theorem Cols.conv (B : Fin 32) (t : Fin 8) (j : Fin 256) : (conv X S wb' w0 w1 w2 w3 (ix2 (at8 B t) j) : EReal) = xc A B t.val (ch n j) := by
  refine (conv_at X S wb' w0 w1 w2 w3 B t j (xp A B (ch n j)) (fun u => ?_) (fun u h => ?_)).trans ?_
  · rw [C.x]
    unfold xp
    rw [dif_neg (by omega), dif_pos (show u.val + 3 - 3 < 8 by omega)]
    rfl
  · rw [C.st B u h]
    unfold xp
    rw [dif_pos (show u.val - 5 < 3 by omega)]
  · rw [C.wb, C.w0, C.w1, C.w2, C.w3]
    rfl

theorem Cols.gateR (B : Fin 32) (t : Fin 8) (j : Fin 256) :
    (gateR X S wb' w0 w1 w2 w3 G br (ix2 (at8 B t) j) : EReal) = Ideal.logistic (gate A B 0 t.val n j) := by
  rw [gateR_at]
  unfold gate
  simp only [C.conv, C.g0, C.br]

theorem Cols.gateI (B : Fin 32) (t : Fin 8) (j : Fin 256) :
    (gateI X S wb' w0 w1 w2 w3 G bi (ix2 (at8 B t) j) : EReal) = gate A B 1 t.val n j := by
  rw [gateI_at]
  unfold gate
  simp only [C.conv, C.g1, C.bi]

theorem Cols.fac (B : Fin 32) (j : Fin 256) (t : Fin 8) :
    (fac c' (Step.gateR X S wb' w0 w1 w2 w3 G br) (ix2 (at8 B t) j) : EReal) = StepSpec.fac A B n j t.val := by
  rw [fac_at, C.gateR, C.cc]
  rfl

theorem Cols.term (B : Fin 32) (j : Fin 256) (t : Fin 8) :
    (term c' (Step.conv X S wb' w0 w1 w2 w3) (Step.gateR X S wb' w0 w1 w2 w3 G br) (Step.gateI X S wb' w0 w1 w2 w3 G bi) (ix2 (at8 B t) j) : EReal)
      = StepSpec.term A B n j t.val := by
  rw [term_at, C.gateR, C.gateI, C.conv, C.cc]
  exact congrArg (fun q => Ideal.sqrt (-q) * _) (expm_eq _ (two_la A B t.val n j))

end

/-- The array of factors after the doublings. -/
def facAll : S256x2048.Idx → EReal := fun y =>
  lvA 4 (lvA 2 (lvA 1 (StepSpec.fac A ⟨(y 0).val / 8, by have : (y 0).val < 256 := (y 0).isLt; omega⟩
    ⟨(y 1).val / 256, by have : (y 1).val < 2048 := (y 1).isLt; omega⟩ ⟨(y 1).val % 256, by omega⟩))) ((y 0).val % 8)

/-- The terms of a channel after the doublings. -/
def termCh (B : Fin 32) (n : Fin 8) (j : Fin 256) : ℕ → EReal :=
  lvB 4 (lvA 2 (lvA 1 (StepSpec.fac A B n j))) (lvB 2 (lvA 1 (StepSpec.fac A B n j)) (lvB 1 (StepSpec.fac A B n j) (StepSpec.term A B n j)))

/-- The array of terms after the doublings. -/
def termAll : S256x2048.Idx → EReal := fun y =>
  termCh A ⟨(y 0).val / 8, by have : (y 0).val < 256 := (y 0).isLt; omega⟩
    ⟨(y 1).val / 256, by have : (y 1).val < 2048 := (y 1).isLt; omega⟩ ⟨(y 1).val % 256, by omega⟩ ((y 0).val % 8)

theorem facAll_at (B : Fin 32) (t : Fin 8) (n : Fin 8) (j : Fin 256) :
    facAll A (ix2 (at8 B t) (ch n j)) = lvA 4 (lvA 2 (lvA 1 (StepSpec.fac A B n j))) t.val := by
  have e1 : (8 * B.val + t.val) / 8 = B.val := by omega
  have e2 : (8 * B.val + t.val) % 8 = t.val := by omega
  have e3 : (256 * n.val + j.val) / 256 = n.val := by omega
  have e4 : (256 * n.val + j.val) % 256 = j.val := by omega
  show lvA 4 (lvA 2 (lvA 1 (StepSpec.fac A ⟨(8 * B.val + t.val) / 8, _⟩ ⟨(256 * n.val + j.val) / 256, _⟩ ⟨(256 * n.val + j.val) % 256, _⟩)))
    ((8 * B.val + t.val) % 8) = _
  simp only [e1, e2, e3, e4]

theorem termAll_at (B : Fin 32) (t : Fin 8) (n : Fin 8) (j : Fin 256) : termAll A (ix2 (at8 B t) (ch n j)) = termCh A B n j t.val := by
  have e1 : (8 * B.val + t.val) / 8 = B.val := by omega
  have e2 : (8 * B.val + t.val) % 8 = t.val := by omega
  have e3 : (256 * n.val + j.val) / 256 = n.val := by omega
  have e4 : (256 * n.val + j.val) % 256 = j.val := by omega
  show termCh A ⟨(8 * B.val + t.val) / 8, _⟩ ⟨(256 * n.val + j.val) / 256, _⟩ ⟨(256 * n.val + j.val) % 256, _⟩ ((8 * B.val + t.val) % 8) = _
  simp only [e1, e2, e3, e4]

section
variable (n : Fin 8) (o : ℕ) (ho : o = 256 * n.val) (ix ib i0 i1 i2 i3 ig ir ii)

include ho in
/-- The columns of one block, as the kernel reads them. -/
theorem cols (H : Holds A x st w wb g gb cc) : Cols A n
    (View.ld (Val := Elt Ideal) (e' := .f32) x (Rect.unit (s := S256x2048) ![0, o] S256x256.size ix))
    (View.ld (Val := Elt Ideal) (e' := .f32) st (Rect.unit (s := S256x2048) ![0, o] S256x256.size ix))
    (View.ld (Val := Elt Ideal) (e' := .f32) wb (Rect.unit (s := S1x2048) ![0, o] S1x256.size ib))
    (View.ld (Val := Elt Ideal) (e' := .f32) w (Rect.unit (s := S4x2048) ![0, o] S1x256.size i0))
    (View.ld (Val := Elt Ideal) (e' := .f32) w (Rect.unit (s := S4x2048) ![1, o] S1x256.size i1))
    (View.ld (Val := Elt Ideal) (e' := .f32) w (Rect.unit (s := S4x2048) ![2, o] S1x256.size i2))
    (View.ld (Val := Elt Ideal) (e' := .f32) w (Rect.unit (s := S4x2048) ![3, o] S1x256.size i3))
    (View.ld (Val := Elt Ideal) (e' := .bf16) g (Rect.unit (s := S8x256x512) ![n.val, 0, 0] S1x256x512.size ig))
    (View.ld (Val := Elt Ideal) (e' := .f32) gb (Rect.unit (s := S2x2048) ![0, o] S1x256.size ir))
    (View.ld (Val := Elt Ideal) (e' := .f32) gb (Rect.unit (s := S2x2048) ![1, o] S1x256.size ii))
    (View.ld (Val := Elt Ideal) (e' := .f32) cc (Rect.unit (s := S1x2048) ![0, o] S1x256.size ib)) where
  x B t j := Eq.trans (View.ld_unit_apply_of (S := S256x2048) (Val := Elt Ideal) (e := .f32) x ![0, o] S256x256.size ix
      (ix2 (at8 B t) j : S256x256.Idx) (ix2 (at8 B t) (ch n j) : S256x2048.Idx)
      (Fin.forall_fin_two.mpr ⟨(Nat.zero_add _).symm, congrArg (· + j.val) ho.symm⟩)) (H.x B t (ch n j))
  st B u h j := Eq.trans (View.ld_unit_apply_of (S := S256x2048) (Val := Elt Ideal) (e := .f32) st ![0, o] S256x256.size ix
      (ix2 (at8 B u) j : S256x256.Idx) (ix2 (at8 B u) (ch n j) : S256x2048.Idx)
      (Fin.forall_fin_two.mpr ⟨(Nat.zero_add _).symm, congrArg (· + j.val) ho.symm⟩)) (H.st B u h (ch n j))
  wb j := Eq.trans (View.ld_unit_apply_of (S := S1x2048) (Val := Elt Ideal) (e := .f32) wb ![0, o] S1x256.size ib
      (ix2 0 j : S1x256.Idx) (ix2 0 (ch n j) : S1x2048.Idx)
      (Fin.forall_fin_two.mpr ⟨rfl, congrArg (· + j.val) ho.symm⟩)) (H.wb (ch n j))
  w0 j := Eq.trans (View.ld_unit_apply_of (S := S4x2048) (Val := Elt Ideal) (e := .f32) w ![0, o] S1x256.size i0
      (ix2 0 j : S1x256.Idx) (ix2 0 (ch n j) : S4x2048.Idx)
      (Fin.forall_fin_two.mpr ⟨rfl, congrArg (· + j.val) ho.symm⟩)) (H.w 0 (ch n j))
  w1 j := Eq.trans (View.ld_unit_apply_of (S := S4x2048) (Val := Elt Ideal) (e := .f32) w ![1, o] S1x256.size i1
      (ix2 0 j : S1x256.Idx) (ix2 1 (ch n j) : S4x2048.Idx)
      (Fin.forall_fin_two.mpr ⟨rfl, congrArg (· + j.val) ho.symm⟩)) (H.w 1 (ch n j))
  w2 j := Eq.trans (View.ld_unit_apply_of (S := S4x2048) (Val := Elt Ideal) (e := .f32) w ![2, o] S1x256.size i2
      (ix2 0 j : S1x256.Idx) (ix2 2 (ch n j) : S4x2048.Idx)
      (Fin.forall_fin_two.mpr ⟨rfl, congrArg (· + j.val) ho.symm⟩)) (H.w 2 (ch n j))
  w3 j := Eq.trans (View.ld_unit_apply_of (S := S4x2048) (Val := Elt Ideal) (e := .f32) w ![3, o] S1x256.size i3
      (ix2 0 j : S1x256.Idx) (ix2 3 (ch n j) : S4x2048.Idx)
      (Fin.forall_fin_two.mpr ⟨rfl, congrArg (· + j.val) ho.symm⟩)) (H.w 3 (ch n j))
  g0 k j := Eq.trans (View.ld_unit_apply_of (S := S8x256x512) (Val := Elt Ideal) (e := .bf16) g ![n.val, 0, 0] S1x256x512.size ig
      (ix3 0 k ⟨j.val, by omega⟩ : S1x256x512.Idx) (ix3 n k ⟨j.val, by omega⟩ : S8x256x512.Idx)
      (Fin.forall_fin_succ.mpr ⟨rfl, Fin.forall_fin_two.mpr ⟨(Nat.zero_add _).symm, (Nat.zero_add _).symm⟩⟩)) (H.g0 n k j)
  g1 k j := Eq.trans (View.ld_unit_apply_of (S := S8x256x512) (Val := Elt Ideal) (e := .bf16) g ![n.val, 0, 0] S1x256x512.size ig
      (ix3 0 k ⟨256 + j.val, by omega⟩ : S1x256x512.Idx) (ix3 n k ⟨256 + j.val, by omega⟩ : S8x256x512.Idx)
      (Fin.forall_fin_succ.mpr ⟨rfl, Fin.forall_fin_two.mpr ⟨(Nat.zero_add _).symm, (Nat.zero_add _).symm⟩⟩)) (H.g1 n k j)
  br j := Eq.trans (View.ld_unit_apply_of (S := S2x2048) (Val := Elt Ideal) (e := .f32) gb ![0, o] S1x256.size ir
      (ix2 0 j : S1x256.Idx) (ix2 0 (ch n j) : S2x2048.Idx)
      (Fin.forall_fin_two.mpr ⟨rfl, congrArg (· + j.val) ho.symm⟩)) (H.gb 0 (ch n j))
  bi j := Eq.trans (View.ld_unit_apply_of (S := S2x2048) (Val := Elt Ideal) (e := .f32) gb ![1, o] S1x256.size ii
      (ix2 0 j : S1x256.Idx) (ix2 1 (ch n j) : S2x2048.Idx)
      (Fin.forall_fin_two.mpr ⟨rfl, congrArg (· + j.val) ho.symm⟩)) (H.gb 1 (ch n j))
  cc j := Eq.trans (View.ld_unit_apply_of (S := S1x2048) (Val := Elt Ideal) (e := .f32) cc ![0, o] S1x256.size ib
      (ix2 0 j : S1x256.Idx) (ix2 0 (ch n j) : S1x2048.Idx)
      (Fin.forall_fin_two.mpr ⟨rfl, congrArg (· + j.val) ho.symm⟩)) (H.cc (ch n j))

include ho in
theorem emb_at (B : Fin 32) (t : Fin 8) (j : Fin 256) :
    (Rect.unit (s := S256x2048) ![0, o] S256x256.size ix).emb (ix2 (at8 B t) j : S256x256.Idx) = (ix2 (at8 B t) (ch n j) : S256x2048.Idx) :=
  funext (Fin.forall_fin_two.mpr
    ⟨Fin.ext ((Rect.idx_unit_val (s := S256x2048) ![0, o] S256x256.size ix (ix2 (at8 B t) j : S256x256.Idx) 0).trans (Nat.zero_add _)),
      Fin.ext ((Rect.idx_unit_val (s := S256x2048) ![0, o] S256x256.size ix (ix2 (at8 B t) j : S256x256.Idx) 1).trans (congrArg (· + j.val) ho))⟩)

/-- A row and a channel of a block. -/
theorem ex_at (z : S256x256.Idx) : ∃ (B : Fin 32) (t : Fin 8) (j : Fin 256), z = ix2 (at8 B t) j := by
  have h0 : (z 0).val < 256 := (z 0).isLt
  have h1 : (z 1).val < 256 := (z 1).isLt
  refine ⟨⟨(z 0).val / 8, by omega⟩, ⟨(z 0).val % 8, by omega⟩, ⟨(z 1).val, h1⟩, (eq_ix2 z).trans ?_⟩
  exact congrArg (fun a : Fin 256 => (ix2 a ⟨(z 1).val, h1⟩ : S256x256.Idx)) (Fin.ext (Nat.div_add_mod _ 8).symm)

include ho in
/-- An array that has a block of columns of `G` is that block. -/
theorem piece_of (G : S256x2048.Idx → EReal) (f : S256x256.Idx → EReal)
    (h : ∀ (B : Fin 32) (t : Fin 8) (j : Fin 256), f (ix2 (at8 B t) j) = G (ix2 (at8 B t) (ch n j)))
    (z : (Rect.unit (s := S256x2048) ![0, o] S256x256.size ix).shape.Idx) :
    f z = G ((Rect.unit (s := S256x2048) ![0, o] S256x256.size ix).emb z) := by
  obtain ⟨B, t, j, e⟩ := ex_at z
  exact (congrArg f e).trans ((h B t j).trans
    (congrArg G ((emb_at n o ho ix B t j).symm.trans (congrArg (Rect.unit (s := S256x2048) ![0, o] S256x256.size ix).emb e.symm))))

include ho in
theorem pieceA (ij : ∀ a : Fin S2x2048.rank, (![1, o] : Fin 2 → ℕ) a + S1x256.size a ≤ S2x2048.size a) (H : Holds A x st w wb g gb cc) (z : (Rect.unit (s := S256x2048) ![0, o] S256x256.size ix).shape.Idx) :
    (facs
      (View.ld (Val := Elt Ideal) (e' := .f32) x (Rect.unit (s := S256x2048) ![0, o] S256x256.size ix))
      (View.ld (Val := Elt Ideal) (e' := .f32) st (Rect.unit (s := S256x2048) ![0, o] S256x256.size ix))
      (View.ld (Val := Elt Ideal) (e' := .f32) wb (Rect.unit (s := S1x2048) ![0, o] S1x256.size ib))
      (View.ld (Val := Elt Ideal) (e' := .f32) w (Rect.unit (s := S4x2048) ![0, o] S1x256.size i0))
      (View.ld (Val := Elt Ideal) (e' := .f32) w (Rect.unit (s := S4x2048) ![1, o] S1x256.size i1))
      (View.ld (Val := Elt Ideal) (e' := .f32) w (Rect.unit (s := S4x2048) ![2, o] S1x256.size i2))
      (View.ld (Val := Elt Ideal) (e' := .f32) w (Rect.unit (s := S4x2048) ![3, o] S1x256.size i3))
      (View.ld (Val := Elt Ideal) (e' := .bf16) g (Rect.unit (s := S8x256x512) ![n.val, 0, 0] S1x256x512.size ig))
      (View.ld (Val := Elt Ideal) (e' := .f32) gb (Rect.unit (s := S2x2048) ![0, o] S1x256.size ir))
      (View.ld (Val := Elt Ideal) (e' := .f32) cc (Rect.unit (s := S1x2048) ![0, o] S1x256.size ib)) z : EReal)
      = facAll A ((Rect.unit (s := S256x2048) ![0, o] S256x256.size ix).emb z) := by
  have C := cols A x st w wb g gb cc n o ho ix ib i0 i1 i2 i3 ig ir ij H
  exact piece_of n o ho ix (facAll A) _ (fun B t j => (facs_at _ _ _ _ _ _ _ _ _ _ B j _ (fun u => C.fac B j u) t).trans (facAll_at A B t n j).symm) z

include ho in
theorem pieceB (H : Holds A x st w wb g gb cc) (z : (Rect.unit (s := S256x2048) ![0, o] S256x256.size ix).shape.Idx) :
    (terms
      (View.ld (Val := Elt Ideal) (e' := .f32) x (Rect.unit (s := S256x2048) ![0, o] S256x256.size ix))
      (View.ld (Val := Elt Ideal) (e' := .f32) st (Rect.unit (s := S256x2048) ![0, o] S256x256.size ix))
      (View.ld (Val := Elt Ideal) (e' := .f32) wb (Rect.unit (s := S1x2048) ![0, o] S1x256.size ib))
      (View.ld (Val := Elt Ideal) (e' := .f32) w (Rect.unit (s := S4x2048) ![0, o] S1x256.size i0))
      (View.ld (Val := Elt Ideal) (e' := .f32) w (Rect.unit (s := S4x2048) ![1, o] S1x256.size i1))
      (View.ld (Val := Elt Ideal) (e' := .f32) w (Rect.unit (s := S4x2048) ![2, o] S1x256.size i2))
      (View.ld (Val := Elt Ideal) (e' := .f32) w (Rect.unit (s := S4x2048) ![3, o] S1x256.size i3))
      (View.ld (Val := Elt Ideal) (e' := .bf16) g (Rect.unit (s := S8x256x512) ![n.val, 0, 0] S1x256x512.size ig))
      (View.ld (Val := Elt Ideal) (e' := .f32) gb (Rect.unit (s := S2x2048) ![0, o] S1x256.size ir))
      (View.ld (Val := Elt Ideal) (e' := .f32) gb (Rect.unit (s := S2x2048) ![1, o] S1x256.size ii))
      (View.ld (Val := Elt Ideal) (e' := .f32) cc (Rect.unit (s := S1x2048) ![0, o] S1x256.size ib)) z : EReal)
      = termAll A ((Rect.unit (s := S256x2048) ![0, o] S256x256.size ix).emb z) := by
  have C := cols A x st w wb g gb cc n o ho ix ib i0 i1 i2 i3 ig ir ii H
  exact piece_of n o ho ix (termAll A) _ (fun B t j => (terms_at _ _ _ _ _ _ _ _ _ _ _ B j _ _ (fun u => C.fac B j u) (fun u => C.term B j u) t).trans (termAll_at A B t n j).symm) z

end

end

end Cert.Proof.Step

end
-- ==== Proof.Step.Out.lean ====
/- The sample batch's recurrence: the states and the products a launch leaves. -/
module

public import proofs.«01_k».proof.Proof.Step.Pieces

@[expose] public section

set_option maxRecDepth 16384

noncomputable section

open scoped Classical

namespace Cert.Proof.Step

open Cert.StepIdeal Cert.StepIdeal.Gen
open Cert.Proof.Scan Cert.Proof.StepSpec
open Idealize.ShloMosaic Idealize.ShloMosaic.TcCoe

variable (m : (ℓ : Loc nD τ sig) → Buf (Elt Ideal) ℓ) (c : Dev nD) (t : Fin cfg0.N) (A : Args)
  (H : Holds A (X0_0 m c t) (iblk m c 2 t) (iblk m c 4 t) (iblk m c 5 t) (iblk m c 6 t) (iblk m c 7 t) (iblk m c 8 t))

include H in
theorem states : (outsAt0 (F := Ideal) m c t).2 = k0_pay143 (F := Ideal) (facAll A) (iblk m c 3 t) (termAll A) := by
  unfold outsAt0
  frame_open
  frame_out
  refine congrArg₂ (fun p q => k0_pay143 (F := Ideal) p (iblk m c 3 t) q) ?_ ?_
  · rw [View.readCov_eq_canon_ld _ _ _ (View.cover_of_tiledL (s := S256x2048) _ ![256, 256] rfl)]
    refine (View.ld_unit_lit' (S := S256x2048) _ _ (by decide)).trans (funext fun y => ?_)
    refine View.canon_append_of_piecesOf (Val := Elt Ideal) (e := .f32) (facAll A) [] [_, _, _, _, _, _, _, _] ?_ y ?_
    · exact ⟨pieceA A _ _ _ _ _ _ _ 7 1792 rfl _ _ _ _ _ _ _ _ (by decide) H,
        pieceA A _ _ _ _ _ _ _ 6 1536 rfl _ _ _ _ _ _ _ _ (by decide) H,
        pieceA A _ _ _ _ _ _ _ 5 1280 rfl _ _ _ _ _ _ _ _ (by decide) H,
        pieceA A _ _ _ _ _ _ _ 4 1024 rfl _ _ _ _ _ _ _ _ (by decide) H,
        pieceA A _ _ _ _ _ _ _ 3 768 rfl _ _ _ _ _ _ _ _ (by decide) H,
        pieceA A _ _ _ _ _ _ _ 2 512 rfl _ _ _ _ _ _ _ _ (by decide) H,
        pieceA A _ _ _ _ _ _ _ 1 256 rfl _ _ _ _ _ _ _ _ (by decide) H,
        pieceA A _ _ _ _ _ _ _ 0 0 rfl _ _ _ _ _ _ _ _ (by decide) H, trivial⟩
    · exact View.cover_of_tiledL (s := S256x2048) _ ![256, 256] rfl y
  · rw [View.readCov_eq_canon_ld _ _ _ (View.cover_of_tiledL (s := S256x2048) _ ![256, 256] rfl)]
    refine (View.ld_unit_lit' (S := S256x2048) _ _ (by decide)).trans (funext fun y => ?_)
    refine View.canon_append_of_piecesOf (Val := Elt Ideal) (e := .f32) (termAll A) [] [_, _, _, _, _, _, _, _] ?_ y ?_
    · exact ⟨pieceB A _ _ _ _ _ _ _ 7 1792 rfl _ _ _ _ _ _ _ _ _ H,
        pieceB A _ _ _ _ _ _ _ 6 1536 rfl _ _ _ _ _ _ _ _ _ H,
        pieceB A _ _ _ _ _ _ _ 5 1280 rfl _ _ _ _ _ _ _ _ _ H,
        pieceB A _ _ _ _ _ _ _ 4 1024 rfl _ _ _ _ _ _ _ _ _ H,
        pieceB A _ _ _ _ _ _ _ 3 768 rfl _ _ _ _ _ _ _ _ _ H,
        pieceB A _ _ _ _ _ _ _ 2 512 rfl _ _ _ _ _ _ _ _ _ H,
        pieceB A _ _ _ _ _ _ _ 1 256 rfl _ _ _ _ _ _ _ _ _ H,
        pieceB A _ _ _ _ _ _ _ 0 0 rfl _ _ _ _ _ _ _ _ _ H, trivial⟩
    · exact View.cover_of_tiledL (s := S256x2048) _ ![256, 256] rfl y

/-- The products are of the gated states. -/
theorem prods : (outsAt0 (F := Ideal) m c t).1 = k0_pay144 (F := Ideal) (X0_1 m c t) (outsAt0 (F := Ideal) m c t).2 (iblk m c 9 t) := by
  unfold outsAt0
  frame_open
  frame_out

include H in
theorem state_at (h0 : ∀ B u d, iblk m c 3 t (ix2 (at8 B u) d) = A.h0 B d) (B : Fin 32) (u : Fin 8) (n : Fin 8) (j : Fin 256) :
    ((outsAt0 (F := Ideal) m c t).2 (ix2 (at8 B u) (ch n j)) : EReal) = StepSpec.h A B u.val n j := by
  have e : (k0_pay143 (F := Ideal) (facAll A) (iblk m c 3 t) (termAll A) (ix2 (at8 B u) (ch n j)) : EReal)
      = facAll A (ix2 (at8 B u) (ch n j)) * iblk m c 3 t (ix2 (at8 B u) (ch n j)) + termAll A (ix2 (at8 B u) (ch n j)) := by
    unfold k0_pay143
    pointwise
  rw [states m c t A H, e, facAll_at, termAll_at, h0]
  exact doubled _ _ (fac_good A B n j) _ u.val u.isLt

theorem pay144_at (g h : S256x2048.Idx → EReal) (w : S2048x2048.Idx → EReal) (r : Fin 256) (j : Fin 2048) :
    (k0_pay144 (F := Ideal) g h w (ix2 r j) : EReal)
      = ∑ k : Fin 2048, h (ix2 r k) * (g (ix2 r k) * Ideal.logistic (g (ix2 r k))) * w (ix2 k j) := by
  unfold k0_pay144
  pointwise

/-- The gates' columns, the states and the projection's weights of a launch. -/
def gr : S256x2048.Idx → EReal := X0_1 (F := Ideal) m c t
def hst : S256x2048.Idx → EReal := (outsAt0 (F := Ideal) m c t).2
def wpr : S2048x2048.Idx → EReal := iblk (F := Ideal) m c 9 t

theorem prods' : (outsAt0 (F := Ideal) m c t).1 = k0_pay144 (F := Ideal) (gr m c t) (hst m c t) (wpr m c t) := prods m c t

/-- The products, at an index. -/
theorem prod_at (r : Fin 256) (j : Fin 2048) : ((outsAt0 (F := Ideal) m c t).1 (ix2 r j) : EReal)
    = ∑ k : Fin 2048, hst m c t (ix2 r k) * (gr m c t (ix2 r k) * Ideal.logistic (gr m c t (ix2 r k))) * wpr m c t (ix2 k j) := by
  rw [prods']
  exact pay144_at _ _ _ r j

end Cert.Proof.Step

end
-- ==== Proof.Step.Host.lean ====
/- The arrays the recurrence's call on the sample batch is given, read at an index, and the blocks its windows hold. -/
module

public import proofs.«01_k».proof.Proof.Step.Out
public import Idealize.ShloMosaic.Lib.StableHlo.Run

@[expose] public section

set_option maxRecDepth 16384

noncomputable section

open scoped Classical

namespace Cert.Proof.Step

open Cert.StepIdeal Cert.StepIdeal.Gen
open Cert.Proof.Scan Cert.Proof.StepSpec
open Idealize.ShloMosaic Idealize.ShloMosaic.TcCoe

variable (m : (ℓ : Loc nD τ sig) → Buf (Elt Ideal) ℓ) (c : Dev nD) (t : Fin cfg0.N)

abbrev a0 : S256x15872.Idx → EReal := m ((c : Thread nD τ).loc main_arg0)
abbrev a1 : S1x32x3x2048.Idx → EReal := m ((c : Thread nD τ).loc main_arg1)
abbrev a2 : S1x32x2048.Idx → EReal := m ((c : Thread nD τ).loc main_arg2)
abbrev a3 : S1x4x2048.Idx → EReal := m ((c : Thread nD τ).loc main_arg3)
abbrev a4 : S1x2048.Idx → EReal := m ((c : Thread nD τ).loc main_arg4)
abbrev a5 : S1x2x8x256x256.Idx → EReal := m ((c : Thread nD τ).loc main_arg5)
abbrev a6 : S1x2x2048.Idx → EReal := m ((c : Thread nD τ).loc main_arg6)
abbrev a7 : S1x2048.Idx → EReal := m ((c : Thread nD τ).loc main_arg7)
abbrev a8 : S1x2048x2048.Idx → EReal := m ((c : Thread nD τ).loc main_arg8)

/-- The numbers the arguments hold. -/
abbrev args : Args := argsOf (a0 m c) (a1 m c) (a2 m c) (a3 m c) (a4 m c) (a5 m c) (a6 m c) (a7 m c)

/-- The gates' weights, side by side. -/
def gw (g : FVec Ideal S1x2x8x256x256 .f32) : FVec Ideal S8x256x512 .bf16 :=
  have v : FVec Ideal S2x8x256x256 .f32 := shapeCast _ g shapeCasts_S1x2x8x256x256_S2x8x256x256
  truncf .bf16 (concatenate S8x256x512 2
    [⟨S8x256x256, shapeCast _ (extractStridedSlice S1x8x256x256 ![0, 0, 0, 0] v slices_S2x8x256x256_S1x8x256x256_0_0_0_0) shapeCasts_S1x8x256x256_S8x256x256⟩,
     ⟨S8x256x256, shapeCast _ (extractStridedSlice S1x8x256x256 ![1, 0, 0, 0] v slices_S2x8x256x256_S1x8x256x256_1_0_0_0) shapeCasts_S1x8x256x256_S8x256x256⟩]
    concatenates_S8x256x256_S8x256x256_S8x256x512_d2 : FVec Ideal S8x256x512 .f32) bitsLt_bf16_f32

/-- The decay of each channel. -/
def dec (lam : FVec Ideal S1x2048 .f32) : FVec Ideal S1x2048 .f32 :=
  have x : FVec Ideal S2048 .f32 := Host.negf (shapeCast _ lam shapeCasts_S1x2048_S2048 : FVec Ideal S2048 .f32)
  have o : FVec Ideal S2048 .f32 := broadcastInDim S2048 ![] bcast_S_S2048 (constant S_ .f32 0x00000000#32)
  shapeCast _ (mulf (broadcastInDim S2048 ![] bcast_S_S2048 (constant S_ .f32 0xC1000000#32) : FVec Ideal S2048 .f32)
    (select (cmpf .une (subf x o) (subf x o)) (addf x o) (addf (maximumf x o) (Host.log1p (Host.exp (Host.negf (Host.absf (subf x o)))))))) shapeCasts_S2048_S1x2048

/-- The past, below five rows of zeros. -/
def pst (P : FVec Ideal S1x32x3x2048 .f32) : FVec Ideal S256x2048 .f32 :=
  shapeCast _ (pad S32x8x2048 ![0, 5, 0] ![0, 0, 0] ![0, 0, 0] (shapeCast _ P shapeCasts_S1x32x3x2048_S32x3x2048 : FVec Ideal S32x3x2048 .f32)
    (sitofp .f32 (constantI S_ 32 0#32) : FVec Ideal S_ .f32) pads_S32x3x2048_S32x8x2048_000_500_000 h_S_) shapeCasts_S32x8x2048_S256x2048

/-- The states before the first step, for every row. -/
def ini (h : FVec Ideal S1x32x2048 .f32) : FVec Ideal S256x2048 .f32 :=
  shapeCast _ (broadcastInDim S32x8x2048 ![0, 2] bcast_S32x2048_S32x8x2048_0_2 (shapeCast _ h shapeCasts_S1x32x2048_S32x2048)) shapeCasts_S32x8x2048_S256x2048

theorem V_v0 : V (F := Ideal) m c main_v0 = shapeCast _ (a3 m c) shapeCasts_S1x4x2048_S4x2048 := by
  unfold V
  simp only [hostOps0, hostOps0_1, hostOps0_2, hostOps0_3, hostOps0_4, List.flatten_cons, List.flatten_nil, List.append_nil,
    List.cons_append, List.nil_append, StableHlo.TRef.ternary, StableHlo.TRef.unary, StableHlo.TRef.binary, StableHlo.TRef.nullary,
    StableHlo.TRef.toBuf, StableHlo.TRef.ofBuf, cast_eq]
  after_results_simp
  rfl

theorem V_v3 : V (F := Ideal) m c main_v3 = shapeCast _ (a6 m c) shapeCasts_S1x2x2048_S2x2048 := by
  unfold V
  simp only [hostOps0, hostOps0_1, hostOps0_2, hostOps0_3, hostOps0_4, List.flatten_cons, List.flatten_nil, List.append_nil,
    List.cons_append, List.nil_append, StableHlo.TRef.ternary, StableHlo.TRef.unary, StableHlo.TRef.binary, StableHlo.TRef.nullary,
    StableHlo.TRef.toBuf, StableHlo.TRef.ofBuf, cast_eq]
  after_results_simp
  rfl

theorem V_v17 : V (F := Ideal) m c main_v17 = shapeCast _ (shapeCast _ (a4 m c) shapeCasts_S1x2048_S2048) shapeCasts_S2048_S1x2048 := by
  unfold V
  simp only [hostOps0, hostOps0_1, hostOps0_2, hostOps0_3, hostOps0_4, List.flatten_cons, List.flatten_nil, List.append_nil,
    List.cons_append, List.nil_append, StableHlo.TRef.ternary, StableHlo.TRef.unary, StableHlo.TRef.binary, StableHlo.TRef.nullary,
    StableHlo.TRef.toBuf, StableHlo.TRef.ofBuf, cast_eq]
  after_results_simp
  rfl

theorem V_v18 : V (F := Ideal) m c main_v18
    = truncf (F := Ideal) .bf16 (shapeCast _ (a8 m c) shapeCasts_S1x2048x2048_S2048x2048 : FVec Ideal S2048x2048 .f32) bitsLt_bf16_f32 := by
  unfold V
  simp only [hostOps0, hostOps0_1, hostOps0_2, hostOps0_3, hostOps0_4, List.flatten_cons, List.flatten_nil, List.append_nil,
    List.cons_append, List.nil_append, StableHlo.TRef.ternary, StableHlo.TRef.unary, StableHlo.TRef.binary, StableHlo.TRef.nullary,
    StableHlo.TRef.toBuf, StableHlo.TRef.ofBuf, cast_eq]
  after_results_simp
  rfl

theorem V_v11 : V (F := Ideal) m c main_v11 = gw (a5 m c) := by
  unfold V
  simp only [hostOps0, hostOps0_1, hostOps0_2, hostOps0_3, hostOps0_4, List.flatten_cons, List.flatten_nil, List.append_nil,
    List.cons_append, List.nil_append, StableHlo.TRef.ternary, StableHlo.TRef.unary, StableHlo.TRef.binary, StableHlo.TRef.nullary,
    StableHlo.TRef.toBuf, StableHlo.TRef.ofBuf, cast_eq]
  after_results_simp
  rfl

theorem V_v16 : V (F := Ideal) m c main_v16 = dec (a7 m c) := by
  unfold V
  simp only [hostOps0, hostOps0_1, hostOps0_2, hostOps0_3, hostOps0_4, List.flatten_cons, List.flatten_nil, List.append_nil,
    List.cons_append, List.nil_append, StableHlo.TRef.ternary, StableHlo.TRef.unary, StableHlo.TRef.binary, StableHlo.TRef.nullary,
    StableHlo.TRef.toBuf, StableHlo.TRef.ofBuf, cast_eq]
  after_results_simp
  rfl

theorem V_v21 : V (F := Ideal) m c main_v21 = pst (a1 m c) := by
  unfold V
  simp only [hostOps0, hostOps0_1, hostOps0_2, hostOps0_3, hostOps0_4, List.flatten_cons, List.flatten_nil, List.append_nil,
    List.cons_append, List.nil_append, StableHlo.TRef.ternary, StableHlo.TRef.unary, StableHlo.TRef.binary, StableHlo.TRef.nullary,
    StableHlo.TRef.toBuf, StableHlo.TRef.ofBuf, cast_eq]
  after_results_simp
  rfl

theorem V_v24 : V (F := Ideal) m c main_v24 = ini (a2 m c) := by
  unfold V
  simp only [hostOps0, hostOps0_1, hostOps0_2, hostOps0_3, hostOps0_4, List.flatten_cons, List.flatten_nil, List.append_nil,
    List.cons_append, List.nil_append, StableHlo.TRef.ternary, StableHlo.TRef.unary, StableHlo.TRef.binary, StableHlo.TRef.nullary,
    StableHlo.TRef.toBuf, StableHlo.TRef.ofBuf, cast_eq]
  after_results_simp
  rfl

theorem gw0_at (g : S1x2x8x256x256.Idx → EReal) (n : Fin 8) (k j : Fin 256) : (gw g (ix3 n k ⟨j.val, by omega⟩) : EReal) = g (ix5 0 0 n k j) := by
  unfold gw
  pointwise

theorem gw1_at (g : S1x2x8x256x256.Idx → EReal) (n : Fin 8) (k j : Fin 256) :
    (gw g (ix3 n k ⟨256 + j.val, by omega⟩) : EReal) = g (ix5 0 1 n k j) := by
  unfold gw
  pointwise

theorem dec_at (lam : S1x2048.Idx → EReal) (d : Fin 2048) : (dec lam (ix2 0 d) : EReal) = eight * soft (-lam (ix2 0 d)) := by
  unfold dec soft eight
  pointwise
  rw [if_neg (fun h => h rfl)]
  rfl

theorem pst_at (P : S1x32x3x2048.Idx → EReal) (B : Fin 32) (u : Fin 8) (h : 5 ≤ u.val) (d : Fin 2048) :
    (pst P (ix2 (at8 B u) d) : EReal) = P (ix4 0 B ⟨u.val - 5, by omega⟩ d) := by
  have e1 : (8 * B.val + u.val) / 8 = B.val := by omega
  have e2 : (8 * B.val + u.val) % 8 = u.val := by omega
  unfold pst
  pointwise
  simp only [e1, e2]
  rw [dif_pos ⟨B.isLt, h, by omega⟩]

theorem ini_at (h : S1x32x2048.Idx → EReal) (B : Fin 32) (u : Fin 8) (d : Fin 2048) : (ini h (ix2 (at8 B u) d) : EReal) = h (ix3 0 B d) := by
  have e1 : (8 * B.val + u.val) / 8 = B.val := by omega
  unfold ini
  pointwise
  simp only [e1]

theorem index0 : ∀ t : Fin cfg0.N, (cfg0.win 0).index t = ![0, 1] := by decide +kernel
theorem index1 : ∀ t : Fin cfg0.N, (cfg0.win 1).index t = ![0, 2] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, 0, 0] := by decide +kernel
theorem index7 : ∀ t : Fin cfg0.N, (cfg0.win 7).index t = ![0, 0] := by decide +kernel
theorem index8 : ∀ t : Fin cfg0.N, (cfg0.win 8).index t = ![0, 0] := by decide +kernel
theorem index9 : ∀ t : Fin cfg0.N, (cfg0.win 9).index t = ![0, 0] := by decide +kernel
theorem index10 : ∀ t : Fin cfg0.N, (cfg0.win 10).index t = ![0, 0] := by decide +kernel
theorem index11 : ∀ t : Fin cfg0.N, (cfg0.win 11).index t = ![0, 0] := by decide +kernel

/-- The rows the recurrence reads. -/
theorem blk0 (r : Fin 256) (d : Fin 2048) : (X0_0 (F := Ideal) m c t : S256x2048.Idx → EReal) (ix2 r d) = a0 m c (ix2 r ⟨2048 + d.val, by omega⟩) := by
  unfold X0_0 Pipeline.Window.fill
  rw [dif_pos (moved0_0 t _)]
  blk_ext [iblk, V_main_arg0 m c, index0 t]

theorem blk1 (r : Fin 256) (d : Fin 2048) : gr m c t (ix2 r d) = a0 m c (ix2 r ⟨4096 + d.val, by omega⟩) := by
  unfold gr X0_1 Pipeline.Window.fill
  rw [dif_pos (moved0_1 t _)]
  blk_ext [iblk, V_main_arg0 m c, index1 t]

theorem blk2 (r : Fin 256) (d : Fin 2048) : (iblk (F := Ideal) m c 2 t : S256x2048.Idx → EReal) (ix2 r d) = pst (a1 m c) (ix2 r d) := by
  blk_ext [iblk, V_v21 m c, index2 t]

theorem blk3 (r : Fin 256) (d : Fin 2048) : (iblk (F := Ideal) m c 3 t : S256x2048.Idx → EReal) (ix2 r d) = ini (a2 m c) (ix2 r d) := by
  blk_ext [iblk, V_v24 m c, index3 t]

theorem blk4 (k : Fin 4) (d : Fin 2048) : (iblk (F := Ideal) m c 4 t : S4x2048.Idx → EReal) (ix2 k d) = a3 m c (ix3 0 k d) := by
  have e : (shapeCast S4x2048 (a3 m c : FVec Ideal S1x4x2048 .f32) shapeCasts_S1x4x2048_S4x2048 (ix2 k d) : EReal) = a3 m c (ix3 0 k d) := by pointwise
  refine Eq.trans ?_ e
  blk_ext [iblk, V_v0 m c, index4 t]

theorem blk5 (d : Fin 2048) : (iblk (F := Ideal) m c 5 t : S1x2048.Idx → EReal) (ix2 0 d) = a4 m c (ix2 0 d) := by
  have e : (shapeCast S1x2048 (shapeCast S2048 (a4 m c : FVec Ideal S1x2048 .f32) shapeCasts_S1x2048_S2048 : FVec Ideal S2048 .f32)
    shapeCasts_S2048_S1x2048 (ix2 0 d) : EReal) = a4 m c (ix2 0 d) := by pointwise
  refine Eq.trans ?_ e
  blk_ext [iblk, V_v17 m c, index5 t]

theorem blk6 (n : Fin 8) (k : Fin 256) (j : Fin 512) : (iblk (F := Ideal) m c 6 t : S8x256x512.Idx → EReal) (ix3 n k j) = gw (a5 m c) (ix3 n k j) := by
  blk_ext [iblk, V_v11 m c, index6 t]

theorem blk7 (e : Fin 2) (d : Fin 2048) : (iblk (F := Ideal) m c 7 t : S2x2048.Idx → EReal) (ix2 e d) = a6 m c (ix3 0 e d) := by
  have q : (shapeCast S2x2048 (a6 m c : FVec Ideal S1x2x2048 .f32) shapeCasts_S1x2x2048_S2x2048 (ix2 e d) : EReal) = a6 m c (ix3 0 e d) := by pointwise
  refine Eq.trans ?_ q
  blk_ext [iblk, V_v3 m c, index7 t]

theorem blk8 (d : Fin 2048) : (iblk (F := Ideal) m c 8 t : S1x2048.Idx → EReal) (ix2 0 d) = dec (a7 m c) (ix2 0 d) := by
  blk_ext [iblk, V_v16 m c, index8 t]

theorem blk9 (k j : Fin 2048) : wpr m c t (ix2 k j) = a8 m c (ix3 0 k j) := by
  have e : (truncf (F := Ideal) .bf16 (shapeCast S2048x2048 (a8 m c : FVec Ideal S1x2048x2048 .f32) shapeCasts_S1x2048x2048_S2048x2048 : FVec Ideal S2048x2048 .f32)
    bitsLt_bf16_f32 (ix2 k j) : EReal) = a8 m c (ix3 0 k j) := by pointwise
  refine Eq.trans ?_ e
  unfold wpr
  blk_ext [iblk, V_v18 m c, index9 t]

/-- A launch's arrays hold the arguments' numbers. -/
theorem holds : Holds (args m c) (X0_0 m c t) (iblk m c 2 t) (iblk m c 4 t) (iblk m c 5 t) (iblk m c 6 t) (iblk m c 7 t) (iblk m c 8 t) where
  x B u d := blk0 m c t _ _
  st B u h d := (blk2 m c t _ _).trans (pst_at _ B u h d)
  w k d := blk4 m c t k d
  wb d := blk5 m c t d
  g0 n k j := (blk6 m c t n k _).trans (gw0_at _ n k j)
  g1 n k j := (blk6 m c t n k _).trans (gw1_at _ n k j)
  gb e d := blk7 m c t e d
  cc d := (blk8 m c t d).trans (dec_at _ d)

theorem h_at (B : Fin 32) (u : Fin 8) (n : Fin 8) (j : Fin 256) :
    ((outsAt0 (F := Ideal) m c t).2 (ix2 (at8 B u) (ch n j)) : EReal) = StepSpec.h (args m c) B u.val n j :=
  state_at m c t (args m c) (holds m c t) (fun B u d => (blk3 m c t _ _).trans (ini_at _ B u d)) B u n j

end Cert.Proof.Step

end
-- ==== Proof.Step.Array.lean ====
/- The two arrays the recurrence's call on the sample batch leaves: what its one point wrote. -/
module

public import proofs.«01_k».proof.Proof.Step.Host

@[expose] public section

set_option maxRecDepth 16384

noncomputable section

open scoped Classical

namespace Cert.Proof.Step

open Cert.StepIdeal Cert.StepIdeal.Gen
open Cert.Proof.Scan Cert.Proof.StepSpec
open Idealize.ShloMosaic Idealize.ShloMosaic.TcCoe

variable (m : (ℓ : Loc nD τ sig) → Buf (Elt Ideal) ℓ) (c : Dev nD)

/-- The one point of the grid. -/
def t0 : Fin cfg0.N := ⟨0, by decide +kernel⟩

theorem only : ∀ t : Fin cfg0.N, t = t0 := by decide +kernel

theorem arr_y : (dats (F := Ideal) m 0 c).arrAt 10 (cfgs 0).N = ((outsAt0 (F := Ideal) m c t0).1 : S256x2048.Idx → EReal) := by
  refine (dats (F := Ideal) m 0 c).arrAt_eq_of_covers 10 _ (by decide +kernel) fun t hf y => ?_
  obtain rfl := only t
  have y0 : (y 0).val < 256 := (y 0).isLt
  have y1 : (y 1).val < 2048 := (y 1).isLt
  have e : (((cfgs 0).win 10).blk t0).view.emb y = (ix2 ⟨(y 0).val, y0⟩ ⟨(y 1).val, y1⟩ : S256x2048.Idx) := by
    blk_ext [index10 t0]
  have e2 : y = (ix2 ⟨(y 0).val, y0⟩ ⟨(y 1).val, y1⟩ : S256x2048.Idx) := eq_ix2 y
  rw [e, ← e2, after0_10]
  rfl

theorem arr_h : (dats (F := Ideal) m 0 c).arrAt 11 (cfgs 0).N = ((outsAt0 (F := Ideal) m c t0).2 : S256x2048.Idx → EReal) := by
  refine (dats (F := Ideal) m 0 c).arrAt_eq_of_covers 11 _ (by decide +kernel) fun t hf y => ?_
  obtain rfl := only t
  have y0 : (y 0).val < 256 := (y 0).isLt
  have y1 : (y 1).val < 2048 := (y 1).isLt
  have e : (((cfgs 0).win 11).blk t0).view.emb y = (ix2 ⟨(y 0).val, y0⟩ ⟨(y 1).val, y1⟩ : S256x2048.Idx) := by
    blk_ext [index11 t0]
  have e2 : y = (ix2 ⟨(y 0).val, y0⟩ ⟨(y 1).val, y1⟩ : S256x2048.Idx) := eq_ix2 y
  rw [e, ← e2, after0_11]
  rfl

end Cert.Proof.Step

end
-- ==== Proof.Step.Ref.lean ====
/- The reference's recurrence of the sample batch as a chain of named arrays, each read at an index. -/
module

public import proofs.«01_k».proof.Proof.Gen.StepRefIdeal.Run
public import proofs.«01_k».proof.Proof.Step.Spec
public import Idealize.ShloMosaic.PureOps.Ideal
public import Idealize.ShloMosaic.Lib.Pointwise

@[expose] public section

set_option maxRecDepth 16384

noncomputable section

open scoped Classical

namespace Cert.Proof.StepRef

open Cert.StepRefIdeal Cert.StepRefIdeal.Gen Cert.StepRefIdeal.Value
open Cert.Proof.Scan Cert.Proof.StepSpec
open Idealize.ShloMosaic Idealize.ShloMosaic.TcCoe

/-- The projected rows. -/
def rz (Z : FVec Ideal S256x15872 .f32) : FVec Ideal S32x8x15872 .f32 := shapeCast _ Z shapeCasts_S256x15872_S32x8x15872

/-- The past and the rows. -/
def rxp (Z : FVec Ideal S256x15872 .f32) (P : FVec Ideal S1x32x3x2048 .f32) : FVec Ideal S32x11x2048 .f32 :=
  concatenate S32x11x2048 1 [⟨S32x3x2048, shapeCast _ P shapeCasts_S1x32x3x2048_S32x3x2048⟩,
    ⟨S32x8x2048, extractStridedSlice S32x8x2048 ![0, 0, 2048] (rz Z) slices_S32x8x15872_S32x8x2048_0_0_2048⟩]
    concatenates_S32x3x2048_S32x8x2048_S32x11x2048_d1

/-- One number per channel, for every row. -/
def rbc (v : FVec Ideal S2048 .f32) : FVec Ideal S32x8x2048 .f32 :=
  broadcastInDim S32x8x2048 ![0, 1, 2] bcast_S1x1x2048_S32x8x2048_0_1_2 (broadcastInDim S1x1x2048 ![2] bcast_S2048_S1x1x2048_2 v)

/-- The convolved rows. -/
def rxc (X : FVec Ideal S32x11x2048 .f32) (w : FVec Ideal S1x4x2048 .f32) (wb : FVec Ideal S1x2048 .f32) : FVec Ideal S32x8x2048 .f32 :=
  have v : FVec Ideal S4x2048 .f32 := shapeCast _ w shapeCasts_S1x4x2048_S4x2048
  addf (addf (addf (addf (rbc (shapeCast _ wb shapeCasts_S1x2048_S2048))
    (mulf (extractStridedSlice S32x8x2048 ![0, 0, 0] X slices_S32x11x2048_S32x8x2048_0_0_0)
      (rbc (shapeCast _ (extractStridedSlice S1x2048 ![0, 0] v slices_S4x2048_S1x2048_0_0) shapeCasts_S1x2048_S2048))))
    (mulf (extractStridedSlice S32x8x2048 ![0, 1, 0] X slices_S32x11x2048_S32x8x2048_0_1_0)
      (rbc (shapeCast _ (extractStridedSlice S1x2048 ![1, 0] v slices_S4x2048_S1x2048_1_0) shapeCasts_S1x2048_S2048))))
    (mulf (extractStridedSlice S32x8x2048 ![0, 2, 0] X slices_S32x11x2048_S32x8x2048_0_2_0)
      (rbc (shapeCast _ (extractStridedSlice S1x2048 ![2, 0] v slices_S4x2048_S1x2048_2_0) shapeCasts_S1x2048_S2048))))
    (mulf (extractStridedSlice S32x8x2048 ![0, 3, 0] X slices_S32x11x2048_S32x8x2048_0_3_0)
      (rbc (shapeCast _ (extractStridedSlice S1x2048 ![3, 0] v slices_S4x2048_S1x2048_3_0) shapeCasts_S1x2048_S2048)))

/-- The gates' arguments. -/
def rg (C : FVec Ideal S32x8x2048 .f32) (g : FVec Ideal S1x2x8x256x256 .f32) (gb : FVec Ideal S1x2x2048 .f32) : FVec Ideal S2x32x8x2048 .f32 :=
  addf (shapeCast _ (transpose S2x32x8x8x256 [1, 3, 4, 0, 2]
      (Host.dotGeneral dot_S2x8x256x256_S32x8x8x256_S8x2x256x32x8_2_3_03_01_1_2 none
        (shapeCast _ g shapeCasts_S1x2x8x256x256_S2x8x256x256 : FVec Ideal S2x8x256x256 .f32) (shapeCast _ C shapeCasts_S32x8x2048_S32x8x8x256 : FVec Ideal S32x8x8x256 .f32))
      transposes_S8x2x256x32x8_S2x32x8x8x256_1_3_4_0_2) shapeCasts_S2x32x8x8x256_S2x32x8x2048)
    (broadcastInDim S2x32x8x2048 ![0, 1, 2, 3] bcast_S2x1x1x2048_S2x32x8x2048_0_1_2_3
      (broadcastInDim S2x1x1x2048 ![0, 3] bcast_S2x2048_S2x1x1x2048_0_3 (shapeCast _ gb shapeCasts_S1x2x2048_S2x2048)))

/-- One, everywhere. -/
def rone : FVec Ideal S32x8x2048 .f32 := broadcastInDim S32x8x2048 ![] bcast_S_S32x8x2048 (constant S_ .f32 0x3F800000#32)

/-- The logistic function, as the reference spells it. -/
def rsig (x : FVec Ideal S32x8x2048 .f32) : FVec Ideal S32x8x2048 .f32 := Host.divf rone (addf rone (Host.exp (Host.negf x)))

/-- The two gates. -/
def rr (G : FVec Ideal S2x32x8x2048 .f32) : FVec Ideal S32x8x2048 .f32 :=
  rsig (shapeCast _ (extractStridedSlice S1x32x8x2048 ![0, 0, 0, 0] G slices_S2x32x8x2048_S1x32x8x2048_0_0_0_0) shapeCasts_S1x32x8x2048_S32x8x2048)

def ri (G : FVec Ideal S2x32x8x2048 .f32) : FVec Ideal S32x8x2048 .f32 :=
  rsig (shapeCast _ (extractStridedSlice S1x32x8x2048 ![1, 0, 0, 0] G slices_S2x32x8x2048_S1x32x8x2048_1_0_0_0) shapeCasts_S1x32x8x2048_S32x8x2048)

/-- The decay of each channel. -/
def rsp (lam : FVec Ideal S1x2048 .f32) : FVec Ideal S2048 .f32 :=
  have x : FVec Ideal S2048 .f32 := Host.negf (shapeCast _ lam shapeCasts_S1x2048_S2048 : FVec Ideal S2048 .f32)
  have o : FVec Ideal S2048 .f32 := broadcastInDim S2048 ![] bcast_S_S2048 (constant S_ .f32 0x00000000#32)
  select (cmpf .une (subf x o) (subf x o)) (addf x o) (addf (maximumf x o) (Host.log1p (Host.exp (Host.negf (Host.absf (subf x o))))))

/-- The factors' logarithms. -/
def rla (r : FVec Ideal S32x8x2048 .f32) (sp : FVec Ideal S2048 .f32) : FVec Ideal S32x8x2048 .f32 :=
  mulf (mulf (broadcastInDim S32x8x2048 ![] bcast_S_S32x8x2048 (constant S_ .f32 0xC1000000#32)) r) (rbc sp)

/-- The terms. -/
def rb (la i xc : FVec Ideal S32x8x2048 .f32) : FVec Ideal S32x8x2048 .f32 :=
  mulf (Host.sqrt (Host.negf (Host.expm1 (mulf (broadcastInDim S32x8x2048 ![] bcast_S_S32x8x2048 (constant S_ .f32 0x40000000#32)) la)))) (mulf i xc)

section
variable (a b : FVec Ideal S32x8x2048 .f32)

/-- A step's rows. -/
def s0 (a : FVec Ideal S32x8x2048 .f32) : FVec Ideal S32x2048 .f32 := shapeCast _ (extractStridedSlice S32x1x2048 ![0, 0, 0] a slices_S32x8x2048_S32x1x2048_0_0_0) shapeCasts_S32x1x2048_S32x2048
def s1 (a : FVec Ideal S32x8x2048 .f32) : FVec Ideal S32x2048 .f32 := shapeCast _ (extractStridedSlice S32x1x2048 ![0, 1, 0] a slices_S32x8x2048_S32x1x2048_0_1_0) shapeCasts_S32x1x2048_S32x2048
def s2 (a : FVec Ideal S32x8x2048 .f32) : FVec Ideal S32x2048 .f32 := shapeCast _ (extractStridedSlice S32x1x2048 ![0, 2, 0] a slices_S32x8x2048_S32x1x2048_0_2_0) shapeCasts_S32x1x2048_S32x2048
def s3 (a : FVec Ideal S32x8x2048 .f32) : FVec Ideal S32x2048 .f32 := shapeCast _ (extractStridedSlice S32x1x2048 ![0, 3, 0] a slices_S32x8x2048_S32x1x2048_0_3_0) shapeCasts_S32x1x2048_S32x2048
def s4 (a : FVec Ideal S32x8x2048 .f32) : FVec Ideal S32x2048 .f32 := shapeCast _ (extractStridedSlice S32x1x2048 ![0, 4, 0] a slices_S32x8x2048_S32x1x2048_0_4_0) shapeCasts_S32x1x2048_S32x2048
def s5 (a : FVec Ideal S32x8x2048 .f32) : FVec Ideal S32x2048 .f32 := shapeCast _ (extractStridedSlice S32x1x2048 ![0, 5, 0] a slices_S32x8x2048_S32x1x2048_0_5_0) shapeCasts_S32x1x2048_S32x2048
def s6 (a : FVec Ideal S32x8x2048 .f32) : FVec Ideal S32x2048 .f32 := shapeCast _ (extractStridedSlice S32x1x2048 ![0, 6, 0] a slices_S32x8x2048_S32x1x2048_0_6_0) shapeCasts_S32x1x2048_S32x2048
def s7 (a : FVec Ideal S32x8x2048 .f32) : FVec Ideal S32x2048 .f32 := shapeCast _ (extractStridedSlice S32x1x2048 ![0, 7, 0] a slices_S32x8x2048_S32x1x2048_0_7_0) shapeCasts_S32x1x2048_S32x2048

/-- The states after each step. -/
def h0 (h : FVec Ideal S1x32x2048 .f32) : FVec Ideal S32x2048 .f32 := addf (mulf (s0 a) (shapeCast _ h shapeCasts_S1x32x2048_S32x2048)) (s0 b)
def h1 (h : FVec Ideal S1x32x2048 .f32) : FVec Ideal S32x2048 .f32 := addf (mulf (s1 a) (h0 a b h)) (s1 b)
def h2 (h : FVec Ideal S1x32x2048 .f32) : FVec Ideal S32x2048 .f32 := addf (mulf (s2 a) (h1 a b h)) (s2 b)
def h3 (h : FVec Ideal S1x32x2048 .f32) : FVec Ideal S32x2048 .f32 := addf (mulf (s3 a) (h2 a b h)) (s3 b)
def h4 (h : FVec Ideal S1x32x2048 .f32) : FVec Ideal S32x2048 .f32 := addf (mulf (s4 a) (h3 a b h)) (s4 b)
def h5 (h : FVec Ideal S1x32x2048 .f32) : FVec Ideal S32x2048 .f32 := addf (mulf (s5 a) (h4 a b h)) (s5 b)
def h6 (h : FVec Ideal S1x32x2048 .f32) : FVec Ideal S32x2048 .f32 := addf (mulf (s6 a) (h5 a b h)) (s6 b)
def h7 (h : FVec Ideal S1x32x2048 .f32) : FVec Ideal S32x2048 .f32 := addf (mulf (s7 a) (h6 a b h)) (s7 b)

/-- The states side by side. -/
def rh (h : FVec Ideal S1x32x2048 .f32) : FVec Ideal S32x8x2048 .f32 :=
  concatenate S32x8x2048 1
    [⟨S32x1x2048, broadcastInDim S32x1x2048 ![0, 2] bcast_S32x2048_S32x1x2048_0_2 (h0 a b h)⟩,
     ⟨S32x1x2048, broadcastInDim S32x1x2048 ![0, 2] bcast_S32x2048_S32x1x2048_0_2 (h1 a b h)⟩,
     ⟨S32x1x2048, broadcastInDim S32x1x2048 ![0, 2] bcast_S32x2048_S32x1x2048_0_2 (h2 a b h)⟩,
     ⟨S32x1x2048, broadcastInDim S32x1x2048 ![0, 2] bcast_S32x2048_S32x1x2048_0_2 (h3 a b h)⟩,
     ⟨S32x1x2048, broadcastInDim S32x1x2048 ![0, 2] bcast_S32x2048_S32x1x2048_0_2 (h4 a b h)⟩,
     ⟨S32x1x2048, broadcastInDim S32x1x2048 ![0, 2] bcast_S32x2048_S32x1x2048_0_2 (h5 a b h)⟩,
     ⟨S32x1x2048, broadcastInDim S32x1x2048 ![0, 2] bcast_S32x2048_S32x1x2048_0_2 (h6 a b h)⟩,
     ⟨S32x1x2048, broadcastInDim S32x1x2048 ![0, 2] bcast_S32x2048_S32x1x2048_0_2 (h7 a b h)⟩]
    concatenates_S32x1x2048_S32x1x2048_S32x1x2048_S32x1x2048_S32x1x2048_S32x1x2048_S32x1x2048_S32x1x2048_S32x8x2048_d1
end

/-- The products. -/
def ry (H : FVec Ideal S32x8x2048 .f32) (Z : FVec Ideal S256x15872 .f32) (w : FVec Ideal S1x2048x2048 .f32) : FVec Ideal S256x2048 .f32 :=
  have z : FVec Ideal S32x8x2048 .f32 := extractStridedSlice S32x8x2048 ![0, 0, 4096] (rz Z) slices_S32x8x15872_S32x8x2048_0_0_4096
  shapeCast _ (Host.dotGeneral dot_S32x8x2048_S2048x2048_S32x8x2048_2_0_01_1_n_n none (mulf H (mulf z (rsig z)))
    (shapeCast _ w shapeCasts_S1x2048x2048_S2048x2048 : FVec Ideal S2048x2048 .f32)) shapeCasts_S32x8x2048_S256x2048

/-- The states, from the arguments. -/
def hall (Z : FVec Ideal S256x15872 .f32) (P : FVec Ideal S1x32x3x2048 .f32) (h : FVec Ideal S1x32x2048 .f32) (w : FVec Ideal S1x4x2048 .f32)
    (wb : FVec Ideal S1x2048 .f32) (g : FVec Ideal S1x2x8x256x256 .f32) (gb : FVec Ideal S1x2x2048 .f32) (lam : FVec Ideal S1x2048 .f32) :
    FVec Ideal S32x8x2048 .f32 :=
  have C := rxc (rxp Z P) w wb
  have G := rg C g gb
  have L := rla (rr G) (rsp lam)
  rh (Host.exp L) (rb L (ri G) C) h

section
variable (Z : S256x15872.Idx → EReal) (P : S1x32x3x2048.Idx → EReal) (h : S1x32x2048.Idx → EReal) (w : S1x4x2048.Idx → EReal)
  (wb : S1x2048.Idx → EReal) (g : S1x2x8x256x256.Idx → EReal) (gb : S1x2x2048.Idx → EReal) (lam : S1x2048.Idx → EReal)
  (A : Args) (hA : A = argsOf Z P h w wb g gb lam)

include hA in
theorem rxp_at (B : Fin 32) (q : Fin 11) (d : Fin 2048) : (rxp Z P (ix3 B q d) : EReal) = xp A B d q.val := by
  subst hA
  unfold rxp rz xp argsOf
  pointwise
  by_cases hq : q.val < 3
  · rw [dif_pos hq, dif_pos hq]
  · rw [dif_neg hq, dif_neg hq, dif_pos (by omega)]
    exact congrArg (fun r : Fin 256 => Z (ix2 r ⟨2048 + d.val, by omega⟩)) (Fin.ext (congrArg (· + (q.val - 3)) (Nat.mul_comm B.val 8)))

include hA in
theorem rxc_at (B : Fin 32) (t : Fin 8) (d : Fin 2048) : (rxc (rxp Z P) w wb (ix3 B t d) : EReal) = xc A B t.val d := by
  have e := rxp_at Z P h w wb g gb lam A hA
  subst hA
  unfold rxc rbc xc
  pointwise
  simp only [e, Nat.add_comm _ t.val]
  rfl

include hA in
theorem rg_at (C : S32x8x2048.Idx → EReal) (hC : ∀ B t d, C (ix3 B t d) = xc A B (Fin.val t) d) (e : Fin 2) (B : Fin 32) (t : Fin 8) (n : Fin 8)
    (j : Fin 256) : (rg C g gb (ix4 e B t (ch n j)) : EReal) = gate A B e t.val n j := by
  subst hA
  have e3 : (256 * n.val + j.val) / 256 = n.val := by omega
  have e4 : (256 * n.val + j.val) % 256 = j.val := by omega
  unfold rg gate
  pointwise
  simp only [e3, e4, hC]
  refine congrArg₂ (· + ·) (Finset.sum_congr rfl fun k _ => ?_) rfl
  rw [mul_comm]
  exact congrArg (· * _) (congrArg (xc _ B t.val) (Fin.ext (by simp only; omega)))

end

theorem rr_at (G : S2x32x8x2048.Idx → EReal) (B : Fin 32) (t : Fin 8) (d : Fin 2048) :
    (rr G (ix3 B t d) : EReal) = Ideal.logistic (G (ix4 0 B t d)) := by
  unfold rr rsig rone
  pointwise
  rfl

theorem ri_at (G : S2x32x8x2048.Idx → EReal) (B : Fin 32) (t : Fin 8) (d : Fin 2048) :
    (ri G (ix3 B t d) : EReal) = Ideal.logistic (G (ix4 1 B t d)) := by
  unfold ri rsig rone
  pointwise
  rfl

theorem rsp_at (lam : S1x2048.Idx → EReal) (d : Fin 2048) : (rsp lam (ix1 d) : EReal) = soft (-lam (ix2 0 d)) := by
  unfold rsp soft
  pointwise
  rw [if_neg (fun h => h rfl)]
  rfl

theorem rla_at (r : S32x8x2048.Idx → EReal) (sp : S2048.Idx → EReal) (B : Fin 32) (t : Fin 8) (d : Fin 2048) :
    (rla r sp (ix3 B t d) : EReal) = eight * r (ix3 B t d) * sp (ix1 d) := by
  unfold rla rbc eight
  pointwise

theorem rb_at (la i xc : S32x8x2048.Idx → EReal) (B : Fin 32) (t : Fin 8) (d : Fin 2048) :
    (rb la i xc (ix3 B t d) : EReal) = Ideal.sqrt (-(Ideal.exp (two * la (ix3 B t d)) - 1)) * (i (ix3 B t d) * xc (ix3 B t d)) := by
  unfold rb two
  pointwise

/-- The steps, one after another. -/
theorem rh_at (a b : S32x8x2048.Idx → EReal) (h : S1x32x2048.Idx → EReal) (B : Fin 32) (d : Fin 2048) (α β : ℕ → EReal)
    (ha : ∀ t : Fin 8, a (ix3 B t d) = α t.val) (hb : ∀ t : Fin 8, b (ix3 B t d) = β t.val) (t : Fin 8) :
    (rh a b h (ix3 B t d) : EReal) = run α β (h (ix3 0 B d)) t.val := by
  have e0 : (h0 a b h (ix2 B d) : EReal) = run α β (h (ix3 0 B d)) 0 := by
    unfold h0 s0; pointwise; rw [ha, hb]; rfl
  have e1 : (h1 a b h (ix2 B d) : EReal) = run α β (h (ix3 0 B d)) 1 := by
    unfold h1 s1; pointwise; rw [ha, hb, e0]; rfl
  have e2 : (h2 a b h (ix2 B d) : EReal) = run α β (h (ix3 0 B d)) 2 := by
    unfold h2 s2; pointwise; rw [ha, hb, e1]; rfl
  have e3 : (h3 a b h (ix2 B d) : EReal) = run α β (h (ix3 0 B d)) 3 := by
    unfold h3 s3; pointwise; rw [ha, hb, e2]; rfl
  have e4 : (h4 a b h (ix2 B d) : EReal) = run α β (h (ix3 0 B d)) 4 := by
    unfold h4 s4; pointwise; rw [ha, hb, e3]; rfl
  have e5 : (h5 a b h (ix2 B d) : EReal) = run α β (h (ix3 0 B d)) 5 := by
    unfold h5 s5; pointwise; rw [ha, hb, e4]; rfl
  have e6 : (h6 a b h (ix2 B d) : EReal) = run α β (h (ix3 0 B d)) 6 := by
    unfold h6 s6; pointwise; rw [ha, hb, e5]; rfl
  have e7 : (h7 a b h (ix2 B d) : EReal) = run α β (h (ix3 0 B d)) 7 := by
    unfold h7 s7; pointwise; rw [ha, hb, e6]; rfl
  unfold rh
  pointwise
  simp only [e0, e1, e2, e3, e4, e5, e6, e7]
  obtain ⟨t, ht⟩ := t
  interval_cases t <;> simp

section
variable (Z : S256x15872.Idx → EReal) (P : S1x32x3x2048.Idx → EReal) (h : S1x32x2048.Idx → EReal) (w : S1x4x2048.Idx → EReal)
  (wb : S1x2048.Idx → EReal) (g : S1x2x8x256x256.Idx → EReal) (gb : S1x2x2048.Idx → EReal) (lam : S1x2048.Idx → EReal)
  (A : Args) (hA : A = argsOf Z P h w wb g gb lam)

include hA in
/-- The states. -/
theorem hall_at (B : Fin 32) (t : Fin 8) (n : Fin 8) (j : Fin 256) :
    (hall Z P h w wb g gb lam (ix3 B t (ch n j)) : EReal) = StepSpec.h A B t.val n j := by
  have hx := rxc_at Z P h w wb g gb lam A hA
  have hg := rg_at Z P h w wb g gb lam A hA _ hx
  have hl : ∀ t : Fin 8, (rla (rr (rg (rxc (rxp Z P) w wb) g gb)) (rsp lam) (ix3 B t (ch n j)) : EReal) = la A B t.val n j := fun t => by
    rw [rla_at, rr_at, hg, rsp_at, mul_right_comm]
    subst hA
    rfl
  have e0 : h (ix3 0 B (ch n j)) = A.h0 B (ch n j) := by subst hA; rfl
  unfold hall
  refine (rh_at _ _ h B (ch n j) (StepSpec.fac A B n j) (StepSpec.term A B n j) (fun u => ?_) (fun u => ?_) t).trans ?_
  · exact congrArg Ideal.exp (hl u)
  · rw [rb_at, hl, ri_at, hg, hx]
    rfl
  · rw [e0]
    rfl

end

/-- The products. -/
theorem ry_at (H : S32x8x2048.Idx → EReal) (Z : S256x15872.Idx → EReal) (w : S1x2048x2048.Idx → EReal) (B : Fin 32) (t : Fin 8) (j : Fin 2048) :
    (ry H Z w (ix2 (rw8 B t) j) : EReal) = ∑ k : Fin 2048, H (ix3 B t k)
      * (Z (ix2 (rw8 B t) ⟨4096 + k.val, by omega⟩) * Ideal.logistic (Z (ix2 (rw8 B t) ⟨4096 + k.val, by omega⟩))) * w (ix3 0 k j) := by
  have e1 : (8 * B.val + t.val) / 8 = B.val := by omega
  have e2 : (8 * B.val + t.val) % 8 = t.val := by omega
  unfold ry rz rsig rone
  pointwise
  simp only [e1, e2]
  have er : ∀ q : 8 * B.val + t.val < 256, (⟨8 * B.val + t.val, q⟩ : Fin 256) = rw8 B t := fun _ => rfl
  simp only [Nat.mul_comm B.val 8]
  rfl

theorem rs_at (H : S32x8x2048.Idx → EReal) (B : Fin 32) (t : Fin 8) (j : Fin 2048) :
    (shapeCast S256x2048 (H : FVec Ideal S32x8x2048 .f32) shapeCasts_S32x8x2048_S256x2048 (ix2 (rw8 B t) j) : EReal) = H (ix3 B t j) := by
  have e1 : (8 * B.val + t.val) / 8 = B.val := by omega
  have e2 : (8 * B.val + t.val) % 8 = t.val := by omega
  pointwise
  simp only [e1, e2]

end Cert.Proof.StepRef

end
-- ==== Proof.Step.Algebraic.lean ====
/- The recurrence's results on the sample batch are the reference's, and the frames of its three programs. -/
module

public import proofs.«01_k».proof.Defs
public import proofs.«01_k».proof.Proof.Step.Array
public import proofs.«01_k».proof.Proof.Step.Ref
public import proofs.«01_k».proof.Proof.Gen.Step.Frame
public import proofs.«01_k».proof.Proof.Gen.StepIdeal.Value
public import Idealize.ShloMosaic.Lib.Quiescent
public import Idealize.ShloMosaic.Adequacy
public import Idealize.ShloMosaic.Init

@[expose] public section

set_option maxRecDepth 16384

noncomputable section

open scoped Classical

namespace Cert.Proof

open Idealize.ShloMosaic Idealize.SL.Sem
open Cert.Proof.StepSpec

theorem frame_step : Cert.quiescent_Step := fun m ρ _ => Cert.Step.Gen.frame m ρ

theorem frame_stepIdeal : Cert.quiescent_StepIdeal := fun m ρ _ => Cert.StepIdeal.Gen.frame m ρ

theorem frame_stepRef : Cert.quiescent_StepRefIdeal := fun m ρ _ =>
  (θ_run Cert.StepRefIdeal.defs _ _).mono (fun r h => ⟨fun c => (h c).2.2,
      Idealize.ShloMosaic.sem_eq_zero_of_no_sems (by decide) r.2⟩)
    (Cert.StepRefIdeal.Value.run (F := Ideal) m ρ)

/-- The reference's states, of a launch's arguments. -/
def refH (m : (ℓ : Loc Cert.StepRefIdeal.nD Cert.StepRefIdeal.τ Cert.StepRefIdeal.sig) → Buf (Elt Ideal) ℓ) (c : Dev Cert.StepRefIdeal.nD) :
    Cert.StepRefIdeal.S32x8x2048.Idx → EReal :=
  StepRef.hall (m ((c.tc : Thread Cert.StepRefIdeal.nD Cert.StepRefIdeal.τ).loc Cert.StepRefIdeal.main_arg0))
      (m ((c.tc : Thread Cert.StepRefIdeal.nD Cert.StepRefIdeal.τ).loc Cert.StepRefIdeal.main_arg1))
      (m ((c.tc : Thread Cert.StepRefIdeal.nD Cert.StepRefIdeal.τ).loc Cert.StepRefIdeal.main_arg2))
      (m ((c.tc : Thread Cert.StepRefIdeal.nD Cert.StepRefIdeal.τ).loc Cert.StepRefIdeal.main_arg3))
      (m ((c.tc : Thread Cert.StepRefIdeal.nD Cert.StepRefIdeal.τ).loc Cert.StepRefIdeal.main_arg4))
      (m ((c.tc : Thread Cert.StepRefIdeal.nD Cert.StepRefIdeal.τ).loc Cert.StepRefIdeal.main_arg5))
      (m ((c.tc : Thread Cert.StepRefIdeal.nD Cert.StepRefIdeal.τ).loc Cert.StepRefIdeal.main_arg6))
      (m ((c.tc : Thread Cert.StepRefIdeal.nD Cert.StepRefIdeal.τ).loc Cert.StepRefIdeal.main_arg7))

theorem refH_eq (m : (ℓ : Loc Cert.StepRefIdeal.nD Cert.StepRefIdeal.τ Cert.StepRefIdeal.sig) → Buf (Elt Ideal) ℓ) (c : Dev Cert.StepRefIdeal.nD) :
    Cert.StepRefIdeal.Value.res_main_v134 (F := Ideal) (StableHlo.launchContents m c) = refH m c := rfl

section
variable (m : (ℓ : Loc Cert.StepIdeal.nD Cert.StepIdeal.τ Cert.StepIdeal.sig) → Buf (Elt Ideal) ℓ) (c : Dev Cert.StepIdeal.nD)

/-- A row is a step of a sequence. -/
theorem row8 (r : Fin 256) : r = rw8 ⟨r.val / 8, by omega⟩ ⟨r.val % 8, by omega⟩ := Fin.ext (by show r.val = 8 * (r.val / 8) + r.val % 8; omega)

/-- A channel is one of a head's. -/
theorem chan (d : Fin 2048) : d = ch ⟨d.val / 256, by omega⟩ ⟨d.val % 256, by omega⟩ :=
  Fin.ext (by show d.val = 256 * (d.val / 256) + d.val % 256; omega)

/-- The state the kernel leaves is the reference's of the same arguments. -/
theorem state_eq (B : Fin 32) (u : Fin 8) (d : Fin 2048) :
    Step.hst m c Step.t0 (ix2 (rw8 B u) d) = StepRef.hall (Step.a0 m c) (Step.a1 m c) (Step.a2 m c) (Step.a3 m c) (Step.a4 m c) (Step.a5 m c) (Step.a6 m c) (Step.a7 m c) (ix3 B u d) := by
  rw [chan d]
  exact (Step.h_at m c Step.t0 B u _ _).trans (StepRef.hall_at _ _ _ _ _ _ _ _ (Step.args m c) rfl B u _ _).symm

theorem step_h : (Cert.StepIdeal.Gen.dats (F := Ideal) m 0 c).arrAt 11 (Cert.StepIdeal.cfgs 0).N
      = (shapeCast Cert.StepRefIdeal.S256x2048 (StepRef.hall (Step.a0 m c) (Step.a1 m c) (Step.a2 m c) (Step.a3 m c) (Step.a4 m c) (Step.a5 m c) (Step.a6 m c) (Step.a7 m c) : FVec Ideal Cert.StepRefIdeal.S32x8x2048 .f32)
          Cert.StepRefIdeal.Facts₀.shapeCasts_S32x8x2048_S256x2048 : Cert.StepIdeal.S256x2048.Idx → EReal) := by
  refine (Step.arr_h m c).trans ?_
  funext y
  have e : y = (ix2 (⟨(y 0).val, (y 0).isLt⟩ : Fin 256) (⟨(y 1).val, (y 1).isLt⟩ : Fin 2048) : Cert.StepIdeal.S256x2048.Idx) := eq_ix2 y
  rw [e, row8 ⟨(y 0).val, (y 0).isLt⟩]
  exact (state_eq m c _ _ _).trans (StepRef.rs_at _ _ _ _).symm

theorem step_y : (Cert.StepIdeal.Gen.dats (F := Ideal) m 0 c).arrAt 10 (Cert.StepIdeal.cfgs 0).N
      = (StepRef.ry (StepRef.hall (Step.a0 m c) (Step.a1 m c) (Step.a2 m c) (Step.a3 m c) (Step.a4 m c) (Step.a5 m c) (Step.a6 m c) (Step.a7 m c)) (Step.a0 m c) (Step.a8 m c) : Cert.StepIdeal.S256x2048.Idx → EReal) := by
  refine (Step.arr_y m c).trans ?_
  funext y
  have e : y = (ix2 (⟨(y 0).val, (y 0).isLt⟩ : Fin 256) (⟨(y 1).val, (y 1).isLt⟩ : Fin 2048) : Cert.StepIdeal.S256x2048.Idx) := eq_ix2 y
  rw [e, row8 ⟨(y 0).val, (y 0).isLt⟩]
  refine (Step.prod_at m c Step.t0 _ _).trans (Eq.trans ?_ (StepRef.ry_at _ _ _ _ _ _).symm)
  refine Finset.sum_congr rfl fun k _ => ?_
  rw [state_eq, Step.blk1, Step.blk9]

end

theorem step_equal : Cert.algebraic_StepIdeal_StepRefIdeal := by
  intro m g m' g' hP hagree
  refine ⟨fun c => (Cert.StepIdeal.Gen.dats (F := Ideal) m 0 c).arrAt 10 (Cert.StepIdeal.cfgs 0).N,
    fun c => (Cert.StepIdeal.Gen.dats (F := Ideal) m 0 c).arrAt 11 (Cert.StepIdeal.cfgs 0).N, ?_, ?_⟩
  · exact Cert.StepIdeal.Value.run_blocks (F := Ideal) m g
  · refine (θ_run _ _ _).mono (fun _ h c => ⟨(h c).1.trans ?_, (h c).2.1.trans ?_, (h c).2.2⟩) (Cert.StepRefIdeal.Value.run (F := Ideal) m' g')
    · refine Eq.trans (b := StepRef.ry (refH m' c) (m' ((c.tc : Thread Cert.StepRefIdeal.nD Cert.StepRefIdeal.τ).loc Cert.StepRefIdeal.main_arg0)) (m' ((c.tc : Thread Cert.StepRefIdeal.nD Cert.StepRefIdeal.τ).loc Cert.StepRefIdeal.main_arg8))) rfl ?_
      unfold refH
      obtain ⟨h0, h1, h2, h3, h4, h5, h6, h7, h8⟩ := hagree c
      rw [h0, h1, h2, h3, h4, h5, h6, h7, h8]
      exact (step_y m c).symm
    · rw [refH_eq]
      unfold refH
      obtain ⟨h0, h1, h2, h3, h4, h5, h6, h7, h8⟩ := hagree c
      rw [h0, h1, h2, h3, h4, h5, h6, h7]
      exact (step_h m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sound_selection
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Embed
public import proofs.«01_k».proof.Proof.Gen.Embed.Frame
public import proofs.«01_k».proof.Proof.Gen.EmbedIdeal
public import proofs.«01_k».proof.Proof.Gen.EmbedIdeal.Frame
public import proofs.«01_k».proof.Proof.Gen.EmbedIdeal.Value
public import proofs.«01_k».proof.Proof.Gen.EmbedRefIdeal
public import proofs.«01_k».proof.Proof.Gen.EmbedRefIdeal.Run
public import proofs.«01_k».proof.Proof.Gen.Samp
public import proofs.«01_k».proof.Proof.Gen.Samp.Frame
public import proofs.«01_k».proof.Proof.Gen.SampIdeal
public import proofs.«01_k».proof.Proof.Gen.SampIdeal.Frame
public import proofs.«01_k».proof.Proof.Gen.SampIdeal.Value
public import proofs.«01_k».proof.Proof.Gen.SampRefIdeal
public import proofs.«01_k».proof.Proof.Gen.SampRefIdeal.Run
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.Step
public import proofs.«01_k».proof.Proof.Gen.Step.Frame
public import proofs.«01_k».proof.Proof.Gen.StepIdeal
public import proofs.«01_k».proof.Proof.Gen.StepIdeal.Frame
public import proofs.«01_k».proof.Proof.Gen.StepIdeal.Value
public import proofs.«01_k».proof.Proof.Gen.StepRefIdeal
public import proofs.«01_k».proof.Proof.Gen.StepRefIdeal.Run
public import proofs.«01_k».proof.Proof.Frames
public import proofs.«01_k».proof.Proof.Value.Algebraic
public import proofs.«01_k».proof.Proof.Proj.Algebraic
public import proofs.«01_k».proof.Proof.Tail.Gate
public import proofs.«01_k».proof.Proof.Tail.Merge
public import proofs.«01_k».proof.Proof.Tail.Embed
public import proofs.«01_k».proof.Proof.Tail.Last
public import proofs.«01_k».proof.Proof.Samp.Algebraic
public import proofs.«01_k».proof.Proof.Step.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proj.Gen.facts, Cert.ProjIdeal.Gen.facts, Cert.ProjRefIdeal.Gen.facts,
  Cert.Gate.Gen.facts, Cert.GateIdeal.Gen.facts, Cert.GateRefIdeal.Gen.facts,
  Cert.Merge.Gen.facts, Cert.MergeIdeal.Gen.facts, Cert.MergeRefIdeal.Gen.facts,
  Cert.Embed.Gen.facts, Cert.EmbedIdeal.Gen.facts, Cert.EmbedRefIdeal.Gen.facts,
  Cert.Samp.Gen.facts, Cert.SampIdeal.Gen.facts, Cert.SampRefIdeal.Gen.facts,
  Cert.Last.Gen.facts, Cert.LastIdeal.Gen.facts, Cert.LastRefIdeal.Gen.facts,
  Cert.Step.Gen.facts, Cert.StepIdeal.Gen.facts, Cert.StepRefIdeal.Gen.facts,
  Cert.Pre_sound_selection.Gen.facts, frame_kernel, frame_ideal, fun m ρ _ => Ideal.quiescent_run m ρ, frame_reference,
  fun m ρ _ => frame_reference m ρ trivial, frame_proj, frame_projIdeal, frame_projRef,
  Gate.frame_plain, Gate.frame_ideal, Gate.frame_reference, Merge.frame_plain, Merge.frame_ideal, Merge.frame_reference,
  Embed.frame_plain, Embed.frame_ideal, Embed.frame_reference,
  frame_samp, frame_sampIdeal, frame_sampRef, Last.frame_plain, Last.frame_ideal, Last.frame_reference,
  frame_step, frame_stepIdeal, frame_stepRef,
  preserved, equal, trivial, proj_equal, trivial, Gate.equal, trivial, Merge.equal, trivial, Embed.equal,
  trivial, samp_equal, trivial, Last.equal,
  trivial, step_equal⟩

end Cert.Proof

end
